-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_decay_not_positive [hPre_decay_not_positive : Cert.Pre_decay_not_positive.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_decay_not_positive.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_decay_not_positive [hPre_decay_not_positive : Cert.Pre_decay_not_positive.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_decay_not_positive.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_decay_not_positive [hKernel5Ideal : Cert.Kernel5Ideal.Facts] [hPre_decay_not_positive : Cert.Pre_decay_not_positive.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_decay_not_positive m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_decay_not_positive [hReference5Ideal : Cert.Reference5Ideal.Facts] [hPre_decay_not_positive : Cert.Pre_decay_not_positive.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_decay_not_positive m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)) (v6 : (c : Dev Cert.Kernel3Ideal.nD) → Buf (Elt Ideal) ((c.tc : Thread Cert.Kernel3Ideal.nD Cert.Kernel3Ideal.τ).loc Cert.Kernel3Ideal.main_v31_6)) (v7 : (c : Dev Cert.Kernel3Ideal.nD) → Buf (Elt Ideal) ((c.tc : Thread Cert.Kernel3Ideal.nD Cert.Kernel3Ideal.τ).loc Cert.Kernel3Ideal.main_v31_7)) (v8 : (c : Dev Cert.Kernel3Ideal.nD) → Buf (Elt Ideal) ((c.tc : Thread Cert.Kernel3Ideal.nD Cert.Kernel3Ideal.τ).loc Cert.Kernel3Ideal.main_v33)) (v9 : (c : Dev Cert.Kernel3Ideal.nD) → Buf (Elt Ideal) ((c.tc : Thread Cert.Kernel3Ideal.nD Cert.Kernel3Ideal.τ).loc Cert.Kernel3Ideal.main_v35)) (v10 : (c : Dev Cert.Kernel3Ideal.nD) → Buf (Elt Ideal) ((c.tc : Thread Cert.Kernel3Ideal.nD Cert.Kernel3Ideal.τ).loc Cert.Kernel3Ideal.main_v31_10)) (v11 : (c : Dev Cert.Kernel3Ideal.nD) → Buf (Elt Ideal) ((c.tc : Thread Cert.Kernel3Ideal.nD Cert.Kernel3Ideal.τ).loc Cert.Kernel3Ideal.main_v31_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_v31_6) = v6 c
          ∧ r.2.mem ((c.tc : Thread Cert.Kernel3Ideal.nD Cert.Kernel3Ideal.τ).loc Cert.Kernel3Ideal.main_v31_7) = v7 c
          ∧ r.2.mem ((c.tc : Thread Cert.Kernel3Ideal.nD Cert.Kernel3Ideal.τ).loc Cert.Kernel3Ideal.main_v33) = v8 c
          ∧ r.2.mem ((c.tc : Thread Cert.Kernel3Ideal.nD Cert.Kernel3Ideal.τ).loc Cert.Kernel3Ideal.main_v35) = v9 c
          ∧ r.2.mem ((c.tc : Thread Cert.Kernel3Ideal.nD Cert.Kernel3Ideal.τ).loc Cert.Kernel3Ideal.main_v31_10) = v10 c
          ∧ r.2.mem ((c.tc : Thread Cert.Kernel3Ideal.nD Cert.Kernel3Ideal.τ).loc Cert.Kernel3Ideal.main_v31_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_v62) = v4 c
          ∧ r.2.mem ((c.tc : Thread Cert.Reference3Ideal.nD Cert.Reference3Ideal.τ).loc Cert.Reference3Ideal.main_v63) = v5 c
          ∧ r.2.mem ((c.tc : Thread Cert.Reference3Ideal.nD Cert.Reference3Ideal.τ).loc Cert.Reference3Ideal.main_v65) = v6 c
          ∧ r.2.mem ((c.tc : Thread Cert.Reference3Ideal.nD Cert.Reference3Ideal.τ).loc Cert.Reference3Ideal.main_v67) = v7 c
          ∧ r.2.mem ((c.tc : Thread Cert.Reference3Ideal.nD Cert.Reference3Ideal.τ).loc Cert.Reference3Ideal.main_v69) = v8 c
          ∧ r.2.mem ((c.tc : Thread Cert.Reference3Ideal.nD Cert.Reference3Ideal.τ).loc Cert.Reference3Ideal.main_v71) = v9 c
          ∧ r.2.mem ((c.tc : Thread Cert.Reference3Ideal.nD Cert.Reference3Ideal.τ).loc Cert.Reference3Ideal.main_v79) = v10 c
          ∧ r.2.mem ((c.tc : Thread Cert.Reference3Ideal.nD Cert.Reference3Ideal.τ).loc Cert.Reference3Ideal.main_v87) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)) (v2 : (c : Dev Cert.Kernel4Ideal.nD) → Buf (Elt Ideal) ((c.tc : Thread Cert.Kernel4Ideal.nD Cert.Kernel4Ideal.τ).loc Cert.Kernel4Ideal.main_v31_2)) (v3 : (c : Dev Cert.Kernel4Ideal.nD) → Buf (Elt Ideal) ((c.tc : Thread Cert.Kernel4Ideal.nD Cert.Kernel4Ideal.τ).loc Cert.Kernel4Ideal.main_v31_3)) (v4 : (c : Dev Cert.Kernel4Ideal.nD) → Buf (Elt Ideal) ((c.tc : Thread Cert.Kernel4Ideal.nD Cert.Kernel4Ideal.τ).loc Cert.Kernel4Ideal.main_v31_4)) (v5 : (c : Dev Cert.Kernel4Ideal.nD) → Buf (Elt Ideal) ((c.tc : Thread Cert.Kernel4Ideal.nD Cert.Kernel4Ideal.τ).loc Cert.Kernel4Ideal.main_v31_5)) (v6 : (c : Dev Cert.Kernel4Ideal.nD) → Buf (Elt Ideal) ((c.tc : Thread Cert.Kernel4Ideal.nD Cert.Kernel4Ideal.τ).loc Cert.Kernel4Ideal.main_v31_6)) (v7 : (c : Dev Cert.Kernel4Ideal.nD) → Buf (Elt Ideal) ((c.tc : Thread Cert.Kernel4Ideal.nD Cert.Kernel4Ideal.τ).loc Cert.Kernel4Ideal.main_v31_7)) (v8 : (c : Dev Cert.Kernel4Ideal.nD) → Buf (Elt Ideal) ((c.tc : Thread Cert.Kernel4Ideal.nD Cert.Kernel4Ideal.τ).loc Cert.Kernel4Ideal.main_v33)) (v9 : (c : Dev Cert.Kernel4Ideal.nD) → Buf (Elt Ideal) ((c.tc : Thread Cert.Kernel4Ideal.nD Cert.Kernel4Ideal.τ).loc Cert.Kernel4Ideal.main_v35)) (v10 : (c : Dev Cert.Kernel4Ideal.nD) → Buf (Elt Ideal) ((c.tc : Thread Cert.Kernel4Ideal.nD Cert.Kernel4Ideal.τ).loc Cert.Kernel4Ideal.main_v31_10)) (v11 : (c : Dev Cert.Kernel4Ideal.nD) → Buf (Elt Ideal) ((c.tc : Thread Cert.Kernel4Ideal.nD Cert.Kernel4Ideal.τ).loc Cert.Kernel4Ideal.main_v31_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_v31_2) = v2 c
          ∧ r.2.mem ((c.tc : Thread Cert.Kernel4Ideal.nD Cert.Kernel4Ideal.τ).loc Cert.Kernel4Ideal.main_v31_3) = v3 c
          ∧ r.2.mem ((c.tc : Thread Cert.Kernel4Ideal.nD Cert.Kernel4Ideal.τ).loc Cert.Kernel4Ideal.main_v31_4) = v4 c
          ∧ r.2.mem ((c.tc : Thread Cert.Kernel4Ideal.nD Cert.Kernel4Ideal.τ).loc Cert.Kernel4Ideal.main_v31_5) = v5 c
          ∧ r.2.mem ((c.tc : Thread Cert.Kernel4Ideal.nD Cert.Kernel4Ideal.τ).loc Cert.Kernel4Ideal.main_v31_6) = v6 c
          ∧ r.2.mem ((c.tc : Thread Cert.Kernel4Ideal.nD Cert.Kernel4Ideal.τ).loc Cert.Kernel4Ideal.main_v31_7) = v7 c
          ∧ r.2.mem ((c.tc : Thread Cert.Kernel4Ideal.nD Cert.Kernel4Ideal.τ).loc Cert.Kernel4Ideal.main_v33) = v8 c
          ∧ r.2.mem ((c.tc : Thread Cert.Kernel4Ideal.nD Cert.Kernel4Ideal.τ).loc Cert.Kernel4Ideal.main_v35) = v9 c
          ∧ r.2.mem ((c.tc : Thread Cert.Kernel4Ideal.nD Cert.Kernel4Ideal.τ).loc Cert.Kernel4Ideal.main_v31_10) = v10 c
          ∧ r.2.mem ((c.tc : Thread Cert.Kernel4Ideal.nD Cert.Kernel4Ideal.τ).loc Cert.Kernel4Ideal.main_v31_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v55) = v2 c
          ∧ r.2.mem ((c.tc : Thread Cert.Reference4Ideal.nD Cert.Reference4Ideal.τ).loc Cert.Reference4Ideal.main_v57) = v3 c
          ∧ r.2.mem ((c.tc : Thread Cert.Reference4Ideal.nD Cert.Reference4Ideal.τ).loc Cert.Reference4Ideal.main_v60) = v4 c
          ∧ r.2.mem ((c.tc : Thread Cert.Reference4Ideal.nD Cert.Reference4Ideal.τ).loc Cert.Reference4Ideal.main_v61) = v5 c
          ∧ r.2.mem ((c.tc : Thread Cert.Reference4Ideal.nD Cert.Reference4Ideal.τ).loc Cert.Reference4Ideal.main_v63) = v6 c
          ∧ r.2.mem ((c.tc : Thread Cert.Reference4Ideal.nD Cert.Reference4Ideal.τ).loc Cert.Reference4Ideal.main_v65) = v7 c
          ∧ r.2.mem ((c.tc : Thread Cert.Reference4Ideal.nD Cert.Reference4Ideal.τ).loc Cert.Reference4Ideal.main_v67) = v8 c
          ∧ r.2.mem ((c.tc : Thread Cert.Reference4Ideal.nD Cert.Reference4Ideal.τ).loc Cert.Reference4Ideal.main_v69) = v9 c
          ∧ r.2.mem ((c.tc : Thread Cert.Reference4Ideal.nD Cert.Reference4Ideal.τ).loc Cert.Reference4Ideal.main_v77) = v10 c
          ∧ r.2.mem ((c.tc : Thread Cert.Reference4Ideal.nD Cert.Reference4Ideal.τ).loc Cert.Reference4Ideal.main_v85) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_decay_not_positive [hKernel5Ideal : Cert.Kernel5Ideal.Facts] [hReference5Ideal : Cert.Reference5Ideal.Facts] [hPre_decay_not_positive : Cert.Pre_decay_not_positive.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_decay_not_positive m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v21)) (v1 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_v22) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_in_range : Cert.Pre_experts_in_range.Facts) (hPre_decay_not_positive : Cert.Pre_decay_not_positive.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_decay_not_positive (hKernel5Ideal := hKernel5Ideal) (hPre_decay_not_positive := hPre_decay_not_positive)
    ∧ quiescent_Reference5Ideal (hReference5Ideal := hReference5Ideal)
    ∧ quiescent_Reference5Ideal_pre_decay_not_positive (hReference5Ideal := hReference5Ideal) (hPre_decay_not_positive := hPre_decay_not_positive)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_decay_not_positive (hKernel5Ideal := hKernel5Ideal) (hReference5Ideal := hReference5Ideal) (hPre_decay_not_positive := hPre_decay_not_positive)
-- ==== Pre_decay_not_positive.lean ====
abbrev S128x256 : Shape := ⟨2, ![128, 256]⟩
abbrev S128x512 : Shape := ⟨2, ![128, 512]⟩
abbrev S1x128x4x64x128 : Shape := ⟨5, ![1, 128, 4, 64, 128]⟩
abbrev S1x128 : Shape := ⟨2, ![1, 128]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel

variable [Facts]

def fn {F : FTy → Type} [FloatOps F] (main_arg0 : FVec F S128x256 .f32) (main_arg1 : FVec F S128x256 .f32) (main_arg2 : FVec F S128x256 .f32) (main_arg3 : FVec F S128x512 .bf16) (main_arg4 : FVec F S128x512 .bf16) (main_arg5 : FVec F S1x128x4x64x128 .f32) (main_arg6 : FVec F S1x128 .f32) : IVec S_ 1 :=
  let main_cst : FVec F S_ .f32 := constant S_ .f32 0x00000000#32
  let main_v0 : FVec F S128x256 .f32 := broadcastInDim S128x256 ![] bcast_S_S128x256 main_cst
  let main_v1 : IVec S128x256 1 := cmpf .ole main_arg2 main_v0
  let main_c : IVec S_ 1 := constantI S_ 1 1#1
  let main_v2 : IVec S_ 1 := (fun x v => Host.reduce IntOp.andi x v reducesTo_S128x256_S_d0_1 h_S_) main_v1 main_c
  main_v2
-- ==== Pre_experts_in_range.lean ====
abbrev S544 : Shape := ⟨1, ![544]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : FVec F S139264x1024 .f32) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Kernel.lean ====
abbrev S8x4096x512 : Shape := ⟨3, ![8, 4096, 512]⟩
abbrev S8 : Shape := ⟨1, ![8]⟩
abbrev S32768x512 : Shape := ⟨2, ![32768, 512]⟩
abbrev S512x128 : Shape := ⟨2, ![512, 128]⟩
abbrev S4096x128 : Shape := ⟨2, ![4096, 128]⟩
abbrev S512x512 : Shape := ⟨2, ![512, 512]⟩
abbrev S1 : Shape := ⟨1, ![1]⟩
abbrev S128x512 : Shape := ⟨2, ![128, 512]⟩
abbrev S1x512 : Shape := ⟨2, ![1, 512]⟩

abbrev nBuf : Space → Nat
  | .hbm => 10
  | .vmem => 8
  | .smem => 1
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8, .f32⟩
  | .hbm, ⟨4, _⟩ => ⟨S32768x512, .f32⟩
  | .hbm, ⟨5, _⟩ => ⟨S32768x512, .f32⟩
  | .hbm, ⟨6, _⟩ => ⟨S32768x512, .bf16⟩
  | .hbm, ⟨7, _⟩ => ⟨S32768x512, .f32⟩
  | .hbm, ⟨8, _⟩ => ⟨S32768x512, .bf16⟩
  | .hbm, ⟨9, _⟩ => ⟨S32768x512, .bf16⟩
  | .local _ .vmem, ⟨0, _⟩ => ⟨S512x128, .f32⟩
  | .local _ .vmem, ⟨1, _⟩ => ⟨S512x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .smem, ⟨0, _⟩ => ⟨S8, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 1 → Nat :=
  let c2_i32 : BitVec 32 := 2#32
  let arg1 : BitVec 32 := BitVec.ofNat 32 (i 1).val
  let v28 : BitVec 32 := Scalar.muli c2_i32 arg1
  let v29 : Index := Scalar.indexCast v28
  ![v29.toNat]
def k0_off2 (i : grid0.Coords) : Fin 1 → Nat :=
  let c2_i32_7 : BitVec 32 := 2#32
  let arg1 : BitVec 32 := BitVec.ofNat 32 (i 1).val
  let v32 : BitVec 32 := Scalar.muli c2_i32_7 arg1
  let c1_i32 : BitVec 32 := 1#32
  let v33 : BitVec 32 := Scalar.addi v32 c1_i32
  let v34 : Index := Scalar.indexCast v33
  ![v34.toNat]
def k0_mult1 (i : grid0.Coords) : BitVec 32 :=
  let arg2 : BitVec 32 := BitVec.ofNat 32 (i 2).val
  let c512_i32 : BitVec 32 := 512#32
  let v39 : BitVec 32 := Scalar.muli arg2 c512_i32
  v39
def k0_off3 (i : grid0.Coords) : Fin 2 → Nat :=
  let arg2 : BitVec 32 := BitVec.ofNat 32 (i 2).val
  let c512_i32 : BitVec 32 := 512#32
  let v39 : BitVec 32 := Scalar.muli arg2 c512_i32
  let v40 : BitVec 32 := v39
  let v41 : Index := Scalar.indexCast v40
  let c0_11 : Index := 0#32
  ![v41.toNat, 0]
@[reducible] def k0_t1_loop (i : grid0.Coords) : Scf.Loop 32 :=
  let c0_i32_37 : BitVec 32 := 0#32
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v121 : BitVec 32 := Scalar.subi v120 c0_i32_37
  let c1_i32_38 : BitVec 32 := 1#32
  let v123 : BitVec 32 := Scalar.divsi v121 c1_i32_38
  let v124 : BitVec 32 := Scalar.muli v123 c1_i32_38
  let v125 : BitVec 32 := Scalar.addi c0_i32_37 v124
  let c1_i32_39 : BitVec 32 := 1#32
  ⟨c0_i32_37, v125, c1_i32_39⟩
def k0_mult2 (i : grid0.Coords) : BitVec 32 :=
  let arg2 : BitVec 32 := BitVec.ofNat 32 (i 2).val
  let c1_i32_55 : BitVec 32 := 1#32
  let v159 : BitVec 32 := Scalar.subi arg2 c1_i32_55
  let c512_i32_56 : BitVec 32 := 512#32
  let v160 : BitVec 32 := Scalar.muli v159 c512_i32_56
  v160
def k0_off4 (i : grid0.Coords) : Fin 2 → Nat :=
  let arg2 : BitVec 32 := BitVec.ofNat 32 (i 2).val
  let c1_i32_55 : BitVec 32 := 1#32
  let v159 : BitVec 32 := Scalar.subi arg2 c1_i32_55
  let c512_i32_56 : BitVec 32 := 512#32
  let v160 : BitVec 32 := Scalar.muli v159 c512_i32_56
  let v161 : BitVec 32 := v160
  let v162 : Index := Scalar.indexCast v161
  let c0_57 : Index := 0#32
  ![v162.toNat, 0]
@[reducible] def k0_t2_loop (i : grid0.Coords) : Scf.Loop 32 :=
  let c0_i32_37 : BitVec 32 := 0#32
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v121 : BitVec 32 := Scalar.subi v120 c0_i32_37
  let c1_i32_38 : BitVec 32 := 1#32
  let v123 : BitVec 32 := Scalar.divsi v121 c1_i32_38
  let v124 : BitVec 32 := Scalar.muli v123 c1_i32_38
  let v125 : BitVec 32 := Scalar.addi c0_i32_37 v124
  let v122 : BitVec 32 := Scalar.addi c0_i32_37 v121
  let c1_i32_40 : BitVec 32 := 1#32
  ⟨v125, v122, c1_i32_40⟩
def k0_mult3 (i : grid0.Coords) : BitVec 32 :=
  let arg2 : BitVec 32 := BitVec.ofNat 32 (i 2).val
  let c1_i32_55 : BitVec 32 := 1#32
  let v159 : BitVec 32 := Scalar.subi arg2 c1_i32_55
  let c512_i32_56 : BitVec 32 := 512#32
  let v160 : BitVec 32 := Scalar.muli v159 c512_i32_56
  v160
def k0_off5 (i : grid0.Coords) : Fin 2 → Nat :=
  let arg2 : BitVec 32 := BitVec.ofNat 32 (i 2).val
  let c1_i32_55 : BitVec 32 := 1#32
  let v159 : BitVec 32 := Scalar.subi arg2 c1_i32_55
  let c512_i32_56 : BitVec 32 := 512#32
  let v160 : BitVec 32 := Scalar.muli v159 c512_i32_56
  let v161 : BitVec 32 := v160
  let v162 : Index := Scalar.indexCast v161
  let c0_57 : Index := 0#32
  ![v162.toNat, 0]
@[reducible] def k0_t3_loop (i : grid0.Coords) : Scf.Loop 32 :=
  let c0_i32_48 : BitVec 32 := 0#32
  let arg2 : BitVec 32 := BitVec.ofNat 32 (i 2).val
  let c0_i32_42 : BitVec 32 := 0#32
  let v129 : BitVec 1 := Scalar.cmpi .sgt arg2 c0_i32_42
  let v130 : BitVec 32 := Scalar.extui v129
  let c0_i32_43 : BitVec 32 := 0#32
  let v131 : BitVec 1 := Scalar.cmpi .slt arg2 c0_i32_43
  let v132 : BitVec 32 := Scalar.extui v131
  let v133 : BitVec 32 := Scalar.subi v130 v132
  let c2_i32_41 : BitVec 32 := 2#32
  let c0_i32_44 : BitVec 32 := 0#32
  let v134 : BitVec 1 := Scalar.cmpi .sgt c2_i32_41 c0_i32_44
  let v135 : BitVec 32 := Scalar.extui v134
  let c0_i32_45 : BitVec 32 := 0#32
  let v136 : BitVec 1 := Scalar.cmpi .slt c2_i32_41 c0_i32_45
  let v137 : BitVec 32 := Scalar.extui v136
  let v138 : BitVec 32 := Scalar.subi v135 v137
  let v139 : BitVec 1 := Scalar.cmpi .ne v133 v138
  let v140 : BitVec 32 := Scalar.remsi arg2 c2_i32_41
  let c0_i32_46 : BitVec 32 := 0#32
  let v141 : BitVec 1 := Scalar.cmpi .ne v140 c0_i32_46
  let v142 : BitVec 1 := Scalar.andi v139 v141
  let v128 : BitVec 32 := Scalar.divsi arg2 c2_i32_41
  let c1_i32_47 : BitVec 32 := 1#32
  let v143 : BitVec 32 := Scalar.subi v128 c1_i32_47
  let v144 : BitVec 32 := Scalar.select v142 v143 v128
  let v145 : BitVec 32 := Scalar.subi v144 c0_i32_48
  let c1_i32_49 : BitVec 32 := 1#32
  let v147 : BitVec 32 := Scalar.divsi v145 c1_i32_49
  let v148 : BitVec 32 := Scalar.muli v147 c1_i32_49
  let v149 : BitVec 32 := Scalar.addi c0_i32_48 v148
  let c1_i32_50 : BitVec 32 := 1#32
  ⟨c0_i32_48, v149, c1_i32_50⟩
def k0_mult4 (i : grid0.Coords) (k0_t3 : Fin (k0_t3_loop i).trips) : BitVec 32 :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c1_i32_50 : BitVec 32 := 1#32
  let arg8 : BitVec 32 := Scf.iv c0_i32_48 c1_i32_50 k0_t3
  let v161 : BitVec 32 := Scalar.muli c2_i32_56 arg8
  let v162 : BitVec 32 := Scalar.subi v160 v161
  let c512_i32_58 : BitVec 32 := 512#32
  let v164 : BitVec 32 := Scalar.muli v162 c512_i32_58
  v164
def k0_off6 (i : grid0.Coords) (k0_t3 : Fin (k0_t3_loop i).trips) : Fin 2 → Nat :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c1_i32_50 : BitVec 32 := 1#32
  let arg8 : BitVec 32 := Scf.iv c0_i32_48 c1_i32_50 k0_t3
  let v161 : BitVec 32 := Scalar.muli c2_i32_56 arg8
  let v162 : BitVec 32 := Scalar.subi v160 v161
  let c512_i32_58 : BitVec 32 := 512#32
  let v164 : BitVec 32 := Scalar.muli v162 c512_i32_58
  let v165 : BitVec 32 := v164
  let v166 : Index := Scalar.indexCast v165
  let c0_59 : Index := 0#32
  ![v166.toNat, 0]
def k0_mult5 (i : grid0.Coords) (k0_t3 : Fin (k0_t3_loop i).trips) : BitVec 32 :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c1_i32_50 : BitVec 32 := 1#32
  let arg8 : BitVec 32 := Scf.iv c0_i32_48 c1_i32_50 k0_t3
  let v161 : BitVec 32 := Scalar.muli c2_i32_56 arg8
  let v162 : BitVec 32 := Scalar.subi v160 v161
  let c1_i32_57 : BitVec 32 := 1#32
  let v163 : BitVec 32 := Scalar.subi v162 c1_i32_57
  let c512_i32_61 : BitVec 32 := 512#32
  let v172 : BitVec 32 := Scalar.muli v163 c512_i32_61
  v172
def k0_off7 (i : grid0.Coords) (k0_t3 : Fin (k0_t3_loop i).trips) : Fin 2 → Nat :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c1_i32_50 : BitVec 32 := 1#32
  let arg8 : BitVec 32 := Scf.iv c0_i32_48 c1_i32_50 k0_t3
  let v161 : BitVec 32 := Scalar.muli c2_i32_56 arg8
  let v162 : BitVec 32 := Scalar.subi v160 v161
  let c1_i32_57 : BitVec 32 := 1#32
  let v163 : BitVec 32 := Scalar.subi v162 c1_i32_57
  let c512_i32_61 : BitVec 32 := 512#32
  let v172 : BitVec 32 := Scalar.muli v163 c512_i32_61
  let v173 : BitVec 32 := v172
  let v174 : Index := Scalar.indexCast v173
  let c0_62 : Index := 0#32
  ![v174.toNat, 0]
@[reducible] def k0_t4_loop (i : grid0.Coords) : Scf.Loop 32 :=
  let c0_i32_48 : BitVec 32 := 0#32
  let arg2 : BitVec 32 := BitVec.ofNat 32 (i 2).val
  let c0_i32_42 : BitVec 32 := 0#32
  let v129 : BitVec 1 := Scalar.cmpi .sgt arg2 c0_i32_42
  let v130 : BitVec 32 := Scalar.extui v129
  let c0_i32_43 : BitVec 32 := 0#32
  let v131 : BitVec 1 := Scalar.cmpi .slt arg2 c0_i32_43
  let v132 : BitVec 32 := Scalar.extui v131
  let v133 : BitVec 32 := Scalar.subi v130 v132
  let c2_i32_41 : BitVec 32 := 2#32
  let c0_i32_44 : BitVec 32 := 0#32
  let v134 : BitVec 1 := Scalar.cmpi .sgt c2_i32_41 c0_i32_44
  let v135 : BitVec 32 := Scalar.extui v134
  let c0_i32_45 : BitVec 32 := 0#32
  let v136 : BitVec 1 := Scalar.cmpi .slt c2_i32_41 c0_i32_45
  let v137 : BitVec 32 := Scalar.extui v136
  let v138 : BitVec 32 := Scalar.subi v135 v137
  let v139 : BitVec 1 := Scalar.cmpi .ne v133 v138
  let v140 : BitVec 32 := Scalar.remsi arg2 c2_i32_41
  let c0_i32_46 : BitVec 32 := 0#32
  let v141 : BitVec 1 := Scalar.cmpi .ne v140 c0_i32_46
  let v142 : BitVec 1 := Scalar.andi v139 v141
  let v128 : BitVec 32 := Scalar.divsi arg2 c2_i32_41
  let c1_i32_47 : BitVec 32 := 1#32
  let v143 : BitVec 32 := Scalar.subi v128 c1_i32_47
  let v144 : BitVec 32 := Scalar.select v142 v143 v128
  let v145 : BitVec 32 := Scalar.subi v144 c0_i32_48
  let c1_i32_49 : BitVec 32 := 1#32
  let v147 : BitVec 32 := Scalar.divsi v145 c1_i32_49
  let v148 : BitVec 32 := Scalar.muli v147 c1_i32_49
  let v149 : BitVec 32 := Scalar.addi c0_i32_48 v148
  let v146 : BitVec 32 := Scalar.addi c0_i32_48 v145
  let c1_i32_51 : BitVec 32 := 1#32
  ⟨v149, v146, c1_i32_51⟩
def k0_mult6 (i : grid0.Coords) (k0_t4 : Fin (k0_t4_loop i).trips) : BitVec 32 :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c0_i32_42 : BitVec 32 := 0#32
  let v129 : BitVec 1 := Scalar.cmpi .sgt arg2 c0_i32_42
  let v130 : BitVec 32 := Scalar.extui v129
  let c0_i32_43 : BitVec 32 := 0#32
  let v131 : BitVec 1 := Scalar.cmpi .slt arg2 c0_i32_43
  let v132 : BitVec 32 := Scalar.extui v131
  let v133 : BitVec 32 := Scalar.subi v130 v132
  let c2_i32_41 : BitVec 32 := 2#32
  let c0_i32_44 : BitVec 32 := 0#32
  let v134 : BitVec 1 := Scalar.cmpi .sgt c2_i32_41 c0_i32_44
  let v135 : BitVec 32 := Scalar.extui v134
  let c0_i32_45 : BitVec 32 := 0#32
  let v136 : BitVec 1 := Scalar.cmpi .slt c2_i32_41 c0_i32_45
  let v137 : BitVec 32 := Scalar.extui v136
  let v138 : BitVec 32 := Scalar.subi v135 v137
  let v139 : BitVec 1 := Scalar.cmpi .ne v133 v138
  let v140 : BitVec 32 := Scalar.remsi arg2 c2_i32_41
  let c0_i32_46 : BitVec 32 := 0#32
  let v141 : BitVec 1 := Scalar.cmpi .ne v140 c0_i32_46
  let v142 : BitVec 1 := Scalar.andi v139 v141
  let v128 : BitVec 32 := Scalar.divsi arg2 c2_i32_41
  let c1_i32_47 : BitVec 32 := 1#32
  let v143 : BitVec 32 := Scalar.subi v128 c1_i32_47
  let v144 : BitVec 32 := Scalar.select v142 v143 v128
  let v145 : BitVec 32 := Scalar.subi v144 c0_i32_48
  let c1_i32_49 : BitVec 32 := 1#32
  let v147 : BitVec 32 := Scalar.divsi v145 c1_i32_49
  let v148 : BitVec 32 := Scalar.muli v147 c1_i32_49
  let v149 : BitVec 32 := Scalar.addi c0_i32_48 v148
  let c1_i32_51 : BitVec 32 := 1#32
  let arg8 : BitVec 32 := Scf.iv v149 c1_i32_51 k0_t4
  let v161 : BitVec 32 := Scalar.muli c2_i32_56 arg8
  let v162 : BitVec 32 := Scalar.subi v160 v161
  let c512_i32_58 : BitVec 32 := 512#32
  let v164 : BitVec 32 := Scalar.muli v162 c512_i32_58
  v164
def k0_off8 (i : grid0.Coords) (k0_t4 : Fin (k0_t4_loop i).trips) : Fin 2 → Nat :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c0_i32_42 : BitVec 32 := 0#32
  let v129 : BitVec 1 := Scalar.cmpi .sgt arg2 c0_i32_42
  let v130 : BitVec 32 := Scalar.extui v129
  let c0_i32_43 : BitVec 32 := 0#32
  let v131 : BitVec 1 := Scalar.cmpi .slt arg2 c0_i32_43
  let v132 : BitVec 32 := Scalar.extui v131
  let v133 : BitVec 32 := Scalar.subi v130 v132
  let c2_i32_41 : BitVec 32 := 2#32
  let c0_i32_44 : BitVec 32 := 0#32
  let v134 : BitVec 1 := Scalar.cmpi .sgt c2_i32_41 c0_i32_44
  let v135 : BitVec 32 := Scalar.extui v134
  let c0_i32_45 : BitVec 32 := 0#32
  let v136 : BitVec 1 := Scalar.cmpi .slt c2_i32_41 c0_i32_45
  let v137 : BitVec 32 := Scalar.extui v136
  let v138 : BitVec 32 := Scalar.subi v135 v137
  let v139 : BitVec 1 := Scalar.cmpi .ne v133 v138
  let v140 : BitVec 32 := Scalar.remsi arg2 c2_i32_41
  let c0_i32_46 : BitVec 32 := 0#32
  let v141 : BitVec 1 := Scalar.cmpi .ne v140 c0_i32_46
  let v142 : BitVec 1 := Scalar.andi v139 v141
  let v128 : BitVec 32 := Scalar.divsi arg2 c2_i32_41
  let c1_i32_47 : BitVec 32 := 1#32
  let v143 : BitVec 32 := Scalar.subi v128 c1_i32_47
  let v144 : BitVec 32 := Scalar.select v142 v143 v128
  let v145 : BitVec 32 := Scalar.subi v144 c0_i32_48
  let c1_i32_49 : BitVec 32 := 1#32
  let v147 : BitVec 32 := Scalar.divsi v145 c1_i32_49
  let v148 : BitVec 32 := Scalar.muli v147 c1_i32_49
  let v149 : BitVec 32 := Scalar.addi c0_i32_48 v148
  let c1_i32_51 : BitVec 32 := 1#32
  let arg8 : BitVec 32 := Scf.iv v149 c1_i32_51 k0_t4
  let v161 : BitVec 32 := Scalar.muli c2_i32_56 arg8
  let v162 : BitVec 32 := Scalar.subi v160 v161
  let c512_i32_58 : BitVec 32 := 512#32
  let v164 : BitVec 32 := Scalar.muli v162 c512_i32_58
  let v165 : BitVec 32 := v164
  let v166 : Index := Scalar.indexCast v165
  let c0_59 : Index := 0#32
  ![v166.toNat, 0]
def k0_mult7 (i : grid0.Coords) (k0_t4 : Fin (k0_t4_loop i).trips) : BitVec 32 :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c0_i32_42 : BitVec 32 := 0#32
  let v129 : BitVec 1 := Scalar.cmpi .sgt arg2 c0_i32_42
  let v130 : BitVec 32 := Scalar.extui v129
  let c0_i32_43 : BitVec 32 := 0#32
  let v131 : BitVec 1 := Scalar.cmpi .slt arg2 c0_i32_43
  let v132 : BitVec 32 := Scalar.extui v131
  let v133 : BitVec 32 := Scalar.subi v130 v132
  let c2_i32_41 : BitVec 32 := 2#32
  let c0_i32_44 : BitVec 32 := 0#32
  let v134 : BitVec 1 := Scalar.cmpi .sgt c2_i32_41 c0_i32_44
  let v135 : BitVec 32 := Scalar.extui v134
  let c0_i32_45 : BitVec 32 := 0#32
  let v136 : BitVec 1 := Scalar.cmpi .slt c2_i32_41 c0_i32_45
  let v137 : BitVec 32 := Scalar.extui v136
  let v138 : BitVec 32 := Scalar.subi v135 v137
  let v139 : BitVec 1 := Scalar.cmpi .ne v133 v138
  let v140 : BitVec 32 := Scalar.remsi arg2 c2_i32_41
  let c0_i32_46 : BitVec 32 := 0#32
  let v141 : BitVec 1 := Scalar.cmpi .ne v140 c0_i32_46
  let v142 : BitVec 1 := Scalar.andi v139 v141
  let v128 : BitVec 32 := Scalar.divsi arg2 c2_i32_41
  let c1_i32_47 : BitVec 32 := 1#32
  let v143 : BitVec 32 := Scalar.subi v128 c1_i32_47
  let v144 : BitVec 32 := Scalar.select v142 v143 v128
  let v145 : BitVec 32 := Scalar.subi v144 c0_i32_48
  let c1_i32_49 : BitVec 32 := 1#32
  let v147 : BitVec 32 := Scalar.divsi v145 c1_i32_49
  let v148 : BitVec 32 := Scalar.muli v147 c1_i32_49
  let v149 : BitVec 32 := Scalar.addi c0_i32_48 v148
  let c1_i32_51 : BitVec 32 := 1#32
  let arg8 : BitVec 32 := Scf.iv v149 c1_i32_51 k0_t4
  let v161 : BitVec 32 := Scalar.muli c2_i32_56 arg8
  let v162 : BitVec 32 := Scalar.subi v160 v161
  let c1_i32_57 : BitVec 32 := 1#32
  let v163 : BitVec 32 := Scalar.subi v162 c1_i32_57
  let c512_i32_61 : BitVec 32 := 512#32
  let v172 : BitVec 32 := Scalar.muli v163 c512_i32_61
  v172
def k0_off9 (i : grid0.Coords) (k0_t4 : Fin (k0_t4_loop i).trips) : Fin 2 → Nat :=
  let arg2 : BitVec 32 := BitVec.ofNat 32 (i 2).val
  let c2_i32_31 : BitVec 32 := 2#32
  let c0_i32_32 : BitVec 32 := 0#32
  let v111 : BitVec 1 := Scalar.cmpi .eq c2_i32_31 c0_i32_32
  let c1_i32_33 : BitVec 32 := 1#32
  let v112 : BitVec 32 := Scalar.select v111 c1_i32_33 c2_i32_31
  let v113 : BitVec 32 := Scalar.remsi arg2 v112
  let c0_i32_35 : BitVec 32 := 0#32
  let v115 : BitVec 1 := Scalar.cmpi .slt v113 c0_i32_35
  let c0_i32_36 : BitVec 32 := 0#32
  let v116 : BitVec 1 := Scalar.cmpi .slt v112 c0_i32_36
  let v117 : BitVec 1 := Scalar.xori v115 v116
  let c0_i32_34 : BitVec 32 := 0#32
  let v114 : BitVec 1 := Scalar.cmpi .ne v113 c0_i32_34
  let v118 : BitVec 1 := Scalar.andi v117 v114
  let v119 : BitVec 32 := Scalar.addi v113 v112
  let v120 : BitVec 32 := Scalar.select v118 v119 v113
  let v159 : BitVec 32 := Scalar.subi arg2 v120
  let c1_i32_55 : BitVec 32 := 1#32
  let v160 : BitVec 32 := Scalar.subi v159 c1_i32_55
  let c2_i32_56 : BitVec 32 := 2#32
  let c0_i32_48 : BitVec 32 := 0#32
  let c0_i32_42 : BitVec 32 := 0#32
  let v129 : BitVec 1 := Scalar.cmpi .sgt arg2 c0_i32_42
  let v130 : BitVec 32 := Scalar.extui v129
  let c0_i32_43 : BitVec 32 := 0#32
  let v131 : BitVec 1 := Scalar.cmpi .slt arg2 c0_i32_43
  let v132 : BitVec 32 := Scalar.extui v131
  let v133 : BitVec 32 := Scalar.subi v130 v132
  let c2_i32_41 : BitVec 32 := 2#32
  let c0_i32_44 : BitVec 32 := 0#32
  let v134 : BitVec 1 := Scalar.cmpi .sgt c2_i32_41 c0_i32_44
  let v135 : BitVec 32 := Scalar.extui v134
  let c0_i32_45 : BitVec 32 := 0#32
  let v136 : BitVec 1 := Scalar.cmpi .slt c2_i32_41 c0_i32_45
  let v137 : BitVec 32 := Scalar.extui v136
  let v138 : BitVec 32 := Scalar.subi v135 v137
  let v139 : BitVec 1 := Scalar.cmpi .ne v133 v138
  let v140 : BitVec 32 := Scalar.remsi arg2 c2_i32_41
  let c0_i32_46 : BitVec 32 := 0#32
  let v141 : BitVec 1 := Scalar.cmpi .ne v140 c0_i32_46
  let v142 : BitVec 1 := Scalar.andi v139 v141
  let v128 : BitVec 32 := Scalar.divsi arg2 c2_i32_41
  let c1_i32_47 : BitVec 32 := 1#32
  let v143 : BitVec 32 := Scalar.subi v128 c1_i32_47
  let v144 : BitVec 32 := Scalar.select v142 v143 v128
  let v145 : BitVec 32 := Scalar.subi v144 c0_i32_48
  let c1_i32_49 : BitVec 32 := 1#32
  let v147 : BitVec 32 := Scalar.divsi v145 c1_i32_49
  let v148 : BitVec 32 := Scalar.muli v147 c1_i32_49
  let v149 : BitVec 32 := Scalar.addi c0_i32_48 v148
  let c1_i32_51 : BitVec 32 := 1#32
  let arg8 : BitVec 32 := Scf.iv v149 c1_i32_51 k0_t4
  let v161 : BitVec 32 := Scalar.muli c2_i32_56 arg8
  let v162 : BitVec 32 := Scalar.subi v160 v161
  let c1_i32_57 : BitVec 32 := 1#32
  let v163 : BitVec 32 := Scalar.subi v162 c1_i32_57
  let c512_i32_61 : BitVec 32 := 512#32
  let v172 : BitVec 32 := Scalar.muli v163 c512_i32_61
  let v173 : BitVec 32 := v172
  let v174 : Index := Scalar.indexCast v173
  let c0_62 : Index := 0#32
  ![v174.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((8 * (Real.log 2))⁻¹ : ℝ) : EReal)
  | _ => none
-- ==== ReferenceIdeal.lean ====
abbrev S8x4096x512 : Shape := ⟨3, ![8, 4096, 512]⟩
abbrev S8 : Shape := ⟨1, ![8]⟩
abbrev S8x4096x8x64 : Shape := ⟨4, ![8, 4096, 8, 64]⟩
abbrev S8x8x4096x4096 : Shape := ⟨4, ![8, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩
abbrev S32768x512 : Shape := ⟨2, ![32768, 512]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8, .f32⟩
  | .hbm, ⟨4, _⟩ => ⟨S8x4096x8x64, .f32⟩
  | .hbm, ⟨5, _⟩ => ⟨S8x4096x8x64, .f32⟩
  | .hbm, ⟨6, _⟩ => ⟨S8x4096x8x64, .f32⟩
  | .hbm, ⟨7, _⟩ => ⟨S8x8x4096x4096, .f32⟩
  | .hbm, ⟨8, _⟩ => ⟨S_, .f32⟩
  | .hbm, ⟨9, _⟩ => ⟨S8x8x4096x4096, .f32⟩
  | .hbm, ⟨10, _⟩ => ⟨S8x8x4096x4096, .f32⟩
  | .hbm, ⟨11, _⟩ => ⟨S1x8x1x1, .f32⟩
  | .hbm, ⟨12, _⟩ => ⟨S8x8x4096x4096, .f32⟩
  | .hbm, ⟨13, _⟩ => ⟨S8x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x8x4096x4096, .f32⟩
  | .hbm, ⟨21, _⟩ => ⟨S8x8x4096x4096, .f32⟩
  | .hbm, ⟨22, _⟩ => ⟨S_, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .f32⟩
  | .hbm, ⟨27, _⟩ => ⟨S8x8x4096x4096, .i1⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S_, .f32⟩
  | .hbm, ⟨39, _⟩ => ⟨S8x8x4096x4096, .i1⟩
  | .hbm, ⟨40, _⟩ => ⟨S8x8x4096x4096, .f32⟩
  | .hbm, ⟨41, _⟩ => ⟨S8x8x4096x4096, .f32⟩
  | .hbm, ⟨42, _⟩ => ⟨S_, .f32⟩
  | .hbm, ⟨43, _⟩ => ⟨S_, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .f32⟩
  | .hbm, ⟨52, _⟩ => ⟨S8x8x4096x4096, .i1⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S8x8x4096x4096, .f32⟩
  | .hbm, ⟨64, _⟩ => ⟨S_, .f32⟩
  | .hbm, ⟨65, _⟩ => ⟨S_, .f32⟩
  | .hbm, ⟨66, _⟩ => ⟨S8x8x4096x4096, .i1⟩
  | .hbm, ⟨67, _⟩ => ⟨S8x8x4096x4096, .f32⟩
  | .hbm, ⟨68, _⟩ => ⟨S8x8x4096x4096, .f32⟩
  | .hbm, ⟨69, _⟩ => ⟨S8x8x64x4096, .f32⟩
  | .hbm, ⟨70, _⟩ => ⟨S8x4096x8x64, .f32⟩
  | .hbm, ⟨71, _⟩ => ⟨S32768x512, .f32⟩
  | .hbm, ⟨72, _⟩ => ⟨S32768x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩

abbrev nD : Nat := 1
abbrev τ : Topo := Topo.v7x

variable {F : FTy → Type} [FloatOps F]
-- ==== Kernel2.lean ====
abbrev S544 : Shape := ⟨1, ![544]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 14
  | .smem => 1
  | _ => 0

abbrev bufTy : (tb : Table) → Fin (tcTables nBuf tb) → BufTy
  | .hbm, ⟨0, _⟩ => ⟨S139264x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S139264x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S544, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_2 : BitVec 32 := 0#32
  let v7 : BitVec 32 := Scalar.maxsi v6 c0_i32_2
  let v8 : Index := Scalar.indexCast v7
  ![v8.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S544 : Shape := ⟨1, ![544]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S544, .i32⟩
  | .hbm, ⟨1, _⟩ => ⟨S139264x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S544x256x1024, .f32⟩
  | .hbm, ⟨7, _⟩ => ⟨S_, .i32⟩
  | .hbm, ⟨8, _⟩ => ⟨S544, .i32⟩
  | .hbm, ⟨9, _⟩ => ⟨S544, .i1⟩
  | .hbm, ⟨10, _⟩ => ⟨S_, .i32⟩
  | .hbm, ⟨11, _⟩ => ⟨S544, .i32⟩
  | .hbm, ⟨12, _⟩ => ⟨S544, .i32⟩
  | .hbm, ⟨13, _⟩ => ⟨S544, .i32⟩
  | .hbm, ⟨14, _⟩ => ⟨S544x1, .i32⟩
  | .hbm, ⟨15, _⟩ => ⟨S544x1024x2048, .f32⟩
  | .hbm, ⟨16, _⟩ => ⟨S544x256x2048, .f32⟩
  | .hbm, ⟨17, _⟩ => ⟨S_, .i32⟩
  | .hbm, ⟨18, _⟩ => ⟨S544, .i32⟩
  | .hbm, ⟨19, _⟩ => ⟨S544, .i1⟩
  | .hbm, ⟨20, _⟩ => ⟨S_, .i32⟩
  | .hbm, ⟨21, _⟩ => ⟨S544, .i32⟩
  | .hbm, ⟨22, _⟩ => ⟨S544, .i32⟩
  | .hbm, ⟨23, _⟩ => ⟨S544, .i32⟩
  | .hbm, ⟨24, _⟩ => ⟨S544x1, .i32⟩
  | .hbm, ⟨25, _⟩ => ⟨S544x2048, .f32⟩
  | .hbm, ⟨26, _⟩ => ⟨S544x1x2048, .f32⟩
  | .hbm, ⟨27, _⟩ => ⟨S544x256x2048, .f32⟩
  | .hbm, ⟨28, _⟩ => ⟨S544x256x2048, .f32⟩
  | .hbm, ⟨29, _⟩ => ⟨S544x256x1024, .f32⟩
  | .hbm, ⟨30, _⟩ => ⟨S544x256x1024, .f32⟩
  | .hbm, ⟨31, _⟩ => ⟨S_, .f32⟩
  | .hbm, ⟨32, _⟩ => ⟨S544x256x1024, .f32⟩
  | .hbm, ⟨33, _⟩ => ⟨S544x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S544x256x1024, .f32⟩
  | .hbm, ⟨38, _⟩ => ⟨S544x256x1024, .f32⟩
  | .hbm, ⟨39, _⟩ => ⟨S_, .f32⟩
  | .hbm, ⟨40, _⟩ => ⟨S544x256x1024, .f32⟩
  | .hbm, ⟨41, _⟩ => ⟨S544x256x1024, .f32⟩
  | .hbm, ⟨42, _⟩ => ⟨S_, .f32⟩
  | .hbm, ⟨43, _⟩ => ⟨S544x256x1024, .f32⟩
  | .hbm, ⟨44, _⟩ => ⟨S544x256x1024, .f32⟩
  | .hbm, ⟨45, _⟩ => ⟨S_, .f32⟩
  | .hbm, ⟨46, _⟩ => ⟨S544x256x1024, .f32⟩
  | .hbm, ⟨47, _⟩ => ⟨S544x256x1024, .f32⟩
  | .hbm, ⟨48, _⟩ => ⟨S544x256x1024, .f32⟩
  | .hbm, ⟨49, _⟩ => ⟨S544x256x1024, .f32⟩
  | .hbm, ⟨50, _⟩ => ⟨S_, .f32⟩
  | .hbm, ⟨51, _⟩ => ⟨S544x256x1024, .f32⟩
  | .hbm, ⟨52, _⟩ => ⟨S544x256x1024, .f32⟩
  | .hbm, ⟨53, _⟩ => ⟨S_, .f32⟩
  | .hbm, ⟨54, _⟩ => ⟨S544x256x1024, .f32⟩
  | .hbm, ⟨55, _⟩ => ⟨S544x256x1024, .f32⟩
  | .hbm, ⟨56, _⟩ => ⟨S544x256x1024, .f32⟩
  | .hbm, ⟨57, _⟩ => ⟨S544x256x1024, .f32⟩
  | .hbm, ⟨58, _⟩ => ⟨S_, .i32⟩
  | .hbm, ⟨59, _⟩ => ⟨S544, .i32⟩
  | .hbm, ⟨60, _⟩ => ⟨S544, .i1⟩
  | .hbm, ⟨61, _⟩ => ⟨S_, .i32⟩
  | .hbm, ⟨62, _⟩ => ⟨S544, .i32⟩
  | .hbm, ⟨63, _⟩ => ⟨S544, .i32⟩
  | .hbm, ⟨64, _⟩ => ⟨S544, .i32⟩
  | .hbm, ⟨65, _⟩ => ⟨S544x1, .i32⟩
  | .hbm, ⟨66, _⟩ => ⟨S544x1024x1024, .f32⟩
  | .hbm, ⟨67, _⟩ => ⟨S544x256x1024, .f32⟩
  | .hbm, ⟨68, _⟩ => ⟨S_, .i32⟩
  | .hbm, ⟨69, _⟩ => ⟨S544, .i32⟩
  | .hbm, ⟨70, _⟩ => ⟨S544, .i1⟩
  | .hbm, ⟨71, _⟩ => ⟨S_, .i32⟩
  | .hbm, ⟨72, _⟩ => ⟨S544, .i32⟩
  | .hbm, ⟨73, _⟩ => ⟨S544, .i32⟩
  | .hbm, ⟨74, _⟩ => ⟨S544, .i32⟩
  | .hbm, ⟨75, _⟩ => ⟨S544x1, .i32⟩
  | .hbm, ⟨76, _⟩ => ⟨S544x1024, .f32⟩
  | .hbm, ⟨77, _⟩ => ⟨S544x1x1024, .f32⟩
  | .hbm, ⟨78, _⟩ => ⟨S544x256x1024, .f32⟩
  | .hbm, ⟨79, _⟩ => ⟨S544x256x1024, .f32⟩
  | .hbm, ⟨80, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5136 : Shape := ⟨3, ![1, 1024, 5136]⟩
abbrev S1x16x256 : Shape := ⟨3, ![1, 16, 256]⟩
abbrev S1x256 : Shape := ⟨2, ![1, 256]⟩
abbrev S1024x5136 : Shape := ⟨2, ![1024, 5136]⟩
abbrev S1024x16 : Shape := ⟨2, ![1024, 16]⟩
abbrev S_ : Shape := ⟨0, ![]⟩
abbrev S1024x128 : Shape := ⟨2, ![1024, 128]⟩
abbrev S16x256 : Shape := ⟨2, ![16, 256]⟩
abbrev S128x256 : Shape := ⟨2, ![128, 256]⟩
abbrev S1024x1536 : Shape := ⟨2, ![1024, 1536]⟩
abbrev S256 : Shape := ⟨1, ![256]⟩
abbrev S1024x2048 : Shape := ⟨2, ![1024, 2048]⟩
abbrev S1024 : Shape := ⟨1, ![1024]⟩
abbrev S136x1024 : Shape := ⟨2, ![136, 1024]⟩
abbrev S1024x6144 : Shape := ⟨2, ![1024, 6144]⟩
abbrev S6144 : Shape := ⟨1, ![6144]⟩
abbrev S136x6144 : Shape := ⟨2, ![136, 6144]⟩
abbrev S1024x1024 : Shape := ⟨2, ![1024, 1024]⟩
abbrev S8x6144 : Shape := ⟨2, ![8, 6144]⟩
abbrev S8x6x1024 : Shape := ⟨3, ![8, 6, 1024]⟩
abbrev S8x1x1024 : Shape := ⟨3, ![8, 1, 1024]⟩
abbrev S32768x1024 : Shape := ⟨2, ![32768, 1024]⟩
abbrev S32768x256 : Shape := ⟨2, ![32768, 256]⟩
abbrev S32768x512 : Shape := ⟨2, ![32768, 512]⟩
abbrev S8x8x64x4096 : Shape := ⟨4, ![8, 8, 64, 4096]⟩
abbrev S256x1024 : Shape := ⟨2, ![256, 1024]⟩
abbrev S1x1x1024 : Shape := ⟨3, ![1, 1, 1024]⟩
abbrev S256x256 : Shape := ⟨2, ![256, 256]⟩
abbrev S256x512 : Shape := ⟨2, ![256, 512]⟩
abbrev S1x8x64x256 : Shape := ⟨4, ![1, 8, 64, 256]⟩
abbrev S256x1 : Shape := ⟨2, ![256, 1]⟩
abbrev S256x1536 : Shape := ⟨2, ![256, 1536]⟩
abbrev S256x128 : Shape := ⟨2, ![256, 128]⟩
abbrev S512x256 : Shape := ⟨2, ![512, 256]⟩
abbrev S8x64x256 : Shape := ⟨3, ![8, 64, 256]⟩
abbrev S256x2048 : Shape := ⟨2, ![256, 2048]⟩
abbrev S8x4096x8x64 : Shape := ⟨4, ![8, 4096, 8, 64]⟩
abbrev S1x8x4096x8x64 : Shape := ⟨5, ![1, 8, 4096, 8, 64]⟩

abbrev nBuf : Space → Nat
  | .hbm => 60
  | .vmem => 44
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S128x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5136, .f32⟩
  | .hbm, ⟨7, _⟩ => ⟨S1x16x256, .f32⟩
  | .hbm, ⟨8, _⟩ => ⟨S1x256, .f32⟩
  | .hbm, ⟨9, _⟩ => ⟨S1024x5136, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S16x256, .f32⟩
  | .hbm, ⟨15, _⟩ => ⟨S_, .i32⟩
  | .hbm, ⟨16, _⟩ => ⟨S_, .f32⟩
  | .hbm, ⟨17, _⟩ => ⟨S128x256, .f32⟩
  | .hbm, ⟨18, _⟩ => ⟨S1024x1536, .f32⟩
  | .hbm, ⟨19, _⟩ => ⟨S1024x1536, .bf16⟩
  | .hbm, ⟨20, _⟩ => ⟨S1024x128, .bf16⟩
  | .hbm, ⟨21, _⟩ => ⟨S128x256, .bf16⟩
  | .hbm, ⟨22, _⟩ => ⟨S256, .f32⟩
  | .hbm, ⟨23, _⟩ => ⟨S1x256, .f32⟩
  | .hbm, ⟨24, _⟩ => ⟨S1024x1536, .f32⟩
  | .hbm, ⟨25, _⟩ => ⟨S1024x1536, .bf16⟩
  | .hbm, ⟨26, _⟩ => ⟨S1024x2048, .f32⟩
  | .hbm, ⟨27, _⟩ => ⟨S1024x2048, .bf16⟩
  | .hbm, ⟨28, _⟩ => ⟨S1024, .f32⟩
  | .hbm, ⟨29, _⟩ => ⟨S1x1024, .f32⟩
  | .hbm, ⟨30, _⟩ => ⟨S136x1024, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S136x6144, .f32⟩
  | .hbm, ⟨35, _⟩ => ⟨S8x6144, .f32⟩
  | .hbm, ⟨36, _⟩ => ⟨S8x6x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S32768x1024, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x512, .bf16⟩
  | .hbm, ⟨48, _⟩ => ⟨S32768x512, .bf16⟩
  | .hbm, ⟨49, _⟩ => ⟨S32768x512, .f32⟩
  | .hbm, ⟨50, _⟩ => ⟨S32768x512, .bf16⟩
  | .hbm, ⟨51, _⟩ => ⟨S32768x512, .bf16⟩
  | .hbm, ⟨52, _⟩ => ⟨S8x8x64x4096, .f32⟩
  | .hbm, ⟨53, _⟩ => ⟨S8x8x64x4096, .f32⟩
  | .hbm, ⟨54, _⟩ => ⟨S32768x1024, .bf16⟩
  | .hbm, ⟨55, _⟩ => ⟨S32768x1024, .bf16⟩
  | .hbm, ⟨56, _⟩ => ⟨S8x4096x8x64, .f32⟩
  | .hbm, ⟨57, _⟩ => ⟨S1x8x4096x8x64, .f32⟩
  | .hbm, ⟨58, _⟩ => ⟨S8x4096x8x64, .f32⟩
  | .hbm, ⟨59, _⟩ => ⟨S1x8x4096x8x64, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S256x1024, .f32⟩
  | .local _ .vmem, ⟨8, _⟩ => ⟨S256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x1536, .bf16⟩
  | .local _ .vmem, ⟨15, _⟩ => ⟨S1024x128, .bf16⟩
  | .local _ .vmem, ⟨16, _⟩ => ⟨S128x256, .bf16⟩
  | .local _ .vmem, ⟨17, _⟩ => ⟨S1x256, .f32⟩
  | .local _ .vmem, ⟨18, _⟩ => ⟨S1024x1536, .bf16⟩
  | .local _ .vmem, ⟨19, _⟩ => ⟨S1024x2048, .bf16⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .f32⟩
  | .local _ .vmem, ⟨31, _⟩ => ⟨S256x512, .f32⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S1x8x64x256, .f32⟩
  | .local _ .vmem, ⟨37, _⟩ => ⟨S1x8x64x256, .f32⟩
  | .local _ .vmem, ⟨38, _⟩ => ⟨S1x8x64x256, .f32⟩
  | .local _ .vmem, ⟨39, _⟩ => ⟨S1x8x64x256, .f32⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v31_6 : Ref sig .tc := ⟨.hbm, 50, rfl⟩
abbrev main_v31_7 : Ref sig .tc := ⟨.hbm, 51, rfl⟩
abbrev main_v31_8 : Ref sig .tc := ⟨.hbm, 52, rfl⟩
abbrev main_v31_9 : Ref sig .tc := ⟨.hbm, 53, rfl⟩
abbrev main_v31_10 : Ref sig .tc := ⟨.hbm, 54, rfl⟩
abbrev main_v31_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc1_stg16_0 : Ref sig .tc := ⟨.vmem, 32, rfl⟩
abbrev cc1_stg16_1 : Ref sig .tc := ⟨.vmem, 33, rfl⟩
abbrev cc1_stg17_0 : Ref sig .tc := ⟨.vmem, 34, rfl⟩
abbrev cc1_stg17_1 : Ref sig .tc := ⟨.vmem, 35, rfl⟩
abbrev cc1_stg18_0 : Ref sig .tc := ⟨.vmem, 36, rfl⟩
abbrev cc1_stg18_1 : Ref sig .tc := ⟨.vmem, 37, rfl⟩
abbrev cc1_stg19_0 : Ref sig .tc := ⟨.vmem, 38, rfl⟩
abbrev cc1_stg19_1 : Ref sig .tc := ⟨.vmem, 39, rfl⟩
abbrev cc1_stg20_0 : Ref sig .tc := ⟨.vmem, 40, rfl⟩
abbrev cc1_stg20_1 : Ref sig .tc := ⟨.vmem, 41, rfl⟩
abbrev cc1_stg21_0 : Ref sig .tc := ⟨.vmem, 42, rfl⟩
abbrev cc1_stg21_1 : Ref sig .tc := ⟨.vmem, 43, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc1_sem17_1 : DmaSem sig := 35
abbrev cc1_sem18_0 : DmaSem sig := 36
abbrev cc1_sem18_1 : DmaSem sig := 37
abbrev cc1_sem19_0 : DmaSem sig := 38
abbrev cc1_sem19_1 : DmaSem sig := 39
abbrev cc1_sem20_0 : DmaSem sig := 40
abbrev cc1_sem20_1 : DmaSem sig := 41
abbrev cc1_sem21_0 : DmaSem sig := 42
abbrev cc1_sem21_1 : DmaSem sig := 43

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc1_transform_19 (i : grid1.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1536 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1536 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S256x512 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S256x512 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S1x8x64x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S1x8x64x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S256x1024 .bf16 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S256x1024 .bf16 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]
-- ==== Reference3Ideal.lean ====
abbrev S8x4096x1024 : Shape := ⟨3, ![8, 4096, 1024]⟩
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5136 : Shape := ⟨3, ![1, 1024, 5136]⟩
abbrev S1x16x256 : Shape := ⟨3, ![1, 16, 256]⟩
abbrev S1x256 : Shape := ⟨2, ![1, 256]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x5136 : Shape := ⟨2, ![1024, 5136]⟩
abbrev S8x4096x5136 : Shape := ⟨3, ![8, 4096, 5136]⟩
abbrev S8x4096x256 : Shape := ⟨3, ![8, 4096, 256]⟩
abbrev S8x4096x512 : Shape := ⟨3, ![8, 4096, 512]⟩
abbrev S8x4096x16 : Shape := ⟨3, ![8, 4096, 16]⟩
abbrev S16x256 : Shape := ⟨2, ![16, 256]⟩
abbrev S256 : Shape := ⟨1, ![256]⟩
abbrev S1x1x256 : Shape := ⟨3, ![1, 1, 256]⟩
abbrev S32768x256 : Shape := ⟨2, ![32768, 256]⟩
abbrev S32768x512 : Shape := ⟨2, ![32768, 512]⟩
abbrev S8x4096x8x64 : Shape := ⟨4, ![8, 4096, 8, 64]⟩
abbrev S1x8x4096x8x64 : Shape := ⟨5, ![1, 8, 4096, 8, 64]⟩
abbrev S32768x1024 : Shape := ⟨2, ![32768, 1024]⟩

abbrev nBuf : Space → Nat
  | .hbm => 138
  | .vmem => 0
  | .smem => 0
  | _ => 0

abbrev hbmTy0_0 (i : Nat) : BufTy := match i % 128 with
  | 0 => ⟨S8x4096x1024, .f32⟩
  | 1 => ⟨S8x1024, .f32⟩
  | 2 => ⟨S128x1024, .f32⟩
  | 3 => ⟨S1x1024x6144, .f32⟩
  | 4 => ⟨S1x6144, .f32⟩
  | 5 => ⟨S1x1024, .f32⟩
  | 6 => ⟨S1x1024x5136, .f32⟩
  | 7 => ⟨S1x16x256, .f32⟩
  | 8 => ⟨S1x256, .f32⟩
  | 9 => ⟨S8x1024, .f32⟩
  | 10 => ⟨S8x1024, .f32⟩
  | 11 => ⟨S_, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S8x1024, .f32⟩
  | 18 => ⟨S1024x6144, .f32⟩
  | 19 => ⟨S8x6144, .f32⟩
  | 20 => ⟨S6144, .f32⟩
  | 21 => ⟨S1x6144, .f32⟩
  | 22 => ⟨S8x6144, .f32⟩
  | 23 => ⟨S8x6144, .f32⟩
  | 24 => ⟨S8x6x1x1024, .f32⟩
  | 25 => ⟨S8x1x1x1024, .f32⟩
  | 26 => ⟨S8x1x1024, .f32⟩
  | 27 => ⟨S8x1x1x1024, .f32⟩
  | 28 => ⟨S8x1x1024, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1024, .f32⟩
  | 43 => ⟨S1x1x1024, .f32⟩
  | 44 => ⟨S8x4096x1024, .f32⟩
  | 45 => ⟨S8x4096x1024, .f32⟩
  | 46 => ⟨S_, .f32⟩
  | 47 => ⟨S8x1x1024, .f32⟩
  | 48 => ⟨S8x1x1024, .f32⟩
  | 49 => ⟨S8x4096x1024, .f32⟩
  | 50 => ⟨S8x4096x1024, .f32⟩
  | 51 => ⟨S8x4096x1024, .f32⟩
  | 52 => ⟨S8x4096x1024, .f32⟩
  | 53 => ⟨S1024x5136, .f32⟩
  | 54 => ⟨S8x4096x5136, .f32⟩
  | 55 => ⟨S8x4096x256, .f32⟩
  | 56 => ⟨S8x4096x256, .f32⟩
  | 57 => ⟨S8x4096x512, .f32⟩
  | 58 => ⟨S8x4096x512, .f32⟩
  | 59 => ⟨S8x4096x16, .f32⟩
  | 60 => ⟨S8x4096x512, .f32⟩
  | 61 => ⟨S8x4096x512, .f32⟩
  | 62 => ⟨S8x4096x512, .f32⟩
  | 63 => ⟨S8x4096x1024, .f32⟩
  | 64 => ⟨S8x4096x1024, .f32⟩
  | 65 => ⟨S16x256, .f32⟩
  | 66 => ⟨S8x4096x256, .f32⟩
  | 67 => ⟨S256, .f32⟩
  | 68 => ⟨S1x1x256, .f32⟩
  | 69 => ⟨S8x4096x256, .f32⟩
  | 70 => ⟨S8x4096x256, .f32⟩
  | 71 => ⟨S8x4096x256, .f32⟩
  | 72 => ⟨S_, .f32⟩
  | 73 => ⟨S8x4096x256, .f32⟩
  | 74 => ⟨S8x4096x256, .f32⟩
  | 75 => ⟨S8x4096x256, .f32⟩
  | 76 => ⟨S8x4096x256, .f32⟩
  | 77 => ⟨S8x4096x256, .i1⟩
  | 78 => ⟨S8x4096x256, .f32⟩
  | 79 => ⟨S8x4096x256, .f32⟩
  | 80 => ⟨S8x4096x256, .f32⟩
  | 81 => ⟨S8x4096x256, .f32⟩
  | 82 => ⟨S8x4096x256, .f32⟩
  | 83 => ⟨S8x4096x256, .f32⟩
  | 84 => ⟨S8x4096x256, .f32⟩
  | 85 => ⟨S8x4096x256, .f32⟩
  | 86 => ⟨S8x4096x256, .f32⟩
  | 87 => ⟨S_, .f32⟩
  | 88 => ⟨S8x4096x256, .f32⟩
  | 89 => ⟨S8x4096x256, .f32⟩
  | 90 => ⟨S_, .f32⟩
  | 91 => ⟨S8x4096x256, .f32⟩
  | 92 => ⟨S8x4096x256, .f32⟩
  | 93 => ⟨S32768x256, .f32⟩
  | 94 => ⟨S32768x256, .f32⟩
  | 95 => ⟨S32768x256, .f32⟩
  | 96 => ⟨S32768x512, .f32⟩
  | 97 => ⟨S32768x512, .bf16⟩
  | 98 => ⟨S8x4096x512, .f32⟩
  | 99 => ⟨S8x4096x512, .f32⟩
  | 100 => ⟨S_, .f32⟩
  | 101 => ⟨S8x4096x512, .f32⟩
  | 102 => ⟨S8x4096x512, .f32⟩
  | 103 => ⟨S_, .f32⟩
  | 104 => ⟨S8x4096x512, .f32⟩
  | 105 => ⟨S8x4096x512, .f32⟩
  | 106 => ⟨S8x4096x512, .f32⟩
  | 107 => ⟨S32768x512, .f32⟩
  | 108 => ⟨S32768x512, .bf16⟩
  | 109 => ⟨S32768x512, .f32⟩
  | 110 => ⟨S32768x512, .f32⟩
  | 111 => ⟨S32768x512, .bf16⟩
  | 112 => ⟨S32768x512, .f32⟩
  | 113 => ⟨S32768x512, .bf16⟩
  | 114 => ⟨S8x4096x8x64, .f32⟩
  | 115 => ⟨S1x8x4096x8x64, .f32⟩
  | 116 => ⟨S8x4096x8x64, .f32⟩
  | 117 => ⟨S1x8x4096x8x64, .f32⟩
  | 118 => ⟨S8x4096x1024, .f32⟩
  | 119 => ⟨S8x4096x1024, .f32⟩
  | 120 => ⟨S_, .f32⟩
  | 121 => ⟨S8x4096x1024, .f32⟩
  | 122 => ⟨S8x4096x1024, .f32⟩
  | 123 => ⟨S_, .f32⟩
  | 124 => ⟨S8x4096x1024, .f32⟩
  | 125 => ⟨S8x4096x1024, .f32⟩
  | 126 => ⟨S32768x1024, .f32⟩
  | 127 => ⟨S32768x1024, .bf16⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S_, .f32⟩
  | 3 => ⟨S8x4096x1024, .f32⟩
  | 4 => ⟨S8x4096x1024, .f32⟩
  | 5 => ⟨S_, .f32⟩
  | 6 => ⟨S8x4096x1024, .f32⟩
  | 7 => ⟨S8x4096x1024, .f32⟩
  | 8 => ⟨S32768x1024, .f32⟩
  | 9 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1 : Ref sig .tc := ⟨.hbm, 85, rfl⟩
abbrev main_v50 : Ref sig .tc := ⟨.hbm, 86, rfl⟩
abbrev main_cst_3 : Ref sig .tc := ⟨.hbm, 87, rfl⟩
abbrev main_v51 : Ref sig .tc := ⟨.hbm, 88, rfl⟩
abbrev main_v52 : Ref sig .tc := ⟨.hbm, 89, rfl⟩
abbrev main_cst_4 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_5 : Ref sig .tc := ⟨.hbm, 120, rfl⟩
abbrev main_v74 : Ref sig .tc := ⟨.hbm, 121, rfl⟩
abbrev main_v75 : Ref sig .tc := ⟨.hbm, 122, rfl⟩
abbrev main_cst_6 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_7 : Ref sig .tc := ⟨.hbm, 130, rfl⟩
abbrev main_v82 : Ref sig .tc := ⟨.hbm, 131, rfl⟩
abbrev main_v83 : Ref sig .tc := ⟨.hbm, 132, rfl⟩
abbrev main_cst_8 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩

abbrev nD : Nat := 1
abbrev τ : Topo := Topo.v7x

variable {F : FTy → Type} [FloatOps F]
-- ==== Kernel4.lean ====
abbrev S128x1x1024 : Shape := ⟨3, ![128, 1, 1024]⟩
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5136 : Shape := ⟨3, ![1, 1024, 5136]⟩
abbrev S1x16x256 : Shape := ⟨3, ![1, 16, 256]⟩
abbrev S1x256 : Shape := ⟨2, ![1, 256]⟩
abbrev S1024x5136 : Shape := ⟨2, ![1024, 5136]⟩
abbrev S1024x16 : Shape := ⟨2, ![1024, 16]⟩
abbrev S_ : Shape := ⟨0, ![]⟩
abbrev S1024x128 : Shape := ⟨2, ![1024, 128]⟩
abbrev S16x256 : Shape := ⟨2, ![16, 256]⟩
abbrev S128x256 : Shape := ⟨2, ![128, 256]⟩
abbrev S1024x1536 : Shape := ⟨2, ![1024, 1536]⟩
abbrev S256 : Shape := ⟨1, ![256]⟩
abbrev S1024x2048 : Shape := ⟨2, ![1024, 2048]⟩
abbrev S1024 : Shape := ⟨1, ![1024]⟩
abbrev S136x1024 : Shape := ⟨2, ![136, 1024]⟩
abbrev S1024x6144 : Shape := ⟨2, ![1024, 6144]⟩
abbrev S6144 : Shape := ⟨1, ![6144]⟩
abbrev S136x6144 : Shape := ⟨2, ![136, 6144]⟩
abbrev S1024x1024 : Shape := ⟨2, ![1024, 1024]⟩
abbrev S128x6144 : Shape := ⟨2, ![128, 6144]⟩
abbrev S128x6x1024 : Shape := ⟨3, ![128, 6, 1024]⟩
abbrev S1x128x1024 : Shape := ⟨3, ![1, 128, 1024]⟩
abbrev S128x512 : Shape := ⟨2, ![128, 512]⟩
abbrev S128 : Shape := ⟨1, ![128]⟩
abbrev S128x1 : Shape := ⟨2, ![128, 1]⟩
abbrev S128x1536 : Shape := ⟨2, ![128, 1536]⟩
abbrev S128x128 : Shape := ⟨2, ![128, 128]⟩
abbrev S128x2048 : Shape := ⟨2, ![128, 2048]⟩
abbrev S128x1x8x64 : Shape := ⟨4, ![128, 1, 8, 64]⟩
abbrev S1x128x1x8x64 : Shape := ⟨5, ![1, 128, 1, 8, 64]⟩

abbrev nBuf : Space → Nat
  | .hbm => 60
  | .vmem => 29
  | .smem => 0
  | _ => 0

abbrev bufTy : (tb : Table) → Fin (tcTables nBuf tb) → BufTy
  | .hbm, ⟨0, _⟩ => ⟨S128x1x1024, .f32⟩
  | .hbm, ⟨1, _⟩ => ⟨S8x1024, .f32⟩
  | .hbm, ⟨2, _⟩ => ⟨S128x1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x5136, .f32⟩
  | .hbm, ⟨7, _⟩ => ⟨S1x16x256, .f32⟩
  | .hbm, ⟨8, _⟩ => ⟨S1x256, .f32⟩
  | .hbm, ⟨9, _⟩ => ⟨S1024x5136, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S16x256, .f32⟩
  | .hbm, ⟨15, _⟩ => ⟨S_, .i32⟩
  | .hbm, ⟨16, _⟩ => ⟨S_, .f32⟩
  | .hbm, ⟨17, _⟩ => ⟨S128x256, .f32⟩
  | .hbm, ⟨18, _⟩ => ⟨S1024x1536, .f32⟩
  | .hbm, ⟨19, _⟩ => ⟨S1024x1536, .bf16⟩
  | .hbm, ⟨20, _⟩ => ⟨S1024x128, .bf16⟩
  | .hbm, ⟨21, _⟩ => ⟨S128x256, .bf16⟩
  | .hbm, ⟨22, _⟩ => ⟨S256, .f32⟩
  | .hbm, ⟨23, _⟩ => ⟨S1x256, .f32⟩
  | .hbm, ⟨24, _⟩ => ⟨S1024x1536, .f32⟩
  | .hbm, ⟨25, _⟩ => ⟨S1024x1536, .bf16⟩
  | .hbm, ⟨26, _⟩ => ⟨S1024x2048, .f32⟩
  | .hbm, ⟨27, _⟩ => ⟨S1024x2048, .bf16⟩
  | .hbm, ⟨28, _⟩ => ⟨S1024, .f32⟩
  | .hbm, ⟨29, _⟩ => ⟨S1x1024, .f32⟩
  | .hbm, ⟨30, _⟩ => ⟨S136x1024, .f32⟩
  | .hbm, ⟨31, _⟩ => ⟨S1024x6144, .f32⟩
  | .hbm, ⟨32, _⟩ => ⟨S6144, .f32⟩
  | .hbm, ⟨33, _⟩ => ⟨S1x6144, .f32⟩
  | .hbm, ⟨34, _⟩ => ⟨S136x6144, .f32⟩
  | .hbm, ⟨35, _⟩ => ⟨S128x6144, .f32⟩
  | .hbm, ⟨36, _⟩ => ⟨S128x6x1024, .f32⟩
  | .hbm, ⟨37, _⟩ => ⟨S128x1x1024, .f32⟩
  | .hbm, ⟨38, _⟩ => ⟨S128x1024, .f32⟩
  | .hbm, ⟨39, _⟩ => ⟨S1x128x1024, .f32⟩
  | .hbm, ⟨40, _⟩ => ⟨S128x1x1024, .f32⟩
  | .hbm, ⟨41, _⟩ => ⟨S128x1024, .f32⟩
  | .hbm, ⟨42, _⟩ => ⟨S1x128x1024, .f32⟩
  | .hbm, ⟨43, _⟩ => ⟨S128x1024, .f32⟩
  | .hbm, ⟨44, _⟩ => ⟨S128x256, .f32⟩
  | .hbm, ⟨45, _⟩ => ⟨S128x256, .f32⟩
  | .hbm, ⟨46, _⟩ => ⟨S128x256, .f32⟩
  | .hbm, ⟨47, _⟩ => ⟨S128x512, .bf16⟩
  | .hbm, ⟨48, _⟩ => ⟨S128x512, .bf16⟩
  | .hbm, ⟨49, _⟩ => ⟨S128x512, .f32⟩
  | .hbm, ⟨50, _⟩ => ⟨S128x512, .bf16⟩
  | .hbm, ⟨51, _⟩ => ⟨S128x512, .bf16⟩
  | .hbm, ⟨52, _⟩ => ⟨S128x512, .f32⟩
  | .hbm, ⟨53, _⟩ => ⟨S128x512, .f32⟩
  | .hbm, ⟨54, _⟩ => ⟨S128x1024, .bf16⟩
  | .hbm, ⟨55, _⟩ => ⟨S128x1024, .bf16⟩
  | .hbm, ⟨56, _⟩ => ⟨S128x1x8x64, .f32⟩
  | .hbm, ⟨57, _⟩ => ⟨S1x128x1x8x64, .f32⟩
  | .hbm, ⟨58, _⟩ => ⟨S128x1x8x64, .f32⟩
  | .hbm, ⟨59, _⟩ => ⟨S1x128x1x8x64, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x1024, .f32⟩
  | .local _ .vmem, ⟨11, _⟩ => ⟨S1024x1536, .bf16⟩
  | .local _ .vmem, ⟨12, _⟩ => ⟨S1024x128, .bf16⟩
  | .local _ .vmem, ⟨13, _⟩ => ⟨S128x256, .bf16⟩
  | .local _ .vmem, ⟨14, _⟩ => ⟨S1x256, .f32⟩
  | .local _ .vmem, ⟨15, _⟩ => ⟨S1024x1536, .bf16⟩
  | .local _ .vmem, ⟨16, _⟩ => ⟨S1024x2048, .bf16⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x512, .bf16⟩
  | .local _ .vmem, ⟨21, _⟩ => ⟨S128x512, .bf16⟩
  | .local _ .vmem, ⟨22, _⟩ => ⟨S128x512, .f32⟩
  | .local _ .vmem, ⟨23, _⟩ => ⟨S128x512, .bf16⟩
  | .local _ .vmem, ⟨24, _⟩ => ⟨S128x512, .bf16⟩
  | .local _ .vmem, ⟨25, _⟩ => ⟨S128x512, .f32⟩
  | .local _ .vmem, ⟨26, _⟩ => ⟨S128x512, .f32⟩
  | .local _ .vmem, ⟨27, _⟩ => ⟨S128x1024, .bf16⟩
  | .local _ .vmem, ⟨28, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev main_v31_3 : Ref sig .tc := ⟨.hbm, 47, rfl⟩
abbrev main_v31_4 : Ref sig .tc := ⟨.hbm, 48, rfl⟩
abbrev main_v31_5 : Ref sig .tc := ⟨.hbm, 49, rfl⟩
abbrev main_v31_6 : Ref sig .tc := ⟨.hbm, 50, rfl⟩
abbrev main_v31_7 : Ref sig .tc := ⟨.hbm, 51, rfl⟩
abbrev main_v31_8 : Ref sig .tc := ⟨.hbm, 52, rfl⟩
abbrev main_v31_9 : Ref sig .tc := ⟨.hbm, 53, rfl⟩
abbrev main_v31_10 : Ref sig .tc := ⟨.hbm, 54, rfl⟩
abbrev main_v31_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg16_0 : Ref sig .tc := ⟨.vmem, 23, rfl⟩
abbrev cc1_stg17_0 : Ref sig .tc := ⟨.vmem, 24, rfl⟩
abbrev cc1_stg18_0 : Ref sig .tc := ⟨.vmem, 25, rfl⟩
abbrev cc1_stg19_0 : Ref sig .tc := ⟨.vmem, 26, rfl⟩
abbrev cc1_stg20_0 : Ref sig .tc := ⟨.vmem, 27, rfl⟩
abbrev cc1_stg21_0 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc1_transform_2 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1536 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x1536 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x2048 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true]

abbrev stage1_11 : Fin 1 → Memref sig .tc .vmem S128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![true]

abbrev stage1_12 : Fin 1 → Memref sig .tc .vmem S128x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S128x512 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![true]

abbrev stage1_14 : Fin 1 → Memref sig .tc .vmem S128x512 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![true]

abbrev stage1_15 : Fin 1 → Memref sig .tc .vmem S128x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![true]

abbrev stage1_16 : Fin 1 → Memref sig .tc .vmem S128x512 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![true]

abbrev stage1_17 : Fin 1 → Memref sig .tc .vmem S128x512 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![true]

abbrev stage1_18 : Fin 1 → Memref sig .tc .vmem S128x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![true]

abbrev stage1_19 : Fin 1 → Memref sig .tc .vmem S128x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![true]

abbrev stage1_20 : Fin 1 → Memref sig .tc .vmem S128x1024 .bf16 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![true]

abbrev stage1_21 : Fin 1 → Memref sig .tc .vmem S128x1024 .bf16 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![true]
-- ==== Reference4Ideal.lean ====
abbrev S128x1x1024 : Shape := ⟨3, ![128, 1, 1024]⟩
abbrev S8x1024 : Shape := ⟨2, ![8, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x5136 : Shape := ⟨3, ![1, 1024, 5136]⟩
abbrev S1x16x256 : Shape := ⟨3, ![1, 16, 256]⟩
abbrev S1x256 : Shape := ⟨2, ![1, 256]⟩
abbrev S_ : Shape := ⟨0, ![]⟩
abbrev S1024x6144 : Shape := ⟨2, ![1024, 6144]⟩
abbrev S128x6144 : Shape := ⟨2, ![128, 6144]⟩
abbrev S6144 : Shape := ⟨1, ![6144]⟩
abbrev S128x6x1x1024 : Shape := ⟨4, ![128, 6, 1, 1024]⟩
abbrev S128x1x1x1024 : Shape := ⟨4, ![128, 1, 1, 1024]⟩
abbrev S128x1 : Shape := ⟨2, ![128, 1]⟩
abbrev S128x1x1 : Shape := ⟨3, ![128, 1, 1]⟩
abbrev S1024 : Shape := ⟨1, ![1024]⟩
abbrev S1x1x1024 : Shape := ⟨3, ![1, 1, 1024]⟩
abbrev S1024x5136 : Shape := ⟨2, ![1024, 5136]⟩
abbrev S128x1x5136 : Shape := ⟨3, ![128, 1, 5136]⟩
abbrev S128x1x256 : Shape := ⟨3, ![128, 1, 256]⟩
abbrev S128x1x512 : Shape := ⟨3, ![128, 1, 512]⟩
abbrev S128x1x16 : Shape := ⟨3, ![128, 1, 16]⟩
abbrev S16x256 : Shape := ⟨2, ![16, 256]⟩
abbrev S256 : Shape := ⟨1, ![256]⟩
abbrev S1x1x256 : Shape := ⟨3, ![1, 1, 256]⟩
abbrev S128x256 : Shape := ⟨2, ![128, 256]⟩
abbrev S128x512 : Shape := ⟨2, ![128, 512]⟩
abbrev S128x1x8x64 : Shape := ⟨4, ![128, 1, 8, 64]⟩
abbrev S1x128x1x8x64 : Shape := ⟨5, ![1, 128, 1, 8, 64]⟩

abbrev nBuf : Space → Nat
  | .hbm => 136
  | .vmem => 0
  | .smem => 0
  | _ => 0

abbrev hbmTy0_0 (i : Nat) : BufTy := match i % 128 with
  | 0 => ⟨S128x1x1024, .f32⟩
  | 1 => ⟨S8x1024, .f32⟩
  | 2 => ⟨S128x1024, .f32⟩
  | 3 => ⟨S1x1024x6144, .f32⟩
  | 4 => ⟨S1x6144, .f32⟩
  | 5 => ⟨S1x1024, .f32⟩
  | 6 => ⟨S1x1024x5136, .f32⟩
  | 7 => ⟨S1x16x256, .f32⟩
  | 8 => ⟨S1x256, .f32⟩
  | 9 => ⟨S128x1024, .f32⟩
  | 10 => ⟨S128x1024, .f32⟩
  | 11 => ⟨S_, .f32⟩
  | 12 => ⟨S128x1024, .f32⟩
  | 13 => ⟨S128x1024, .f32⟩
  | 14 => ⟨S_, .f32⟩
  | 15 => ⟨S128x1024, .f32⟩
  | 16 => ⟨S128x1024, .f32⟩
  | 17 => ⟨S128x1024, .f32⟩
  | 18 => ⟨S1024x6144, .f32⟩
  | 19 => ⟨S128x6144, .f32⟩
  | 20 => ⟨S6144, .f32⟩
  | 21 => ⟨S1x6144, .f32⟩
  | 22 => ⟨S128x6144, .f32⟩
  | 23 => ⟨S128x6144, .f32⟩
  | 24 => ⟨S128x6x1x1024, .f32⟩
  | 25 => ⟨S128x1x1x1024, .f32⟩
  | 26 => ⟨S128x1x1024, .f32⟩
  | 27 => ⟨S128x1x1x1024, .f32⟩
  | 28 => ⟨S128x1x1024, .f32⟩
  | 29 => ⟨S128x1x1024, .f32⟩
  | 30 => ⟨S_, .f32⟩
  | 31 => ⟨S128x1, .f32⟩
  | 32 => ⟨S128x1x1, .f32⟩
  | 33 => ⟨S_, .f32⟩
  | 34 => ⟨S128x1x1, .f32⟩
  | 35 => ⟨S128x1x1, .f32⟩
  | 36 => ⟨S_, .f32⟩
  | 37 => ⟨S128x1x1, .f32⟩
  | 38 => ⟨S128x1x1, .f32⟩
  | 39 => ⟨S128x1x1, .f32⟩
  | 40 => ⟨S128x1x1024, .f32⟩
  | 41 => ⟨S128x1x1024, .f32⟩
  | 42 => ⟨S1024, .f32⟩
  | 43 => ⟨S1x1x1024, .f32⟩
  | 44 => ⟨S128x1x1024, .f32⟩
  | 45 => ⟨S128x1x1024, .f32⟩
  | 46 => ⟨S_, .f32⟩
  | 47 => ⟨S128x1x1024, .f32⟩
  | 48 => ⟨S128x1x1024, .f32⟩
  | 49 => ⟨S128x1x1024, .f32⟩
  | 50 => ⟨S128x1x1024, .f32⟩
  | 51 => ⟨S1024x5136, .f32⟩
  | 52 => ⟨S128x1x5136, .f32⟩
  | 53 => ⟨S128x1x256, .f32⟩
  | 54 => ⟨S128x1x256, .f32⟩
  | 55 => ⟨S128x1x512, .f32⟩
  | 56 => ⟨S128x1x512, .f32⟩
  | 57 => ⟨S128x1x16, .f32⟩
  | 58 => ⟨S128x1x512, .f32⟩
  | 59 => ⟨S128x1x512, .f32⟩
  | 60 => ⟨S128x1x512, .f32⟩
  | 61 => ⟨S128x1x1024, .f32⟩
  | 62 => ⟨S128x1x1024, .f32⟩
  | 63 => ⟨S16x256, .f32⟩
  | 64 => ⟨S128x1x256, .f32⟩
  | 65 => ⟨S256, .f32⟩
  | 66 => ⟨S1x1x256, .f32⟩
  | 67 => ⟨S128x1x256, .f32⟩
  | 68 => ⟨S128x1x256, .f32⟩
  | 69 => ⟨S128x1x256, .f32⟩
  | 70 => ⟨S_, .f32⟩
  | 71 => ⟨S128x1x256, .f32⟩
  | 72 => ⟨S128x1x256, .f32⟩
  | 73 => ⟨S128x1x256, .f32⟩
  | 74 => ⟨S128x1x256, .f32⟩
  | 75 => ⟨S128x1x256, .i1⟩
  | 76 => ⟨S128x1x256, .f32⟩
  | 77 => ⟨S128x1x256, .f32⟩
  | 78 => ⟨S128x1x256, .f32⟩
  | 79 => ⟨S128x1x256, .f32⟩
  | 80 => ⟨S128x1x256, .f32⟩
  | 81 => ⟨S128x1x256, .f32⟩
  | 82 => ⟨S128x1x256, .f32⟩
  | 83 => ⟨S128x1x256, .f32⟩
  | 84 => ⟨S128x1x256, .f32⟩
  | 85 => ⟨S_, .f32⟩
  | 86 => ⟨S128x1x256, .f32⟩
  | 87 => ⟨S128x1x256, .f32⟩
  | 88 => ⟨S_, .f32⟩
  | 89 => ⟨S128x1x256, .f32⟩
  | 90 => ⟨S128x1x256, .f32⟩
  | 91 => ⟨S128x256, .f32⟩
  | 92 => ⟨S128x256, .f32⟩
  | 93 => ⟨S128x256, .f32⟩
  | 94 => ⟨S128x512, .f32⟩
  | 95 => ⟨S128x512, .bf16⟩
  | 96 => ⟨S128x1x512, .f32⟩
  | 97 => ⟨S128x1x512, .f32⟩
  | 98 => ⟨S_, .f32⟩
  | 99 => ⟨S128x1x512, .f32⟩
  | 100 => ⟨S128x1x512, .f32⟩
  | 101 => ⟨S_, .f32⟩
  | 102 => ⟨S128x1x512, .f32⟩
  | 103 => ⟨S128x1x512, .f32⟩
  | 104 => ⟨S128x1x512, .f32⟩
  | 105 => ⟨S128x512, .f32⟩
  | 106 => ⟨S128x512, .bf16⟩
  | 107 => ⟨S128x512, .f32⟩
  | 108 => ⟨S128x512, .f32⟩
  | 109 => ⟨S128x512, .bf16⟩
  | 110 => ⟨S128x512, .f32⟩
  | 111 => ⟨S128x512, .bf16⟩
  | 112 => ⟨S128x1x8x64, .f32⟩
  | 113 => ⟨S1x128x1x8x64, .f32⟩
  | 114 => ⟨S128x1x8x64, .f32⟩
  | 115 => ⟨S1x128x1x8x64, .f32⟩
  | 116 => ⟨S128x1x1024, .f32⟩
  | 117 => ⟨S128x1x1024, .f32⟩
  | 118 => ⟨S_, .f32⟩
  | 119 => ⟨S128x1x1024, .f32⟩
  | 120 => ⟨S128x1x1024, .f32⟩
  | 121 => ⟨S_, .f32⟩
  | 122 => ⟨S128x1x1024, .f32⟩
  | 123 => ⟨S128x1x1024, .f32⟩
  | 124 => ⟨S128x1024, .f32⟩
  | 125 => ⟨S128x1024, .bf16⟩
  | 126 => ⟨S128x1x1024, .f32⟩
  | 127 => ⟨S128x1x1024, .f32⟩
  | _ => ⟨S128x1x1024, .f32⟩

abbrev hbmTy0_1 (i : Nat) : BufTy := match i % 128 with
  | 0 => ⟨S_, .f32⟩
  | 1 => ⟨S128x1x1024, .f32⟩
  | 2 => ⟨S128x1x1024, .f32⟩
  | 3 => ⟨S_, .f32⟩
  | 4 => ⟨S128x1x1024, .f32⟩
  | 5 => ⟨S128x1x1024, .f32⟩
  | 6 => ⟨S128x1024, .f32⟩
  | 7 => ⟨S128x1024, .bf16⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_v0 : Ref sig .tc := ⟨.hbm, 69, rfl⟩
abbrev main_call1_call0_cst : Ref sig .tc := ⟨.hbm, 70, rfl⟩
abbrev main_call1_call0_v0 : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_v8 : Ref sig .tc := ⟨.hbm, 79, rfl⟩
abbrev main_call1_call0_v9 : Ref sig .tc := ⟨.hbm, 80, rfl⟩
abbrev main_call1_call0_v10 : Ref sig .tc := ⟨.hbm, 81, rfl⟩
abbrev main_call1_call0_v11 : Ref sig .tc := ⟨.hbm, 82, rfl⟩
abbrev main_call1_v1 : Ref sig .tc := ⟨.hbm, 83, rfl⟩
abbrev main_v48 : Ref sig .tc := ⟨.hbm, 84, rfl⟩
abbrev main_cst_3 : Ref sig .tc := ⟨.hbm, 85, rfl⟩
abbrev main_v49 : Ref sig .tc := ⟨.hbm, 86, rfl⟩
abbrev main_v50 : Ref sig .tc := ⟨.hbm, 87, rfl⟩
abbrev main_cst_4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_5 : Ref sig .tc := ⟨.hbm, 118, rfl⟩
abbrev main_v72 : Ref sig .tc := ⟨.hbm, 119, rfl⟩
abbrev main_v73 : Ref sig .tc := ⟨.hbm, 120, rfl⟩
abbrev main_cst_6 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_7 : Ref sig .tc := ⟨.hbm, 128, rfl⟩
abbrev main_v80 : Ref sig .tc := ⟨.hbm, 129, rfl⟩
abbrev main_v81 : Ref sig .tc := ⟨.hbm, 130, rfl⟩
abbrev main_cst_8 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩

abbrev nD : Nat := 1
abbrev τ : Topo := Topo.v7x

variable {F : FTy → Type} [FloatOps F]
-- ==== Kernel5.lean ====
abbrev S128x256 : Shape := ⟨2, ![128, 256]⟩
abbrev S128x512 : Shape := ⟨2, ![128, 512]⟩
abbrev S1x128x4x64x128 : Shape := ⟨5, ![1, 128, 4, 64, 128]⟩
abbrev S1x128 : Shape := ⟨2, ![1, 128]⟩
abbrev S128x1x256 : Shape := ⟨3, ![128, 1, 256]⟩
abbrev S_ : Shape := ⟨0, ![]⟩
abbrev S128x64x256 : Shape := ⟨3, ![128, 64, 256]⟩
abbrev S8192x256 : Shape := ⟨2, ![8192, 256]⟩
abbrev S128x1x512 : Shape := ⟨3, ![128, 1, 512]⟩
abbrev S128x64x512 : Shape := ⟨3, ![128, 64, 512]⟩
abbrev S8192x512 : Shape := ⟨2, ![8192, 512]⟩
abbrev S128x4x64x128 : Shape := ⟨4, ![128, 4, 64, 128]⟩
abbrev S128 : Shape := ⟨1, ![128]⟩
abbrev S64x256 : Shape := ⟨2, ![64, 256]⟩
abbrev S64x512 : Shape := ⟨2, ![64, 512]⟩
abbrev S1x4x64x128 : Shape := ⟨4, ![1, 4, 64, 128]⟩
abbrev S2x128x128 : Shape := ⟨3, ![2, 128, 128]⟩
abbrev S1x1x64x128 : Shape := ⟨4, ![1, 1, 64, 128]⟩
abbrev S64x128 : Shape := ⟨2, ![64, 128]⟩
abbrev S128x128 : Shape := ⟨2, ![128, 128]⟩
abbrev S1x128x128 : Shape := ⟨3, ![1, 128, 128]⟩
abbrev S64x64 : Shape := ⟨2, ![64, 64]⟩
abbrev S1x256 : Shape := ⟨2, ![1, 256]⟩
abbrev S64 : Shape := ⟨1, ![64]⟩
abbrev S64x1 : Shape := ⟨2, ![64, 1]⟩

abbrev nBuf : Space → Nat
  | .hbm => 41
  | .vmem => 18
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x512, .bf16⟩
  | .hbm, ⟨4, _⟩ => ⟨S128x512, .bf16⟩
  | .hbm, ⟨5, _⟩ => ⟨S1x128x4x64x128, .f32⟩
  | .hbm, ⟨6, _⟩ => ⟨S1x128, .f32⟩
  | .hbm, ⟨7, _⟩ => ⟨S128x1x256, .f32⟩
  | .hbm, ⟨8, _⟩ => ⟨S_, .i32⟩
  | .hbm, ⟨9, _⟩ => ⟨S_, .f32⟩
  | .hbm, ⟨10, _⟩ => ⟨S128x64x256, .f32⟩
  | .hbm, ⟨11, _⟩ => ⟨S8192x256, .f32⟩
  | .hbm, ⟨12, _⟩ => ⟨S128x1x256, .f32⟩
  | .hbm, ⟨13, _⟩ => ⟨S_, .i32⟩
  | .hbm, ⟨14, _⟩ => ⟨S_, .f32⟩
  | .hbm, ⟨15, _⟩ => ⟨S128x64x256, .f32⟩
  | .hbm, ⟨16, _⟩ => ⟨S8192x256, .f32⟩
  | .hbm, ⟨17, _⟩ => ⟨S128x1x256, .f32⟩
  | .hbm, ⟨18, _⟩ => ⟨S_, .i32⟩
  | .hbm, ⟨19, _⟩ => ⟨S_, .f32⟩
  | .hbm, ⟨20, _⟩ => ⟨S128x64x256, .f32⟩
  | .hbm, ⟨21, _⟩ => ⟨S8192x256, .f32⟩
  | .hbm, ⟨22, _⟩ => ⟨S128x1x512, .bf16⟩
  | .hbm, ⟨23, _⟩ => ⟨S_, .i32⟩
  | .hbm, ⟨24, _⟩ => ⟨S_, .bf16⟩
  | .hbm, ⟨25, _⟩ => ⟨S128x64x512, .bf16⟩
  | .hbm, ⟨26, _⟩ => ⟨S8192x512, .bf16⟩
  | .hbm, ⟨27, _⟩ => ⟨S128x1x512, .bf16⟩
  | .hbm, ⟨28, _⟩ => ⟨S_, .i32⟩
  | .hbm, ⟨29, _⟩ => ⟨S_, .bf16⟩
  | .hbm, ⟨30, _⟩ => ⟨S128x64x512, .bf16⟩
  | .hbm, ⟨31, _⟩ => ⟨S8192x512, .bf16⟩
  | .hbm, ⟨32, _⟩ => ⟨S128x4x64x128, .f32⟩
  | .hbm, ⟨33, _⟩ => ⟨S128, .f32⟩
  | .hbm, ⟨34, _⟩ => ⟨S1x128, .f32⟩
  | .hbm, ⟨35, _⟩ => ⟨S8192x512, .bf16⟩
  | .hbm, ⟨36, _⟩ => ⟨S128x4x64x128, .f32⟩
  | .hbm, ⟨37, _⟩ => ⟨S128x64x512, .bf16⟩
  | .hbm, ⟨38, _⟩ => ⟨S128x1x512, .bf16⟩
  | .hbm, ⟨39, _⟩ => ⟨S128x512, .bf16⟩
  | .hbm, ⟨40, _⟩ => ⟨S1x128x4x64x128, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S1x4x64x128, .f32⟩
  | .local _ .vmem, ⟨11, _⟩ => ⟨S1x4x64x128, .f32⟩
  | .local _ .vmem, ⟨12, _⟩ => ⟨S1x128, .f32⟩
  | .local _ .vmem, ⟨13, _⟩ => ⟨S64x512, .bf16⟩
  | .local _ .vmem, ⟨14, _⟩ => ⟨S64x512, .bf16⟩
  | .local _ .vmem, ⟨15, _⟩ => ⟨S1x4x64x128, .f32⟩
  | .local _ .vmem, ⟨16, _⟩ => ⟨S1x4x64x128, .f32⟩
  | .local _ .vmem, ⟨17, _⟩ => ⟨S2x128x128, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call4_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![128, 1], ![false, false]⟩

def k0_mult1 : BitVec 32 :=
  let c0_i32_2 : BitVec 32 := 0#32
  let c64_i32 : BitVec 32 := 64#32
  let v12 : BitVec 32 := Scalar.muli c0_i32_2 c64_i32
  v12
def k0_off1 : Fin 2 → Nat :=
  let c0_i32_2 : BitVec 32 := 0#32
  let c64_i32 : BitVec 32 := 64#32
  let v12 : BitVec 32 := Scalar.muli c0_i32_2 c64_i32
  let v13 : BitVec 32 := v12
  let v14 : Index := Scalar.indexCast v13
  let c0 : Index := 0#32
  ![v14.toNat, 0]
def k0_off2 : Fin 2 → Nat :=
  let c0_i32_2 : BitVec 32 := 0#32
  let c64_i32 : BitVec 32 := 64#32
  let v12 : BitVec 32 := Scalar.muli c0_i32_2 c64_i32
  let v13 : BitVec 32 := v12
  let v61 : Index := Scalar.indexCast v13
  let c0_16 : Index := 0#32
  ![v61.toNat, 0]
def k0_off3 : Fin 2 → Nat :=
  let c0_i32_2 : BitVec 32 := 0#32
  let c64_i32 : BitVec 32 := 64#32
  let v12 : BitVec 32 := Scalar.muli c0_i32_2 c64_i32
  let v13 : BitVec 32 := v12
  let v102 : Index := Scalar.indexCast v13
  let c128 : Index := 128#32
  ![v102.toNat, 128]
def k0_off4 : Fin 2 → Nat :=
  let c0_i32_2 : BitVec 32 := 0#32
  let c64_i32 : BitVec 32 := 64#32
  let v12 : BitVec 32 := Scalar.muli c0_i32_2 c64_i32
  let v13 : BitVec 32 := v12
  let v159 : Index := Scalar.indexCast v13
  let c256 : Index := 256#32
  ![v159.toNat, 256]
def k0_off5 : Fin 2 → Nat :=
  let c0_i32_2 : BitVec 32 := 0#32
  let c64_i32 : BitVec 32 := 64#32
  let v12 : BitVec 32 := Scalar.muli c0_i32_2 c64_i32
  let v13 : BitVec 32 := v12
  let v200 : Index := Scalar.indexCast v13
  let c384 : Index := 384#32
  ![v200.toNat, 384]
def k0_cond2 (i : grid0.Coords) : BitVec 1 :=
  let arg1 : BitVec 32 := BitVec.ofNat 32 (i 1).val
  let c0_i32_81 : BitVec 32 := 0#32
  let v240 : BitVec 1 := Scalar.cmpi .eq arg1 c0_i32_81
  let v241 : BitVec 32 := Scalar.extui v240
  let c0_i32_82 : BitVec 32 := 0#32
  let v242 : BitVec 1 := Scalar.cmpi .ne v241 c0_i32_82
  v242

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S128x256 : Shape := ⟨2, ![128, 256]⟩
abbrev S128x512 : Shape := ⟨2, ![128, 512]⟩
abbrev S1x128x4x64x128 : Shape := ⟨5, ![1, 128, 4, 64, 128]⟩
abbrev S1x128 : Shape := ⟨2, ![1, 128]⟩
abbrev S128x4x1x64 : Shape := ⟨4, ![128, 4, 1, 64]⟩
abbrev S128x4x1x128 : Shape := ⟨4, ![128, 4, 1, 128]⟩
abbrev S128x4x64x128 : Shape := ⟨4, ![128, 4, 64, 128]⟩
abbrev S128x4x1x1 : Shape := ⟨4, ![128, 4, 1, 1]⟩
abbrev S128x4x64 : Shape := ⟨3, ![128, 4, 64]⟩
abbrev S128x4x64x1 : Shape := ⟨4, ![128, 4, 64, 1]⟩
abbrev S_ : Shape := ⟨0, ![]⟩
abbrev S128x4x1 : Shape := ⟨3, ![128, 4, 1]⟩
abbrev S128 : Shape := ⟨1, ![128]⟩
abbrev S1x1x1x128 : Shape := ⟨4, ![1, 1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x512, .bf16⟩
  | .hbm, ⟨4, _⟩ => ⟨S128x512, .bf16⟩
  | .hbm, ⟨5, _⟩ => ⟨S1x128x4x64x128, .f32⟩
  | .hbm, ⟨6, _⟩ => ⟨S1x128, .f32⟩
  | .hbm, ⟨7, _⟩ => ⟨S128x4x1x64, .f32⟩
  | .hbm, ⟨8, _⟩ => ⟨S128x4x1x64, .f32⟩
  | .hbm, ⟨9, _⟩ => ⟨S128x4x1x64, .f32⟩
  | .hbm, ⟨10, _⟩ => ⟨S128x512, .f32⟩
  | .hbm, ⟨11, _⟩ => ⟨S128x4x1x128, .f32⟩
  | .hbm, ⟨12, _⟩ => ⟨S128x4x64x128, .f32⟩
  | .hbm, ⟨13, _⟩ => ⟨S128x4x1x64, .f32⟩
  | .hbm, ⟨14, _⟩ => ⟨S128x4x1x64, .f32⟩
  | .hbm, ⟨15, _⟩ => ⟨S128x4x1x64, .f32⟩
  | .hbm, ⟨16, _⟩ => ⟨S128x4x1x64, .f32⟩
  | .hbm, ⟨17, _⟩ => ⟨S128x4x1x64, .f32⟩
  | .hbm, ⟨18, _⟩ => ⟨S128x4x1x1, .f32⟩
  | .hbm, ⟨19, _⟩ => ⟨S128x4x1x64, .f32⟩
  | .hbm, ⟨20, _⟩ => ⟨S128x4x1x64, .f32⟩
  | .hbm, ⟨21, _⟩ => ⟨S128x4x1x128, .f32⟩
  | .hbm, ⟨22, _⟩ => ⟨S128x4x1x128, .f32⟩
  | .hbm, ⟨23, _⟩ => ⟨S128x4x1x128, .f32⟩
  | .hbm, ⟨24, _⟩ => ⟨S128x4x1x64, .f32⟩
  | .hbm, ⟨25, _⟩ => ⟨S128x4x64, .f32⟩
  | .hbm, ⟨26, _⟩ => ⟨S128x4x64x1, .f32⟩
  | .hbm, ⟨27, _⟩ => ⟨S128x4x64x128, .f32⟩
  | .hbm, ⟨28, _⟩ => ⟨S128x4x64x128, .f32⟩
  | .hbm, ⟨29, _⟩ => ⟨S128x4x1x64, .f32⟩
  | .hbm, ⟨30, _⟩ => ⟨S128x4x1x64, .f32⟩
  | .hbm, ⟨31, _⟩ => ⟨S128x4x1x64, .f32⟩
  | .hbm, ⟨32, _⟩ => ⟨S128x4x64x128, .f32⟩
  | .hbm, ⟨33, _⟩ => ⟨S128x4x64x128, .f32⟩
  | .hbm, ⟨34, _⟩ => ⟨S128x4x1x128, .f32⟩
  | .hbm, ⟨35, _⟩ => ⟨S_, .f32⟩
  | .hbm, ⟨36, _⟩ => ⟨S128x4x1, .f32⟩
  | .hbm, ⟨37, _⟩ => ⟨S128x4x1x1, .f32⟩
  | .hbm, ⟨38, _⟩ => ⟨S_, .f32⟩
  | .hbm, ⟨39, _⟩ => ⟨S128x4x1x1, .f32⟩
  | .hbm, ⟨40, _⟩ => ⟨S128x4x1x1, .f32⟩
  | .hbm, ⟨41, _⟩ => ⟨S_, .f32⟩
  | .hbm, ⟨42, _⟩ => ⟨S128x4x1x1, .f32⟩
  | .hbm, ⟨43, _⟩ => ⟨S128x4x1x1, .f32⟩
  | .hbm, ⟨44, _⟩ => ⟨S128x4x1x1, .f32⟩
  | .hbm, ⟨45, _⟩ => ⟨S128x4x1x128, .f32⟩
  | .hbm, ⟨46, _⟩ => ⟨S128x4x1x128, .f32⟩
  | .hbm, ⟨47, _⟩ => ⟨S128, .f32⟩
  | .hbm, ⟨48, _⟩ => ⟨S1x1x1x128, .f32⟩
  | .hbm, ⟨49, _⟩ => ⟨S128x4x1x128, .f32⟩
  | .hbm, ⟨50, _⟩ => ⟨S128x4x1x128, .f32⟩
  | .hbm, ⟨51, _⟩ => ⟨S128x512, .f32⟩
  | .hbm, ⟨52, _⟩ => ⟨S128x512, .f32⟩
  | .hbm, ⟨53, _⟩ => ⟨S128x512, .f32⟩
  | .hbm, ⟨54, _⟩ => ⟨S128x512, .bf16⟩
  | .hbm, ⟨55, _⟩ => ⟨S1x128x4x64x128, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_cst_0 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Proof.SbBlock.lean ====
/- One block of keys of the stick-breaking kernel, as two functions of the block: what it adds to the accumulator and what it makes of the running sum. -/
module

public import proofs.«01_k».proof.Proof.Gen.KernelIdeal.Value
public import Idealize.ShloMosaic.Lib.Pointwise

@[expose] public section

noncomputable section

namespace Cert.KernelIdeal.SB

open Cert.KernelIdeal Cert.KernelIdeal.Gen Idealize.ShloMosaic Idealize.ShloMosaic.TcCoe Idealize.SL.Sem Idealize.ShloMosaic.Tactic Idealize.ShloMosaic.Pointwise

/-- The state one head carries from block to block: the accumulated output (transposed) and the sum of the softplus terms so far. -/
abbrev St := FVec Ideal S128x512 .f32 × FVec Ideal S1x512 .f32

/-- The sums over the later keys of the block. -/
def bc (Q : FVec Ideal S512x128 .bf16) (b : Ideal .f32) (K : Vec Ideal S512x128 .bf16) : FVec Ideal S512x512 .f32 :=
  k0_pay65 k0_pay70 (k0_pay21 Q b K)

/-- One head's state after a whole (unmasked) block. -/
def blk (Q : FVec Ideal S512x128 .bf16) (b : Ideal .f32) (K V : Vec Ideal S512x128 .bf16) (s : St) : St :=
  (k0_pay91 s.1 s.2 (k0_pay78 V) (k0_pay79 Q b K) (k0_pay21 Q b K) (bc Q b K), k0_pay92 s.2 (k0_pay21 Q b K) (bc Q b K))

/-- Both heads' states after a whole block. -/
def blk2 (Q0 Q1 : FVec Ideal S512x128 .bf16) (b0 b1 : Ideal .f32) (K V : Vec Ideal S512x128 .bf16)
    (s : FVec Ideal S128x512 .f32 × FVec Ideal S1x512 .f32 × FVec Ideal S128x512 .f32 × FVec Ideal S1x512 .f32) :
    FVec Ideal S128x512 .f32 × FVec Ideal S1x512 .f32 × FVec Ideal S128x512 .f32 × FVec Ideal S1x512 .f32 :=
  ((blk Q0 b0 K V (s.1, s.2.1)).1, (blk Q0 b0 K V (s.1, s.2.1)).2, (blk Q1 b1 K V (s.2.2.1, s.2.2.2)).1, (blk Q1 b1 K V (s.2.2.1, s.2.2.2)).2)

variable (c : Dev nD) (i : grid0.Coords) (arg3 : Memref sig .tc .smem S8 .f32) (harg3 : arg3.IsWhole) (arg4 : Memref sig .tc .vmem S512x128 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S512x128 .bf16) (harg7 : arg7.IsWhole)
    (Q0 Q1 : FVec Ideal S512x128 .bf16) (b0 b1 : Ideal .f32) (w w' w'' : BitVec 32)
    (X5 : BufTy.Contents (Elt Ideal) arg5.view.ty) (X6 : BufTy.Contents (Elt Ideal) arg6.view.ty)
    (s : FVec Ideal S128x512 .f32 × FVec Ideal S1x512 .f32 × FVec Ideal S128x512 .f32 × FVec Ideal S1x512 .f32)

set_option maxRecDepth 16384

theorem trip3 (k : Fin (k0_t3_loop i).trips) :
    tripR_k0_t3 (F := Ideal) Variants.none c none i arg3 harg3 arg4 harg4 arg5 harg5 arg6 harg6 arg7 harg7 w k0_pay70 Q0 Q1 b0 b1 w' X5 X6 k s
      = blk2 Q0 Q1 b0 b1 (arg5.view.readAt (Elt Ideal) (Rect.unit (s := S4096x128) (k0_off7 i k) S512x128.size (k0_off7_inb i k)).toLoadRect X5)
          (arg6.view.readAt (Elt Ideal) (Rect.unit (s := S4096x128) (k0_off7 i k) S512x128.size (k0_off7_inb i k)).toLoadRect X6)
        (blk2 Q0 Q1 b0 b1 (arg5.view.readAt (Elt Ideal) (Rect.unit (s := S4096x128) (k0_off6 i k) S512x128.size (k0_off6_inb i k)).toLoadRect X5)
          (arg6.view.readAt (Elt Ideal) (Rect.unit (s := S4096x128) (k0_off6 i k) S512x128.size (k0_off6_inb i k)).toLoadRect X6) s) := by
  unfold tripR_k0_t3
  unfold trip_k0_t3
  rfl

theorem trip1 (v8 : IVec S512x512 1) (v37 : FVec Ideal S128x512 .f32) (v38 : FVec Ideal S1x512 .f32) (v46 : FVec Ideal S512x128 .bf16) (v49 v63 v66 v80 v82 : FVec Ideal S512x512 .f32) (k : Fin (k0_t1_loop i).trips) :
    tripR_k0_t1 (F := Ideal) Variants.none c none i arg3 harg3 arg4 harg4 arg5 harg5 arg6 harg6 arg7 harg7 w v8 k0_pay70 Q0 Q1 b0 b1 v37 v38 v46 v49 v63 v66 v80 v82 X5 X6 k s
      = blk2 Q0 Q1 b0 b1 (arg5.view.readAt (Elt Ideal) (Rect.unit (s := S4096x128) (k0_off4 i) S512x128.size (k0_off4_inb i k)).toLoadRect X5)
          (arg6.view.readAt (Elt Ideal) (Rect.unit (s := S4096x128) (k0_off4 i) S512x128.size (k0_off4_inb i k)).toLoadRect X6) s := by
  unfold tripR_k0_t1
  unfold trip_k0_t1
  rfl

theorem trips1 : ∀ i : grid0.Coords, (k0_t1_loop i).trips = (i 2).val % 2 := by decide +kernel
theorem trips2 : ∀ i : grid0.Coords, (k0_t2_loop i).trips = 0 := by decide +kernel
theorem trips3 : ∀ i : grid0.Coords, (k0_t3_loop i).trips = (i 2).val / 2 := by decide +kernel
theorem trips4 : ∀ i : grid0.Coords, (k0_t4_loop i).trips = 0 := by decide +kernel
theorem off1 : ∀ i : grid0.Coords, k0_off1 i = ![2 * (i 1).val] := by decide +kernel
theorem off2 : ∀ i : grid0.Coords, k0_off2 i = ![2 * (i 1).val + 1] := by decide +kernel
theorem off3 : ∀ i : grid0.Coords, k0_off3 i = ![512 * (i 2).val, 0] := by decide +kernel
theorem off4 : ∀ i : grid0.Coords, (i 2).val % 2 = 1 → k0_off4 i = ![512 * ((i 2).val - 1), 0] := by decide +kernel
theorem off6 : ∀ (i : grid0.Coords) (k : Fin (k0_t3_loop i).trips), k0_off6 i k = ![512 * ((i 2).val - (i 2).val % 2 - 1 - 2 * k.val), 0] := by decide +kernel
theorem off7 : ∀ (i : grid0.Coords) (k : Fin (k0_t3_loop i).trips), k0_off7 i k = ![512 * ((i 2).val - (i 2).val % 2 - 2 - 2 * k.val), 0] := by decide +kernel

/-- One head's state after the block the queries themselves lie in, of which a query sees the keys before it. -/
def blkM (Q : FVec Ideal S512x128 .bf16) (b : Ideal .f32) (K V : Vec Ideal S512x128 .bf16) : St :=
  (k0_pay85 k0_pay69 k0_pay75 k0_pay76 (k0_pay78 V) (k0_pay79 Q b K) (k0_pay80 k0_pay69 Q b K) (k0_pay83 k0_pay69 k0_pay70 Q b K),
    k0_pay86 k0_pay76 (k0_pay80 k0_pay69 Q b K) (k0_pay83 k0_pay69 k0_pay70 Q b K))

/-- Both heads' states after that block. -/
def blkM2 (Q0 Q1 : FVec Ideal S512x128 .bf16) (b0 b1 : Ideal .f32) (K V : Vec Ideal S512x128 .bf16) :
    FVec Ideal S128x512 .f32 × FVec Ideal S1x512 .f32 × FVec Ideal S128x512 .f32 × FVec Ideal S1x512 .f32 :=
  ((blkM Q0 b0 K V).1, (blkM Q0 b0 K V).2, (blkM Q1 b1 K V).1, (blkM Q1 b1 K V).2)

/-- Block `J` of the keys, or of the values. -/
def rows (x : Vec Ideal S4096x128 .bf16) (J : ℕ) : Vec Ideal S512x128 .bf16 :=
  fun y => if h : 512 * J + 512 ≤ 4096 then x (ix2 ⟨512 * J + (y 0).val, by have : (y 0).val < 512 := (y 0).isLt; omega⟩ (y 1)) else 0

theorem readAt_rows (arg : Memref sig .tc .vmem S4096x128 .bf16) (harg : arg.IsWhole) (x : Vec Ideal S4096x128 .bf16) (off : Fin 2 → ℕ) (J : ℕ)
    (h : off = ![512 * J, 0]) (inb : ∀ a, off a + S512x128.size a ≤ S4096x128.size a) :
    arg.view.readAt (Elt Ideal) (Rect.unit (s := S4096x128) off S512x128.size inb).toLoadRect (harg.unread x) = rows x J := by
  subst h
  have h' : 512 * J + 512 ≤ 4096 := inb 0
  funext y
  rw [View.readAt_apply, harg.read_unread, rows, dif_pos h']
  congr 1
  funext a
  apply Fin.ext
  rw [LoadRect.idx_apply]
  match a with
  | ⟨0, _⟩ => show 512 * J + 1 * (y 0).val = 512 * J + (y 0).val; omega
  | ⟨1, _⟩ => show 0 + 1 * (y 1).val = (y 1).val; omega

variable (x0 : Vec Ideal S8 .f32) (x1 : Vec Ideal S512x128 .f32) (x2 : Vec Ideal S4096x128 .bf16) (x3 : Vec Ideal S4096x128 .bf16)

/-- The two biases of the pair of heads. -/
def bias0 (i : grid0.Coords) : Ideal .f32 := k0_pay73 (x0 (ix1 ⟨2 * (i 1).val, by have : (i 1).val < 4 := (i 1).isLt; omega⟩))
def bias1 (i : grid0.Coords) : Ideal .f32 := k0_pay74 (x0 (ix1 ⟨2 * (i 1).val + 1, by have : (i 1).val < 4 := (i 1).isLt; omega⟩))

/-- Both heads' states after `n` blocks below the queries' own block `J`. -/
def walk (Q0 Q1 : FVec Ideal S512x128 .bf16) (b0 b1 : Ideal .f32) (J : ℕ) : ℕ → FVec Ideal S128x512 .f32 × FVec Ideal S1x512 .f32 × FVec Ideal S128x512 .f32 × FVec Ideal S1x512 .f32
  | 0 => blkM2 Q0 Q1 b0 b1 (rows x2 J) (rows x3 J)
  | n + 1 => blk2 Q0 Q1 b0 b1 (rows x2 (J - 1 - n)) (rows x3 (J - 1 - n)) (walk Q0 Q1 b0 b1 J n)

abbrev St2 := FVec Ideal S128x512 .f32 × FVec Ideal S1x512 .f32 × FVec Ideal S128x512 .f32 × FVec Ideal S1x512 .f32

/-- The loops that take what the main loops leave over do nothing. -/
theorem st4 (n : ℕ) (hn : n = 0) :
    st_k0_t4 (F := Ideal) Variants.none c none i arg3 harg3 arg4 harg4 arg5 harg5 arg6 harg6 arg7 harg7 w k0_pay70 Q0 Q1 b0 b1 w' w'' X5 X6 s n = s := by
  subst hn; rfl

theorem st2 (v8 : IVec S512x512 1) (v37 : FVec Ideal S128x512 .f32) (v38 : FVec Ideal S1x512 .f32) (v46 : FVec Ideal S512x128 .bf16) (v49 v63 v66 v80 v82 : FVec Ideal S512x512 .f32)
    (n : ℕ) (hn : n = 0) :
    st_k0_t2 (F := Ideal) Variants.none c none i arg3 harg3 arg4 harg4 arg5 harg5 arg6 harg6 arg7 harg7 w v8 k0_pay70 Q0 Q1 b0 b1 v37 v38 v46 v49 v63 v66 v80 v82 w' X5 X6 s n = s := by
  subst hn; rfl

/-- The loop over one block takes it where the queries' block is odd. -/
theorem st1 (v8 : IVec S512x512 1) (v37 : FVec Ideal S128x512 .f32) (v38 : FVec Ideal S1x512 .f32) (v46 : FVec Ideal S512x128 .bf16) (v49 v63 v66 v80 v82 : FVec Ideal S512x512 .f32)
    (hs : s = walk x2 x3 Q0 Q1 b0 b1 (i 2).val 0) :
    st_k0_t1 (F := Ideal) Variants.none c none i arg3 harg3 arg4 harg4 arg5 harg5 arg6 harg6 arg7 harg7 w v8 k0_pay70 Q0 Q1 b0 b1 v37 v38 v46 v49 v63 v66 v80 v82
        (harg5.unread x2) (harg6.unread x3) s (k0_t1_loop i).trips
      = walk x2 x3 Q0 Q1 b0 b1 (i 2).val ((i 2).val % 2) := by
  rcases Nat.mod_two_eq_zero_or_one (i 2).val with h | h
  · have e : (k0_t1_loop i).trips = 0 := (trips1 i).trans h
    rw [e, h, ← hs]; rfl
  · have e : (k0_t1_loop i).trips = 1 := (trips1 i).trans h
    rw [e, h]
    have k : Fin (k0_t1_loop i).trips := ⟨0, by rw [e]; exact Nat.one_pos⟩
    refine (st_k0_t1_succ (F := Ideal) Variants.none c none i arg3 harg3 arg4 harg4 arg5 harg5 arg6 harg6 arg7 harg7 w v8 k0_pay70 Q0 Q1 b0 b1 v37 v38 v46 v49 v63 v66 v80 v82
        (harg5.unread x2) (harg6.unread x3) s ⟨0, by rw [e]; exact Nat.one_pos⟩).trans ?_
    rw [trip1, readAt_rows arg5 harg5 x2 _ ((i 2).val - 1) (off4 i h), readAt_rows arg6 harg6 x3 _ ((i 2).val - 1) (off4 i h)]
    exact congrArg _ hs

/-- The loop over two blocks takes the rest. -/
theorem st3 (hs : s = walk x2 x3 Q0 Q1 b0 b1 (i 2).val ((i 2).val % 2)) (n : ℕ) (hn : n ≤ (k0_t3_loop i).trips) :
    st_k0_t3 (F := Ideal) Variants.none c none i arg3 harg3 arg4 harg4 arg5 harg5 arg6 harg6 arg7 harg7 w k0_pay70 Q0 Q1 b0 b1 w' (harg5.unread x2) (harg6.unread x3) s n
      = walk x2 x3 Q0 Q1 b0 b1 (i 2).val ((i 2).val % 2 + 2 * n) := by
  induction n with
  | zero => exact hs
  | succ n ih =>
    refine (st_k0_t3_succ (F := Ideal) Variants.none c none i arg3 harg3 arg4 harg4 arg5 harg5 arg6 harg6 arg7 harg7 w k0_pay70 Q0 Q1 b0 b1 w'
        (harg5.unread x2) (harg6.unread x3) s ⟨n, hn⟩).trans ?_
    rw [trip3, readAt_rows arg5 harg5 x2 _ _ (off7 i ⟨n, hn⟩), readAt_rows arg6 harg6 x3 _ _ (off7 i ⟨n, hn⟩),
      readAt_rows arg5 harg5 x2 _ _ (off6 i ⟨n, hn⟩), readAt_rows arg6 harg6 x3 _ _ (off6 i ⟨n, hn⟩), ih (by omega)]
    have e0 : (i 2).val - (i 2).val % 2 - 1 - 2 * n = (i 2).val - 1 - ((i 2).val % 2 + 2 * n) := by omega
    have e1 : (i 2).val - (i 2).val % 2 - 2 - 2 * n = (i 2).val - 1 - ((i 2).val % 2 + 2 * n + 1) := by omega
    show blk2 Q0 Q1 b0 b1 (rows x2 ((i 2).val - (i 2).val % 2 - 2 - 2 * n)) (rows x3 ((i 2).val - (i 2).val % 2 - 2 - 2 * n))
      (blk2 Q0 Q1 b0 b1 (rows x2 ((i 2).val - (i 2).val % 2 - 1 - 2 * n)) (rows x3 ((i 2).val - (i 2).val % 2 - 1 - 2 * n)) _) = _
    rw [e0, e1]
    rfl

theorem readQ : arg4.view.readAt (Elt Ideal) (Rect.unit (s := S512x128) ![0, 0] S512x128.size inb_S512x128_S512x128_0_0).toLoadRect (harg4.unread x1) = x1 := by
  funext y
  rw [View.readAt_apply, harg4.read_unread]
  congr 1
  funext a
  apply Fin.ext
  rw [LoadRect.idx_apply]
  match a with
  | ⟨0, _⟩ => show 0 + 1 * (y 0).val = (y 0).val; omega
  | ⟨1, _⟩ => show 0 + 1 * (y 1).val = (y 1).val; omega

theorem q0_eq : kernelRun0_A.sl.r_2 c arg4 harg4 x1 = k0_pay71 x1 := by
  unfold kernelRun0_A.sl.r_2
  rw [readQ]

theorem q1_eq : kernelRun0_A.sl.r_3 c arg4 harg4 x1 = k0_pay72 x1 := by
  unfold kernelRun0_A.sl.r_3
  rw [readQ]

theorem read_bias (off : Fin 1 → ℕ) (n : Fin 8) (h : off = ![n.val]) (inb : ∀ a, off a + S1.size a ≤ S8.size a) (y : S1.Idx) :
    arg3.view.readAt (Elt Ideal) (Rect.unit (s := S8) off S1.size inb).toLoadRect (harg3.unread x0) y = x0 (ix1 n) := by
  subst h
  rw [View.readAt_apply, harg3.read_unread]
  congr 1
  funext a
  apply Fin.ext
  rw [LoadRect.idx_apply]
  match a with
  | ⟨0, _⟩ =>
    have : (y 0).val < 1 := (y 0).isLt
    show n.val + 1 * (y 0).val = n.val; omega

theorem b0_eq : kernelRun0_A.sl.r_4 c i arg3 harg3 x0 = bias0 x0 i := by
  unfold kernelRun0_A.sl.r_4 kernelRun0_A.sl.r
  exact congrArg k0_pay73 (read_bias arg3 harg3 x0 _ _ (off1 i) _ _)

theorem b1_eq : kernelRun0_A.sl.r_5 c i arg3 harg3 x0 = bias1 x0 i := by
  unfold kernelRun0_A.sl.r_5 kernelRun0_A.sl.r_1
  exact congrArg k0_pay74 (read_bias arg3 harg3 x0 _ _ (off2 i) _ _)

/-- WHAT ONE POINT WRITES: the first head's rows of the one state, the second head's of the other, turned over. -/
theorem out_eq : out0_A_4 (F := Ideal) c i arg3 harg3 arg4 harg4 arg5 harg5 arg6 harg6 arg7 harg7 x0 x1 x2 x3
    = k0_pay17 (walk x2 x3 (k0_pay71 x1) (k0_pay72 x1) (bias0 x0 i) (bias1 x0 i) (i 2).val (i 2).val).1
        (walk x2 x3 (k0_pay71 x1) (k0_pay72 x1) (bias0 x0 i) (bias1 x0 i) (i 2).val (i 2).val).2.2.1 := by
  unfold out0_A_4
  unfold kernelRun0_A
  dsimp only
  refine (View.read_writes_eq_canon _ _ _ (cover0_A_4 c i arg3 harg3 arg4 harg4 arg5 harg5 arg6 harg6 arg7 harg7 x0 x1 x2 x3)).trans ?_
  refine (View.canon_unit_zero (S := S512x128) (off := ![0, 0]) (by funext a; fin_cases a <;> rfl) _ _).trans ?_
  refine congrArg (fun s : St2 => k0_pay17 s.1 s.2.2.1) (?_ : _ = walk x2 x3 (k0_pay71 x1) (k0_pay72 x1) (bias0 x0 i) (bias1 x0 i) (i 2).val (i 2).val)
  refine (st4 c i arg3 harg3 arg4 harg4 arg5 harg5 arg6 harg6 arg7 harg7 _ _ _ _ _ _ _ _ _ _ _ (trips4 i)).trans ?_
  refine (st3 c i arg3 harg3 arg4 harg4 arg5 harg5 arg6 harg6 arg7 harg7 _ _ _ _ _ _ _ x2 x3 ?_ (k0_t3_loop i).trips le_rfl).trans ?_
  · refine (st2 c i arg3 harg3 arg4 harg4 arg5 harg5 arg6 harg6 arg7 harg7 _ _ _ _ _ _ _ _ _ _ _ _ _ _ _ _ _ _ _ (trips2 i)).trans ?_
    refine st1 c i arg3 harg3 arg4 harg4 arg5 harg5 arg6 harg6 arg7 harg7 _ _ _ _ _ _ x2 x3 _ _ _ _ _ _ _ _ _ ?_
    have e : ∀ K V : Vec Ideal S512x128 .bf16, K = rows x2 (i 2).val → V = rows x3 (i 2).val →
        blkM2 (kernelRun0_A.sl.r_2 c arg4 harg4 x1) (kernelRun0_A.sl.r_3 c arg4 harg4 x1) (kernelRun0_A.sl.r_4 c i arg3 harg3 x0) (kernelRun0_A.sl.r_5 c i arg3 harg3 x0) K V
          = walk x2 x3 (kernelRun0_A.sl.r_2 c arg4 harg4 x1) (kernelRun0_A.sl.r_3 c arg4 harg4 x1) (kernelRun0_A.sl.r_4 c i arg3 harg3 x0) (kernelRun0_A.sl.r_5 c i arg3 harg3 x0) (i 2).val 0 := by
      rintro _ _ rfl rfl; rfl
    exact e _ _ (readAt_rows arg5 harg5 x2 _ _ (off3 i) (k0_off3_inb i)) (readAt_rows arg6 harg6 x3 _ _ (off3 i) (k0_off3_inb i))
  · rw [q0_eq, q1_eq, b0_eq, b1_eq, trips3]
    exact congrArg _ (by omega)

end Cert.KernelIdeal.SB
-- ==== Proof.SbMath.lean ====
/- The arithmetic of stick-breaking attention over the extended reals: the softplus in base 2 and in base e, the weight of a key, and one block's step of the two sums. -/
module

public import Idealize.ShloMosaic.Lib.Pointwise

@[expose] public section

noncomputable section

namespace Cert.SbMath

open Idealize.ShloMosaic

/-- The factor between the two bases, `1 / ln 2`. -/
abbrev L : EReal := (((Real.log 2)⁻¹ : ℝ) : EReal)

theorem log2_pos : 0 < Real.log 2 := Real.log_pos (by norm_num)
theorem L_pos' : (0 : ℝ) < (Real.log 2)⁻¹ := inv_pos.mpr log2_pos
theorem L_pos : (0 : EReal) < L := EReal.coe_pos.mpr L_pos'
theorem L_nonneg : (0 : EReal) ≤ L := le_of_lt L_pos
theorem L_top : L * ⊤ = ⊤ := EReal.mul_top_of_pos L_pos
theorem exp_bot : Ideal.exp ⊥ = 0 := rfl
theorem log_one : Ideal.log 1 = 0 := by
  show (if (1 : ℝ) ≤ 0 then (⊥ : EReal) else ((Real.log 1 : ℝ) : EReal)) = 0
  rw [if_neg (by norm_num), Real.log_one]; rfl
theorem coe_max (a b : ℝ) : ((max a b : ℝ) : EReal) = max (a : EReal) b := EReal.coe_strictMono.monotone.map_max
theorem L_bot : L * ⊥ = ⊥ := EReal.mul_bot_of_pos L_pos

/-- A real factor that is not negative goes into a sum. -/
theorem mul_add' {r : ℝ} (hr : 0 ≤ r) (a b : EReal) : (r : EReal) * (a + b) = (r : EReal) * a + (r : EReal) * b :=
  EReal.left_distrib_of_nonneg_of_ne_top (EReal.coe_nonneg.mpr hr) (EReal.coe_ne_top r) a b

theorem mul_sub' {r : ℝ} (hr : 0 ≤ r) (a b : EReal) : (r : EReal) * (a - b) = (r : EReal) * a - (r : EReal) * b := by
  rw [sub_eq_add_neg, mul_add' hr, mul_neg, ← sub_eq_add_neg]

theorem mul_sum' {ι : Type} {r : ℝ} (hr : 0 ≤ r) (s : Finset ι) (f : ι → EReal) : (r : EReal) * ∑ i ∈ s, f i = ∑ i ∈ s, (r : EReal) * f i := by
  classical
  induction s using Finset.induction_on with
  | empty => simp
  | insert a s ha ih => rw [Finset.sum_insert ha, Finset.sum_insert ha, mul_add' hr, ih]

/-- `2 ^ (x / ln 2)` is `e ^ x`. -/
theorem exp2_L (x : EReal) : Ideal.exp2 (L * x) = Ideal.exp x := by
  induction x using EReal.rec with
  | bot => rw [L_bot]; rfl
  | top => rw [L_top]; rfl
  | coe x =>
    rw [← EReal.coe_mul]
    show ((Real.rpow 2 ((Real.log 2)⁻¹ * x) : ℝ) : EReal) = (Real.exp x : EReal)
    congr 1
    show (2 : ℝ) ^ ((Real.log 2)⁻¹ * x) = _
    rw [Real.rpow_def_of_pos (by norm_num), ← mul_assoc, mul_inv_cancel₀ log2_pos.ne', one_mul]

/-- The softplus, as the reference computes it: `max z 0 + log (1 + e ^ (-|z|))`. -/
def sp (z : EReal) : EReal := max z 0 + Ideal.log (1 + Ideal.exp (-(max z (-z))))

/-- The softplus in base 2, as the kernel computes it. -/
def sp2 (z : EReal) : EReal := max z 0 + Ideal.log (1 + Ideal.exp2 (0 - max z (-z))) * L

theorem sp_top : sp ⊤ = ⊤ := by
  have : -(max (⊤ : EReal) (-⊤)) = ⊥ := by simp
  rw [sp, this, exp_bot, add_zero, log_one]; simp

theorem sp_bot : sp ⊥ = 0 := by
  have : -(max (⊥ : EReal) (-⊥)) = ⊥ := by simp
  rw [sp, this, exp_bot, add_zero, log_one]; simp

/-- The softplus of a real number. -/
theorem sp_coe (z : ℝ) : sp (z : EReal) = ((max z 0 + Real.log (1 + Real.exp (-(max z (-z)))) : ℝ) : EReal) := by
  have e : -(max (z : EReal) (-(z : EReal))) = ((-(max z (-z)) : ℝ) : EReal) := by
    rw [EReal.coe_neg, coe_max, EReal.coe_neg]
  have e1 : Ideal.log (1 + Ideal.exp ((-(max z (-z)) : ℝ) : EReal)) = ((Real.log (1 + Real.exp (-(max z (-z)))) : ℝ) : EReal) := by
    show Ideal.log (((1 : ℝ) : EReal) + ((Real.exp (-(max z (-z))) : ℝ) : EReal)) = _
    rw [← EReal.coe_add]
    show (if 1 + Real.exp (-(max z (-z))) ≤ 0 then (⊥ : EReal) else _) = _
    rw [if_neg (by have := Real.exp_pos (-(max z (-z))); linarith)]
  rw [sp, e, e1, EReal.coe_add, coe_max, EReal.coe_zero]

theorem sp_nonneg (z : EReal) : 0 ≤ sp z := by
  induction z using EReal.rec with
  | bot => rw [sp_bot]
  | top => rw [sp_top]; exact le_top
  | coe z =>
    rw [sp_coe]
    refine EReal.coe_nonneg.mpr (add_nonneg (le_max_right _ _) (Real.log_nonneg ?_))
    have := Real.exp_pos (-(max z (-z))); linarith

theorem max_L (a b : EReal) : max (L * a) (L * b) = L * max a b :=
  ((mul_left_mono_of_nonneg' L_nonneg).map_max).symm
where
  mul_left_mono_of_nonneg' {c : EReal} (h : 0 ≤ c) : Monotone fun x : EReal => c * x := fun _ _ hab => mul_le_mul_of_nonneg_left hab h

/-- The softplus in base 2 of a scaled argument is the scaled softplus. -/
theorem sp2_L (z : EReal) : sp2 (L * z) = L * sp z := by
  have h0 : max (L * z) 0 = L * max z 0 := by rw [← max_L, mul_zero]
  have h1 : (0 : EReal) - max (L * z) (-(L * z)) = L * (-(max z (-z))) := by
    rw [← mul_neg, max_L, zero_sub, mul_neg]
  rw [sp2, sp, h0, h1, exp2_L, mul_add' L_pos'.le, mul_comm L (Ideal.log _)]

/-- A softplus minus its argument is the softplus of the negated argument. -/
theorem sp_neg_coe (z : ℝ) : sp (z : EReal) - (z : EReal) = sp (-(z : EReal)) := by
  rw [← EReal.coe_neg, sp_coe, sp_coe, ← EReal.coe_sub, neg_neg, max_comm (-z) z]
  congr 1
  rcases le_total z 0 with h | h
  · rw [max_eq_right h, max_eq_left (by linarith : (0:ℝ) ≤ -z)]; ring
  · rw [max_eq_left h, max_eq_right (by linarith : -z ≤ 0)]; ring

/-- THE WEIGHT OF A KEY: the kernel's, in base 2 and with the softplus terms subtracted one after another, is the reference's, which adds the log-sigmoid to the exclusive sum of the negated softplus terms. -/
theorem weight (z T : EReal) (hT : 0 ≤ T) :
    Ideal.exp2 (L * z - L * sp z - L * T) = Ideal.exp (-(sp (-z)) + (-(sp z + T) - -(sp z))) := by
  rw [← mul_sub' L_pos'.le, ← mul_sub' L_pos'.le, exp2_L]
  congr 1
  have hTb : T ≠ ⊥ := fun h => by rw [h] at hT; exact absurd hT (by simp)
  induction z using EReal.rec with
  | bot => simp [sp_bot, sp_top]
  | top =>
    have : (⊤ : EReal) + T = ⊤ := EReal.top_add_of_ne_bot hTb
    simp [sp_bot, sp_top, this, sub_eq_add_neg]
  | coe z =>
    rw [← sp_neg_coe, sp_coe]
    generalize max z 0 + Real.log (1 + Real.exp (-(max z (-z)))) = a
    induction T using EReal.rec with
    | bot => exact absurd rfl hTb
    | top => simp [sub_eq_add_neg]
    | coe t =>
      norm_cast
      ring

/-! ## Sums of terms that are not negative -/

theorem neg_sum {ι : Type} (s : Finset ι) (f : ι → EReal) (h : ∀ i ∈ s, 0 ≤ f i) : -(∑ i ∈ s, f i) = ∑ i ∈ s, -(f i) := by
  classical
  induction s using Finset.induction_on with
  | empty => simp
  | insert a s ha ih =>
    have ha' : 0 ≤ f a := h a (Finset.mem_insert_self _ _)
    have hs : 0 ≤ ∑ i ∈ s, f i := Finset.sum_nonneg fun i hi => h i (Finset.mem_insert_of_mem hi)
    rw [Finset.sum_insert ha, Finset.sum_insert ha, ← ih fun i hi => h i (Finset.mem_insert_of_mem hi)]
    rw [EReal.neg_add (Or.inl fun e => by rw [e] at ha'; exact absurd ha' (by simp)) (Or.inr fun e => by rw [e] at hs; exact absurd hs (by simp)), sub_eq_add_neg]

/-! ## One block's step -/

/-- The block's terms after row `r`, written with the kernel's strictly lower triangular matrix. -/
theorem later_sum (f : ℕ → EReal) (J : ℕ) (r : Fin 512) :
    (∑ r' : Fin 512, (if r < r' then (1 : EReal) else 0) * f (512 * J + r'.val)) = ∑ s ∈ Finset.Ioo (512 * J + r.val) (512 * (J + 1)), f s := by
  have e : ∀ r' : Fin 512, (if r < r' then (1 : EReal) else 0) * f (512 * J + r'.val) = (fun n : ℕ => if r.val < n then f (512 * J + n) else 0) r'.val := fun r' => by
    by_cases h : r < r'
    · rw [if_pos h, one_mul]; exact (if_pos (Fin.lt_def.mp h)).symm
    · rw [if_neg h, zero_mul]; exact (if_neg fun h' => h (Fin.lt_def.mpr h')).symm
  rw [Finset.sum_congr rfl fun r' _ => e r', Fin.sum_univ_eq_sum_range (fun n : ℕ => if r.val < n then f (512 * J + n) else 0) 512, ← Finset.sum_filter]
  refine Finset.sum_bij (fun n _ => 512 * J + n) (fun n hn => ?_) (fun a _ b _ h => by omega) (fun b hb => ?_) (fun _ _ => rfl)
  · rw [Finset.mem_filter, Finset.mem_range] at hn; rw [Finset.mem_Ioo]; omega
  · rw [Finset.mem_Ioo] at hb
    exact ⟨b - 512 * J, by rw [Finset.mem_filter, Finset.mem_range]; omega, by omega⟩

/-- A sum over a block's rows is a sum over its positions. -/
theorem block_sum (g : ℕ → EReal) (J : ℕ) : (∑ r : Fin 512, g (512 * J + r.val)) = ∑ s ∈ Finset.Ico (512 * J) (512 * (J + 1)), g s := by
  rw [Fin.sum_univ_eq_sum_range (fun n => g (512 * J + n)) 512, Finset.sum_Ico_eq_sum_range]
  congr 1
  congr 1
  omega

/-- The sum of the terms strictly between a position and `τ`. -/
def C (f : ℕ → EReal) (s τ : ℕ) : EReal := ∑ s' ∈ Finset.Ioo s τ, f s'

theorem C_split (f : ℕ → EReal) {s m τ : ℕ} (h : s < m) (h' : m ≤ τ) : C f s τ = (∑ s' ∈ Finset.Ioo s m, f s') + ∑ s' ∈ Finset.Ico m τ, f s' := by
  rw [C, ← Finset.sum_union]
  · refine Finset.sum_congr (Finset.ext fun x => ?_) fun _ _ => rfl
    simp only [Finset.mem_union, Finset.mem_Ioo, Finset.mem_Ico]
    omega
  · rw [Finset.disjoint_left]
    intro x hx hx'
    simp only [Finset.mem_Ioo, Finset.mem_Ico] at hx hx'
    omega

theorem Ico_split (g : ℕ → EReal) {a m τ : ℕ} (h : a ≤ m) (h' : m ≤ τ) : (∑ s ∈ Finset.Ico m τ, g s) + (∑ s ∈ Finset.Ico a m, g s) = ∑ s ∈ Finset.Ico a τ, g s := by
  rw [add_comm, Finset.sum_Ico_consecutive g h h']

/-- The running sum after a whole block. -/
theorem run_step (f : ℕ → EReal) (J τ : ℕ) (hτ : 512 * (J + 1) ≤ τ) :
    ((∑ r' : Fin 512, (if (0 : Fin 512) < r' then (1 : EReal) else 0) * f (512 * J + r'.val)) + ∑ s ∈ Finset.Ico (512 * (J + 1)) τ, f s) + f (512 * J)
      = ∑ s ∈ Finset.Ico (512 * J) τ, f s := by
  rw [later_sum, ← C_split f (by show 512 * J + 0 < _; omega) hτ, C]
  show (∑ s' ∈ Finset.Ioo (512 * J + 0) τ, f s') + _ = _
  rw [Nat.add_zero, add_comm, Finset.sum_eq_sum_Ico_succ_bot (by omega : 512 * J < τ)]
  rfl

/-- The accumulator after a whole block. -/
theorem acc_step (f z v : ℕ → EReal) (J τ : ℕ) (hτ : 512 * (J + 1) ≤ τ) :
    (∑ s ∈ Finset.Ico (512 * (J + 1)) τ, v s * Ideal.exp2 (z s - f s - C f s τ))
        + ∑ r : Fin 512, v (512 * J + r.val) * Ideal.exp2 (z (512 * J + r.val) - f (512 * J + r.val)
            - ((∑ r' : Fin 512, (if r < r' then (1 : EReal) else 0) * f (512 * J + r'.val)) + ∑ s ∈ Finset.Ico (512 * (J + 1)) τ, f s))
      = ∑ s ∈ Finset.Ico (512 * J) τ, v s * Ideal.exp2 (z s - f s - C f s τ) := by
  have e : ∀ r : Fin 512, v (512 * J + r.val) * Ideal.exp2 (z (512 * J + r.val) - f (512 * J + r.val)
            - ((∑ r' : Fin 512, (if r < r' then (1 : EReal) else 0) * f (512 * J + r'.val)) + ∑ s ∈ Finset.Ico (512 * (J + 1)) τ, f s))
      = (fun s => v s * Ideal.exp2 (z s - f s - C f s τ)) (512 * J + r.val) := fun r => by
    have hr := r.isLt
    rw [later_sum, ← C_split f (by omega) hτ]
  rw [Finset.sum_congr rfl fun r _ => e r, block_sum (fun s => v s * Ideal.exp2 (z s - f s - C f s τ)), Ico_split _ (by omega) hτ]

/-- The masked first block's terms: a sum over its rows before row `t`. -/
theorem masked_block (g : ℕ → EReal) (J t : ℕ) (ht : t < 512) :
    (∑ r : Fin 512, if r.val < t then g (512 * J + r.val) else 0) = ∑ s ∈ Finset.Ico (512 * J) (512 * J + t), g s := by
  rw [Fin.sum_univ_eq_sum_range (fun n => if n < t then g (512 * J + n) else 0) 512, ← Finset.sum_filter, Finset.sum_Ico_eq_sum_range]
  refine Finset.sum_congr (Finset.ext fun x => ?_) fun _ _ => rfl
  simp only [Finset.mem_filter, Finset.mem_range]
  omega

end Cert.SbMath
-- ==== Proof.SbRead.lean ====
/- One block of keys read at an index. -/
module

public import proofs.«01_k».proof.Proof.SbBlock
public import proofs.«01_k».proof.Proof.SbMath

@[expose] public section

noncomputable section

namespace Cert.KernelIdeal.SB

open Cert.KernelIdeal Cert.KernelIdeal.Gen Cert.SbMath Idealize.ShloMosaic.WordCmp Idealize.ShloMosaic Idealize.ShloMosaic.TcCoe Idealize.SL.Sem Idealize.ShloMosaic.Tactic Idealize.ShloMosaic.Pointwise

set_option maxRecDepth 16384

variable (Q : FVec Ideal S512x128 .bf16) (b : Ideal .f32) (K V : Vec Ideal S512x128 .bf16)

theorem z_at (r t : Fin 512) : k0_pay79 Q b K (ix2 r t) = (∑ l : Fin 128, K (ix2 r l) * Q (ix2 t l)) + b := by
  unfold k0_pay79 k0_pay77
  pointwise

/-- The named constant's value. -/
theorem log2e : Named.named (F := Ideal) (φ := .f32) Cert.KernelIdeal.κ "log2e" 0x3FB8AA3B#32 = L := IdealRules.named_const.ideal_named_scalar _ _ _ _ rfl
theorem qscale : Named.named (F := Ideal) (φ := .f32) Cert.KernelIdeal.κ "qscale" 0x3E38AA3B#32 = (((8 * (Real.log 2))⁻¹ : ℝ) : EReal) := IdealRules.named_const.ideal_named_scalar _ _ _ _ rfl

/-- A comparison of two row or column numbers. -/
theorem sel_sgt (m n : ℕ) (hm : m < 4096) (hn : n < 4096) (x y : EReal) :
    Scalar.select (IntOp.cmpi .sgt (BitVec.ofNat 32 m) (BitVec.ofNat 32 n)) x y = if n < m then x else y := by
  rw [cmpi_sgt_ofNat (by omega) (by omega)]
  by_cases h : n < m <;> simp [Scalar.select, h]

theorem sel_slt (m n : ℕ) (hm : m < 4096) (hn : n < 4096) (x y : EReal) :
    Scalar.select (IntOp.cmpi .slt (BitVec.ofNat 32 m) (BitVec.ofNat 32 n)) x y = if m < n then x else y := by
  rw [cmpi_slt_ofNat (by omega) (by omega)]
  by_cases h : m < n <;> simp [Scalar.select, h]

theorem sp_at (r t : Fin 512) : k0_pay21 Q b K (ix2 r t) = sp2 (k0_pay79 Q b K (ix2 r t)) := by
  have e : k0_pay20 Q b K = k0_pay79 Q b K := rfl
  unfold k0_pay21
  rw [e]
  generalize k0_pay79 Q b K = z
  pointwise
  rw [log2e]
  rfl

theorem pay70_at (r r' : Fin 512) : k0_pay70 (F := Ideal) (ix2 r r') = if r < r' then (1 : EReal) else 0 := by
  unfold k0_pay70
  pointwise
  exact sel_sgt _ _ (by omega) (by omega) _ _

theorem pay65_at (A : FVec Ideal S512x512 .bf16) (B : FVec Ideal S512x512 .f32) (r t : Fin 512) : k0_pay65 A B (ix2 r t) = ∑ r' : Fin 512, A (ix2 r r') * B (ix2 r' t) := by
  unfold k0_pay65
  pointwise

theorem pay91_at (acc : FVec Ideal S128x512 .f32) (run : FVec Ideal S1x512 .f32) (v : FVec Ideal S512x128 .bf16) (z f c : FVec Ideal S512x512 .f32) (d : Fin 128) (t : Fin 512) :
    k0_pay91 acc run v z f c (ix2 d t) = acc (ix2 d t) + ∑ r : Fin 512, v (ix2 r d) * Ideal.exp2 (z (ix2 r t) - f (ix2 r t) - (c (ix2 r t) + run (ix2 0 t))) := by
  unfold k0_pay91 k0_pay90
  pointwise
  rfl

theorem pay92_at (run : FVec Ideal S1x512 .f32) (f c : FVec Ideal S512x512 .f32) (t : Fin 512) :
    k0_pay92 run f c (ix2 0 t) = (c (ix2 0 t) + run (ix2 0 t)) + f (ix2 0 t) := by
  unfold k0_pay92 k0_pay90
  pointwise

theorem pay78_eq : k0_pay78 V = V := by
  funext y
  rw [eq_ix2 y]
  unfold k0_pay78
  pointwise

theorem pay80_at (r t : Fin 512) : k0_pay80 k0_pay69 Q b K (ix2 r t) = if r.val < t.val then sp2 (k0_pay79 Q b K (ix2 r t)) else 0 := by
  unfold k0_pay80 k0_pay69
  generalize k0_pay79 Q b K = z
  pointwise
  rw [log2e]
  exact sel_slt _ _ (by omega) (by omega) _ _

theorem pay83_at (A : FVec Ideal S512x512 .bf16) (r t : Fin 512) :
    k0_pay83 k0_pay69 A Q b K (ix2 r t) = ∑ r' : Fin 512, A (ix2 r r') * k0_pay80 k0_pay69 Q b K (ix2 r' t) := by
  unfold k0_pay83
  generalize k0_pay80 k0_pay69 Q b K = f
  pointwise

theorem pay85_at (v : FVec Ideal S512x128 .bf16) (z f c : FVec Ideal S512x512 .f32) (d : Fin 128) (t : Fin 512) :
    k0_pay85 k0_pay69 k0_pay75 k0_pay76 v z f c (ix2 d t)
      = ∑ r : Fin 512, v (ix2 r d) * (if r.val < t.val then Ideal.exp2 (z (ix2 r t) - f (ix2 r t) - c (ix2 r t)) else 0) := by
  unfold k0_pay85 k0_pay84 k0_pay69 k0_pay75 k0_pay76
  pointwise
  refine Finset.sum_congr rfl fun r _ => (sel_slt r.val t.val (by omega) (by omega) _ _).trans ?_
  by_cases h : r.val < t.val
  · rw [if_pos h, if_pos h]
    rfl
  · rw [if_neg h, if_neg h, mul_zero]

theorem pay86_at (f c : FVec Ideal S512x512 .f32) (t : Fin 512) :
    k0_pay86 k0_pay76 f c (ix2 0 t) = c (ix2 0 t) + f (ix2 0 t) := by
  unfold k0_pay86 k0_pay84 k0_pay76
  pointwise

theorem pay17_at (A B : FVec Ideal S128x512 .f32) (t : Fin 512) (l : Fin 128) :
    k0_pay17 A B (ix2 t l) = if l.val < 64 then A (ix2 l t) else B (ix2 l t) := by
  unfold k0_pay17
  pointwise
  exact sel_slt l.val 64 (by omega) (by omega) _ _

/-- A comparison of a lane number with two bounds. -/
theorem sel_between (l lo hi : ℕ) (h0 : l < 4096) (h1 : lo < 4096) (h2 : hi < 4096) (x y : EReal) :
    Scalar.select (IntOp.andi (IntOp.cmpi .sge (BitVec.ofNat 32 l) (BitVec.ofNat 32 lo)) (IntOp.cmpi .slt (BitVec.ofNat 32 l) (BitVec.ofNat 32 hi))) x y
      = if lo ≤ l ∧ l < hi then x else y := by
  rw [cmpi_slt_ofNat (by omega) (by omega), cmpi_sge_ofNat (by omega) (by omega)]
  by_cases h : lo ≤ l <;> by_cases h' : l < hi <;> simp [Scalar.select, IntOp.andi, h, h']

theorem pay71_at (x : Vec Ideal S512x128 .f32) (t : Fin 512) (l : Fin 128) :
    k0_pay71 x (ix2 t l) = if l.val < 64 then x (ix2 t l) * (((8 * (Real.log 2))⁻¹ : ℝ) : EReal) else 0 := by
  unfold k0_pay71 k0_pay68
  pointwise
  rw [qscale]
  exact (sel_between l.val 0 64 (by omega) (by omega) (by omega) _ _).trans (if_congr (by omega) rfl rfl)

theorem pay72_at (x : Vec Ideal S512x128 .f32) (t : Fin 512) (l : Fin 128) :
    k0_pay72 x (ix2 t l) = if 64 ≤ l.val then x (ix2 t l) * (((8 * (Real.log 2))⁻¹ : ℝ) : EReal) else 0 := by
  unfold k0_pay72 k0_pay68
  pointwise
  rw [qscale]
  exact (sel_between l.val 64 128 (by omega) (by omega) (by omega) _ _).trans (if_congr (by omega) rfl rfl)

theorem pay73_eq (x : Ideal .f32) : k0_pay73 x = x * L := by
  show x * Named.named (F := Ideal) (φ := .f32) Cert.KernelIdeal.κ "log2e" 0x3FB8AA3B#32 = _
  rw [log2e]

theorem pay74_eq (x : Ideal .f32) : k0_pay74 x = x * L := by
  show x * Named.named (F := Ideal) (φ := .f32) Cert.KernelIdeal.κ "log2e" 0x3FB8AA3B#32 = _
  rw [log2e]

/-! ## The walk over the blocks, in closed form -/

theorem rows_at (x : Vec Ideal S4096x128 .bf16) (J : ℕ) (hJ : J < 8) (r : Fin 512) (l : Fin 128) :
    rows x J (ix2 r l) = x (ix2 ⟨512 * J + r.val, by omega⟩ l) := dif_pos (by omega)

/-- The logit (in base 2) of key `s` for query `t` of the block, zero past the last key. -/
def zN (x : Vec Ideal S4096x128 .bf16) (t : Fin 512) (s : ℕ) : EReal := if h : s < 4096 then (∑ l : Fin 128, x (ix2 ⟨s, h⟩ l) * Q (ix2 t l)) + b else 0

/-- Lane `d` of value `s`, zero past the last. -/
def vN (x : Vec Ideal S4096x128 .bf16) (d : Fin 128) (s : ℕ) : EReal := if h : s < 4096 then x (ix2 ⟨s, h⟩ d) else 0

theorem z_rows (x : Vec Ideal S4096x128 .bf16) (J : ℕ) (hJ : J < 8) (r t : Fin 512) : k0_pay79 Q b (rows x J) (ix2 r t) = zN Q b x t (512 * J + r.val) := by
  rw [z_at, zN, dif_pos (by omega)]
  simp only [rows_at x J hJ]

theorem v_rows (x : Vec Ideal S4096x128 .bf16) (J : ℕ) (hJ : J < 8) (r : Fin 512) (d : Fin 128) : rows x J (ix2 r d) = vN x d (512 * J + r.val) := by
  rw [rows_at x J hJ, vN, dif_pos (by omega)]

/-- The closed form of one head's state once the blocks from `J` on are taken, `qi` the queries' own block. -/
def Inv (x2 x3 : Vec Ideal S4096x128 .bf16) (qi J : ℕ) (s : St) : Prop :=
  (∀ (d : Fin 128) (t : Fin 512), s.1 (ix2 d t) = ∑ k ∈ Finset.Ico (512 * J) (512 * qi + t.val),
      vN x3 d k * Ideal.exp2 (zN Q b x2 t k - sp2 (zN Q b x2 t k) - C (fun k => sp2 (zN Q b x2 t k)) k (512 * qi + t.val)))
  ∧ ∀ t : Fin 512, s.2 (ix2 0 t) = ∑ k ∈ Finset.Ico (512 * J) (512 * qi + t.val), sp2 (zN Q b x2 t k)

theorem blk_inv (x2 x3 : Vec Ideal S4096x128 .bf16) (qi J : ℕ) (hJ : J < qi) (hq : qi < 8) (s : St) (h : Inv Q b x2 x3 qi (J + 1) s) :
    Inv Q b x2 x3 qi J (blk Q b (rows x2 J) (rows x3 J) s) := by
  obtain ⟨h1, h2⟩ := h
  have hJ8 : J < 8 := by omega
  refine ⟨fun d t => ?_, fun t => ?_⟩
  · unfold blk bc
    dsimp only
    rw [pay91_at, h1, h2, pay78_eq]
    simp only [pay65_at, pay70_at, sp_at, z_rows Q b x2 J hJ8, v_rows x3 J hJ8]
    exact acc_step (fun k => sp2 (zN Q b x2 t k)) (zN Q b x2 t) (vN x3 d) J _ (by omega)
  · unfold blk bc
    dsimp only
    rw [pay92_at, h2]
    simp only [pay65_at, pay70_at, sp_at, z_rows Q b x2 J hJ8]
    exact run_step (fun k => sp2 (zN Q b x2 t k)) J _ (by omega)

theorem blkM_inv (x2 x3 : Vec Ideal S4096x128 .bf16) (qi : ℕ) (hq : qi < 8) : Inv Q b x2 x3 qi qi (blkM Q b (rows x2 qi) (rows x3 qi)) := by
  have key : ∀ (t r : Fin 512), (∑ r' : Fin 512, (if r < r' then (1 : EReal) else 0) * (if r'.val < t.val then sp2 (zN Q b x2 t (512 * qi + r'.val)) else 0))
      = C (fun k => sp2 (zN Q b x2 t k)) (512 * qi + r.val) (512 * qi + t.val) := fun t r => by
    have ht := t.isLt
    rw [Finset.sum_congr rfl fun r' _ => (congrArg (fun e => (if r < r' then (1 : EReal) else 0) * e)
      (show (if r'.val < t.val then sp2 (zN Q b x2 t (512 * qi + r'.val)) else 0) = (fun k => if k < 512 * qi + t.val then sp2 (zN Q b x2 t k) else 0) (512 * qi + r'.val) from
        if_congr (by omega) rfl rfl)), later_sum (fun k => if k < 512 * qi + t.val then sp2 (zN Q b x2 t k) else 0), ← Finset.sum_filter]
    refine Finset.sum_congr (Finset.ext fun k => ?_) fun _ _ => rfl
    simp only [Finset.mem_filter, Finset.mem_Ioo]
    omega
  refine ⟨fun d t => ?_, fun t => ?_⟩
  · unfold blkM
    dsimp only
    rw [pay85_at, pay78_eq]
    simp only [pay83_at, pay70_at, pay80_at, z_rows Q b x2 qi hq, v_rows x3 qi hq, key]
    rw [← masked_block _ _ _ t.isLt]
    refine Finset.sum_congr rfl fun r _ => ?_
    by_cases h : r.val < t.val
    · simp only [h, if_true]
    · simp only [h, if_false, mul_zero]
  · unfold blkM
    dsimp only
    rw [pay86_at]
    simp only [pay83_at, pay70_at, pay80_at, z_rows Q b x2 qi hq, key]
    rw [C]
    by_cases h : (0 : Fin 512).val < t.val
    · rw [if_pos h]
      have h' : 0 < t.val := h
      show (∑ k ∈ Finset.Ioo (512 * qi + 0) _, _) + sp2 (zN Q b x2 t (512 * qi + 0)) = _
      rw [Nat.add_zero, add_comm, Finset.sum_eq_sum_Ico_succ_bot (by omega : 512 * qi < 512 * qi + t.val)]
      rfl
    · rw [if_neg h]
      have h' : t.val = 0 := by simpa using h
      rw [h']
      simp

/-- After `n` blocks below the queries' own one, both heads' states have the closed form. -/
theorem walk_inv (x2 x3 : Vec Ideal S4096x128 .bf16) (Q0 Q1 : FVec Ideal S512x128 .bf16) (b0 b1 : Ideal .f32) (qi : ℕ) (hq : qi < 8) (n : ℕ) (hn : n ≤ qi) :
    Inv Q0 b0 x2 x3 qi (qi - n) ((walk x2 x3 Q0 Q1 b0 b1 qi n).1, (walk x2 x3 Q0 Q1 b0 b1 qi n).2.1)
      ∧ Inv Q1 b1 x2 x3 qi (qi - n) ((walk x2 x3 Q0 Q1 b0 b1 qi n).2.2.1, (walk x2 x3 Q0 Q1 b0 b1 qi n).2.2.2) := by
  induction n with
  | zero => exact ⟨blkM_inv Q0 b0 x2 x3 qi hq, blkM_inv Q1 b1 x2 x3 qi hq⟩
  | succ n ih =>
    obtain ⟨i0, i1⟩ := ih (by omega)
    have e : qi - n = qi - 1 - n + 1 := by omega
    have e' : qi - (n + 1) = qi - 1 - n := by omega
    rw [e] at i0 i1
    rw [e']
    exact ⟨blk_inv Q0 b0 x2 x3 qi (qi - 1 - n) (by omega) hq _ i0, blk_inv Q1 b1 x2 x3 qi (qi - 1 - n) (by omega) hq _ i1⟩

end Cert.KernelIdeal.SB
-- ==== Proof.SbSpec.lean ====
/- Stick-breaking attention written out as sums: what both programs compute, one entry of the result at a time. -/
module

public import proofs.«01_k».proof.Proof.SbMath

@[expose] public section

noncomputable section

namespace Cert.SbSpec

open Cert.SbMath Idealize.ShloMosaic

variable (q k v : Fin 8 → Fin 4096 → Fin 512 → EReal) (bias : Fin 8 → EReal)

/-- The logit of query `t` and key `s` in head `h` of sequence `b`; zero past the last key. -/
def logit (b : Fin 8) (h : Fin 8) (t : Fin 4096) (s : ℕ) : EReal :=
  if hs : s < 4096 then (∑ d : Fin 64, q b t ⟨64 * h.val + d.val, by omega⟩ * k b ⟨s, hs⟩ ⟨64 * h.val + d.val, by omega⟩) * ((0.125 : ℝ) : EReal) + bias h else 0

/-- A value, zero past the last key. -/
def value (b : Fin 8) (l : Fin 512) (s : ℕ) : EReal := if hs : s < 4096 then v b ⟨s, hs⟩ l else 0

/-- The head of a lane. -/
def head (l : Fin 512) : Fin 8 := ⟨l.val / 64, by omega⟩

/-- The attention's output: every key before the query, weighed by the stick it breaks off after the later keys have broken off theirs. -/
def out (b : Fin 8) (t : Fin 4096) (l : Fin 512) : EReal :=
  ∑ s ∈ Finset.Ico 0 t.val, value v b l s * Ideal.exp (-(sp (-(logit q k bias b (head l) t s)))
    + (-(sp (logit q k bias b (head l) t s) + C (fun s => sp (logit q k bias b (head l) t s)) s t.val) - -(sp (logit q k bias b (head l) t s))))

/-- The weights in base 2, as the kernel forms them from logits already multiplied by `1 / ln 2`. -/
theorem out_eq (b : Fin 8) (t : Fin 4096) (l : Fin 512) (z : ℕ → EReal) (hz : ∀ s, z s = L * logit q k bias b (head l) t s) :
    out q k v bias b t l = ∑ s ∈ Finset.Ico 0 t.val, value v b l s * Ideal.exp2 (z s - sp2 (z s) - C (fun s => sp2 (z s)) s t.val) := by
  refine Finset.sum_congr rfl fun s _ => congrArg _ ?_
  have e : C (fun s => sp2 (z s)) s t.val = L * C (fun s => sp (logit q k bias b (head l) t s)) s t.val := by
    unfold C
    rw [mul_sum' L_pos'.le]
    exact Finset.sum_congr rfl fun s' _ => (congrArg sp2 (hz s')).trans (sp2_L _)
  rw [e, hz, sp2_L]
  exact (weight _ _ (Finset.sum_nonneg fun _ _ => sp_nonneg _)).symm

/-- The kernel's logit: the scale and the change of base are in the query and in the bias. -/
theorem logit_eq (b : Fin 8) (h : Fin 8) (t : Fin 4096) (s : ℕ) (hs : s < 4096) :
    (∑ d : Fin 64, k b ⟨s, hs⟩ ⟨64 * h.val + d.val, by omega⟩ * (q b t ⟨64 * h.val + d.val, by omega⟩ * (((8 * (Real.log 2))⁻¹ : ℝ) : EReal))) + bias h * L
      = L * logit q k bias b h t s := by
  have e : (((8 * (Real.log 2))⁻¹ : ℝ) : EReal) = ((0.125 : ℝ) : EReal) * L := by
    rw [← EReal.coe_mul, mul_inv]
    norm_num
  have c : (0 : ℝ) ≤ 0.125 := by norm_num
  unfold logit
  rw [dif_pos hs, mul_add' L_pos'.le, mul_comm (bias h), mul_comm _ ((0.125 : ℝ) : EReal), mul_sum' c, mul_sum' L_pos'.le]
  refine congrArg (· + _) (Finset.sum_congr rfl fun d _ => ?_)
  rw [e]
  ac_rfl

end Cert.SbSpec
-- ==== Proof.SbArray.lean ====
/- The kernel's result array, one entry at a time: the windows' blocks are rows and lanes of the arguments, and every entry is the attention's output. -/
module

public import proofs.«01_k».proof.Proof.SbRead
public import proofs.«01_k».proof.Proof.SbSpec
public import Idealize.ShloMosaic.Lib.StableHlo.Run

@[expose] public section

set_option maxRecDepth 16384

noncomputable section

namespace Cert.KernelIdeal.SB

open Cert.KernelIdeal Cert.KernelIdeal.Gen Cert.SbMath Idealize.ShloMosaic Idealize.ShloMosaic.TcCoe Idealize.SL.Sem Idealize.ShloMosaic.Pointwise

variable (m : (ℓ : Loc nD τ sig) → Buf (Elt Ideal) ℓ) (c : Dev nD)

/-- The arguments, by coordinates. -/
def qa (b : Fin 8) (t : Fin 4096) (l : Fin 512) : EReal := m ((c : Thread nD τ).loc main_arg0) (ix3 b t l)
def ka (b : Fin 8) (t : Fin 4096) (l : Fin 512) : EReal := m ((c : Thread nD τ).loc main_arg1) (ix3 b t l)
def va (b : Fin 8) (t : Fin 4096) (l : Fin 512) : EReal := m ((c : Thread nD τ).loc main_arg2) (ix3 b t l)
def ba (h : Fin 8) : EReal := m ((c : Thread nD τ).loc main_arg3) (ix1 h)

/-! ## What the host's lines make of the arguments -/

theorem V_v0 : V m c main_v0 = (shapeCast S32768x512 (m ((c : Thread nD τ).loc main_arg0)) shapeCasts_S8x4096x512_S32768x512 : FVec Ideal S32768x512 .f32) := by
  show StableHlo.after hostOps0 _ (Proc.devRef .tc main_v0) = _
  after_results
  rfl

theorem V_v2 : V m c main_v2 = (shapeCast S32768x512 (m ((c : Thread nD τ).loc main_arg1)) shapeCasts_S8x4096x512_S32768x512 : FVec Ideal S32768x512 .f32) := by
  show StableHlo.after hostOps0 _ (Proc.devRef .tc main_v2) = _
  after_results
  rfl

theorem V_v4 : V m c main_v4 = (shapeCast S32768x512 (m ((c : Thread nD τ).loc main_arg2)) shapeCasts_S8x4096x512_S32768x512 : FVec Ideal S32768x512 .f32) := by
  show StableHlo.after hostOps0 _ (Proc.devRef .tc main_v4) = _
  after_results
  rfl

/-- The batch and the time fused into one axis. -/
theorem fused (x : FVec Ideal S8x4096x512 .f32) (i : S32768x512.Idx) (b : Fin 8) (t : Fin 4096) (l : Fin 512) (h0 : (i 0).val = 4096 * b.val + t.val) (h1 : (i 1).val = l.val) :
    shapeCast S32768x512 x shapeCasts_S8x4096x512_S32768x512 i = x (ix3 b t l) :=
  shapeCast_apply x _ i (ix3 b t l) (by
    rw [Shape.rowMajor_val_three, Shape.rowMajor_val_two]
    show (b.val * 4096 + t.val) * 512 + l.val = (i 0).val * 512 + (i 1).val
    rw [h0, h1]
    ring)

/-! ## The windows -/

theorem idx1 : ∀ i : grid0.Coords, cc0_transform_1 i 0 = 8 * (i 0).val + (i 2).val ∧ cc0_transform_1 i 1 = (i 1).val := by decide +kernel
theorem idx2 : ∀ i : grid0.Coords, cc0_transform_2 i 0 = (i 0).val ∧ cc0_transform_2 i 1 = (i 1).val := by decide +kernel
theorem idx3 : ∀ i : grid0.Coords, cc0_transform_3 i 0 = (i 0).val ∧ cc0_transform_3 i 1 = (i 1).val := by decide +kernel
theorem idx4 : ∀ i : grid0.Coords, cc0_transform_4 i 0 = 8 * (i 0).val + (i 2).val ∧ cc0_transform_4 i 1 = (i 1).val := by decide +kernel

/-- The coordinates of a point: the sequence, the pair of heads and the block of queries. -/
def cb (t : Fin cfg0.N) : Fin 8 := grid0.coords t 0
def cp (t : Fin cfg0.N) : Fin 4 := grid0.coords t 1
def cq (t : Fin cfg0.N) : Fin 8 := grid0.coords t 2

theorem q_block (t : Fin cfg0.N) (y : Fin 512) (l : Fin 128) :
    iblk m c 1 t (ix2 y l) = qa m c (cb t) ⟨512 * (cq t).val + y.val, by omega⟩ ⟨128 * (cp t).val + l.val, by omega⟩ := by
  show V m c main_v0 ((win0_1.rect t).emb (ix2 y l)) = _
  rw [V_v0]
  refine fused _ _ (cb t) _ _ ?_ ?_
  · have e := win0_1.rect_emb_val t (ix2 y l) 0
    refine e.trans ?_
    show cc0_transform_1 (grid0.coords t) 0 * 512 + y.val = 4096 * (grid0.coords t 0).val + (512 * (grid0.coords t 2).val + y.val)
    rw [(idx1 _).1]; ring
  · refine (win0_1.rect_emb_val t (ix2 y l) 1).trans ?_
    show cc0_transform_1 (grid0.coords t) 1 * 128 + l.val = 128 * (grid0.coords t 1).val + l.val
    rw [(idx1 _).2]; ring

theorem k_block (t : Fin cfg0.N) (s : Fin 4096) (l : Fin 128) :
    iblk m c 2 t (ix2 s l) = ka m c (cb t) s ⟨128 * (cp t).val + l.val, by omega⟩ := by
  show V m c main_v2 ((win0_2.rect t).emb (ix2 s l)) = _
  rw [V_v2]
  refine fused _ _ (cb t) _ _ ?_ ?_
  · refine (win0_2.rect_emb_val t (ix2 s l) 0).trans ?_
    show cc0_transform_2 (grid0.coords t) 0 * 4096 + s.val = 4096 * (grid0.coords t 0).val + s.val
    rw [(idx2 _).1]; ring
  · refine (win0_2.rect_emb_val t (ix2 s l) 1).trans ?_
    show cc0_transform_2 (grid0.coords t) 1 * 128 + l.val = 128 * (grid0.coords t 1).val + l.val
    rw [(idx2 _).2]; ring

theorem v_block (t : Fin cfg0.N) (s : Fin 4096) (l : Fin 128) :
    iblk m c 3 t (ix2 s l) = va m c (cb t) s ⟨128 * (cp t).val + l.val, by omega⟩ := by
  show V m c main_v4 ((win0_3.rect t).emb (ix2 s l)) = _
  rw [V_v4]
  refine fused _ _ (cb t) _ _ ?_ ?_
  · refine (win0_3.rect_emb_val t (ix2 s l) 0).trans ?_
    show cc0_transform_3 (grid0.coords t) 0 * 4096 + s.val = 4096 * (grid0.coords t 0).val + s.val
    rw [(idx3 _).1]; ring
  · refine (win0_3.rect_emb_val t (ix2 s l) 1).trans ?_
    show cc0_transform_3 (grid0.coords t) 1 * 128 + l.val = 128 * (grid0.coords t 1).val + l.val
    rw [(idx3 _).2]; ring

theorem b_block (t : Fin cfg0.N) (h : Fin 8) : iblk m c 0 t (ix1 h) = ba m c h := by
  show V m c main_arg3 ((win0_0.rect t).emb (ix1 h)) = _
  rw [V_main_arg3]
  refine congrArg _ (funext fun a => Fin.ext ?_)
  match a with
  | ⟨0, _⟩ => exact win0_0.rect_emb_val_of_index_zero t 0 rfl (ix1 h)

/-! ## The logits -/

/-- A sum over the lanes that are zero past the first half. -/
theorem sum_low (f : Fin 128 → EReal) (h : ∀ l : Fin 128, 64 ≤ l.val → f l = 0) : ∑ l, f l = ∑ d : Fin 64, f ⟨d.val, by omega⟩ := by
  rw [show (∑ l, f l) = ∑ l : Fin (64 + 64), f l from rfl, Fin.sum_univ_add]
  have e : ∑ d : Fin 64, f (Fin.natAdd 64 d) = 0 := Finset.sum_eq_zero fun d _ => h _ (by simp)
  exact (congrArg _ e).trans (add_zero _)

/-- A sum over the lanes that are zero in the first half. -/
theorem sum_high (f : Fin 128 → EReal) (h : ∀ l : Fin 128, l.val < 64 → f l = 0) : ∑ l, f l = ∑ d : Fin 64, f ⟨64 + d.val, by omega⟩ := by
  rw [show (∑ l, f l) = ∑ l : Fin (64 + 64), f l from rfl, Fin.sum_univ_add]
  rw [Finset.sum_eq_zero (fun d _ => h _ (by simp)), zero_add]
  rfl

theorem z_low (t : Fin cfg0.N) (y : Fin 512) (s : ℕ) :
    zN (k0_pay71 (iblk m c 1 t)) (bias0 (iblk m c 0 t) (grid0.coords t)) (iblk m c 2 t) y s
      = L * SbSpec.logit (qa m c) (ka m c) (ba m c) (cb t) ⟨2 * (cp t).val, by omega⟩ ⟨512 * (cq t).val + y.val, by omega⟩ s := by
  unfold zN
  by_cases hs : s < 4096
  · rw [dif_pos hs, ← SbSpec.logit_eq _ _ _ _ _ _ _ hs, sum_low]
    · congr 1
      · refine Finset.sum_congr rfl fun d _ => ?_
        rw [pay71_at, if_pos (show d.val < 64 by omega), q_block, k_block]
        congr 1
        · exact congrArg _ (Fin.ext (by show 128 * (cp t).val + d.val = 64 * (2 * (cp t).val) + d.val; ring))
        · exact congrArg (· * _) (congrArg _ (Fin.ext (by show 128 * (cp t).val + d.val = 64 * (2 * (cp t).val) + d.val; ring)))
      · rw [bias0, pay73_eq, b_block]
        rfl
    · intro l hl
      rw [pay71_at, if_neg (by omega), mul_zero]
  · rw [dif_neg hs, SbSpec.logit, dif_neg hs, mul_zero]

theorem z_high (t : Fin cfg0.N) (y : Fin 512) (s : ℕ) :
    zN (k0_pay72 (iblk m c 1 t)) (bias1 (iblk m c 0 t) (grid0.coords t)) (iblk m c 2 t) y s
      = L * SbSpec.logit (qa m c) (ka m c) (ba m c) (cb t) ⟨2 * (cp t).val + 1, by omega⟩ ⟨512 * (cq t).val + y.val, by omega⟩ s := by
  unfold zN
  by_cases hs : s < 4096
  · rw [dif_pos hs, ← SbSpec.logit_eq _ _ _ _ _ _ _ hs, sum_high]
    · congr 1
      · refine Finset.sum_congr rfl fun d _ => ?_
        rw [pay72_at, if_pos (show 64 ≤ 64 + d.val by omega), q_block, k_block]
        congr 1
        · exact congrArg _ (Fin.ext (by show 128 * (cp t).val + (64 + d.val) = 64 * (2 * (cp t).val + 1) + d.val; ring))
        · exact congrArg (· * _) (congrArg _ (Fin.ext (by show 128 * (cp t).val + (64 + d.val) = 64 * (2 * (cp t).val + 1) + d.val; ring)))
      · rw [bias1, pay74_eq, b_block]
        rfl
    · intro l hl
      rw [pay72_at, if_neg (by omega), mul_zero]
  · rw [dif_neg hs, SbSpec.logit, dif_neg hs, mul_zero]

theorem v_value (t : Fin cfg0.N) (l : Fin 128) (s : ℕ) : vN (iblk m c 3 t) l s = SbSpec.value (va m c) (cb t) ⟨128 * (cp t).val + l.val, by omega⟩ s := by
  unfold vN SbSpec.value
  by_cases hs : s < 4096
  · rw [dif_pos hs, dif_pos hs, v_block]
  · rw [dif_neg hs, dif_neg hs]

/-! ## The result -/

/-- What a point leaves in its block of the result. -/
theorem block_at (t : Fin cfg0.N) (y : Fin 512) (l : Fin 128) :
    outsAt0 m c t (ix2 y l) = SbSpec.out (qa m c) (ka m c) (va m c) (ba m c) (cb t) ⟨512 * (cq t).val + y.val, by omega⟩ ⟨128 * (cp t).val + l.val, by omega⟩ := by
  unfold outsAt0
  rw [out_eq, pay17_at]
  have hw := walk_inv (iblk m c 2 t) (iblk m c 3 t) (k0_pay71 (iblk m c 1 t)) (k0_pay72 (iblk m c 1 t))
    (bias0 (iblk m c 0 t) (grid0.coords t)) (bias1 (iblk m c 0 t) (grid0.coords t)) (grid0.coords t 2).val (grid0.coords t 2).isLt (grid0.coords t 2).val le_rfl
  rw [Nat.sub_self] at hw
  by_cases hl : l.val < 64
  · rw [if_pos hl]
    refine (hw.1.1 l y).trans ?_
    rw [SbSpec.out_eq _ _ _ _ _ _ _ (zN (k0_pay71 (iblk m c 1 t)) (bias0 (iblk m c 0 t) (grid0.coords t)) (iblk m c 2 t) y)]
    · simp only [v_value, Nat.mul_zero]
      rfl
    · intro s
      rw [z_low]
      congr 2
      exact Fin.ext (by show 2 * (cp t).val = (128 * (cp t).val + l.val) / 64; omega)
  · rw [if_neg hl]
    refine (hw.2.1 l y).trans ?_
    rw [SbSpec.out_eq _ _ _ _ _ _ _ (zN (k0_pay72 (iblk m c 1 t)) (bias1 (iblk m c 0 t) (grid0.coords t)) (iblk m c 2 t) y)]
    · simp only [v_value, Nat.mul_zero]
      rfl
    · intro s
      rw [z_high]
      congr 2
      exact Fin.ext (by show 2 * (cp t).val + 1 = (128 * (cp t).val + l.val) / 64; omega)

/-- The whole result. -/
def G : S32768x512.Idx → EReal := fun i =>
  SbSpec.out (qa m c) (ka m c) (va m c) (ba m c) ⟨(i 0).val / 4096, by have := (i 0).isLt; change (i 0).val < 32768 at this; omega⟩ ⟨(i 0).val % 4096, Nat.mod_lt _ (by norm_num)⟩ (i 1)

theorem G_at (i : S32768x512.Idx) (b : Fin 8) (t : Fin 4096) (l : Fin 512) (h0 : (i 0).val = 4096 * b.val + t.val) (h1 : (i 1).val = l.val) :
    SbSpec.out (qa m c) (ka m c) (va m c) (ba m c) b t l = G m c i := by
  unfold G
  congr 1
  · exact Fin.ext (by show b.val = (i 0).val / 4096; omega)
  · exact Fin.ext (by show t.val = (i 0).val % 4096; omega)
  · exact Fin.ext h1.symm

theorem row4 (t : Fin cfg0.N) (y : S512x128.Idx) : ((win0_4.rect t).emb y 0).val = 4096 * (cb t).val + (512 * (cq t).val + (y 0).val) := by
  refine (win0_4.rect_emb_val t y 0).trans ?_
  show cc0_transform_4 (grid0.coords t) 0 * 512 + (y 0).val = 4096 * (grid0.coords t 0).val + (512 * (grid0.coords t 2).val + (y 0).val)
  rw [(idx4 _).1]; ring

theorem lane4 (t : Fin cfg0.N) (y : S512x128.Idx) : ((win0_4.rect t).emb y 1).val = 128 * (cp t).val + (y 1).val := by
  refine (win0_4.rect_emb_val t y 1).trans ?_
  show cc0_transform_4 (grid0.coords t) 1 * 128 + (y 1).val = 128 * (grid0.coords t 1).val + (y 1).val
  rw [(idx4 _).2]; ring

theorem out_block (t : Fin cfg0.N) (y : S512x128.Idx) : outsAt0 m c t y = G m c ((win0_4.rect t).emb y) :=
  (congrArg (outsAt0 m c t) (eq_ix2 y)).trans ((block_at m c t (y 0) (y 1)).trans (G_at m c _ _ _ _ (row4 t y) (lane4 t y)))

theorem flushed_eq (t : Fin cfg0.N) : (dats m 0 c).flushed 4 t = ((cfg0.win 4).blk t).view.read (Elt Ideal) (G m c) := by
  have e : (dats m 0 c).flushed 4 t = (cfg0.win 4).cut (grid0.coords t) (outsAt0 m c t) := by
    show (cfg0.win 4).cut (grid0.coords t) ((dats m 0 c).after 4 t) = _
    rw [after0_4]
  rw [e]
  exact funext fun y => out_block m c t y

/-- Every block of the result is some point's. -/
theorem point_of : ∀ (b : Fin 8) (p : Fin 4) (q : Fin 8), ∃ t : Fin grid0.N, cc0_transform_4 (grid0.coords t) 0 = 8 * b.val + q.val ∧ cc0_transform_4 (grid0.coords t) 1 = p.val := by
  decide +kernel

theorem final : (dats m 0 c).arrAt 4 cfg0.N = G m c :=
  (dats m 0 c).arrAt_eq_of_cover 4 (G m c) (fun t _ => flushed_eq m c t) fun i => by
    have h0 : (i 0 : ℕ) < 32768 := (i 0).isLt
    have h1 : (i 1 : ℕ) < 512 := (i 1).isLt
    obtain ⟨t, e0, e1⟩ := point_of ⟨(i 0 : ℕ) / 4096, by omega⟩ ⟨(i 1 : ℕ) / 128, by omega⟩ ⟨(i 0 : ℕ) % 4096 / 512, by omega⟩
    refine ⟨t, flush0_4 t, ?_⟩
    show i ∈ ((View.whole main_v5).slice (win0_4.rect t)).set
    rw [View.set_slice_whole, Rect.mem_set_unit]
    intro a
    match a with
    | ⟨0, _⟩ =>
      show cc0_transform_4 (grid0.coords t) 0 * 512 ≤ (i 0 : ℕ) ∧ (i 0 : ℕ) < cc0_transform_4 (grid0.coords t) 0 * 512 + 512
      rw [e0]
      dsimp only
      omega
    | ⟨1, _⟩ =>
      show cc0_transform_4 (grid0.coords t) 1 * 128 ≤ (i 1 : ℕ) ∧ (i 1 : ℕ) < cc0_transform_4 (grid0.coords t) 1 * 128 + 128
      rw [e1]
      dsimp only
      omega

end Cert.KernelIdeal.SB
-- ==== Proof.SbRef.lean ====
/- The reference's result, one entry at a time: stick-breaking attention written out as sums. -/
module

public import proofs.«01_k».proof.Proof.SbSpec
public import proofs.«01_k».proof.Proof.Gen.ReferenceIdeal.Run
public import Idealize.ShloMosaic.Lib.Pointwise
public import Idealize.ShloMosaic.Lib.WordCmp
public import Idealize.ShloMosaic.Lib.Pipeline.Value

@[expose] public section

set_option maxRecDepth 16384

noncomputable section

namespace Cert.ReferenceIdeal.SB

open Cert.ReferenceIdeal Cert.ReferenceIdeal.Gen Cert.ReferenceIdeal.Value Cert.SbMath Idealize.ShloMosaic Idealize.ShloMosaic.WordCmp Idealize.ShloMosaic.TcCoe Idealize.SL.Sem Idealize.ShloMosaic.Pointwise

/-! ## The reverse running sum -/

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window sum from zero is the sum over the window's positions of what stands there. -/
theorem reduceWindow_sum {s t u : Shape} (window strides lo hi : Fin s.rank → Nat) (x : s.Idx → EReal) (init : u.Idx → EReal) (h : s.ReduceWindows window strides lo hi t) (hu : 0 < u.numel)
    (h0 : init (Shape.Idx.first hu) = 0) (j : t.Idx) (M : ℕ) (hM : (⟨s.rank, window⟩ : Shape).numel = M) (g : ℕ → EReal)
    (hin : ∀ (n : Fin (⟨s.rank, window⟩ : Shape).numel) (hp : ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a),
        x (fun a => ⟨(j (a.cast h.1.symm)).val * strides a + ((⟨s.rank, window⟩ : Shape).rowMajor.symm n a).val - lo a, (hp a).2⟩) = g n.val)
    (hout : ∀ n : Fin (⟨s.rank, window⟩ : Shape).numel, (¬ ∀ a, lo a ≤ (j (a.cast h.1.symm)).val * strides a + ((⟨s.rank, window⟩ : Shape).rowMajor.symm n a).val
          ∧ (j (a.cast h.1.symm)).val * strides a + ((⟨s.rank, window⟩ : Shape).rowMajor.symm n a).val - lo a < s.size a) → (0 : EReal) = g n.val) :
    Host.reduceWindow (· + ·) window strides lo hi x init h hu j = ∑ n ∈ Finset.range M, g n := by
  unfold Host.reduceWindow
  dsimp only
  rw [h0]
  refine (foldl_add _ _ _).trans ?_
  rw [zero_add, ← Fin.sum_univ_def, ← hM, ← Fin.sum_univ_eq_sum_range]
  refine Finset.sum_congr rfl fun n _ => ?_
  split
  · next hp => exact hin n hp
  · next hp => exact hout n hp

/-- The window: one row of keys. -/
abbrev W : Shape := ⟨4, ![1, 1, 1, 4096]⟩

theorem W_numel : W.numel = 4096 := by decide

theorem W_at (n : Fin W.numel) : (W.rowMajor.symm n 0).val = 0 ∧ (W.rowMajor.symm n 1).val = 0 ∧ (W.rowMajor.symm n 2).val = 0 ∧ (W.rowMajor.symm n 3).val = n.val := by
  have e : (W.rowMajor (W.rowMajor.symm n)).val = n.val := by rw [Equiv.apply_symm_apply]
  rw [Shape.rowMajor_val_four] at e
  generalize W.rowMajor.symm n = w at e ⊢
  have h0 : (w 0).val < 1 := (w 0).isLt
  have h1 : (w 1).val < 1 := (w 1).isLt
  have h2 : (w 2).val < 1 := (w 2).isLt
  change (((w 0).val * 1 + (w 1).val) * 1 + (w 2).val) * 4096 + (w 3).val = n.val at e
  omega

/-- Entry `k` of the reverse running sum is the sum of the entries from `k` on. -/
theorem window_sum (x : FVec Ideal S8x8x4096x4096 .f32) (init : FVec Ideal S_ .f32) (hinit : ∀ i, init i = 0) (b h : Fin 8) (t s : Fin 4096) :
    Host.reduceWindowAdd ![1, 1, 1, 4096] ![1, 1, 1, 1] ![0, 0, 0, 0] ![0, 0, 0, 4095] x init reduceWindows_S8x8x4096x4096_S8x8x4096x4096_w1s1p0_0_w1s1p0_0_w1s1p0_0_w4096s1p0_4095 h_S_ (ix4 b h t s)
      = ∑ k ∈ Finset.Ico s.val 4096, if hk : k < 4096 then x (ix4 b h t ⟨k, hk⟩) else 0 := by
  unfold Host.reduceWindowAdd
  rw [Ideal.hostReduceWindowAdd_def, Ideal.hostReduceWindowAdd]
  refine (reduceWindow_sum (u := ⟨0, ![]⟩) ![1, 1, 1, 4096] ![1, 1, 1, 1] ![0, 0, 0, 0] ![0, 0, 0, 4095] x (fun _ => init (Shape.Idx.first h_S_))
    reduceWindows_S8x8x4096x4096_S8x8x4096x4096_w1s1p0_0_w1s1p0_0_w1s1p0_0_w4096s1p0_4095 (by decide) (hinit _) (ix4 b h t s) 4096 W_numel
    (fun j : ℕ => if hk : s.val + j < 4096 then x (ix4 b h t ⟨s.val + j, hk⟩) else 0) (fun n hp => ?_) (fun n hp => ?_)).trans ?_
  · obtain ⟨w0, w1, w2, w3⟩ := W_at n
    have h3 : s.val * 1 + (W.rowMajor.symm n 3).val - 0 < 4096 := (hp 3).2
    dsimp only
    rw [dif_pos (by omega)]
    refine congrArg x (funext fun a => Fin.ext ?_)
    match a with
    | ⟨0, _⟩ => show b.val * 1 + (W.rowMajor.symm n 0).val - 0 = b.val; omega
    | ⟨1, _⟩ => show h.val * 1 + (W.rowMajor.symm n 1).val - 0 = h.val; omega
    | ⟨2, _⟩ => show t.val * 1 + (W.rowMajor.symm n 2).val - 0 = t.val; omega
    | ⟨3, _⟩ => show s.val * 1 + (W.rowMajor.symm n 3).val - 0 = s.val + n.val; omega
  · obtain ⟨w0, w1, w2, w3⟩ := W_at n
    dsimp only
    rw [dif_neg]
    intro hk
    refine hp fun a => ?_
    match a with
    | ⟨0, _⟩ => show 0 ≤ b.val * 1 + (W.rowMajor.symm n 0).val ∧ b.val * 1 + (W.rowMajor.symm n 0).val - 0 < 8; omega
    | ⟨1, _⟩ => show 0 ≤ h.val * 1 + (W.rowMajor.symm n 1).val ∧ h.val * 1 + (W.rowMajor.symm n 1).val - 0 < 8; omega
    | ⟨2, _⟩ => show 0 ≤ t.val * 1 + (W.rowMajor.symm n 2).val ∧ t.val * 1 + (W.rowMajor.symm n 2).val - 0 < 4096; omega
    | ⟨3, _⟩ => show 0 ≤ s.val * 1 + (W.rowMajor.symm n 3).val ∧ s.val * 1 + (W.rowMajor.symm n 3).val - 0 < 4096; omega
  rw [Finset.sum_Ico_eq_sum_range, ← Finset.sum_subset (Finset.range_subset_range.mpr (Nat.sub_le 4096 s.val))]
  intro j _ hj
  rw [Finset.mem_range] at hj
  exact dif_neg (by omega)

/-! ## The terms -/

variable (q k v : FVec Ideal S8x4096x512 .f32) (bias : FVec Ideal S8 .f32)

abbrev A4 := FVec Ideal S8x8x4096x4096 .f32

def zero4 : A4 := broadcastInDim S8x8x4096x4096 ![] bcast_S_S8x8x4096x4096 (constant S_ .f32 0x00000000#32)

/-- The logits. -/
def zs : A4 := addf (mulf (Host.dotGeneral dot_S8x4096x8x64_S8x4096x8x64_S8x8x4096x4096_3_3_1_1_02_02 none (shapeCast _ q shapeCasts_S8x4096x512_S8x4096x8x64) (shapeCast _ k shapeCasts_S8x4096x512_S8x4096x8x64)) (broadcastInDim S8x8x4096x4096 ![] bcast_S_S8x8x4096x4096 (constant S_ .f32 0x3E000000#32))) (broadcastInDim S8x8x4096x4096 ![0, 1, 2, 3] bcast_S1x8x1x1_S8x8x4096x4096_0_1_2_3 (broadcastInDim S1x8x1x1 ![1] bcast_S8_S1x8x1x1_1 bias))

/-- The logarithm of the sigmoid. -/
def ls (z : A4) : A4 := Host.negf (select (cmpf .une (subf (Host.negf z) zero4) (subf (Host.negf z) zero4)) (addf (Host.negf z) zero4) (addf (maximumf (Host.negf z) zero4) (Host.log1p (Host.exp (Host.negf (Host.absf (subf (Host.negf z) zero4)))))))

/-- Which keys come before the query. -/
def mask : IVec S8x8x4096x4096 1 := broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

def zero4' : A4 := broadcastInDim S8x8x4096x4096 ![] bcast_S_S8x8x4096x4096 (id (constant S_ .f32 0x00000000#32))

/-- What is left of the stick, in logarithms, key by key. -/
def rest (z : A4) : A4 := select mask (ls (Host.negf z)) zero4'

def cum (z : A4) : A4 := Host.reduceWindowAdd ![1, 1, 1, 4096] ![1, 1, 1, 1] ![0, 0, 0, 0] ![0, 0, 0, 4095] (rest z) (broadcastInDim S_ ![] bcast_S_S_ (constant S_ .f32 0x00000000#32)) reduceWindows_S8x8x4096x4096_S8x8x4096x4096_w1s1p0_0_w1s1p0_0_w1s1p0_0_w4096s1p0_4095 h_S_

def weights (z : A4) : A4 := select mask (Host.exp (addf (ls z) (subf (cum z) (rest z)))) zero4'

def result : FVec Ideal S32768x512 .bf16 := truncf .bf16 (shapeCast S32768x512 (transpose S8x4096x8x64 [0, 3, 1, 2] (Host.dotGeneral dot_S8x4096x8x64_S8x8x4096x4096_S8x8x64x4096_1_3_3_2_02_01 none (shapeCast _ v shapeCasts_S8x4096x512_S8x4096x8x64) (weights (zs q k bias))) transposes_S8x8x64x4096_S8x4096x8x64_0_3_1_2) shapeCasts_S8x4096x8x64_S32768x512) bitsLt_bf16_f32

theorem res_eq (m : (ℓ : Loc nD τ sig) → Buf (Elt Ideal) ℓ) (c : Dev nD) :
    res_main_v27 m c = result (m ((c.tc : Thread nD τ).loc main_arg0)) (m ((c.tc : Thread nD τ).loc main_arg1)) (m ((c.tc : Thread nD τ).loc main_arg2)) (m ((c.tc : Thread nD τ).loc main_arg3)) := by
  unfold res_main_v27
  rfl

/-! ## The terms, entry by entry -/

theorem heads (x : FVec Ideal S8x4096x512 .f32) (b : Fin 8) (t : Fin 4096) (h : Fin 8) (d : Fin 64) :
    shapeCast S8x4096x8x64 x shapeCasts_S8x4096x512_S8x4096x8x64 (ix4 b t h d) = x (ix3 b t ⟨64 * h.val + d.val, by omega⟩) :=
  shapeCast_apply x _ _ _ (by
    rw [Shape.rowMajor_val_three, Shape.rowMajor_val_four]
    show (b.val * 4096 + t.val) * 512 + (64 * h.val + d.val) = ((b.val * 4096 + t.val) * 8 + h.val) * 64 + d.val
    ring)

theorem eighth : Ideal.ofBits .f32 0x3E000000#32 = ((0.125 : ℝ) : EReal) := by
  simp [Ideal.ofBits, Ideal.ieee, -EReal.coe_mul]
  norm_num

theorem sixteenth : Ideal.ofBits .f32 0x3D800000#32 = ((0.0625 : ℝ) : EReal) := by simp [Ideal.ofBits, Ideal.ieee, -EReal.coe_mul]; norm_num

theorem sixteen : Ideal.ofBits .f32 0x41800000#32 = ((16 : ℝ) : EReal) := by simp [Ideal.ofBits, Ideal.ieee, -EReal.coe_mul]; norm_num

theorem zs_at (b h : Fin 8) (t s : Fin 4096) :
    zs q k bias (ix4 b h t s) = SbSpec.logit (fun b t l => q (ix3 b t l)) (fun b t l => k (ix3 b t l)) (fun h => bias (ix1 h)) b h t s.val := by
  unfold zs SbSpec.logit
  rw [dif_pos s.isLt]
  pointwise
  rw [eighth]
  simp only [Nat.mul_comm]

theorem ls_at (z : A4) (b h : Fin 8) (t s : Fin 4096) : ls z (ix4 b h t s) = -(sp (-(z (ix4 b h t s)))) := by
  unfold ls zero4
  pointwise
  rw [if_neg (not_not.mpr rfl)]
  rfl

theorem sel_slt (m n : ℕ) (hm : m < 4096) (hn : n < 4096) (x y : EReal) :
    Scalar.select (IntOp.cmpi .slt (BitVec.ofNat 32 m) (BitVec.ofNat 32 n)) x y = if m < n then x else y := by
  rw [cmpi_slt_ofNat (by omega) (by omega)]
  by_cases h : m < n <;> simp [Scalar.select, h]

theorem zero_const (i : S_.Idx) : (id (constant (F := Ideal) S_ .f32 0x00000000#32) : FVec Ideal S_ .f32) i = 0 := Ideal.ofBits_zero_f32

theorem rest_at (z : A4) (b h : Fin 8) (t s : Fin 4096) : rest z (ix4 b h t s) = if s.val < t.val then -(sp (z (ix4 b h t s))) else 0 := by
  unfold rest mask zero4'
  pointwise
  refine (sel_slt s.val t.val s.isLt t.isLt _ _).trans ?_
  rw [ls_at, zero_const]
  refine if_congr Iff.rfl (congrArg (fun e => -(sp e)) ?_) rfl
  show -(-(z (ix4 b h t s))) = _
  rw [neg_neg]

theorem weights_at (z : A4) (b h : Fin 8) (t s : Fin 4096) : weights z (ix4 b h t s)
    = if s.val < t.val then Ideal.exp (ls z (ix4 b h t s) + (cum z (ix4 b h t s) - rest z (ix4 b h t s))) else 0 := by
  unfold weights mask zero4'
  generalize ls z = A
  generalize cum z = B
  generalize rest z = D
  pointwise
  refine (sel_slt s.val t.val s.isLt t.isLt _ _).trans ?_
  rw [zero_const]

theorem result_at (i : S32768x512.Idx) (b : Fin 8) (t : Fin 4096) (l : Fin 512) (h0 : (i 0).val = 4096 * b.val + t.val) (h1 : (i 1).val = l.val) :
    result q k v bias i = ∑ s : Fin 4096, v (ix3 b s l) * weights (zs q k bias) (ix4 b (SbSpec.head l) t s) := by
  unfold result
  generalize weights (zs q k bias) = w
  have tr : ∀ x : FVec Ideal S32768x512 .f32, (truncf .bf16 x bitsLt_bf16_f32 : FVec Ideal S32768x512 .bf16) i = x i := fun _ => rfl
  rw [tr]
  refine (shapeCast_apply _ shapeCasts_S8x4096x8x64_S32768x512 i (ix4 b t (SbSpec.head l) (⟨l.val % 64, Nat.mod_lt _ (by norm_num)⟩ : Fin 64)) ?_).trans ?_
  · rw [Shape.rowMajor_val_two, Shape.rowMajor_val_four]
    show ((b.val * 4096 + t.val) * 8 + l.val / 64) * 64 + l.val % 64 = (i 0).val * 512 + (i 1).val
    omega
  · pointwise
    refine Finset.sum_congr rfl fun s _ => congrArg (fun e => v (ix3 b s e) * _) (Fin.ext ?_)
    show l.val / 64 * 64 + l.val % 64 = l.val
    omega

/-- The reference's result is the attention's output. -/
theorem cum_at (z : A4) (f : ℕ → EReal) (b h : Fin 8) (t s : Fin 4096) (hz : ∀ k : Fin 4096, z (ix4 b h t k) = f k.val) (hst : s.val < t.val) :
    cum z (ix4 b h t s) = -(sp (f s.val) + C (fun k => sp (f k)) s.val t.val) := by
  unfold cum
  have hi : ∀ i, (broadcastInDim S_ ![] bcast_S_S_ (constant (F := Ideal) S_ .f32 0x00000000#32) : FVec Ideal S_ .f32) i = 0 := fun _ => Ideal.ofBits_zero_f32
  rw [window_sum _ _ hi]
  have ht := t.isLt
  have e : ∀ k ∈ Finset.Ico s.val 4096, (if hk : k < 4096 then rest z (ix4 b h t ⟨k, hk⟩) else 0) = if k < t.val then -(sp (f k)) else 0 := fun k hk => by
    have hk' := (Finset.mem_Ico.mp hk).2
    rw [dif_pos hk', rest_at, hz]
  rw [Finset.sum_congr rfl e, ← Finset.sum_filter]
  have e' : (Finset.Ico s.val 4096).filter (fun k => k < t.val) = Finset.Ico s.val t.val := by
    ext k
    simp only [Finset.mem_filter, Finset.mem_Ico]
    omega
  rw [e', ← neg_sum _ _ fun _ _ => sp_nonneg _, Finset.sum_eq_sum_Ico_succ_bot hst]
  rfl

theorem result_eq (i : S32768x512.Idx) (b : Fin 8) (t : Fin 4096) (l : Fin 512) (h0 : (i 0).val = 4096 * b.val + t.val) (h1 : (i 1).val = l.val) :
    result q k v bias i = SbSpec.out (fun b t l => q (ix3 b t l)) (fun b t l => k (ix3 b t l)) (fun b t l => v (ix3 b t l)) (fun h => bias (ix1 h)) b t l := by
  rw [result_at q k v bias i b t l h0 h1]
  set f : ℕ → EReal := SbSpec.logit (fun b t l => q (ix3 b t l)) (fun b t l => k (ix3 b t l)) (fun h => bias (ix1 h)) b (SbSpec.head l) t with hf
  have hz : ∀ s : Fin 4096, zs q k bias (ix4 b (SbSpec.head l) t s) = f s.val := fun s => zs_at q k bias b (SbSpec.head l) t s
  have ht := t.isLt
  have e : ∀ s : Fin 4096, v (ix3 b s l) * weights (zs q k bias) (ix4 b (SbSpec.head l) t s)
      = (fun s : ℕ => if s < t.val then SbSpec.value (fun b t l => v (ix3 b t l)) b l s * Ideal.exp (-(sp (-(f s))) + (-(sp (f s) + C (fun s => sp (f s)) s t.val) - -(sp (f s)))) else 0) s.val := fun s => by
    dsimp only
    rw [weights_at]
    by_cases hst : s.val < t.val
    · rw [if_pos hst, if_pos hst, ls_at, rest_at, if_pos hst, cum_at _ f _ _ _ _ hz hst, hz, SbSpec.value, dif_pos s.isLt]
    · rw [if_neg hst, if_neg hst, mul_zero]
  rw [Finset.sum_congr rfl fun s _ => e s, Fin.sum_univ_eq_sum_range (fun s : ℕ => if s < t.val then SbSpec.value (fun b t l => v (ix3 b t l)) b l s * Ideal.exp (-(sp (-(f s))) + (-(sp (f s) + C (fun s => sp (f s)) s t.val) - -(sp (f s)))) else 0), ← Finset.sum_filter]
  refine Finset.sum_congr (Finset.ext fun s => ?_) fun _ _ => rfl
  simp only [Finset.mem_filter, Finset.mem_range, Finset.mem_Ico]
  omega

end Cert.ReferenceIdeal.SB
-- ==== Proof.SbClaim.lean ====
/- The claims about the stick-breaking attention: the runs, the named constants, and the equation with the reference. -/
module

public import proofs.«01_k».proof.Proof.SbArray
public import proofs.«01_k».proof.Proof.SbRef
public import proofs.«01_k».proof.Proof.Gen.Kernel.Frame
public import proofs.«01_k».proof.Defs

@[expose] public section

noncomputable section

namespace Cert.SbClaim

open Idealize.ShloMosaic Idealize.ShloMosaic.TcCoe Idealize.SL.Sem Idealize.ShloMosaic.Pointwise

/-- Two programs' memories that agree on the arguments give the same result. -/
theorem results_agree (m : (ℓ : Loc Cert.KernelIdeal.nD Cert.KernelIdeal.τ Cert.KernelIdeal.sig) → Buf (Elt Ideal) ℓ) (c : Dev Cert.KernelIdeal.nD) :
    Cert.ReferenceIdeal.SB.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = Cert.KernelIdeal.SB.G m c := by
  funext i
  have hi : (i 0).val < 32768 := (i 0).isLt
  have e : (i 0).val = 4096 * ((i 0).val / 4096) + (i 0).val % 4096 := (Nat.div_add_mod _ _).symm
  exact Cert.ReferenceIdeal.SB.result_eq _ _ _ _ i ⟨(i 0).val / 4096, by omega⟩ ⟨(i 0).val % 4096, Nat.mod_lt _ (by norm_num)⟩ (i 1) e rfl

theorem preserves : Cert.preserves_Kernel_KernelIdeal :=
  ⟨IdealRules.named_const.statement Cert.KernelIdeal.κ "qscale" .f32 0x3E38AA3B#32 (((8 * (Real.log 2))⁻¹ : ℝ) : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal := fun m g m' g' _ h =>
  ⟨fun c => Cert.KernelIdeal.SB.G m c,
    (θ_run _ _ _).mono (fun _ hr c => ⟨((hr c).1).trans (Cert.KernelIdeal.SB.final m c), (hr c).2⟩) (Cert.KernelIdeal.Value.run_blocks m g),
    (θ_run _ _ _).mono (fun _ hr c => ⟨((hr c).1).trans ((Cert.ReferenceIdeal.SB.res_eq m' c).trans (by
        rw [(h c).1, (h c).2.1, (h c).2.2.1, (h c).2.2.2]
        exact results_agree m c)), (hr c).2⟩) (Cert.ReferenceIdeal.Value.run m' g')⟩

theorem frame_kernel : Cert.quiescent_Kernel := fun m g _ => Cert.Kernel.Gen.frame m g
theorem frame_ideal : Cert.quiescent_KernelIdeal := fun m g _ => Cert.KernelIdeal.Gen.frame m g
theorem frame_reference : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run m g)

end Cert.SbClaim
-- ==== Proof.MoeBlock.lean ====
/- What one point of the experts' kernel leaves in its block of the result and in the kept weights. -/
module

public import proofs.«01_k».proof.Proof.Gen.Kernel2Ideal.Frame
public import Idealize.ShloMosaic.Lib.Pipeline.Value
public import Idealize.ShloMosaic.PureOps.Ideal

@[expose] public section

set_option maxRecDepth 16384

noncomputable section

namespace Cert.Kernel2Ideal.Moe

open Cert.Kernel2Ideal Cert.Kernel2Ideal.Gen Idealize.ShloMosaic Idealize.ShloMosaic.TcCoe Idealize.SL.Sem

/-- A read of a whole buffer gives its contents. -/
theorem readAt_whole {S : Shape} {e : EltTy} (arg : Memref sig .tc .vmem S e) (harg : arg.IsWhole) (x : Vec Ideal S e) {off : Fin S.rank → ℕ} (h : off = fun _ => 0)
    (inb : ∀ a, off a + S.size a ≤ S.size a) : arg.view.readAt (Elt Ideal) (Rect.unit (s := S) off S.size inb).toLoadRect (harg.unread x) = x := by
  subst h
  funext y
  rw [View.readAt_apply, harg.read_unread]
  congr 1
  funext a
  apply Fin.ext
  rw [LoadRect.idx_apply]
  show 0 + 1 * (y a).val = (y a).val
  omega

theorem z2 : (![0, 0] : Fin 2 → ℕ) = fun _ => 0 := by funext a; fin_cases a <;> rfl
theorem z3 : (![0, 0, 0] : Fin 3 → ℕ) = fun _ => 0 := by funext a; fin_cases a <;> rfl

variable (c : Dev nD) (i : grid0.Coords)
  (arg2 : Memref sig .tc .vmem S256x1024 .f32) (harg2 : arg2.IsWhole) (arg3 : Memref sig .tc .vmem S1x1024x2048 .f32) (harg3 : arg3.IsWhole)
  (arg4 : Memref sig .tc .vmem S1x1x2048 .f32) (harg4 : arg4.IsWhole) (arg5 : Memref sig .tc .vmem S1x1024x1024 .f32) (harg5 : arg5.IsWhole)
  (arg6 : Memref sig .tc .vmem S1x1x1024 .f32) (harg6 : arg6.IsWhole) (arg7 : Memref sig .tc .vmem S256x1024 .f32) (harg7 : arg7.IsWhole)
  (arg8 : Memref sig .tc .vmem S1024x2048 .bf16) (harg8 : arg8.IsWhole) (arg9 : Memref sig .tc .vmem S1024x1024 .bf16) (harg9 : arg9.IsWhole)
  (x0 : Vec Ideal S256x1024 .f32) (x1 : Vec Ideal S1x1024x2048 .f32) (x2 : Vec Ideal S1x1x2048 .f32) (x3 : Vec Ideal S1x1024x1024 .f32)
  (x4 : Vec Ideal S1x1x1024 .f32) (xt0 : TbBuf0 (F := Ideal) c tbM0_0) (xs0 : Vec Ideal S1024x2048 .bf16) (xs1 : Vec Ideal S1024x1024 .bf16)

/-- One block's rows through an expert whose weights are `w1`, `w2`. -/
def ffn (x0 : Vec Ideal S256x1024 .f32) (w1 : Vec Ideal S1024x2048 .bf16) (x2 : Vec Ideal S1x1x2048 .f32) (w2 : Vec Ideal S1024x1024 .bf16) (x4 : Vec Ideal S1x1x1024 .f32) : FVec Ideal S256x1024 .f32 :=
  k0_pay1 (k0_pay7 x0 w1 x2) (k0_pay8 x0 w1 x2) (k0_pay9 x0 w1 x2) w2 x4

omit c i arg2 harg2 arg3 harg3 arg4 harg4 arg5 harg5 arg6 harg6 arg7 harg7 arg8 harg8 arg9 harg9 x1 x3 xt0 xs0 xs1 in
/-- The three parts of a block's value meet in `ffn`. -/
theorem ffn_of {w1 : Vec Ideal S1024x2048 .bf16} {w2 : Vec Ideal S1024x1024 .bf16} {a : Vec Ideal S256x1024 .f32} {b : Vec Ideal S1024x2048 .bf16} {d : Vec Ideal S1x1x2048 .f32} {e : Vec Ideal S1024x1024 .bf16} {f : Vec Ideal S1x1x1024 .f32}
    (h0 : a = x0) (h1 : b = w1) (h2 : d = x2) (h3 : e = w2) (h4 : f = x4) :
    k0_pay1 (k0_pay7 a b d) (k0_pay8 a b d) (k0_pay9 a b d) e f = ffn x0 w1 x2 w2 x4 := by
  subst h0 h1 h2 h3 h4
  rfl

/-- The result's block where the kept weights are used. -/
theorem out_D (hc0 hc1) : out0_D_5 (F := Ideal) c i arg2 harg2 arg3 harg3 arg4 harg4 arg5 harg5 arg6 harg6 arg7 harg7 arg8 harg8 arg9 harg9 hc0 x0 x1 x2 x3 x4 xt0 xs0 xs1 hc1
    = ffn x0 xs0 x2 xs1 x4 := by
  unfold out0_D_5
  unfold kernelRun0_D
  dsimp only
  refine (View.read_writes_eq_canon _ _ _ (cover0_D_5 c i arg2 harg2 arg3 harg3 arg4 harg4 arg5 harg5 arg6 harg6 arg7 harg7 arg8 harg8 arg9 harg9 hc0 x0 x1 x2 x3 x4 xt0 xs0 xs1 hc1)).trans ?_
  refine (View.canon_unit_zero (S := S256x1024) (off := ![0, 0]) z2 _ _).trans ?_
  unfold kernelRun0_D.sl.r_2 kernelRun0_D.sl.r_3 kernelRun0_D.sl.r_4
  have e2 := readAt_whole arg2 harg2 x0 z2 inb_S256x1024_S256x1024_0_0
  have e8 := readAt_whole arg8 harg8 xs0 z2 inb_S1024x2048_S1024x2048_0_0
  have e4 := readAt_whole arg4 harg4 x2 z3 inb_S1x1x2048_S1x1x2048_0_0_0
  have e9 := readAt_whole arg9 harg9 xs1 z2 inb_S1024x1024_S1024x1024_0_0
  have e6 := readAt_whole arg6 harg6 x4 z3 inb_S1x1x1024_S1x1x1024_0_0_0
  exact ffn_of _ _ _ e2 e8 e4 e9 e6

/-- The kept weights, 0, where they are loaded. -/
theorem sout_B0 (hc0 hc1) : sout0_B_0 (F := Ideal) c i arg2 harg2 arg3 harg3 arg4 harg4 arg5 harg5 arg6 harg6 arg7 harg7 arg8 harg8 arg9 harg9 hc0 x0 x1 x2 x3 x4 xt0 hc1
    = k0_pay2 x1 := by
  unfold sout0_B_0
  refine (View.read_writes_eq_canon _ _ _ (scover0_B_0 c i arg2 harg2 arg3 harg3 arg4 harg4 arg5 harg5 arg6 harg6 arg7 harg7 arg8 harg8 arg9 harg9 hc0 x0 x1 x2 x3 x4 xt0 hc1)).trans ?_
  unfold kernelRun0_B
  dsimp only
  unfold kernelRun0_B.sl.HS0_1
  refine (View.canon_unit_zero (S := S1024x2048) (off := ![0, 0]) z2 _ _).trans ?_
  exact congrArg _ (readAt_whole arg3 harg3 x1 z3 inb_S1x1024x2048_S1x1024x2048_0_0_0)

/-- The kept weights, 1, where they are loaded. -/
theorem sout_B1 (hc0 hc1) : sout0_B_1 (F := Ideal) c i arg2 harg2 arg3 harg3 arg4 harg4 arg5 harg5 arg6 harg6 arg7 harg7 arg8 harg8 arg9 harg9 hc0 x0 x1 x2 x3 x4 xt0 hc1
    = k0_pay3 x3 := by
  unfold sout0_B_1
  refine (View.read_writes_eq_canon _ _ _ (scover0_B_1 c i arg2 harg2 arg3 harg3 arg4 harg4 arg5 harg5 arg6 harg6 arg7 harg7 arg8 harg8 arg9 harg9 hc0 x0 x1 x2 x3 x4 xt0 hc1)).trans ?_
  unfold kernelRun0_B
  dsimp only
  unfold kernelRun0_B.sl.HS1_1
  refine (View.canon_unit_zero (S := S1024x1024) (off := ![0, 0]) z2 _ _).trans ?_
  exact congrArg _ (readAt_whole arg5 harg5 x3 z3 inb_S1x1024x1024_S1x1024x1024_0_0_0)

/-- The result's block where the weights are loaded. -/
theorem out_B (hc0 hc1) : out0_B_5 (F := Ideal) c i arg2 harg2 arg3 harg3 arg4 harg4 arg5 harg5 arg6 harg6 arg7 harg7 arg8 harg8 arg9 harg9 hc0 x0 x1 x2 x3 x4 xt0 hc1
    = ffn x0 (k0_pay2 x1) x2 (k0_pay3 x3) x4 := by
  unfold out0_B_5
  unfold kernelRun0_B
  dsimp only
  refine (View.read_writes_eq_canon _ _ _ (cover0_B_5 c i arg2 harg2 arg3 harg3 arg4 harg4 arg5 harg5 arg6 harg6 arg7 harg7 arg8 harg8 arg9 harg9 hc0 x0 x1 x2 x3 x4 xt0 hc1)).trans ?_
  refine (View.canon_unit_zero (S := S256x1024) (off := ![0, 0]) z2 _ _).trans ?_
  unfold kernelRun0_B.sl.r_2 kernelRun0_B.sl.r_3 kernelRun0_B.sl.r_4 kernelRun0_B.sl.v44 kernelRun0_B.sl.v16
  unfold kernelRun0_B.sl.HS0_1 kernelRun0_B.sl.HS1_1
  have e2 := readAt_whole arg2 harg2 x0 z2 inb_S256x1024_S256x1024_0_0
  have e4 := readAt_whole arg4 harg4 x2 z3 inb_S1x1x2048_S1x1x2048_0_0_0
  have e6 := readAt_whole arg6 harg6 x4 z3 inb_S1x1x1024_S1x1x1024_0_0_0
  have f8 := (View.readCov_unit_zero (Val := Elt Ideal) (e := .bf16) arg8.view (off := ![0, 0]) z2 inb_S1024x2048_S1024x2048_0_0 (k0_pay2 (arg3.view.readAt (Elt Ideal) (Rect.unit (s := S1x1024x2048) ![0, 0, 0] S1x1024x2048.size inb_S1x1024x2048_S1x1024x2048_0_0_0).toLoadRect (harg3.unread x1)))).trans
    (congrArg k0_pay2 (readAt_whole arg3 harg3 x1 z3 inb_S1x1024x2048_S1x1024x2048_0_0_0))
  have f9 := (View.readCov_unit_zero (Val := Elt Ideal) (e := .bf16) arg9.view (off := ![0, 0]) z2 inb_S1024x1024_S1024x1024_0_0 (k0_pay3 (arg5.view.readAt (Elt Ideal) (Rect.unit (s := S1x1024x1024) ![0, 0, 0] S1x1024x1024.size inb_S1x1024x1024_S1x1024x1024_0_0_0).toLoadRect (harg5.unread x3)))).trans
    (congrArg k0_pay3 (readAt_whole arg5 harg5 x3 z3 inb_S1x1024x1024_S1x1024x1024_0_0_0))
  exact ffn_of _ _ _ e2 f8 e4 f9 e6

/-- The kept weights, 0, where they are loaded. -/
theorem sout_C0 (hc0 hc1) : sout0_C_0 (F := Ideal) c i arg2 harg2 arg3 harg3 arg4 harg4 arg5 harg5 arg6 harg6 arg7 harg7 arg8 harg8 arg9 harg9 hc0 x0 x1 x2 x3 x4 xt0 hc1
    = k0_pay2 x1 := by
  unfold sout0_C_0
  refine (View.read_writes_eq_canon _ _ _ (scover0_C_0 c i arg2 harg2 arg3 harg3 arg4 harg4 arg5 harg5 arg6 harg6 arg7 harg7 arg8 harg8 arg9 harg9 hc0 x0 x1 x2 x3 x4 xt0 hc1)).trans ?_
  unfold kernelRun0_C
  dsimp only
  unfold kernelRun0_C.sl.HS0_1
  refine (View.canon_unit_zero (S := S1024x2048) (off := ![0, 0]) z2 _ _).trans ?_
  exact congrArg _ (readAt_whole arg3 harg3 x1 z3 inb_S1x1024x2048_S1x1024x2048_0_0_0)

/-- The kept weights, 1, where they are loaded. -/
theorem sout_C1 (hc0 hc1) : sout0_C_1 (F := Ideal) c i arg2 harg2 arg3 harg3 arg4 harg4 arg5 harg5 arg6 harg6 arg7 harg7 arg8 harg8 arg9 harg9 hc0 x0 x1 x2 x3 x4 xt0 hc1
    = k0_pay3 x3 := by
  unfold sout0_C_1
  refine (View.read_writes_eq_canon _ _ _ (scover0_C_1 c i arg2 harg2 arg3 harg3 arg4 harg4 arg5 harg5 arg6 harg6 arg7 harg7 arg8 harg8 arg9 harg9 hc0 x0 x1 x2 x3 x4 xt0 hc1)).trans ?_
  unfold kernelRun0_C
  dsimp only
  unfold kernelRun0_C.sl.HS1_1
  refine (View.canon_unit_zero (S := S1024x1024) (off := ![0, 0]) z2 _ _).trans ?_
  exact congrArg _ (readAt_whole arg5 harg5 x3 z3 inb_S1x1024x1024_S1x1024x1024_0_0_0)

/-- The result's block where the weights are loaded. -/
theorem out_C (hc0 hc1) : out0_C_5 (F := Ideal) c i arg2 harg2 arg3 harg3 arg4 harg4 arg5 harg5 arg6 harg6 arg7 harg7 arg8 harg8 arg9 harg9 hc0 x0 x1 x2 x3 x4 xt0 hc1
    = ffn x0 (k0_pay2 x1) x2 (k0_pay3 x3) x4 := by
  unfold out0_C_5
  unfold kernelRun0_C
  dsimp only
  refine (View.read_writes_eq_canon _ _ _ (cover0_C_5 c i arg2 harg2 arg3 harg3 arg4 harg4 arg5 harg5 arg6 harg6 arg7 harg7 arg8 harg8 arg9 harg9 hc0 x0 x1 x2 x3 x4 xt0 hc1)).trans ?_
  refine (View.canon_unit_zero (S := S256x1024) (off := ![0, 0]) z2 _ _).trans ?_
  unfold kernelRun0_C.sl.r_2 kernelRun0_C.sl.r_3 kernelRun0_C.sl.r_4 kernelRun0_C.sl.v44 kernelRun0_C.sl.v16
  unfold kernelRun0_C.sl.HS0_1 kernelRun0_C.sl.HS1_1
  have e2 := readAt_whole arg2 harg2 x0 z2 inb_S256x1024_S256x1024_0_0
  have e4 := readAt_whole arg4 harg4 x2 z3 inb_S1x1x2048_S1x1x2048_0_0_0
  have e6 := readAt_whole arg6 harg6 x4 z3 inb_S1x1x1024_S1x1x1024_0_0_0
  have f8 := (View.readCov_unit_zero (Val := Elt Ideal) (e := .bf16) arg8.view (off := ![0, 0]) z2 inb_S1024x2048_S1024x2048_0_0 (k0_pay4 (arg3.view.readAt (Elt Ideal) (Rect.unit (s := S1x1024x2048) ![0, 0, 0] S1x1024x2048.size inb_S1x1024x2048_S1x1024x2048_0_0_0).toLoadRect (harg3.unread x1)))).trans
    (congrArg k0_pay4 (readAt_whole arg3 harg3 x1 z3 inb_S1x1024x2048_S1x1024x2048_0_0_0))
  have f9 := (View.readCov_unit_zero (Val := Elt Ideal) (e := .bf16) arg9.view (off := ![0, 0]) z2 inb_S1024x1024_S1024x1024_0_0 (k0_pay5 (arg5.view.readAt (Elt Ideal) (Rect.unit (s := S1x1024x1024) ![0, 0, 0] S1x1024x1024.size inb_S1x1024x1024_S1x1024x1024_0_0_0).toLoadRect (harg5.unread x3)))).trans
    (congrArg k0_pay5 (readAt_whole arg5 harg5 x3 z3 inb_S1x1024x1024_S1x1024x1024_0_0_0))
  exact ffn_of _ _ _ e2 f8 e4 f9 e6

end Cert.Kernel2Ideal.Moe
-- ==== Proof.MoePre.lean ====
/- The precondition on the experts' numbers: every block's expert is one of the 32, so every block of the weights lies inside its array. -/
module

public import proofs.«01_k».proof.Defs
public import proofs.«01_k».proof.Proof.Gen.Pre_experts_in_range
public import proofs.«01_k».proof.Proof.Gen.Kernel2.Frame.Runs
public import proofs.«01_k».proof.Proof.Gen.Kernel2Ideal.Frame.Runs
public import Idealize.ShloMosaic.Lib.ReduceAll
public import Idealize.ShloMosaic.Lib.Pointwise
public import Idealize.ShloMosaic.Lib.WordCmp

@[expose] public section

set_option maxRecDepth 16384

noncomputable section

namespace Cert.MoePre

open Idealize.ShloMosaic Idealize.ShloMosaic.TcCoe Idealize.SL.Sem Idealize.ShloMosaic.Pointwise

instance : Subsingleton Cert.Pre_experts_in_range.S_.Idx := ⟨fun a b => funext fun x => x.elim0⟩

/-- The predicate holds of the experts' numbers: each is below 32. -/
theorem expert_lt {F : FTy → Type} [FloatOps F] (be : IVec Cert.Pre_experts_in_range.S544 32) (a1 a2 a3 a4 a5)
    (h : Cert.Pre_experts_in_range.fn (F := F) be a1 a2 a3 a4 a5 = fun _ => 1#1) (i : Cert.Pre_experts_in_range.S544.Idx) : (be i).toNat < 32 := by
  have e := Host.reduce_andi_all _ _ _ _ (Shape.Idx.first Cert.Pre_experts_in_range.Facts.h_S_) (congrFun h (Shape.Idx.first Cert.Pre_experts_in_range.Facts.h_S_)) i
  have e' : IntOp.andi (IntOp.cmpi .sge (be i) 0#32) (IntOp.cmpi .slt (be i) (BitVec.ofNat 32 32)) = 1#1 := e
  rw [WordCmp.andi_sge_zero_slt_ofNat (by norm_num), WordCmp.ofBool_decide_eq_one_iff] at e'
  exact e'

end Cert.MoePre

namespace Cert.Kernel2.Moe

open Cert.Kernel2 Cert.Kernel2.Gen Idealize.ShloMosaic Idealize.ShloMosaic.TcCoe Idealize.SL.Sem Idealize.ShloMosaic.Pointwise

variable {F : FTy → Type} [FloatOps F]

theorem off1_eq (i : grid0.Coords) : k0_off1 i = ![(i 0).val] := by
  have h : (i 0).val < 544 := (i 0).isLt
  have e : (BitVec.ofNat 32 (i 0).val).toNat = (i 0).val := WordCmp.toNat_ofNat_of_lt (by omega)
  show ![(BitVec.ofNat 32 (i 0).val).toNat] = _
  rw [e]

/-- The word an index map reads: the expert of the block. -/
theorem word_eq (pf : pre0.Contents (Elt F)) (i : grid0.Coords) (inb) (h1) :
    pf.at 0 (Rect.unit (s := S544) (k0_off1 i) S1.size inb) h1 = (pf 0 : IVec S544 32) (ix1 (i 0)) := by
  show (pf 0 : IVec S544 32) _ = _
  congr 1
  funext a
  match a with
  | ⟨0, _⟩ =>
    refine Fin.ext ?_
    show k0_off1 i 0 + 1 * _ = (i 0).val
    have hz : ∀ f : S1.Idx, 1 * (f 0).val = 0 := fun f => by have := (f 0).isLt; change (f 0).val < 1 at this; omega
    exact (congrArg₂ (· + ·) (congrFun (off1_eq i) 0) (hz _)).trans (Nat.add_zero _)

theorem map1 (pf : pre0.Contents (Elt F)) (i : grid0.Coords) :
    cc0_transform_1 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

theorem map2 (pf : pre0.Contents (Elt F)) (i : grid0.Coords) :
    cc0_transform_2 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

theorem map3 (pf : pre0.Contents (Elt F)) (i : grid0.Coords) :
    cc0_transform_3 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

theorem map4 (pf : pre0.Contents (Elt F)) (i : grid0.Coords) :
    cc0_transform_4 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

/-- Every expert one of the 32: every block of the weights lies inside its array. -/
theorem ok_of_lt (pf : pre0.Contents (Elt F)) (h : ∀ i : S544.Idx, ((pf 0 : IVec S544 32) i).toNat < 32) : ok0 (F := F) pf := by
  refine ⟨fun i => ⟨fun a => ?_, .inl rfl⟩, fun i => ⟨fun a => ?_, .inl rfl⟩, fun i => ⟨fun a => ?_, .inl rfl⟩, fun i => ⟨fun a => ?_, .inl rfl⟩⟩
  · rw [map1]
    have hi := h (ix1 (i 0))
    match a with
    | ⟨0, _⟩ => show (((pf 0 : IVec S544 32) (ix1 (i 0))).toNat + 1) * 1 ≤ 32; omega
    | ⟨1, _⟩ => show (0 + 1) * 1024 ≤ 1024; omega
    | ⟨2, _⟩ => show (0 + 1) * 2048 ≤ 2048; omega
  · rw [map2]
    have hi := h (ix1 (i 0))
    match a with
    | ⟨0, _⟩ => show (((pf 0 : IVec S544 32) (ix1 (i 0))).toNat + 1) * 1 ≤ 32; omega
    | ⟨1, _⟩ => show (0 + 1) * 1 ≤ 1; omega
    | ⟨2, _⟩ => show (0 + 1) * 2048 ≤ 2048; omega
  · rw [map3]
    have hi := h (ix1 (i 0))
    match a with
    | ⟨0, _⟩ => show (((pf 0 : IVec S544 32) (ix1 (i 0))).toNat + 1) * 1 ≤ 32; omega
    | ⟨1, _⟩ => show (0 + 1) * 1024 ≤ 1024; omega
    | ⟨2, _⟩ => show (0 + 1) * 1024 ≤ 1024; omega
  · rw [map4]
    have hi := h (ix1 (i 0))
    match a with
    | ⟨0, _⟩ => show (((pf 0 : IVec S544 32) (ix1 (i 0))).toNat + 1) * 1 ≤ 32; omega
    | ⟨1, _⟩ => show (0 + 1) * 1 ≤ 1; omega
    | ⟨2, _⟩ => show (0 + 1) * 1024 ≤ 1024; omega

variable (m : (ℓ : Loc nD τ sig) → Buf (Elt F) ℓ)

theorem tbl_eq : (tbl m 0 : IVec S544 32) = m (((0 : Dev nD) : Thread nD τ).loc main_arg0) := V_main_arg0 m 0

theorem ok_of_args (h : ∀ i : S544.Idx, ((m (((0 : Dev nD) : Thread nD τ).loc main_arg0) : IVec S544 32) i).toNat < 32) : Ok m :=
  ok_of_lt (tbl m) fun i => (congrArg BitVec.toNat (congrFun (tbl_eq m) i)).trans_lt (h i)

end Cert.Kernel2.Moe

namespace Cert.Kernel2Ideal.Moe

open Cert.Kernel2Ideal Cert.Kernel2Ideal.Gen Idealize.ShloMosaic Idealize.ShloMosaic.TcCoe Idealize.SL.Sem Idealize.ShloMosaic.Pointwise

variable {F : FTy → Type} [FloatOps F]

theorem off1_eq (i : grid0.Coords) : k0_off1 i = ![(i 0).val] := by
  have h : (i 0).val < 544 := (i 0).isLt
  have e : (BitVec.ofNat 32 (i 0).val).toNat = (i 0).val := WordCmp.toNat_ofNat_of_lt (by omega)
  show ![(BitVec.ofNat 32 (i 0).val).toNat] = _
  rw [e]

/-- The word an index map reads: the expert of the block. -/
theorem word_eq (pf : pre0.Contents (Elt F)) (i : grid0.Coords) (inb) (h1) :
    pf.at 0 (Rect.unit (s := S544) (k0_off1 i) S1.size inb) h1 = (pf 0 : IVec S544 32) (ix1 (i 0)) := by
  show (pf 0 : IVec S544 32) _ = _
  congr 1
  funext a
  match a with
  | ⟨0, _⟩ =>
    refine Fin.ext ?_
    show k0_off1 i 0 + 1 * _ = (i 0).val
    have hz : ∀ f : S1.Idx, 1 * (f 0).val = 0 := fun f => by have := (f 0).isLt; change (f 0).val < 1 at this; omega
    exact (congrArg₂ (· + ·) (congrFun (off1_eq i) 0) (hz _)).trans (Nat.add_zero _)

theorem map1 (pf : pre0.Contents (Elt F)) (i : grid0.Coords) :
    cc0_transform_1 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

theorem map2 (pf : pre0.Contents (Elt F)) (i : grid0.Coords) :
    cc0_transform_2 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

theorem map3 (pf : pre0.Contents (Elt F)) (i : grid0.Coords) :
    cc0_transform_3 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

theorem map4 (pf : pre0.Contents (Elt F)) (i : grid0.Coords) :
    cc0_transform_4 k0_off1_inb numel1_S1 pf i = ![((pf 0 : IVec S544 32) (ix1 (i 0))).toNat, 0, 0] := by
  show ![(pf.at 0 (Rect.unit (s := S544) (k0_off1 i) S1.size (k0_off1_inb i)) numel1_S1 : BitVec 32).toNat, 0, 0] = _
  rw [word_eq]
  rfl

/-- Every expert one of the 32: every block of the weights lies inside its array. -/
theorem ok_of_lt (pf : pre0.Contents (Elt F)) (h : ∀ i : S544.Idx, ((pf 0 : IVec S544 32) i).toNat < 32) : ok0 (F := F) pf := by
  refine ⟨fun i => ⟨fun a => ?_, .inl rfl⟩, fun i => ⟨fun a => ?_, .inl rfl⟩, fun i => ⟨fun a => ?_, .inl rfl⟩, fun i => ⟨fun a => ?_, .inl rfl⟩⟩
  · rw [map1]
    have hi := h (ix1 (i 0))
    match a with
    | ⟨0, _⟩ => show (((pf 0 : IVec S544 32) (ix1 (i 0))).toNat + 1) * 1 ≤ 32; omega
    | ⟨1, _⟩ => show (0 + 1) * 1024 ≤ 1024; omega
    | ⟨2, _⟩ => show (0 + 1) * 2048 ≤ 2048; omega
  · rw [map2]
    have hi := h (ix1 (i 0))
    match a with
    | ⟨0, _⟩ => show (((pf 0 : IVec S544 32) (ix1 (i 0))).toNat + 1) * 1 ≤ 32; omega
    | ⟨1, _⟩ => show (0 + 1) * 1 ≤ 1; omega
    | ⟨2, _⟩ => show (0 + 1) * 2048 ≤ 2048; omega
  · rw [map3]
    have hi := h (ix1 (i 0))
    match a with
    | ⟨0, _⟩ => show (((pf 0 : IVec S544 32) (ix1 (i 0))).toNat + 1) * 1 ≤ 32; omega
    | ⟨1, _⟩ => show (0 + 1) * 1024 ≤ 1024; omega
    | ⟨2, _⟩ => show (0 + 1) * 1024 ≤ 1024; omega
  · rw [map4]
    have hi := h (ix1 (i 0))
    match a with
    | ⟨0, _⟩ => show (((pf 0 : IVec S544 32) (ix1 (i 0))).toNat + 1) * 1 ≤ 32; omega
    | ⟨1, _⟩ => show (0 + 1) * 1 ≤ 1; omega
    | ⟨2, _⟩ => show (0 + 1) * 1024 ≤ 1024; omega

variable (m : (ℓ : Loc nD τ sig) → Buf (Elt F) ℓ)

theorem tbl_eq : (tbl m 0 : IVec S544 32) = m (((0 : Dev nD) : Thread nD τ).loc main_arg0) := V_main_arg0 m 0

theorem ok_of_args (h : ∀ i : S544.Idx, ((m (((0 : Dev nD) : Thread nD τ).loc main_arg0) : IVec S544 32) i).toNat < 32) : Ok m :=
  ok_of_lt (tbl m) fun i => (congrArg BitVec.toNat (congrFun (tbl_eq m) i)).trans_lt (h i)

end Cert.Kernel2Ideal.Moe

namespace Cert.MoePre

theorem ok_kernel (m) (h : Cert.Pre_Kernel2 m) : Cert.Kernel2.Gen.Ok m :=
  Cert.Kernel2.Moe.ok_of_args m fun i => expert_lt _ _ _ _ _ _ (h 0) i

theorem ok_ideal (m) (h : Cert.Pre_Kernel2Ideal m) : Cert.Kernel2Ideal.Gen.Ok m :=
  Cert.Kernel2Ideal.Moe.ok_of_args m fun i => expert_lt _ _ _ _ _ _ (h 0) i

end Cert.MoePre
-- ==== Proof.MoeAcc.lean ====
/- Every block of the result is its rows through its expert: the blocks the windows read, and the weights kept from one block to the next. -/
module

public import proofs.«01_k».proof.Proof.MoeBlock
public import proofs.«01_k».proof.Proof.MoePre
public import Idealize.ShloMosaic.Lib.Pointwise
public import Idealize.ShloMosaic.Lib.WordCmp
public import Idealize.ShloMosaic.Lib.StableHlo.Run

@[expose] public section

set_option maxRecDepth 16384

noncomputable section

namespace Cert.Kernel2Ideal.Moe

open Cert.Kernel2Ideal Cert.Kernel2Ideal.Gen Idealize.ShloMosaic Idealize.ShloMosaic.TcCoe Idealize.SL.Sem Idealize.ShloMosaic.Pointwise

/-! ## The words the body branches on -/

theorem ne_one {w : ℕ} (a b : BitVec w) (h : a ≠ b) : Scalar.cmpi .ne a b = 1#1 := by
  have e : (a != b) = true := by simpa using h
  show BitVec.ofBool (a != b) = 1#1
  rw [e]
  rfl

/-- A block after the first whose expert is not loaded has the expert of the block before. -/
theorem same_of_not {i : grid0.Coords} {v w : BitVec 32} (h : ¬cond0_1 i v w) (hi : (i 0).val ≠ 0) : v = w := by
  by_contra hn
  refine h ?_
  have h3 : (i 0).val < 544 := (i 0).isLt
  have e1 : Scalar.cmpi .ne (BitVec.ofNat 32 (i 0).val) 0#32 = 1#1 := ne_one _ _ fun e => by
    have := congrArg BitVec.toNat e
    rw [WordCmp.toNat_ofNat_of_lt (by omega)] at this
    exact hi this
  show Scalar.cmpi .ne (Scalar.extui (Scalar.andi (Scalar.cmpi .ne (BitVec.ofNat 32 (i 0).val) 0#32) (Scalar.cmpi .ne v w))) 0#32 = 1#1
  rw [e1, ne_one v w hn]
  rfl

/-- The first block's expert is not loaded by the second branch. -/
theorem not_first {i : grid0.Coords} {v w : BitVec 32} (h : cond0_1 i v w) : (i 0).val ≠ 0 := by
  intro hi
  have h' : Scalar.cmpi .ne (Scalar.extui (Scalar.andi (Scalar.cmpi .ne (BitVec.ofNat 32 (i 0).val) 0#32) (Scalar.cmpi .ne v w))) 0#32 = 1#1 := h
  rw [hi, show Scalar.cmpi .ne (BitVec.ofNat 32 0) 0#32 = 0#1 from rfl] at h'
  have e : ∀ b : BitVec 1, Scalar.cmpi .ne (Scalar.extui (Scalar.andi 0#1 b) : BitVec 32) 0#32 = 0#1 := by decide
  rw [e] at h'
  exact absurd h' (by decide)

theorem coord_val : ∀ t : Fin grid0.N, (grid0.coords t 0).val = t.val := by decide +kernel

theorem off2_val : ∀ i : Fin 544, i.val ≠ 0 → (Scalar.maxsi (Scalar.subi (BitVec.ofNat 32 i.val) 1#32) 0#32 : BitVec 32).toNat = i.val - 1 := by decide +kernel

/-- The word before a block's: the block before. -/
theorem off2_eq (i : grid0.Coords) (n : ℕ) (hi : (i 0).val ≠ 0) (hn : n = (i 0).val - 1) : k0_off2 i = ![n] := by
  have e := off2_val (i 0) hi
  subst hn
  show ![(Scalar.maxsi (Scalar.subi (BitVec.ofNat 32 (i 0).val) 1#32) 0#32 : BitVec 32).toNat] = _
  exact congrArg (fun k : ℕ => ![k]) e

variable (m : (ℓ : Loc nD τ sig) → Buf (Elt Ideal) ℓ)

/-- The expert of a block. -/
def be (n : Fin 544) : BitVec 32 := (tbl m 0 : IVec S544 32) (ix1 n)

theorem wd1 (i : grid0.Coords) : tbM0_0.view.readAt (Elt Ideal) (Rect.unit (s := S544) (k0_off1 i) S1.size (k0_off1_inb i)).toLoadRect (tbl m 0) (Shape.Idx.first (numel1_S1.symm ▸ Nat.one_pos)) = be m (i 0) :=
  word_eq (tbl m) i (k0_off1_inb i) numel1_S1

theorem wd2 (i : grid0.Coords) (n : Fin 544) (h : k0_off2 i = ![n.val]) : tbM0_0.view.readAt (Elt Ideal) (Rect.unit (s := S544) (k0_off2 i) S1.size (k0_off2_inb i)).toLoadRect (tbl m 0) (Shape.Idx.first (numel1_S1.symm ▸ Nat.one_pos)) = be m n := by
  show (tbl m 0 : IVec S544 32) _ = (tbl m 0 : IVec S544 32) _
  congr 1
  funext a
  match a with
  | ⟨0, _⟩ =>
    refine Fin.ext ?_
    show k0_off2 i 0 + 1 * _ = n.val
    have hz : ∀ f : S1.Idx, 1 * (f 0).val = 0 := fun f => by have := (f 0).isLt; change (f 0).val < 1 at this; omega
    exact (congrArg₂ (· + ·) (congrFun h 0) (hz _)).trans (Nat.add_zero _)

variable (hO : Ok m) (c : Dev nD) (hb : ∀ n, (be m n).toNat < 32)

/-! ## The windows' blocks -/

theorem idx0 : ∀ i : grid0.Coords, cc0_transform_0 i 0 = (i 0).val ∧ cc0_transform_0 i 1 = 0 := by decide +kernel
theorem idx5 : ∀ i : grid0.Coords, cc0_transform_5 i 0 = (i 0).val ∧ cc0_transform_5 i 1 = 0 := by decide +kernel

/-- A block's place in the rows. -/
def emb0 (t : Fin grid0.N) (y : S256x1024.Idx) : S139264x1024.Idx := (((cfgM m hO).win 0).rect t).emb y

theorem emb0_val (t : Fin grid0.N) (y : S256x1024.Idx) (a : Fin 2) : (emb0 m hO t y a).val = cc0_transform_0 (grid0.coords t) a * S256x1024.size a + (y a).val :=
  ((cfgM m hO).win 0).rect_emb_val t y a

/-- The expert of a point's block. -/
def bi (t : Fin grid0.N) : Fin 32 := ⟨(be m (grid0.coords t 0)).toNat, hb _⟩

/-- A block's place in the array of window 1. -/
def emb1 (t : Fin grid0.N) (y : S1x1024x2048.Idx) : S32x1024x2048.Idx := (((cfgM m hO).win 1).rect t).emb y

theorem emb1_map (t : Fin grid0.N) (y : S1x1024x2048.Idx) (a : Fin 3) : (emb1 m hO t y a).val = cc0_transform_1 k0_off1_inb numel1_S1 (tbl m) (grid0.coords t) a * S1x1024x2048.size a + (y a).val :=
  ((cfgM m hO).win 1).rect_emb_val t y a

theorem emb1_val (t : Fin grid0.N) (y : S1x1024x2048.Idx) : (emb1 m hO t y 0).val = (bi m hb t).val ∧ (emb1 m hO t y 1).val = (y 1).val ∧ (emb1 m hO t y 2).val = (y 2).val := by
  refine ⟨(emb1_map m hO t y 0).trans ?_, (emb1_map m hO t y 1).trans ?_, (emb1_map m hO t y 2).trans ?_⟩
  · rw [map1]
    have h : (y 0).val < 1 := (y 0).isLt
    show (be m (grid0.coords t 0)).toNat * 1 + (y 0).val = (be m (grid0.coords t 0)).toNat
    omega
  · rw [map1]
    exact (congrArg (· + (y 1).val) (Nat.zero_mul _)).trans (Nat.zero_add _)
  · rw [map1]
    exact (congrArg (· + (y 2).val) (Nat.zero_mul _)).trans (Nat.zero_add _)

/-- A block's place in the array of window 2. -/
def emb2 (t : Fin grid0.N) (y : S1x1x2048.Idx) : S32x1x2048.Idx := (((cfgM m hO).win 2).rect t).emb y

theorem emb2_map (t : Fin grid0.N) (y : S1x1x2048.Idx) (a : Fin 3) : (emb2 m hO t y a).val = cc0_transform_2 k0_off1_inb numel1_S1 (tbl m) (grid0.coords t) a * S1x1x2048.size a + (y a).val :=
  ((cfgM m hO).win 2).rect_emb_val t y a

theorem emb2_val (t : Fin grid0.N) (y : S1x1x2048.Idx) : (emb2 m hO t y 0).val = (bi m hb t).val ∧ (emb2 m hO t y 1).val = (y 1).val ∧ (emb2 m hO t y 2).val = (y 2).val := by
  refine ⟨(emb2_map m hO t y 0).trans ?_, (emb2_map m hO t y 1).trans ?_, (emb2_map m hO t y 2).trans ?_⟩
  · rw [map2]
    have h : (y 0).val < 1 := (y 0).isLt
    show (be m (grid0.coords t 0)).toNat * 1 + (y 0).val = (be m (grid0.coords t 0)).toNat
    omega
  · rw [map2]
    exact (congrArg (· + (y 1).val) (Nat.zero_mul _)).trans (Nat.zero_add _)
  · rw [map2]
    exact (congrArg (· + (y 2).val) (Nat.zero_mul _)).trans (Nat.zero_add _)

/-- A block's place in the array of window 3. -/
def emb3 (t : Fin grid0.N) (y : S1x1024x1024.Idx) : S32x1024x1024.Idx := (((cfgM m hO).win 3).rect t).emb y

theorem emb3_map (t : Fin grid0.N) (y : S1x1024x1024.Idx) (a : Fin 3) : (emb3 m hO t y a).val = cc0_transform_3 k0_off1_inb numel1_S1 (tbl m) (grid0.coords t) a * S1x1024x1024.size a + (y a).val :=
  ((cfgM m hO).win 3).rect_emb_val t y a

theorem emb3_val (t : Fin grid0.N) (y : S1x1024x1024.Idx) : (emb3 m hO t y 0).val = (bi m hb t).val ∧ (emb3 m hO t y 1).val = (y 1).val ∧ (emb3 m hO t y 2).val = (y 2).val := by
  refine ⟨(emb3_map m hO t y 0).trans ?_, (emb3_map m hO t y 1).trans ?_, (emb3_map m hO t y 2).trans ?_⟩
  · rw [map3]
    have h : (y 0).val < 1 := (y 0).isLt
    show (be m (grid0.coords t 0)).toNat * 1 + (y 0).val = (be m (grid0.coords t 0)).toNat
    omega
  · rw [map3]
    exact (congrArg (· + (y 1).val) (Nat.zero_mul _)).trans (Nat.zero_add _)
  · rw [map3]
    exact (congrArg (· + (y 2).val) (Nat.zero_mul _)).trans (Nat.zero_add _)

/-- A block's place in the array of window 4. -/
def emb4 (t : Fin grid0.N) (y : S1x1x1024.Idx) : S32x1x1024.Idx := (((cfgM m hO).win 4).rect t).emb y

theorem emb4_map (t : Fin grid0.N) (y : S1x1x1024.Idx) (a : Fin 3) : (emb4 m hO t y a).val = cc0_transform_4 k0_off1_inb numel1_S1 (tbl m) (grid0.coords t) a * S1x1x1024.size a + (y a).val :=
  ((cfgM m hO).win 4).rect_emb_val t y a

theorem emb4_val (t : Fin grid0.N) (y : S1x1x1024.Idx) : (emb4 m hO t y 0).val = (bi m hb t).val ∧ (emb4 m hO t y 1).val = (y 1).val ∧ (emb4 m hO t y 2).val = (y 2).val := by
  refine ⟨(emb4_map m hO t y 0).trans ?_, (emb4_map m hO t y 1).trans ?_, (emb4_map m hO t y 2).trans ?_⟩
  · rw [map4]
    have h : (y 0).val < 1 := (y 0).isLt
    show (be m (grid0.coords t 0)).toNat * 1 + (y 0).val = (be m (grid0.coords t 0)).toNat
    omega
  · rw [map4]
    exact (congrArg (· + (y 1).val) (Nat.zero_mul _)).trans (Nat.zero_add _)
  · rw [map4]
    exact (congrArg (· + (y 2).val) (Nat.zero_mul _)).trans (Nat.zero_add _)

/-- A block's rows. -/
theorem x_block (t : Fin grid0.N) (y : Fin 256) (l : Fin 1024) :
    iblk m hO c 0 t (ix2 y l) = (m ((c : Thread nD τ).loc main_arg1) : FVec Ideal S139264x1024 .f32) (ix2 ⟨256 * t.val + y.val, by have := t.isLt; change t.val < 544 at this; omega⟩ l) := by
  show V m c main_arg1 (emb0 m hO t (ix2 y l)) = _
  rw [V_main_arg1]
  refine congrArg (m ((c : Thread nD τ).loc main_arg1) : FVec Ideal S139264x1024 .f32) (funext fun a => Fin.ext ?_)
  match a with
  | ⟨0, _⟩ =>
    refine (emb0_val m hO t (ix2 y l) 0).trans ?_
    show cc0_transform_0 (grid0.coords t) 0 * 256 + y.val = 256 * t.val + y.val
    rw [(idx0 _).1, coord_val]; ring
  | ⟨1, _⟩ =>
    refine (emb0_val m hO t (ix2 y l) 1).trans ?_
    show cc0_transform_0 (grid0.coords t) 1 * 1024 + l.val = l.val
    rw [(idx0 _).2]; ring

/-- The first weights of a block's expert. -/
theorem w1_block (t : Fin grid0.N) (y : S1x1024x2048.Idx) :
    iblk m hO c 1 t y = (m ((c : Thread nD τ).loc main_arg2) : FVec Ideal S32x1024x2048 .f32) (ix3 (bi m hb t) (y 1) (y 2)) := by
  show V m c main_arg2 (emb1 m hO t y) = _
  rw [V_main_arg2]
  refine congrArg (m ((c : Thread nD τ).loc main_arg2) : FVec Ideal S32x1024x2048 .f32) (funext fun x => Fin.ext ?_)
  have e := emb1_val m hO hb t y
  match x with
  | ⟨0, _⟩ => exact e.1
  | ⟨1, _⟩ => exact e.2.1
  | ⟨2, _⟩ => exact e.2.2

/-- The second weights of a block's expert. -/
theorem w2_block (t : Fin grid0.N) (y : S1x1024x1024.Idx) :
    iblk m hO c 3 t y = (m ((c : Thread nD τ).loc main_arg4) : FVec Ideal S32x1024x1024 .f32) (ix3 (bi m hb t) (y 1) (y 2)) := by
  show V m c main_arg4 (emb3 m hO t y) = _
  rw [V_main_arg4]
  refine congrArg (m ((c : Thread nD τ).loc main_arg4) : FVec Ideal S32x1024x1024 .f32) (funext fun x => Fin.ext ?_)
  have e := emb3_val m hO hb t y
  match x with
  | ⟨0, _⟩ => exact e.1
  | ⟨1, _⟩ => exact e.2.1
  | ⟨2, _⟩ => exact e.2.2

theorem V_v0 : V m c main_v0 = (shapeCast S32x1x2048 (m ((c : Thread nD τ).loc main_arg3)) shapeCasts_S32x2048_S32x1x2048 : FVec Ideal S32x1x2048 .f32) := by
  show StableHlo.after hostOps0 _ (Proc.devRef .tc main_v0) = _
  after_results
  rfl

/-- A row of the biases, put where the kernel reads it. -/
theorem row2 (x : FVec Ideal S32x2048 .f32) (i : S32x1x2048.Idx) (e : Fin 32) (f : Fin 2048) (h0 : (i 0).val = e.val) (h2 : (i 2).val = f.val) :
    shapeCast S32x1x2048 x shapeCasts_S32x2048_S32x1x2048 i = x (ix2 e f) :=
  shapeCast_apply x _ i (ix2 e f) (by
    rw [Shape.rowMajor_val_three, Shape.rowMajor_val_two]
    have h1 : (i 1).val < 1 := (i 1).isLt
    show e.val * 2048 + f.val = ((i 0).val * 1 + (i 1).val) * 2048 + (i 2).val
    rw [h0, h2, Nat.lt_one_iff.mp h1]
    ring)

/-- The first bias of a block's expert. -/
theorem b1_block (t : Fin grid0.N) (y : S1x1x2048.Idx) :
    iblk m hO c 2 t y = (m ((c : Thread nD τ).loc main_arg3) : FVec Ideal S32x2048 .f32) (ix2 (bi m hb t) (y 2)) := by
  show V m c main_v0 (emb2 m hO t y) = _
  rw [V_v0]
  have e := emb2_val m hO hb t y
  exact row2 _ _ _ _ e.1 e.2.2

theorem V_v1 : V m c main_v1 = (shapeCast S32x1x1024 (m ((c : Thread nD τ).loc main_arg5)) shapeCasts_S32x1024_S32x1x1024 : FVec Ideal S32x1x1024 .f32) := by
  show StableHlo.after hostOps0 _ (Proc.devRef .tc main_v1) = _
  after_results
  rfl

/-- A row of the biases, put where the kernel reads it. -/
theorem row4 (x : FVec Ideal S32x1024 .f32) (i : S32x1x1024.Idx) (e : Fin 32) (f : Fin 1024) (h0 : (i 0).val = e.val) (h2 : (i 2).val = f.val) :
    shapeCast S32x1x1024 x shapeCasts_S32x1024_S32x1x1024 i = x (ix2 e f) :=
  shapeCast_apply x _ i (ix2 e f) (by
    rw [Shape.rowMajor_val_three, Shape.rowMajor_val_two]
    have h1 : (i 1).val < 1 := (i 1).isLt
    show e.val * 1024 + f.val = ((i 0).val * 1 + (i 1).val) * 1024 + (i 2).val
    rw [h0, h2, Nat.lt_one_iff.mp h1]
    ring)

/-- The second bias of a block's expert. -/
theorem b2_block (t : Fin grid0.N) (y : S1x1x1024.Idx) :
    iblk m hO c 4 t y = (m ((c : Thread nD τ).loc main_arg5) : FVec Ideal S32x1024 .f32) (ix2 (bi m hb t) (y 2)) := by
  show V m c main_v1 (emb4 m hO t y) = _
  rw [V_v1]
  have e := emb4_val m hO hb t y
  exact row4 _ _ _ _ e.1 e.2.2

/-! ## The weights kept -/

include hb in
/-- Two blocks of the same expert read the same first weights. -/
theorem same_w1 (t u : Fin grid0.N) (h : be m (grid0.coords t 0) = be m (grid0.coords u 0)) : (iblk m hO c 1 t : Vec Ideal S1x1024x2048 .f32) = iblk m hO c 1 u := by
  have e : bi m hb t = bi m hb u := Fin.ext (by show (be m _).toNat = (be m _).toNat; rw [h])
  refine funext fun y : S1x1024x2048.Idx => ?_
  refine (w1_block m hO c hb t y).trans (Eq.trans ?_ (w1_block m hO c hb u y).symm)
  rw [e]

include hb in
/-- Two blocks of the same expert read the same second weights. -/
theorem same_w2 (t u : Fin grid0.N) (h : be m (grid0.coords t 0) = be m (grid0.coords u 0)) : (iblk m hO c 3 t : Vec Ideal S1x1024x1024 .f32) = iblk m hO c 3 u := by
  have e : bi m hb t = bi m hb u := Fin.ext (by show (be m _).toNat = (be m _).toNat; rw [h])
  refine funext fun y : S1x1024x1024.Idx => ?_
  refine (w2_block m hO c hb t y).trans (Eq.trans ?_ (w2_block m hO c hb u y).symm)
  rw [e]

/-- What a block's point leaves: its rows through its expert, and that expert's weights. -/
def leaves (t : Fin grid0.N) : Vec Ideal S256x1024 .f32 × Vec Ideal S1024x2048 .bf16 × Vec Ideal S1024x1024 .bf16 :=
  (ffn (iblk m hO c 0 t) (k0_pay2 (iblk m hO c 1 t)) (iblk m hO c 2 t) (k0_pay3 (iblk m hO c 3 t)) (iblk m hO c 4 t), k0_pay2 (iblk m hO c 1 t), k0_pay3 (iblk m hO c 3 t))

include hb in
theorem outs_eq (n : ℕ) : ∀ t : Fin grid0.N, t.val = n → outsAt0 m hO c t.val t.isLt = leaves m hO c t := by
  induction n with
  | zero =>
    intro t ht
    have h0 : t.val % 544 = 0 := by rw [ht]
    by_cases h1 : cond0_1 (grid0.coords t) (tbM0_0.view.readAt (Elt Ideal) (Rect.unit (s := S544) (k0_off1 (grid0.coords t)) S1.size (k0_off1_inb (grid0.coords t))).toLoadRect (tbl m 0) (Shape.Idx.first (numel1_S1.symm ▸ Nat.one_pos))) (tbM0_0.view.readAt (Elt Ideal) (Rect.unit (s := S544) (k0_off2 (grid0.coords t)) S1.size (k0_off2_inb (grid0.coords t))).toLoadRect (tbl m 0) (Shape.Idx.first (numel1_S1.symm ▸ Nat.one_pos)))
    · exact absurd ((coord_val t).trans ht) (not_first h1)
    · refine (outsAt0_B m hO c t h0 h1).trans ?_
      unfold leaves
      exact congrArg₂ Prod.mk (out_B ..) (congrArg₂ Prod.mk (sout_B0 ..) (sout_B1 ..))
  | succ n ih =>
    intro t ht
    have hn : t.val < 544 := t.isLt
    have h0 : ¬t.val % 544 = 0 := by omega
    by_cases h1 : cond0_1 (grid0.coords t) (tbM0_0.view.readAt (Elt Ideal) (Rect.unit (s := S544) (k0_off1 (grid0.coords t)) S1.size (k0_off1_inb (grid0.coords t))).toLoadRect (tbl m 0) (Shape.Idx.first (numel1_S1.symm ▸ Nat.one_pos))) (tbM0_0.view.readAt (Elt Ideal) (Rect.unit (s := S544) (k0_off2 (grid0.coords t)) S1.size (k0_off2_inb (grid0.coords t))).toLoadRect (tbl m 0) (Shape.Idx.first (numel1_S1.symm ▸ Nat.one_pos)))
    · refine (outsAt0_C m hO c t h0 h1).trans ?_
      unfold leaves
      exact congrArg₂ Prod.mk (out_C ..) (congrArg₂ Prod.mk (sout_C0 ..) (sout_C1 ..))
    · refine (outsAt0_D m hO c t h0 h1).trans ?_
      have hi : (grid0.coords t 0).val ≠ 0 := by rw [coord_val]; omega
      have hp : t.val - 1 < grid0.N := Nat.lt_of_le_of_lt (Nat.sub_le _ _) t.isLt
      have e2 := off2_eq (grid0.coords t) (grid0.coords (⟨t.val - 1, hp⟩ : Fin grid0.N) 0).val hi ((coord_val ⟨t.val - 1, hp⟩).trans (congrArg (· - 1) (coord_val t).symm))
      have hw := same_of_not h1 hi
      rw [wd1, wd2 m _ _ e2] at hw
      have e := ih ⟨t.val - 1, hp⟩ (by show t.val - 1 = n; omega)
      have ew1 : (outsAt0 m hO c (t.val - 1) hp).2.1 = k0_pay2 (iblk m hO c 1 t) :=
        (congrArg (fun x => x.2.1) e).trans (congrArg k0_pay2 (same_w1 m hO c hb _ _ hw.symm))
      have ew2 : (outsAt0 m hO c (t.val - 1) hp).2.2 = k0_pay3 (iblk m hO c 3 t) :=
        (congrArg (fun x => x.2.2) e).trans (congrArg k0_pay3 (same_w2 m hO c hb _ _ hw.symm))
      unfold leaves
      exact congrArg₂ Prod.mk ((out_D ..).trans (congrArg₂ (fun a b => ffn (iblk m hO c 0 t) a (iblk m hO c 2 t) b (iblk m hO c 4 t)) ew1 ew2)) (congrArg₂ Prod.mk ew1 ew2)

end Cert.Kernel2Ideal.Moe
-- ==== Proof.MoeSpec.lean ====
/- A routed expert's layer, written out as sums: the rows of a block through the expert of that block. -/
module

public import Idealize.ShloMosaic.PureOps.Ideal

@[expose] public section

noncomputable section

namespace Cert.MoeSpec

open Idealize.ShloMosaic

/-- The activation: the gate and the value, both cut off, the gate through its sigmoid. -/
def act (g u : EReal) : EReal :=
  (min (Ideal.ofBits .f32 0x40E00000#32) (max (Ideal.ofBits .f32 0xC0E00000#32) u) + 1)
    * (min g (Ideal.ofBits .f32 0x40E00000#32) * Ideal.div 1 (1 + Ideal.exp (-(Ideal.ofBits .f32 0x3FD9DB23#32 * min g (Ideal.ofBits .f32 0x40E00000#32)))))

variable (x : Fin 139264 → Fin 1024 → EReal) (e : Fin 544 → Fin 32) (w1 : Fin 32 → Fin 1024 → Fin 2048 → EReal) (b1 : Fin 32 → Fin 2048 → EReal)
  (w2 : Fin 32 → Fin 1024 → Fin 1024 → EReal) (b2 : Fin 32 → Fin 1024 → EReal)

/-- Row `y` of block `n` through the first weights. -/
def pre (n : Fin 544) (y : Fin 256) (f : Fin 2048) : EReal :=
  (∑ k : Fin 1024, x ⟨256 * n.val + y.val, by omega⟩ k * w1 (e n) k f) + b1 (e n) f

/-- Row `y` of block `n` through the whole layer. -/
def out (n : Fin 544) (y : Fin 256) (l : Fin 1024) : EReal :=
  (∑ f : Fin 1024, act (pre x e w1 b1 n y ⟨f.val, by omega⟩) (pre x e w1 b1 n y ⟨1024 + f.val, by omega⟩) * w2 (e n) f l) + b2 (e n) l

end Cert.MoeSpec
-- ==== Proof.MoeFfn.lean ====
/- The experts' result array, one entry at a time. -/
module

public import proofs.«01_k».proof.Proof.MoeAcc
public import proofs.«01_k».proof.Proof.MoeSpec
public import Idealize.ShloMosaic.Lib.Pointwise

@[expose] public section

set_option maxRecDepth 16384

noncomputable section

namespace Cert.Kernel2Ideal.Moe

open Cert.Kernel2Ideal Cert.Kernel2Ideal.Gen Idealize.ShloMosaic Idealize.ShloMosaic.TcCoe Idealize.SL.Sem Idealize.ShloMosaic.Pointwise

variable (x0 : Vec Ideal S256x1024 .f32) (w1 : Vec Ideal S1024x2048 .bf16) (x2 : Vec Ideal S1x1x2048 .f32) (w2 : Vec Ideal S1024x1024 .bf16) (x4 : Vec Ideal S1x1x1024 .f32)
  (a1 : Vec Ideal S1x1024x2048 .f32) (a3 : Vec Ideal S1x1024x1024 .f32)

theorem pay2_at (k : Fin 1024) (f : Fin 2048) : k0_pay2 a1 (ix2 k f) = a1 (ix3 0 k f) := by
  unfold k0_pay2
  pointwise

theorem pay3_at (k : Fin 1024) (f : Fin 1024) : k0_pay3 a3 (ix2 k f) = a3 (ix3 0 k f) := by
  unfold k0_pay3
  pointwise

theorem pay6_at (y : Fin 256) (f : Fin 2048) : k0_pay6 x0 w1 x2 (ix2 y f) = (∑ k : Fin 1024, x0 (ix2 y k) * w1 (ix2 k f)) + x2 (ix3 0 0 f) := by
  unfold k0_pay6
  pointwise

theorem pay7_at (y : Fin 256) (f : Fin 1024) : k0_pay7 x0 w1 x2 (ix2 y f) = min (k0_pay6 x0 w1 x2 (ix2 y ⟨f.val, by omega⟩)) (Ideal.ofBits .f32 0x40E00000#32) := by
  unfold k0_pay7
  pointwise

theorem pay8_at (y : Fin 256) (f : Fin 1024) : k0_pay8 x0 w1 x2 (ix2 y f)
    = min (Ideal.ofBits .f32 0x40E00000#32) (max (Ideal.ofBits .f32 0xC0E00000#32) (k0_pay6 x0 w1 x2 (ix2 y ⟨1024 + f.val, by omega⟩))) + 1 := by
  unfold k0_pay8
  pointwise

theorem pay9_at (y : Fin 256) (f : Fin 1024) : k0_pay9 x0 w1 x2 (ix2 y f) = Ideal.exp (0 - Ideal.ofBits .f32 0x3FD9DB23#32 * k0_pay7 x0 w1 x2 (ix2 y f)) := by
  unfold k0_pay9
  pointwise

theorem pay1_at (u v w : FVec Ideal S256x1024 .f32) (y : Fin 256) (l : Fin 1024) : k0_pay1 u v w w2 x4 (ix2 y l)
    = (∑ f : Fin 1024, v (ix2 y f) * (u (ix2 y f) * Ideal.div 1 (1 + w (ix2 y f))) * w2 (ix2 f l)) + x4 (ix3 0 0 l) := by
  unfold k0_pay1
  pointwise

/-- A block's rows through the expert, entry by entry. -/
theorem ffn_at (y : Fin 256) (l : Fin 1024) : ffn x0 w1 x2 w2 x4 (ix2 y l)
    = (∑ f : Fin 1024, MoeSpec.act (k0_pay6 x0 w1 x2 (ix2 y ⟨f.val, by omega⟩)) (k0_pay6 x0 w1 x2 (ix2 y ⟨1024 + f.val, by omega⟩)) * w2 (ix2 f l)) + x4 (ix3 0 0 l) := by
  unfold ffn
  rw [pay1_at]
  congr 1
  refine Finset.sum_congr rfl fun f _ => ?_
  rw [pay9_at, pay7_at, pay8_at, zero_sub]
  rfl

/-- A block's rows through the expert are the layer's sums. -/
theorem ffn_spec (x : Fin 139264 → Fin 1024 → EReal) (e : Fin 544 → Fin 32) (v1 : Fin 32 → Fin 1024 → Fin 2048 → EReal) (b1 : Fin 32 → Fin 2048 → EReal)
    (v2 : Fin 32 → Fin 1024 → Fin 1024 → EReal) (b2 : Fin 32 → Fin 1024 → EReal) (n : Fin 544)
    (h0 : ∀ (y : Fin 256) (k : Fin 1024), x0 (ix2 y k) = x ⟨256 * n.val + y.val, by omega⟩ k) (h1 : ∀ (k : Fin 1024) (f : Fin 2048), a1 (ix3 0 k f) = v1 (e n) k f)
    (h2 : ∀ f : Fin 2048, x2 (ix3 0 0 f) = b1 (e n) f) (h3 : ∀ k f : Fin 1024, a3 (ix3 0 k f) = v2 (e n) k f) (h4 : ∀ f : Fin 1024, x4 (ix3 0 0 f) = b2 (e n) f)
    (y : Fin 256) (l : Fin 1024) : ffn x0 (k0_pay2 a1) x2 (k0_pay3 a3) x4 (ix2 y l) = MoeSpec.out x e v1 b1 v2 b2 n y l := by
  have e6 : ∀ f : Fin 2048, k0_pay6 x0 (k0_pay2 a1) x2 (ix2 y f) = MoeSpec.pre x e v1 b1 n y f := fun f => by
    rw [pay6_at, h2]
    unfold MoeSpec.pre
    congr 1
    refine Finset.sum_congr rfl fun k _ => ?_
    rw [pay2_at, h0, h1]
  rw [ffn_at, h4]
  unfold MoeSpec.out
  congr 1
  refine Finset.sum_congr rfl fun f _ => ?_
  rw [e6, e6, pay3_at, h3]

variable (m : (ℓ : Loc nD τ sig) → Buf (Elt Ideal) ℓ) (hO : Ok m) (c : Dev nD) (hb : ∀ n, (be m n).toNat < 32)

/-- The arguments, by coordinates. -/
def xa (r : Fin 139264) (k : Fin 1024) : EReal := (m ((c : Thread nD τ).loc main_arg1) : FVec Ideal S139264x1024 .f32) (ix2 r k)
def w1a (e : Fin 32) (k : Fin 1024) (f : Fin 2048) : EReal := (m ((c : Thread nD τ).loc main_arg2) : FVec Ideal S32x1024x2048 .f32) (ix3 e k f)
def b1a (e : Fin 32) (f : Fin 2048) : EReal := (m ((c : Thread nD τ).loc main_arg3) : FVec Ideal S32x2048 .f32) (ix2 e f)
def w2a (e : Fin 32) (k : Fin 1024) (f : Fin 1024) : EReal := (m ((c : Thread nD τ).loc main_arg4) : FVec Ideal S32x1024x1024 .f32) (ix3 e k f)
def b2a (e : Fin 32) (f : Fin 1024) : EReal := (m ((c : Thread nD τ).loc main_arg5) : FVec Ideal S32x1024 .f32) (ix2 e f)

/-- The expert of each block. -/
def ea (n : Fin 544) : Fin 32 := ⟨(be m n).toNat, hb n⟩

/-- The result as the layer's sums. -/
def spec (n : Fin 544) (y : Fin 256) (l : Fin 1024) : EReal := MoeSpec.out (xa m c) (ea m hb) (w1a m c) (b1a m c) (w2a m c) (b2a m c) n y l

/-- A point's number. -/
def pn (t : Fin grid0.N) : Fin 544 := t

theorem bi_eq (t : Fin grid0.N) : bi m hb t = ea m hb (pn t) := by
  have e : (grid0.coords t 0 : Fin 544) = pn t := Fin.ext (coord_val t)
  exact congrArg (ea m hb) e

include hb in
/-- What a point leaves in its block of the result. -/
theorem block_at (t : Fin grid0.N) (y : Fin 256) (l : Fin 1024) : (outsAt0 m hO c t.val t.isLt).1 (ix2 y l) = spec m c hb (pn t) y l := by
  rw [outs_eq m hO c hb t.val t rfl]
  refine ffn_spec _ _ _ _ _ _ _ _ _ _ _ (pn t) (fun y k => x_block m hO c t y k) (fun k f => (w1_block m hO c hb t (ix3 0 k f)).trans ?_) (fun f => (b1_block m hO c hb t (ix3 0 0 f)).trans ?_)
    (fun k f => (w2_block m hO c hb t (ix3 0 k f)).trans ?_) (fun f => (b2_block m hO c hb t (ix3 0 0 f)).trans ?_) y l
  all_goals rw [bi_eq]; rfl

/-- The whole result. -/
def G : S139264x1024.Idx → EReal := fun i =>
  spec m c hb ⟨(i 0).val / 256, by have := (i 0).isLt; change (i 0).val < 139264 at this; omega⟩ ⟨(i 0).val % 256, Nat.mod_lt _ (by norm_num)⟩ (i 1)

theorem G_at (i : S139264x1024.Idx) (n : Fin 544) (y : Fin 256) (l : Fin 1024) (h0 : (i 0).val = 256 * n.val + y.val) (h1 : (i 1).val = l.val) :
    spec m c hb n y l = G m c hb i := by
  unfold G
  congr 1
  · exact Fin.ext (by show n.val = (i 0).val / 256; omega)
  · exact Fin.ext (by show y.val = (i 0).val % 256; omega)
  · exact Fin.ext h1.symm

/-- A block's place in the result. -/
def emb5 (t : Fin grid0.N) (y : S256x1024.Idx) : S139264x1024.Idx := (((cfgM m hO).win 5).rect t).emb y

theorem emb5_val (t : Fin grid0.N) (y : S256x1024.Idx) (a : Fin 2) : (emb5 m hO t y a).val = cc0_transform_5 (grid0.coords t) a * S256x1024.size a + (y a).val :=
  ((cfgM m hO).win 5).rect_emb_val t y a

include hb in
theorem out_block (t : Fin grid0.N) (y : S256x1024.Idx) : (outsAt0 m hO c t.val t.isLt).1 y = G m c hb (emb5 m hO t y) := by
  refine (congrArg (outsAt0 m hO c t.val t.isLt).1 (eq_ix2 y)).trans ((block_at m hO c hb t (y 0) (y 1)).trans (G_at m c hb _ _ _ _ ?_ ?_))
  · refine (emb5_val m hO t y 0).trans ?_
    show cc0_transform_5 (grid0.coords t) 0 * 256 + (y 0).val = 256 * t.val + (y 0).val
    rw [(idx5 _).1, coord_val]; ring
  · refine (emb5_val m hO t y 1).trans ?_
    show cc0_transform_5 (grid0.coords t) 1 * 1024 + (y 1).val = (y 1).val
    rw [(idx5 _).2]; ring

theorem flushed_eq (t : Fin grid0.N) : (dats m hO 0 c).flushed 5 t = (((cfgM m hO).win 5).blk t).view.read (Elt Ideal) (G m c hb) := by
  have e : (dats m hO 0 c).flushed 5 t = ((cfgM m hO).win 5).cut (grid0.coords t) (outsAt0 m hO c t.val t.isLt).1 := by
    show ((cfgM m hO).win 5).cut (grid0.coords t) ((dats m hO 0 c).after 5 t) = _
    rw [after0_5]
  rw [e]
  exact funext fun y => out_block m hO c hb t y

theorem final : (dats m hO 0 c).arrAt 5 (cfgM m hO).N = G m c hb :=
  (dats m hO 0 c).arrAt_eq_of_cover 5 (G m c hb) (fun t _ => flushed_eq m hO c hb t) fun (i : S139264x1024.Idx) => by
    have h0 : (i 0 : ℕ) < 139264 := (i 0).isLt
    have h1 : (i 1 : ℕ) < 1024 := (i 1).isLt
    let t : Fin grid0.N := (⟨(i 0 : ℕ) / 256, by show _ < 544; omega⟩ : Fin 544)
    refine ⟨t, flush0_5 _ t, ?_⟩
    show i ∈ ((View.whole main_v2).slice (((cfgM m hO).win 5).rect t)).set
    refine (Finset.ext_iff.mp (View.set_slice_whole main_v2 (((cfgM m hO).win 5).rect t)) i).mpr ((Rect.mem_set_unit ..).mpr ?_)
    intro a
    match a with
    | ⟨0, _⟩ =>
      show cc0_transform_5 (grid0.coords t) 0 * 256 ≤ (i 0 : ℕ) ∧ (i 0 : ℕ) < cc0_transform_5 (grid0.coords t) 0 * 256 + 256
      rw [(idx5 _).1, coord_val]
      show (i 0 : ℕ) / 256 * 256 ≤ (i 0 : ℕ) ∧ (i 0 : ℕ) < (i 0 : ℕ) / 256 * 256 + 256
      omega
    | ⟨1, _⟩ =>
      show cc0_transform_5 (grid0.coords t) 1 * 1024 ≤ (i 1 : ℕ) ∧ (i 1 : ℕ) < cc0_transform_5 (grid0.coords t) 1 * 1024 + 1024
      rw [(idx5 _).2]
      omega

end Cert.Kernel2Ideal.Moe
-- ==== Proof.MoeRef.lean ====
/- The reference's result for the experts, one entry at a time. -/
module

public import proofs.«01_k».proof.Proof.MoeSpec
public import proofs.«01_k».proof.Proof.Gen.Reference2Ideal.Run
public import Idealize.ShloMosaic.Lib.Pointwise
public import Idealize.ShloMosaic.Lib.WordCmp
public import Idealize.ShloMosaic.Lib.StableHlo.Predicate
public import Idealize.ShloMosaic.Lib.Routing.Ops

@[expose] public section

set_option maxRecDepth 16384

noncomputable section

namespace Cert.Reference2Ideal.Moe

open Cert.Reference2Ideal Cert.Reference2Ideal.Gen Cert.Reference2Ideal.Value Idealize.ShloMosaic Idealize.ShloMosaic.TcCoe Idealize.SL.Sem Idealize.ShloMosaic.Pointwise

/-! ## The weights of the blocks' experts -/

/-- The experts' numbers as the gathers read them. -/
def tab (b : IVec S544 32) : IVec S544x1 32 :=
  broadcastInDim S544x1 ![0] bcast_S544_S544x1_0 (select (cmpi .slt b (broadcastInDim S544 ![] bcast_S_S544 (constantI S_ 32 0#32))) (addi b (broadcastInDim S544 ![] bcast_S_S544 (constantI S_ 32 32#32))) b)

theorem tab_at (b : IVec S544 32) (n : Fin 544) (h : (b (ix1 n)).toNat < 32) : tab b (ix2 n 0) = b (ix1 n) := by
  unfold tab
  pointwise
  have e : IntOp.cmpi .slt (b (ix1 n)) 0#32 = 0#1 := by
    have hn : (b (ix1 n)).slt 0#32 = false := by
      rw [BitVec.slt, BitVec.toInt_eq_toNat_of_lt (by omega)]
      simp
    show BitVec.ofBool ((b (ix1 n)).slt 0#32) = 0#1
    rw [hn]
    rfl
  rw [e]
  rfl

theorem w1_at (x : FVec Ideal S32x1024x2048 .f32) (idx : IVec S544x1 32) (n : Fin 544) (e : Fin 32) (k : Fin 1024) (f : Fin 2048) (h : idx (ix2 n 0) = BitVec.ofNat 32 e.val) :
    Host.gather gather_S32x1024x2048_S544x1_S544x1024x2048_12_0_n_n_0_1_110242048 x idx (ix3 n k f) = x (ix3 e k f) := by
  unfold Host.gather
  refine congrArg x (funext fun a => Fin.ext ?_)
  match a with
  | ⟨0, _⟩ =>
    show gather_S32x1024x2048_S544x1_S544x1024x2048_12_0_n_n_0_1_110242048.start (ix3 n k f) idx 0 + 0 + 0 = e.val
    unfold GatherDims.start
    rw [dif_pos (show (0 : Fin 3) ∈ gather_S32x1024x2048_S544x1_S544x1024x2048_12_0_n_n_0_1_110242048.startIndexMap from List.mem_singleton.mpr rfl)]
    rw [show gather_S32x1024x2048_S544x1_S544x1024x2048_12_0_n_n_0_1_110242048.siIdx (ix3 n k f) _ = ix2 n 0 from by
      funext b
      match b with
      | ⟨0, _⟩ => rfl
      | ⟨1, _⟩ => rfl]
    have he := e.isLt
    rw [h, StableHlo.Predicate.toInt_ofNat_small _ (by omega)]
    show min ((e.val : Int)).toNat (32 - 1) + 0 + 0 = e.val
    omega
  | ⟨1, _⟩ =>
    show 0 + 0 + k.val = k.val
    omega
  | ⟨2, _⟩ =>
    show 0 + 0 + f.val = f.val
    omega

theorem w2_at (x : FVec Ideal S32x1024x1024 .f32) (idx : IVec S544x1 32) (n : Fin 544) (e : Fin 32) (k : Fin 1024) (f : Fin 1024) (h : idx (ix2 n 0) = BitVec.ofNat 32 e.val) :
    Host.gather gather_S32x1024x1024_S544x1_S544x1024x1024_12_0_n_n_0_1_110241024 x idx (ix3 n k f) = x (ix3 e k f) := by
  unfold Host.gather
  refine congrArg x (funext fun a => Fin.ext ?_)
  match a with
  | ⟨0, _⟩ =>
    show gather_S32x1024x1024_S544x1_S544x1024x1024_12_0_n_n_0_1_110241024.start (ix3 n k f) idx 0 + 0 + 0 = e.val
    unfold GatherDims.start
    rw [dif_pos (show (0 : Fin 3) ∈ gather_S32x1024x1024_S544x1_S544x1024x1024_12_0_n_n_0_1_110241024.startIndexMap from List.mem_singleton.mpr rfl)]
    rw [show gather_S32x1024x1024_S544x1_S544x1024x1024_12_0_n_n_0_1_110241024.siIdx (ix3 n k f) _ = ix2 n 0 from by
      funext b
      match b with
      | ⟨0, _⟩ => rfl
      | ⟨1, _⟩ => rfl]
    have he := e.isLt
    rw [h, StableHlo.Predicate.toInt_ofNat_small _ (by omega)]
    show min ((e.val : Int)).toNat (32 - 1) + 0 + 0 = e.val
    omega
  | ⟨1, _⟩ =>
    show 0 + 0 + k.val = k.val
    omega
  | ⟨2, _⟩ =>
    show 0 + 0 + f.val = f.val
    omega

theorem b1_at (x : FVec Ideal S32x2048 .f32) (idx : IVec S544x1 32) (n : Fin 544) (e : Fin 32) (f : Fin 2048) (h : idx (ix2 n 0) = BitVec.ofNat 32 e.val) :
    Host.gather gather_S32x2048_S544x1_S544x2048_1_0_n_n_0_1_12048 x idx (ix2 n f) = x (ix2 e f) :=
  Routing.gather_row _ rfl rfl rfl rfl rfl x idx n f e h (by norm_num)

theorem b2_at (x : FVec Ideal S32x1024 .f32) (idx : IVec S544x1 32) (n : Fin 544) (e : Fin 32) (f : Fin 1024) (h : idx (ix2 n 0) = BitVec.ofNat 32 e.val) :
    Host.gather gather_S32x1024_S544x1_S544x1024_1_0_n_n_0_1_11024 x idx (ix2 n f) = x (ix2 e f) :=
  Routing.gather_row _ rfl rfl rfl rfl rfl x idx n f e h (by norm_num)

/-! ## The layer's steps -/

/-- The first weights and bias. -/
def lin (x : FVec Ideal S139264x1024 .f32) (W : FVec Ideal S544x1024x2048 .f32) (B : FVec Ideal S544x2048 .f32) : FVec Ideal S544x256x2048 .f32 :=
  addf (Host.dotGeneral dot_S544x256x1024_S544x1024x2048_S544x256x2048_2_1_1_2_0_0 none (shapeCast _ x shapeCasts_S139264x1024_S544x256x1024) W)
    (broadcastInDim S544x256x2048 ![0, 1, 2] bcast_S544x1x2048_S544x256x2048_0_1_2 (broadcastInDim S544x1x2048 ![0, 2] bcast_S544x2048_S544x1x2048_0_2 B))

theorem lin_at (x W B) (n : Fin 544) (y : Fin 256) (f : Fin 2048) :
    lin x W B (ix3 n y f) = (∑ k : Fin 1024, x (ix2 ⟨256 * n.val + y.val, by omega⟩ k) * W (ix3 n k f)) + B (ix2 n f) := by
  unfold lin
  pointwise
  have e : (⟨n.val * 256 + y.val, by omega⟩ : Fin 139264) = ⟨256 * n.val + y.val, by omega⟩ := Fin.ext (by show n.val * 256 + y.val = 256 * n.val + y.val; ring)
  exact congrArg (· + B (ix2 n f)) (Finset.sum_congr rfl fun k _ => congrArg (fun r => x (ix2 r k) * W (ix3 n k f)) e)

/-- The gate, cut off. -/
def gate (H : FVec Ideal S544x256x2048 .f32) : FVec Ideal S544x256x1024 .f32 :=
  minimumf (extractStridedSlice S544x256x1024 ![0, 0, 0] H slices_S544x256x2048_S544x256x1024_0_0_0) (broadcastInDim S544x256x1024 ![] bcast_S_S544x256x1024 (constant S_ .f32 0x40E00000#32))

theorem gate_at (H) (n : Fin 544) (y : Fin 256) (f : Fin 1024) : gate H (ix3 n y f) = min (H (ix3 n y ⟨f.val, by omega⟩)) (Ideal.ofBits .f32 0x40E00000#32) := by
  unfold gate
  pointwise

/-- The activations. -/
def acts (H : FVec Ideal S544x256x2048 .f32) : FVec Ideal S544x256x1024 .f32 :=
  mulf (addf (minimumf (broadcastInDim S544x256x1024 ![] bcast_S_S544x256x1024 (id (constant S_ .f32 0x40E00000#32))) (maximumf (broadcastInDim S544x256x1024 ![] bcast_S_S544x256x1024 (id (constant S_ .f32 0xC0E00000#32))) (extractStridedSlice S544x256x1024 ![0, 0, 1024] H slices_S544x256x2048_S544x256x1024_0_0_1024))) (broadcastInDim S544x256x1024 ![] bcast_S_S544x256x1024 (constant S_ .f32 0x3F800000#32)))
    (mulf (gate H) (Host.divf (broadcastInDim S544x256x1024 ![] bcast_S_S544x256x1024 (constant S_ .f32 0x3F800000#32)) (addf (broadcastInDim S544x256x1024 ![] bcast_S_S544x256x1024 (constant S_ .f32 0x3F800000#32)) (Host.exp (Host.negf (mulf (broadcastInDim S544x256x1024 ![] bcast_S_S544x256x1024 (constant S_ .f32 0x3FD9DB23#32)) (gate H)))))))

theorem acts_at (H) (n : Fin 544) (y : Fin 256) (f : Fin 1024) : acts H (ix3 n y f) = MoeSpec.act (H (ix3 n y ⟨f.val, by omega⟩)) (H (ix3 n y ⟨1024 + f.val, by omega⟩)) := by
  unfold acts MoeSpec.act
  pointwise
  rw [gate_at]
  rfl

/-- The second weights and bias. -/
def lin2 (a : FVec Ideal S544x256x1024 .f32) (W : FVec Ideal S544x1024x1024 .f32) (B : FVec Ideal S544x1024 .f32) : FVec Ideal S139264x1024 .f32 :=
  shapeCast _ (addf (Host.dotGeneral dot_S544x256x1024_S544x1024x1024_S544x256x1024_2_1_1_2_0_0 none a W)
    (broadcastInDim S544x256x1024 ![0, 1, 2] bcast_S544x1x1024_S544x256x1024_0_1_2 (broadcastInDim S544x1x1024 ![0, 2] bcast_S544x1024_S544x1x1024_0_2 B))) shapeCasts_S544x256x1024_S139264x1024

theorem lin2_at (a W B) (n : Fin 544) (y : Fin 256) (l : Fin 1024) :
    lin2 a W B (ix2 ⟨256 * n.val + y.val, by omega⟩ l) = (∑ f : Fin 1024, a (ix3 n y f) * W (ix3 n f l)) + B (ix2 n l) := by
  unfold lin2
  pointwise

variable (m : (ℓ : Loc nD τ sig) → Buf (Elt Ideal) ℓ) (c : Dev nD)

/-- The arguments' result. -/
def result (b : IVec S544 32) (x : FVec Ideal S139264x1024 .f32) (w1 : FVec Ideal S32x1024x2048 .f32) (b1 : FVec Ideal S32x2048 .f32) (w2 : FVec Ideal S32x1024x1024 .f32) (b2 : FVec Ideal S32x1024 .f32) : FVec Ideal S139264x1024 .f32 :=
  lin2 (acts (lin x (Host.gather gather_S32x1024x2048_S544x1_S544x1024x2048_12_0_n_n_0_1_110242048 w1 (tab b)) (Host.gather gather_S32x2048_S544x1_S544x2048_1_0_n_n_0_1_12048 b1 (tab b))))
    (Host.gather gather_S32x1024x1024_S544x1_S544x1024x1024_12_0_n_n_0_1_110241024 w2 (tab b)) (Host.gather gather_S32x1024_S544x1_S544x1024_1_0_n_n_0_1_11024 b2 (tab b))

theorem res_eq : res_main_v54 m c = result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  unfold res_main_v54 result lin2 acts gate lin tab
  rfl

theorem result_at (b x w1 b1 w2 b2) (hb : ∀ n : Fin 544, (b (ix1 n)).toNat < 32) (n : Fin 544) (y : Fin 256) (l : Fin 1024) :
    result b x w1 b1 w2 b2 (ix2 ⟨256 * n.val + y.val, by omega⟩ l)
      = MoeSpec.out (fun r k => x (ix2 r k)) (fun n => ⟨(b (ix1 n)).toNat, hb n⟩) (fun e k f => w1 (ix3 e k f)) (fun e f => b1 (ix2 e f)) (fun e k f => w2 (ix3 e k f)) (fun e f => b2 (ix2 e f)) n y l := by
  have ht : tab b (ix2 n 0) = BitVec.ofNat 32 (⟨(b (ix1 n)).toNat, hb n⟩ : Fin 32).val := (tab_at b n (hb n)).trans (by simp : BitVec.ofNat 32 (b (ix1 n)).toNat = b (ix1 n)).symm
  unfold result MoeSpec.out
  rw [lin2_at, b2_at _ _ _ _ _ ht]
  congr 1
  refine Finset.sum_congr rfl fun f _ => ?_
  rw [acts_at, w2_at _ _ _ _ _ _ ht]
  congr 1
  have e : ∀ f : Fin 2048, lin x (Host.gather gather_S32x1024x2048_S544x1_S544x1024x2048_12_0_n_n_0_1_110242048 w1 (tab b)) (Host.gather gather_S32x2048_S544x1_S544x2048_1_0_n_n_0_1_12048 b1 (tab b)) (ix3 n y f)
      = MoeSpec.pre (fun r k => x (ix2 r k)) (fun n => ⟨(b (ix1 n)).toNat, hb n⟩) (fun e k f => w1 (ix3 e k f)) (fun e f => b1 (ix2 e f)) n y f := fun f => by
    unfold MoeSpec.pre
    rw [lin_at, b1_at _ _ _ _ _ ht]
    congr 1
    refine Finset.sum_congr rfl fun k _ => ?_
    rw [w1_at _ _ _ _ _ _ ht]
  rw [e, e]

end Cert.Reference2Ideal.Moe
-- ==== Proof.MoeClaim.lean ====
/- The claims about the experts: the runs, and the equation with the reference. -/
module

public import proofs.«01_k».proof.Proof.MoeFfn
public import proofs.«01_k».proof.Proof.MoeRef
public import proofs.«01_k».proof.Proof.MoePre
public import proofs.«01_k».proof.Proof.Gen.Kernel2.Frame
public import proofs.«01_k».proof.Defs

@[expose] public section

set_option maxRecDepth 16384

noncomputable section

namespace Cert.Kernel2Ideal.Moe

open Cert.Kernel2Ideal Cert.Kernel2Ideal.Gen Idealize.ShloMosaic Idealize.ShloMosaic.TcCoe Idealize.SL.Sem Idealize.ShloMosaic.Pointwise

variable (m : (ℓ : Loc nD τ sig) → Buf (Elt Ideal) ℓ) (ρ : Dev nD → PrngReg)

/-- Every run ends with the layer's sums in the result and the arguments as they were. -/
theorem run_result (hO : Ok m) (hb : ∀ n, (be m n).toNat < 32) : θ_run defs (onTc (τ := τ) (main (F := Ideal))) ⟨m, fun _ => 0, ρ⟩ (fun r => ∀ c : Dev nD,
      r.2.mem ((c.tc : Thread nD τ).loc main_v2) = G m c hb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (final m hO c hb),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      ((h c).2 main_arg3 (by decide : main_arg3 ∈ Pipeline.restRefs sig spec0)).trans (V_main_arg3 m c),
      ((h c).1 3).trans (((dats m hO 0 c).arrAt_in 3 rfl _).trans ((A_eq m hO c 3).trans (V_main_arg4 m c))),
      ((h c).2 main_arg5 (by decide : main_arg5 ∈ Pipeline.restRefs sig spec0)).trans (V_main_arg5 m c)⟩) (run_main m ρ hO)

theorem experts_eq (n : Fin 544) : ((m ((0 : Dev nD).tc.loc main_arg0) : IVec S544 32) (ix1 n)).toNat = (be m n).toNat :=
  (congrArg (fun w : BitVec 32 => w.toNat) (congrFun (tbl_eq m) (ix1 n))).symm

/-- The experts' numbers, from the argument. -/
theorem be_lt (h : Cert.Pre_Kernel2Ideal m) (n : Fin 544) : (be m n).toNat < 32 :=
  (congrArg BitVec.toNat (congrFun (tbl_eq m) (ix1 n))).trans_lt (Cert.MoePre.expert_lt _ _ _ _ _ _ (h 0) (ix1 n))

end Cert.Kernel2Ideal.Moe

namespace Cert.MoeClaim

open Idealize.ShloMosaic Idealize.ShloMosaic.TcCoe Idealize.SL.Sem Idealize.ShloMosaic.Pointwise Cert.Kernel2Ideal.Moe

/-- Two programs' memories that agree on the arguments give the same result. -/
theorem results_agree (m : (ℓ : Loc Cert.Kernel2Ideal.nD Cert.Kernel2Ideal.τ Cert.Kernel2Ideal.sig) → Buf (Elt Ideal) ℓ) (h : Cert.Pre_Kernel2Ideal m) (c : Dev Cert.Kernel2Ideal.nD) :
    Cert.Reference2Ideal.Moe.result (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      = G m c (be_lt m h) := by
  obtain rfl : c = 0 := Subsingleton.elim (α := Fin 1) _ _
  funext (i : Cert.Kernel2Ideal.S139264x1024.Idx)
  have hi : (i 0).val < 139264 := (i 0).isLt
  have hb : ∀ n : Fin 544, ((m ((0 : Dev Cert.Kernel2Ideal.nD).tc.loc Cert.Kernel2Ideal.main_arg0) : IVec Cert.Kernel2Ideal.S544 32) (ix1 n)).toNat < 32 :=
    fun n => Cert.MoePre.expert_lt _ _ _ _ _ _ (h 0) (ix1 n)
  have ei : i = ix2 (⟨256 * ((i 0).val / 256) + (i 0).val % 256, by omega⟩ : Fin 139264) (i 1) :=
    (eq_ix2 i).trans (congrArg (fun r : Fin 139264 => ix2 r (i 1)) (Fin.ext (Nat.div_add_mod _ _).symm))
  refine (congrArg (Cert.Reference2Ideal.Moe.result _ _ _ _ _ _) ei).trans
    ((Cert.Reference2Ideal.Moe.result_at _ _ _ _ _ _ hb ⟨(i 0).val / 256, by omega⟩ ⟨(i 0).val % 256, Nat.mod_lt _ (by norm_num)⟩ (i 1)).trans ?_)
  unfold G spec
  exact congrArg (fun e => MoeSpec.out (xa m 0) e (w1a m 0) (b1a m 0) (w2a m 0) (b2a m 0) ⟨(i 0).val / 256, by omega⟩ ⟨(i 0).val % 256, Nat.mod_lt _ (by norm_num)⟩ (i 1))
    (funext fun n => Fin.ext (experts_eq m n))

theorem algebraic : Cert.algebraic_Kernel2Ideal_Reference2Ideal := fun m g m' g' hp h =>
  ⟨fun c => G m c (be_lt m hp),
    run_result m g (Cert.MoePre.ok_ideal m hp) (be_lt m hp),
    (θ_run _ _ _).mono (fun _ hr c => ⟨((hr c).1).trans ((Cert.Reference2Ideal.Moe.res_eq m' c).trans (by
        rw [(h c).1, (h c).2.1, (h c).2.2.1, (h c).2.2.2.1, (h c).2.2.2.2.1, (h c).2.2.2.2.2]
        exact results_agree m hp c)), (hr c).2⟩) (Cert.Reference2Ideal.Value.run m' g')⟩

theorem frame_kernel : Cert.quiescent_Kernel2 := fun m g h => Cert.Kernel2.Gen.frame m g (Cert.MoePre.ok_kernel m h)
theorem frame_ideal : Cert.quiescent_Kernel2Ideal := fun m g h => Cert.Kernel2Ideal.Gen.frame m g (Cert.MoePre.ok_ideal m h)
theorem frame_reference : Cert.quiescent_Reference2Ideal := fun m g _ =>
  (θ_run Cert.Reference2Ideal.defs _ _).mono (fun r hr => ⟨fun c => (hr c).2, sem_eq_zero_of_no_sems (by decide) r.2⟩)
    (Cert.Reference2Ideal.Value.run m g)
theorem frame_reference_pre : Cert.quiescent_Reference2Ideal_pre_experts_in_range := fun m g _ => frame_reference m g trivial

end Cert.MoeClaim
-- ==== Proof.InSpec.lean ====
/- The conditioning and the input projections, spelled out: one token's row at a time. -/
module

public import Idealize.ShloMosaic.PureOps.Ideal
public import proofs.«01_k».proof.Proof.SbMath

@[expose] public section

noncomputable section

namespace Cert.InSpec

open Idealize.ShloMosaic Cert.SbMath

/-- The logistic function. -/
def sg (x : EReal) : EReal := Ideal.div 1 (1 + Ideal.exp (-x))

/-- One entry of the conditioning: the condition through silu, times a column of weights, plus the bias. -/
def ada (c : Fin 1024 → EReal) (w : Fin 1024 → EReal) (b : EReal) : EReal := (∑ k, c k * sg (c k) * w k) + b

/-- A row normalised, scaled and shifted. -/
def u (x g sc sh : Fin 1024 → EReal) (k : Fin 1024) : EReal :=
  x k * Ideal.rsqrt (Ideal.div (∑ j, x j * x j) (Ideal.ofBits .f32 0x44800000#32) + Ideal.ofBits .f32 0x358637BD#32) * g k * (1 + sc k) + sh k

/-- A row times a column of weights. -/
def lin (u w : Fin 1024 → EReal) : EReal := ∑ k, u k * w k

/-- The decay's logarithm, before its division by 16. -/
def decay (lr : Fin 16 → EReal) (w : Fin 16 → EReal) (b : EReal) : EReal := -(sp (-((∑ l, lr l * w l) + b)))

/-- The layer's arguments, by coordinates: `nb` sequences of `nt` tokens. -/
structure In (nb nt : ℕ) where
  x : Fin nb → Fin nt → Fin 1024 → EReal
  c : Fin nb → Fin 1024 → EReal
  wa : Fin 1024 → Fin 6144 → EReal
  ba : Fin 6144 → EReal
  g : Fin 1024 → EReal
  w : Fin 1024 → Fin 5136 → EReal
  wl : Fin 16 → Fin 256 → EReal
  bl : Fin 256 → EReal

namespace In

variable {nb nt : ℕ} (I : In nb nt)

/-- The conditioning of a sequence. -/
def cond (b : Fin nb) (j : Fin 6144) : EReal := ada (I.c b) (fun k => I.wa k j) (I.ba j)

/-- A token's normalised row: the first 1024 entries of the conditioning shift it and the next scale it. -/
def U (b : Fin nb) (t : Fin nt) (k : Fin 1024) : EReal :=
  u (I.x b t) I.g (fun k => I.cond b ⟨1024 + k.val, by omega⟩) (fun k => I.cond b ⟨k.val, by omega⟩) k

/-- A column of the input projection. -/
def P (b : Fin nb) (t : Fin nt) (j : Fin 5136) : EReal := lin (I.U b t) (fun k => I.w k j)

/-- The decay's logarithm, before its division by 16. -/
def LA (b : Fin nb) (t : Fin nt) (j : Fin 256) : EReal := decay (fun l => I.P b t ⟨1536 + l.val, by omega⟩) (fun l => I.wl l j) (I.bl j)

/-! The results, by token and column. -/

def O10 (b : Fin nb) (t : Fin nt) (j : Fin 256) : EReal := I.P b t ⟨j.val, by omega⟩ * Ideal.ofBits .f32 0x3E000000#32
def O11 (b : Fin nb) (t : Fin nt) (j : Fin 256) : EReal := I.P b t ⟨256 + j.val, by omega⟩
def O12 (b : Fin nb) (t : Fin nt) (j : Fin 256) : EReal := I.LA b t j * Ideal.ofBits .f32 0x3D800000#32
def O13 (b : Fin nb) (t : Fin nt) (j : Fin 512) : EReal := I.P b t ⟨512 + j.val, by omega⟩
def O14 (b : Fin nb) (t : Fin nt) (j : Fin 512) : EReal := I.P b t ⟨1024 + j.val, by omega⟩ * sg (I.P b t ⟨1024 + j.val, by omega⟩)
def O15 (b : Fin nb) (t : Fin nt) (j : Fin 512) : EReal := I.P b t ⟨1552 + j.val, by omega⟩
def O16 (b : Fin nb) (t : Fin nt) (j : Fin 512) : EReal := I.P b t ⟨2064 + j.val, by omega⟩
def O17 (b : Fin nb) (t : Fin nt) (j : Fin 512) : EReal := I.P b t ⟨2576 + j.val, by omega⟩
def O18 (b : Fin nb) (t : Fin nt) (h : Fin 8) (d : Fin 64) : EReal := I.P b t ⟨2064 + (64 * h.val + d.val), by omega⟩
def O19 (b : Fin nb) (t : Fin nt) (h : Fin 8) (d : Fin 64) : EReal := I.P b t ⟨2576 + (64 * h.val + d.val), by omega⟩
def O20 (b : Fin nb) (t : Fin nt) (j : Fin 1024) : EReal := sg (I.P b t ⟨3088 + j.val, by omega⟩)
def O21 (b : Fin nb) (t : Fin nt) (j : Fin 1024) : EReal := sg (I.P b t ⟨4112 + j.val, by omega⟩)

end In

end Cert.InSpec
-- ==== Proof.InBlock.lean ====
/- The values of the projections' kernels, one entry at a time. -/
module

public import proofs.«01_k».proof.Proof.Gen.Kernel3Ideal.Frame
public import proofs.«01_k».proof.Proof.InSpec
public import Idealize.ShloMosaic.Lib.Pipeline.Value
public import Idealize.ShloMosaic.Lib.Pointwise

@[expose] public section

set_option maxRecDepth 16384

noncomputable section

namespace Cert.Kernel3Ideal.Proj

open Cert.Kernel3Ideal Cert.Kernel3Ideal.Gen Cert.InSpec Cert.SbMath Idealize.ShloMosaic Idealize.ShloMosaic.TcCoe Idealize.SL.Sem Idealize.ShloMosaic.Pointwise

/-! ## The conditioning -/

theorem ada_at (x : FVec Ideal S136x1024 .f32) (w : FVec Ideal S1024x1024 .f32) (b : FVec Ideal S1x1024 .f32) (i : Fin 136) (j : Fin 1024) :
    k0_pay1 (F := Ideal) x w b (ix2 i j) = ada (fun k => x (ix2 i k)) (fun k => w (ix2 k j)) (b (ix2 0 j)) := by
  unfold k0_pay1
  pointwise
  simp only [zero_sub]
  rfl

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- A block of the conditioning. -/
theorem out0_at (x : Vec Ideal S136x1024 .f32) (w : Vec Ideal S1024x1024 .f32) (b : Vec Ideal S1x1024 .f32) (i : Fin 136) (j : Fin 1024) :
    out0_3 x w b (ix2 i j) = ada (fun k => x (ix2 i k)) (fun k => w (ix2 k j)) (b (ix2 0 j)) := by
  unfold out0_3
  rw [View.canon_unit_zero (S := S136x1024) (off := ![0, 0]) z2, View.ld_unit_zero z2, View.ld_unit_zero z2, View.ld_unit_zero z2]
  exact ada_at x w b i j

/-! ## The projections of a block's rows -/

theorem u_at (x : FVec Ideal S256x1024 .f32) (g : FVec Ideal S1x1024 .f32) (sc sh : FVec Ideal S1x1x1024 .f32) (i : Fin 256) (j : Fin 1024) :
    k1_pay3 (F := Ideal) x g sc sh (ix2 i j) = u (fun k => x (ix2 i k)) (fun k => g (ix2 0 k)) (fun k => sc (ix3 0 0 k)) (fun k => sh (ix3 0 0 k)) j := by
  unfold k1_pay3
  pointwise
  rfl

theorem gla_at (x : FVec Ideal S256x1024 .f32) (g : FVec Ideal S1x1024 .f32) (sc sh : FVec Ideal S1x1x1024 .f32) (w : FVec Ideal S1024x1536 .bf16) (i : Fin 256) (j : Fin 1536) :
    k1_pay4 (F := Ideal) x g sc sh w (ix2 i j) = lin (fun k => k1_pay3 (F := Ideal) x g sc sh (ix2 i k)) (fun k => w (ix2 k j)) := by
  unfold k1_pay4
  pointwise
  rfl

theorem pay5_at (x : FVec Ideal S256x1024 .f32) (g : FVec Ideal S1x1024 .f32) (sc sh : FVec Ideal S1x1x1024 .f32) (w : FVec Ideal S1024x1536 .bf16) (i : Fin 256) (j : Fin 256) :
    k1_pay5 (F := Ideal) x g sc sh w (ix2 i j) = k1_pay4 (F := Ideal) x g sc sh w (ix2 i ⟨j.val, by omega⟩) * Ideal.ofBits .f32 0x3E000000#32 := by
  unfold k1_pay5
  pointwise

theorem pay6_at (x : FVec Ideal S256x1024 .f32) (g : FVec Ideal S1x1024 .f32) (sc sh : FVec Ideal S1x1x1024 .f32) (w : FVec Ideal S1024x1536 .bf16) (i : Fin 256) (j : Fin 256) :
    k1_pay6 (F := Ideal) x g sc sh w (ix2 i j) = k1_pay4 (F := Ideal) x g sc sh w (ix2 i ⟨256 + j.val, by omega⟩) := by
  unfold k1_pay6
  pointwise

theorem pay7_at (v : FVec Ideal S256x1536 .f32) (i : Fin 256) (j : Fin 512) :
    k1_pay7 (F := Ideal) v (ix2 i j) = v (ix2 i ⟨512 + j.val, by omega⟩) := by
  unfold k1_pay7
  pointwise

theorem pay8_at (v : FVec Ideal S256x1536 .f32) (i : Fin 256) (j : Fin 512) :
    k1_pay8 (F := Ideal) v (ix2 i j) = v (ix2 i ⟨1024 + j.val, by omega⟩) * sg (v (ix2 i ⟨1024 + j.val, by omega⟩)) := by
  unfold k1_pay8
  pointwise
  simp only [zero_sub]
  rfl

theorem pay9_at (v : FVec Ideal S256x1024 .bf16) (wl : FVec Ideal S1024x128 .bf16) (wa : FVec Ideal S128x256 .bf16) (b : FVec Ideal S1x256 .f32) (i : Fin 256) (j : Fin 256) :
    k1_pay9 (F := Ideal) v wl wa b (ix2 i j) = sp (-((∑ l : Fin 128, lin (fun k => v (ix2 i k)) (fun k => wl (ix2 k l)) * wa (ix2 l j)) + b (ix2 0 j))) := by
  unfold k1_pay9
  pointwise
  simp only [zero_sub]
  rfl

theorem pay10_at (v : FVec Ideal S256x256 .f32) (i : Fin 256) (j : Fin 256) :
    k1_pay10 (F := Ideal) v (Scalar.ofBits .f32 0x00000000#32) (ix2 i j) = -(v (ix2 i j)) * Ideal.ofBits .f32 0x3D800000#32 := by
  unfold k1_pay10
  pointwise
  simp only [zero_sub]

theorem sb_at (v : FVec Ideal S256x1024 .bf16) (w : FVec Ideal S1024x1536 .bf16) (i : Fin 256) (j : Fin 1536) :
    k1_pay11 (F := Ideal) v w (ix2 i j) = lin (fun k => v (ix2 i k)) (fun k => w (ix2 k j)) := by
  unfold k1_pay11
  pointwise
  rfl

theorem pay12_at (v : FVec Ideal S256x1024 .bf16) (w : FVec Ideal S1024x1536 .bf16) (i : Fin 256) (j : Fin 512) :
    k1_pay12 (F := Ideal) v w (ix2 i j) = k1_pay11 (F := Ideal) v w (ix2 i ⟨j.val, by omega⟩) := by
  unfold k1_pay12
  pointwise

theorem pay13_at (v : FVec Ideal S256x1024 .bf16) (w : FVec Ideal S1024x1536 .bf16) (i : Fin 256) (j : Fin 512) :
    k1_pay13 (F := Ideal) v w (ix2 i j) = k1_pay11 (F := Ideal) v w (ix2 i ⟨512 + j.val, by omega⟩) := by
  unfold k1_pay13
  pointwise

theorem pay14_at (v : FVec Ideal S256x1024 .bf16) (w : FVec Ideal S1024x1536 .bf16) (i : Fin 256) (j : Fin 512) :
    k1_pay14 (F := Ideal) v w (ix2 i j) = k1_pay11 (F := Ideal) v w (ix2 i ⟨1024 + j.val, by omega⟩) := by
  unfold k1_pay14
  pointwise

theorem pay15_at (v : FVec Ideal S256x1024 .bf16) (w : FVec Ideal S1024x1536 .bf16) (h : Fin 8) (d : Fin 64) (i : Fin 256) :
    k1_pay15 (F := Ideal) v w (ix4 0 h d i) = k1_pay13 (F := Ideal) v w (ix2 i ⟨64 * h.val + d.val, by omega⟩) := by
  unfold k1_pay15
  pointwise
  exact congrArg (fun r => k1_pay13 (F := Ideal) v w (ix2 i r)) (Fin.ext (by show h.val * 64 + d.val = 64 * h.val + d.val; ring))

theorem pay16_at (v : FVec Ideal S256x1024 .bf16) (w : FVec Ideal S1024x1536 .bf16) (h : Fin 8) (d : Fin 64) (i : Fin 256) :
    k1_pay16 (F := Ideal) v w (ix4 0 h d i) = k1_pay14 (F := Ideal) v w (ix2 i ⟨64 * h.val + d.val, by omega⟩) := by
  unfold k1_pay16
  pointwise
  exact congrArg (fun r => k1_pay14 (F := Ideal) v w (ix2 i r)) (Fin.ext (by show h.val * 64 + d.val = 64 * h.val + d.val; ring))

theorem pay17_at (v : FVec Ideal S256x1024 .bf16) (w : FVec Ideal S1024x1536 .bf16) (i : Fin 256) (j : Fin 512) :
    k1_pay17 (F := Ideal) v w (ix2 i j) = k1_pay13 (F := Ideal) v w (ix2 i j) := by
  unfold k1_pay17
  pointwise

theorem pay18_at (v : FVec Ideal S256x1024 .bf16) (w : FVec Ideal S1024x1536 .bf16) (i : Fin 256) (j : Fin 512) :
    k1_pay18 (F := Ideal) v w (ix2 i j) = k1_pay14 (F := Ideal) v w (ix2 i j) := by
  unfold k1_pay18
  pointwise

theorem gates_at (v : FVec Ideal S256x1024 .bf16) (w : FVec Ideal S1024x2048 .bf16) (i : Fin 256) (j : Fin 2048) :
    k1_pay19 (F := Ideal) v w (ix2 i j) = lin (fun k => v (ix2 i k)) (fun k => w (ix2 k j)) := by
  unfold k1_pay19
  pointwise
  rfl

theorem pay1_at (v : FVec Ideal S256x1024 .bf16) (w : FVec Ideal S1024x2048 .bf16) (i : Fin 256) (j : Fin 1024) :
    k1_pay1 (F := Ideal) (k1_pay20 v w) (Scalar.ofBits .f32 0x00000000#32) (ix2 i j) = sg (k1_pay19 (F := Ideal) v w (ix2 i ⟨j.val, by omega⟩)) := by
  unfold k1_pay1 k1_pay20
  pointwise
  simp only [zero_sub]
  rfl

theorem pay2_at (v : FVec Ideal S256x2048 .f32) (i : Fin 256) (j : Fin 1024) :
    k1_pay2 (F := Ideal) v (ix2 i j) = sg (v (ix2 i ⟨1024 + j.val, by omega⟩)) := by
  unfold k1_pay2
  pointwise
  simp only [zero_sub]
  rfl

/-! ## What a point leaves in each block -/

variable (x0 : Vec Ideal S256x1024 .f32) (x1 x2 : Vec Ideal S1x1x1024 .f32) (x3 : Vec Ideal S1x1024 .f32) (x4 : Vec Ideal S1024x1536 .bf16) (x5 : Vec Ideal S1024x128 .bf16)
  (x6 : Vec Ideal S128x256 .bf16) (x7 : Vec Ideal S1x256 .f32) (x8 : Vec Ideal S1024x1536 .bf16) (x9 : Vec Ideal S1024x2048 .bf16)

/-- A row of the block, normalised, scaled and shifted. -/
def ub (i : Fin 256) (k : Fin 1024) : EReal := u (fun k => x0 (ix2 i k)) (fun k => x3 (ix2 0 k)) (fun k => x2 (ix3 0 0 k)) (fun k => x1 (ix3 0 0 k)) k

theorem pay21_at (i : Fin 256) (k : Fin 1024) : k1_pay21 x0 x1 x2 x3 x4 x5 x6 x7 x8 x9 (ix2 i k) = ub x0 x1 x2 x3 i k := by
  unfold k1_pay21
  rw [View.ld_unit_zero z2, View.ld_unit_zero z2, View.ld_unit_zero z3, View.ld_unit_zero z3]
  exact u_at x0 x3 x2 x1 i k

theorem pay22_at (i : Fin 256) (j : Fin 1536) : k1_pay22 x0 x1 x2 x3 x4 x5 x6 x7 x8 x9 (ix2 i j) = lin (ub x0 x1 x2 x3 i) (fun k => x4 (ix2 k j)) := by
  unfold k1_pay22
  rw [View.ld_unit_zero z2, View.ld_unit_zero z2, View.ld_unit_zero z3, View.ld_unit_zero z3, View.ld_unit_zero z2]
  exact (gla_at x0 x3 x2 x1 x4 i j).trans (congrArg (fun v => lin v _) (funext fun k => u_at x0 x3 x2 x1 i k))

theorem rows (v : FVec Ideal S256x1024 .bf16) (h : v = k1_pay21 x0 x1 x2 x3 x4 x5 x6 x7 x8 x9) (i : Fin 256) (w : Fin 1024 → EReal) : lin (fun k => v (ix2 i k)) w = lin (ub x0 x1 x2 x3 i) w := by
  subst h
  exact congrArg (fun v => lin v w) (funext fun k => pay21_at x0 x1 x2 x3 x4 x5 x6 x7 x8 x9 i k)

theorem out10_at (i : Fin 256) (j : Fin 256) :
    out1_10 x0 x1 x2 x3 x4 x5 x6 x7 x8 x9 (ix2 i j) = lin (ub x0 x1 x2 x3 i) (fun k => x4 (ix2 k ⟨j.val, by omega⟩)) * Ideal.ofBits .f32 0x3E000000#32 := by
  unfold out1_10
  rw [View.canon_unit_zero (S := S256x256) (off := ![0, 0]) z2]
  rw [View.ld_unit_zero z2, View.ld_unit_zero z2, View.ld_unit_zero z3, View.ld_unit_zero z3, View.ld_unit_zero z2]
  exact (pay5_at x0 x3 x2 x1 x4 i j).trans (congrArg (· * Ideal.ofBits .f32 0x3E000000#32) ((gla_at x0 x3 x2 x1 x4 i _).trans (congrArg (fun v => lin v _) (funext fun k => u_at x0 x3 x2 x1 i k))))

theorem out11_at (i : Fin 256) (j : Fin 256) :
    out1_11 x0 x1 x2 x3 x4 x5 x6 x7 x8 x9 (ix2 i j) = lin (ub x0 x1 x2 x3 i) (fun k => x4 (ix2 k ⟨256 + j.val, by omega⟩)) := by
  unfold out1_11
  rw [View.canon_unit_zero (S := S256x256) (off := ![0, 0]) z2]
  rw [View.ld_unit_zero z2, View.ld_unit_zero z2, View.ld_unit_zero z3, View.ld_unit_zero z3, View.ld_unit_zero z2]
  exact (pay6_at x0 x3 x2 x1 x4 i j).trans ((gla_at x0 x3 x2 x1 x4 i _).trans (congrArg (fun v => lin v _) (funext fun k => u_at x0 x3 x2 x1 i k)))

theorem out12_at (i : Fin 256) (j : Fin 256) :
    out1_12 x0 x1 x2 x3 x4 x5 x6 x7 x8 x9 (ix2 i j) = -(sp (-((∑ l : Fin 128, lin (ub x0 x1 x2 x3 i) (fun k => x5 (ix2 k l)) * x6 (ix2 l j)) + x7 (ix2 0 j)))) * Ideal.ofBits .f32 0x3D800000#32 := by
  unfold out1_12
  rw [View.canon_unit_zero (S := S256x256) (off := ![0, 0]) z2]
  rw [View.ld_unit_zero z2, View.ld_unit_zero z2, View.ld_unit_zero z2]
  refine (pay10_at _ i j).trans (congrArg (fun e => -e * Ideal.ofBits .f32 0x3D800000#32) ((pay9_at _ x5 x6 x7 i j).trans (congrArg (fun e => sp (-(e + x7 (ix2 0 j)))) ?_)))
  exact Finset.sum_congr rfl fun l _ => congrArg (· * x6 (ix2 l j)) (rows x0 x1 x2 x3 x4 x5 x6 x7 x8 x9 _ rfl i _)

theorem out13_at (i : Fin 256) (j : Fin 512) :
    out1_13 x0 x1 x2 x3 x4 x5 x6 x7 x8 x9 (ix2 i j) = lin (ub x0 x1 x2 x3 i) (fun k => x4 (ix2 k ⟨512 + j.val, by omega⟩)) := by
  unfold out1_13
  rw [View.canon_unit_zero (S := S256x512) (off := ![0, 0]) z2]
  exact (pay7_at _ i j).trans (pay22_at x0 x1 x2 x3 x4 x5 x6 x7 x8 x9 i _)

theorem out14_at (i : Fin 256) (j : Fin 512) :
    out1_14 x0 x1 x2 x3 x4 x5 x6 x7 x8 x9 (ix2 i j) = lin (ub x0 x1 x2 x3 i) (fun k => x4 (ix2 k ⟨1024 + j.val, by omega⟩)) * sg (lin (ub x0 x1 x2 x3 i) (fun k => x4 (ix2 k ⟨1024 + j.val, by omega⟩))) := by
  unfold out1_14
  rw [View.canon_unit_zero (S := S256x512) (off := ![0, 0]) z2]
  exact (pay8_at _ i j).trans (congrArg (fun e => e * sg e) (pay22_at x0 x1 x2 x3 x4 x5 x6 x7 x8 x9 i _))

theorem out15_at (i : Fin 256) (j : Fin 512) :
    out1_15 x0 x1 x2 x3 x4 x5 x6 x7 x8 x9 (ix2 i j) = lin (ub x0 x1 x2 x3 i) (fun k => x8 (ix2 k ⟨j.val, by omega⟩)) := by
  unfold out1_15
  rw [View.canon_unit_zero (S := S256x512) (off := ![0, 0]) z2]
  rw [View.ld_unit_zero z2]
  exact (pay12_at _ x8 i j).trans ((sb_at _ x8 i _).trans (rows x0 x1 x2 x3 x4 x5 x6 x7 x8 x9 _ rfl i _))

theorem out16_at (i : Fin 256) (j : Fin 512) :
    out1_16 x0 x1 x2 x3 x4 x5 x6 x7 x8 x9 (ix2 i j) = lin (ub x0 x1 x2 x3 i) (fun k => x8 (ix2 k ⟨512 + j.val, by omega⟩)) := by
  unfold out1_16
  rw [View.canon_unit_zero (S := S256x512) (off := ![0, 0]) z2]
  rw [View.ld_unit_zero z2]
  exact (pay17_at _ x8 i j).trans ((pay13_at _ x8 i j).trans ((sb_at _ x8 i _).trans (rows x0 x1 x2 x3 x4 x5 x6 x7 x8 x9 _ rfl i _)))

theorem out17_at (i : Fin 256) (j : Fin 512) :
    out1_17 x0 x1 x2 x3 x4 x5 x6 x7 x8 x9 (ix2 i j) = lin (ub x0 x1 x2 x3 i) (fun k => x8 (ix2 k ⟨1024 + j.val, by omega⟩)) := by
  unfold out1_17
  rw [View.canon_unit_zero (S := S256x512) (off := ![0, 0]) z2]
  rw [View.ld_unit_zero z2]
  exact (pay18_at _ x8 i j).trans ((pay14_at _ x8 i j).trans ((sb_at _ x8 i _).trans (rows x0 x1 x2 x3 x4 x5 x6 x7 x8 x9 _ rfl i _)))

theorem out18_at (h : Fin 8) (d : Fin 64) (i : Fin 256) :
    out1_18 x0 x1 x2 x3 x4 x5 x6 x7 x8 x9 (ix4 0 h d i) = lin (ub x0 x1 x2 x3 i) (fun k => x8 (ix2 k ⟨512 + (64 * h.val + d.val), by omega⟩)) := by
  unfold out1_18
  rw [View.canon_unit_zero (S := S1x8x64x256) (off := ![0, 0, 0, 0]) z4]
  rw [View.ld_unit_zero z2]
  exact (pay15_at _ x8 h d i).trans ((pay13_at _ x8 i _).trans ((sb_at _ x8 i _).trans (rows x0 x1 x2 x3 x4 x5 x6 x7 x8 x9 _ rfl i _)))

theorem out19_at (h : Fin 8) (d : Fin 64) (i : Fin 256) :
    out1_19 x0 x1 x2 x3 x4 x5 x6 x7 x8 x9 (ix4 0 h d i) = lin (ub x0 x1 x2 x3 i) (fun k => x8 (ix2 k ⟨1024 + (64 * h.val + d.val), by omega⟩)) := by
  unfold out1_19
  rw [View.canon_unit_zero (S := S1x8x64x256) (off := ![0, 0, 0, 0]) z4]
  rw [View.ld_unit_zero z2]
  exact (pay16_at _ x8 h d i).trans ((pay14_at _ x8 i _).trans ((sb_at _ x8 i _).trans (rows x0 x1 x2 x3 x4 x5 x6 x7 x8 x9 _ rfl i _)))

theorem out20_at (i : Fin 256) (j : Fin 1024) :
    out1_20 x0 x1 x2 x3 x4 x5 x6 x7 x8 x9 (ix2 i j) = sg (lin (ub x0 x1 x2 x3 i) (fun k => x9 (ix2 k ⟨j.val, by omega⟩))) := by
  unfold out1_20
  rw [View.canon_unit_zero (S := S256x1024) (off := ![0, 0]) z2]
  rw [View.ld_unit_zero z2]
  exact (pay1_at _ x9 i j).trans (congrArg sg ((gates_at _ x9 i _).trans (rows x0 x1 x2 x3 x4 x5 x6 x7 x8 x9 _ rfl i _)))

theorem out21_at (i : Fin 256) (j : Fin 1024) :
    out1_21 x0 x1 x2 x3 x4 x5 x6 x7 x8 x9 (ix2 i j) = sg (lin (ub x0 x1 x2 x3 i) (fun k => x9 (ix2 k ⟨1024 + j.val, by omega⟩))) := by
  unfold out1_21
  rw [View.canon_unit_zero (S := S256x1024) (off := ![0, 0]) z2]
  rw [View.ld_unit_zero z2]
  exact (pay2_at _ i j).trans (congrArg sg ((gates_at _ x9 i _).trans (rows x0 x1 x2 x3 x4 x5 x6 x7 x8 x9 _ rfl i _)))

end Cert.Kernel3Ideal.Proj
-- ==== Proof.InHost.lean ====
/- What the host's lines make of the arguments before the two calls, one entry at a time. -/
module

public import proofs.«01_k».proof.Proof.InBlock
public import Idealize.ShloMosaic.Lib.StableHlo.Run
public import Idealize.ShloMosaic.Lib.KernelVsHost

@[expose] public section

set_option maxRecDepth 16384

noncomputable section

namespace Cert.Kernel3Ideal.Proj

open Cert.Kernel3Ideal Cert.Kernel3Ideal.Gen Cert.InSpec Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

/-! ## The terms, entry by entry -/

theorem padl_at (x : FVec Ideal S1024x16 .f32) (k : Fin 1024) (l : Fin 128) :
    pad S1024x128 ![0, 0] ![0, 112] ![0, 0] x (sitofp (F := Ideal) .f32 (constantI S_ 32 0#32)) pads_S1024x16_S1024x128_000_01120 h_S_ (ix2 k l)
      = if h : l.val < 16 then x (ix2 k ⟨l.val, h⟩) else 0 := by
  pointwise
  rw [show (FloatOps.sitofp FTy.f32 0#32 : Ideal .f32) = 0 from sitofp_zero]

theorem pada_at (x : FVec Ideal S16x256 .f32) (l : Fin 128) (j : Fin 256) :
    pad S128x256 ![0, 0] ![112, 0] ![0, 0] x (sitofp (F := Ideal) .f32 (constantI S_ 32 0#32)) pads_S16x256_S128x256_01120_000 h_S_ (ix2 l j)
      = if h : l.val < 16 then x (ix2 ⟨l.val, h⟩ j) else 0 := by
  pointwise
  rw [show (FloatOps.sitofp FTy.f32 0#32 : Ideal .f32) = 0 from sitofp_zero]

theorem cat_at (a : FVec Ideal S8x1024 .f32) (b : FVec Ideal S128x1024 .f32) (i : Fin 8) (k : Fin 1024) :
    concatenate S136x1024 0 [⟨S8x1024, a⟩, ⟨S128x1024, b⟩] concatenates_S8x1024_S128x1024_S136x1024_d0 (ix2 ⟨i.val, by omega⟩ k) = a (ix2 i k) := by
  pointwise

/-! ## The boundaries -/

theorem W1_v0 : W1 m ρ c (Proc.devRef .tc main_v0) = (shapeCast S1024x5136 (m ((c : Thread nD τ).loc main_arg6)) shapeCasts_S1x1024x5136_S1024x5136 : FVec Ideal S1024x5136 .f32) := by
  show StableHlo.after hostOps0 _ (Proc.devRef .tc main_v0) = _
  after_results
  rfl

theorem W4_v0 : W4 m ρ c (Proc.devRef .tc main_v0) = (shapeCast S1024x5136 (m ((c : Thread nD τ).loc main_arg6)) shapeCasts_S1x1024x5136_S1024x5136 : FVec Ideal S1024x5136 .f32) :=
  (W4_of m ρ c main_v0 (by decide)).trans ((W3_of m ρ c main_v0 (by decide)).trans ((W2_of m ρ c main_v0 (by decide)).trans (W1_v0 m ρ c)))

theorem W1_v1 : W1 m ρ c (Proc.devRef .tc main_v1) = (extractStridedSlice S1024x16 ![0, 1536] (shapeCast S1024x5136 (m ((c : Thread nD τ).loc main_arg6)) shapeCasts_S1x1024x5136_S1024x5136 : FVec Ideal S1024x5136 .f32) slices_S1024x5136_S1024x16_0_1536 : FVec Ideal S1024x16 .f32) := by
  show StableHlo.after hostOps0 _ (Proc.devRef .tc main_v1) = _
  after_results
  rfl

theorem W1_c : W1 m ρ c (Proc.devRef .tc main_c) = constantI S_ 32 0#32 := by
  show StableHlo.after hostOps0 _ (Proc.devRef .tc main_c) = _
  after_results

theorem W2_v2 : W2 m ρ c (Proc.devRef .tc main_v2) = (pad S1024x128 ![0, 0] ![0, 112] ![0, 0] (W1 m ρ c (Proc.devRef .tc main_v1) : FVec Ideal S1024x16 .f32) (sitofp (F := Ideal) .f32 (constantI S_ 32 0#32)) pads_S1024x16_S1024x128_000_01120 h_S_ : FVec Ideal S1024x128 .f32) := by
  show StableHlo.after hostOps0_1 (W1 m ρ c) (Proc.devRef .tc main_v2) = _
  rw [← W1_c m ρ c]
  generalize W1 m ρ c = w
  simp only [hostOps0_1, StableHlo.TRef.binary, StableHlo.TRef.unary, StableHlo.TRef.toBuf, StableHlo.TRef.ofBuf, cast_eq]
  after_results_simp

theorem W3_c0 : W3 m ρ c (Proc.devRef .tc main_c_0) = constantI S_ 32 0#32 := by
  show StableHlo.after hostOps0_2 (W2 m ρ c) (Proc.devRef .tc main_c_0) = _
  generalize W2 m ρ c = w
  after_results

theorem W3_v3 : W3 m ρ c (Proc.devRef .tc main_v3) = (shapeCast S16x256 (m ((c : Thread nD τ).loc main_arg7)) shapeCasts_S1x16x256_S16x256 : FVec Ideal S16x256 .f32) := by
  rw [← W2_args m ρ c main_arg7 (by decide)]
  show StableHlo.after hostOps0_2 (W2 m ρ c) (Proc.devRef .tc main_v3) = _
  generalize W2 m ρ c = w
  after_results
  rfl

theorem W4_v4 : W4 m ρ c (Proc.devRef .tc main_v4) = (pad S128x256 ![0, 0] ![112, 0] ![0, 0] (W3 m ρ c (Proc.devRef .tc main_v3) : FVec Ideal S16x256 .f32) (sitofp (F := Ideal) .f32 (constantI S_ 32 0#32)) pads_S16x256_S128x256_01120_000 h_S_ : FVec Ideal S128x256 .f32) := by
  show StableHlo.after hostOps0_3 (W3 m ρ c) (Proc.devRef .tc main_v4) = _
  rw [← W3_c0 m ρ c]
  generalize W3 m ρ c = w
  simp only [hostOps0_3, StableHlo.TRef.binary, StableHlo.TRef.unary, StableHlo.TRef.toBuf, StableHlo.TRef.ofBuf, cast_eq]
  after_results_simp

theorem W5_v6 : W5 m ρ c (Proc.devRef .tc main_v6) = (truncf .bf16 (extractStridedSlice S1024x1536 ![0, 0] (shapeCast S1024x5136 (m ((c : Thread nD τ).loc main_arg6)) shapeCasts_S1x1024x5136_S1024x5136 : FVec Ideal S1024x5136 .f32) slices_S1024x5136_S1024x1536_0_0 : FVec Ideal S1024x1536 .f32) bitsLt_bf16_f32 : FVec Ideal S1024x1536 .bf16) := by
  rw [← W4_v0 m ρ c]
  show StableHlo.after hostOps0_4 (W4 m ρ c) (Proc.devRef .tc main_v6) = _
  generalize W4 m ρ c = w
  after_results

theorem W5_v7 : W5 m ρ c (Proc.devRef .tc main_v7) = (truncf .bf16 (W4 m ρ c (Proc.devRef .tc main_v2) : FVec Ideal S1024x128 .f32) bitsLt_bf16_f32 : FVec Ideal S1024x128 .bf16) := by
  show StableHlo.after hostOps0_4 (W4 m ρ c) (Proc.devRef .tc main_v7) = _
  generalize W4 m ρ c = w
  after_results

theorem W5_v8 : W5 m ρ c (Proc.devRef .tc main_v8) = (truncf .bf16 (W4 m ρ c (Proc.devRef .tc main_v4) : FVec Ideal S128x256 .f32) bitsLt_bf16_f32 : FVec Ideal S128x256 .bf16) := by
  show StableHlo.after hostOps0_4 (W4 m ρ c) (Proc.devRef .tc main_v8) = _
  generalize W4 m ρ c = w
  after_results

theorem W5_v10 : W5 m ρ c (Proc.devRef .tc main_v10) = (shapeCast S1x256 (shapeCast S256 (m ((c : Thread nD τ).loc main_arg8)) shapeCasts_S1x256_S256 : FVec Ideal S256 .f32) shapeCasts_S256_S1x256 : FVec Ideal S1x256 .f32) := by
  rw [← W4_args m ρ c main_arg8 (by decide)]
  show StableHlo.after hostOps0_4 (W4 m ρ c) (Proc.devRef .tc main_v10) = _
  generalize W4 m ρ c = w
  after_results
  rfl

theorem W5_v12 : W5 m ρ c (Proc.devRef .tc main_v12) = (truncf .bf16 (extractStridedSlice S1024x1536 ![0, 1552] (shapeCast S1024x5136 (m ((c : Thread nD τ).loc main_arg6)) shapeCasts_S1x1024x5136_S1024x5136 : FVec Ideal S1024x5136 .f32) slices_S1024x5136_S1024x1536_0_1552 : FVec Ideal S1024x1536 .f32) bitsLt_bf16_f32 : FVec Ideal S1024x1536 .bf16) := by
  rw [← W4_v0 m ρ c]
  show StableHlo.after hostOps0_4 (W4 m ρ c) (Proc.devRef .tc main_v12) = _
  generalize W4 m ρ c = w
  after_results

theorem W5_v14 : W5 m ρ c (Proc.devRef .tc main_v14) = (truncf .bf16 (extractStridedSlice S1024x2048 ![0, 3088] (shapeCast S1024x5136 (m ((c : Thread nD τ).loc main_arg6)) shapeCasts_S1x1024x5136_S1024x5136 : FVec Ideal S1024x5136 .f32) slices_S1024x5136_S1024x2048_0_3088 : FVec Ideal S1024x2048 .f32) bitsLt_bf16_f32 : FVec Ideal S1024x2048 .bf16) := by
  rw [← W4_v0 m ρ c]
  show StableHlo.after hostOps0_4 (W4 m ρ c) (Proc.devRef .tc main_v14) = _
  generalize W4 m ρ c = w
  after_results

theorem W5_v16 : W5 m ρ c (Proc.devRef .tc main_v16) = (shapeCast S1x1024 (shapeCast S1024 (m ((c : Thread nD τ).loc main_arg5)) shapeCasts_S1x1024_S1024 : FVec Ideal S1024 .f32) shapeCasts_S1024_S1x1024 : FVec Ideal S1x1024 .f32) := by
  rw [← W4_args m ρ c main_arg5 (by decide)]
  show StableHlo.after hostOps0_4 (W4 m ρ c) (Proc.devRef .tc main_v16) = _
  generalize W4 m ρ c = w
  after_results
  rfl

theorem W5_v17 : W5 m ρ c (Proc.devRef .tc main_v17) = (concatenate S136x1024 0 [⟨S8x1024, (m ((c : Thread nD τ).loc main_arg1))⟩, ⟨S128x1024, (m ((c : Thread nD τ).loc main_arg2))⟩] concatenates_S8x1024_S128x1024_S136x1024_d0 : FVec Ideal S136x1024 .f32) := by
  rw [← W4_args m ρ c main_arg1 (by decide)]
  rw [← W4_args m ρ c main_arg2 (by decide)]
  show StableHlo.after hostOps0_4 (W4 m ρ c) (Proc.devRef .tc main_v17) = _
  generalize W4 m ρ c = w
  after_results

theorem W5_v18 : W5 m ρ c (Proc.devRef .tc main_v18) = (shapeCast S1024x6144 (m ((c : Thread nD τ).loc main_arg3)) shapeCasts_S1x1024x6144_S1024x6144 : FVec Ideal S1024x6144 .f32) := by
  rw [← W4_args m ρ c main_arg3 (by decide)]
  show StableHlo.after hostOps0_4 (W4 m ρ c) (Proc.devRef .tc main_v18) = _
  generalize W4 m ρ c = w
  after_results
  rfl

theorem W5_v20 : W5 m ρ c (Proc.devRef .tc main_v20) = (shapeCast S1x6144 (shapeCast S6144 (m ((c : Thread nD τ).loc main_arg4)) shapeCasts_S1x6144_S6144 : FVec Ideal S6144 .f32) shapeCasts_S6144_S1x6144 : FVec Ideal S1x6144 .f32) := by
  rw [← W4_args m ρ c main_arg4 (by decide)]
  show StableHlo.after hostOps0_4 (W4 m ρ c) (Proc.devRef .tc main_v20) = _
  generalize W4 m ρ c = w
  after_results
  rfl

theorem W7_v6 : W7 m ρ c (Proc.devRef .tc main_v6) = W5 m ρ c (Proc.devRef .tc main_v6) :=
  (W7_of m ρ c main_v6 (by decide)).trans (W6_of m ρ c main_v6 (by decide))

theorem W7_v7 : W7 m ρ c (Proc.devRef .tc main_v7) = W5 m ρ c (Proc.devRef .tc main_v7) :=
  (W7_of m ρ c main_v7 (by decide)).trans (W6_of m ρ c main_v7 (by decide))

theorem W7_v8 : W7 m ρ c (Proc.devRef .tc main_v8) = W5 m ρ c (Proc.devRef .tc main_v8) :=
  (W7_of m ρ c main_v8 (by decide)).trans (W6_of m ρ c main_v8 (by decide))

theorem W7_v10 : W7 m ρ c (Proc.devRef .tc main_v10) = W5 m ρ c (Proc.devRef .tc main_v10) :=
  (W7_of m ρ c main_v10 (by decide)).trans (W6_of m ρ c main_v10 (by decide))

theorem W7_v12 : W7 m ρ c (Proc.devRef .tc main_v12) = W5 m ρ c (Proc.devRef .tc main_v12) :=
  (W7_of m ρ c main_v12 (by decide)).trans (W6_of m ρ c main_v12 (by decide))

theorem W7_v14 : W7 m ρ c (Proc.devRef .tc main_v14) = W5 m ρ c (Proc.devRef .tc main_v14) :=
  (W7_of m ρ c main_v14 (by decide)).trans (W6_of m ρ c main_v14 (by decide))

theorem W7_v16 : W7 m ρ c (Proc.devRef .tc main_v16) = W5 m ρ c (Proc.devRef .tc main_v16) :=
  (W7_of m ρ c main_v16 (by decide)).trans (W6_of m ρ c main_v16 (by decide))

theorem W7_v26 : W7 m ρ c (Proc.devRef .tc main_v26) = (shapeCast S8x1x1024 (shapeCast S8x1024 (extractStridedSlice S8x1x1024 ![0, 0, 0] (shapeCast S8x6x1024 (extractStridedSlice S8x6144 ![0, 0] (W6 m ρ c (Proc.devRef .tc main_v21) : FVec Ideal S136x6144 .f32) slices_S136x6144_S8x6144_0_0 : FVec Ideal S8x6144 .f32) shapeCasts_S8x6144_S8x6x1024 : FVec Ideal S8x6x1024 .f32) slices_S8x6x1024_S8x1x1024_0_0_0 : FVec Ideal S8x1x1024 .f32) shapeCasts_S8x1x1024_S8x1024 : FVec Ideal S8x1024 .f32) shapeCasts_S8x1024_S8x1x1024 : FVec Ideal S8x1x1024 .f32) := by
  show StableHlo.after hostOps1 (W6 m ρ c) (Proc.devRef .tc main_v26) = _
  generalize W6 m ρ c = w
  after_results
  rfl

theorem W7_v29 : W7 m ρ c (Proc.devRef .tc main_v29) = (shapeCast S8x1x1024 (shapeCast S8x1024 (extractStridedSlice S8x1x1024 ![0, 1, 0] (shapeCast S8x6x1024 (extractStridedSlice S8x6144 ![0, 0] (W6 m ρ c (Proc.devRef .tc main_v21) : FVec Ideal S136x6144 .f32) slices_S136x6144_S8x6144_0_0 : FVec Ideal S8x6144 .f32) shapeCasts_S8x6144_S8x6x1024 : FVec Ideal S8x6x1024 .f32) slices_S8x6x1024_S8x1x1024_0_1_0 : FVec Ideal S8x1x1024 .f32) shapeCasts_S8x1x1024_S8x1024 : FVec Ideal S8x1024 .f32) shapeCasts_S8x1024_S8x1x1024 : FVec Ideal S8x1x1024 .f32) := by
  show StableHlo.after hostOps1 (W6 m ρ c) (Proc.devRef .tc main_v29) = _
  generalize W6 m ρ c = w
  after_results
  rfl

theorem W7_v30 : W7 m ρ c (Proc.devRef .tc main_v30) = (shapeCast S32768x1024 (m ((c : Thread nD τ).loc main_arg0)) shapeCasts_S8x4096x1024_S32768x1024 : FVec Ideal S32768x1024 .f32) := by
  rw [← W6_args m ρ c main_arg0 (by decide)]
  show StableHlo.after hostOps1 (W6 m ρ c) (Proc.devRef .tc main_v30) = _
  generalize W6 m ρ c = w
  after_results
  rfl

/-! ## The entries -/

theorem mod_at (y : FVec Ideal S136x6144 .f32) (b : Fin 8) (k : Fin 1024) :
    (shapeCast S8x1x1024 (shapeCast S8x1024 (extractStridedSlice S8x1x1024 ![0, 0, 0] (shapeCast S8x6x1024 (extractStridedSlice S8x6144 ![0, 0] y slices_S136x6144_S8x6144_0_0 : FVec Ideal S8x6144 .f32) shapeCasts_S8x6144_S8x6x1024 : FVec Ideal S8x6x1024 .f32) slices_S8x6x1024_S8x1x1024_0_0_0 : FVec Ideal S8x1x1024 .f32) shapeCasts_S8x1x1024_S8x1024 : FVec Ideal S8x1024 .f32) shapeCasts_S8x1024_S8x1x1024 : FVec Ideal S8x1x1024 .f32) (ix3 b 0 k)
      = y (ix2 ⟨b.val, by omega⟩ ⟨k.val, by omega⟩) := by
  pointwise

theorem mod1_at (y : FVec Ideal S136x6144 .f32) (b : Fin 8) (k : Fin 1024) :
    (shapeCast S8x1x1024 (shapeCast S8x1024 (extractStridedSlice S8x1x1024 ![0, 1, 0] (shapeCast S8x6x1024 (extractStridedSlice S8x6144 ![0, 0] y slices_S136x6144_S8x6144_0_0 : FVec Ideal S8x6144 .f32) shapeCasts_S8x6144_S8x6x1024 : FVec Ideal S8x6x1024 .f32) slices_S8x6x1024_S8x1x1024_0_1_0 : FVec Ideal S8x1x1024 .f32) shapeCasts_S8x1x1024_S8x1024 : FVec Ideal S8x1024 .f32) shapeCasts_S8x1024_S8x1x1024 : FVec Ideal S8x1x1024 .f32) (ix3 b 0 k)
      = y (ix2 ⟨b.val, by omega⟩ ⟨1024 + k.val, by omega⟩) := by
  pointwise

theorem x_at (x : FVec Ideal S8x4096x1024 .f32) (b : Fin 8) (t : Fin 4096) (k : Fin 1024) :
    (shapeCast S32768x1024 x shapeCasts_S8x4096x1024_S32768x1024 : FVec Ideal S32768x1024 .f32) (ix2 ⟨4096 * b.val + t.val, by omega⟩ k) = x (ix3 b t k) := by
  pointwise

theorem win_at (x : FVec Ideal S1x1024x5136 .f32) (k : Fin 1024) (j : Fin 1536) :
    (truncf .bf16 (extractStridedSlice S1024x1536 ![0, 0] (shapeCast S1024x5136 x shapeCasts_S1x1024x5136_S1024x5136 : FVec Ideal S1024x5136 .f32) slices_S1024x5136_S1024x1536_0_0 : FVec Ideal S1024x1536 .f32) bitsLt_bf16_f32 : FVec Ideal S1024x1536 .bf16) (ix2 k j)
      = x (ix3 0 k ⟨j.val, by omega⟩) := by
  pointwise

theorem win1_at (x : FVec Ideal S1x1024x5136 .f32) (k : Fin 1024) (j : Fin 1536) :
    (truncf .bf16 (extractStridedSlice S1024x1536 ![0, 1552] (shapeCast S1024x5136 x shapeCasts_S1x1024x5136_S1024x5136 : FVec Ideal S1024x5136 .f32) slices_S1024x5136_S1024x1536_0_1552 : FVec Ideal S1024x1536 .f32) bitsLt_bf16_f32 : FVec Ideal S1024x1536 .bf16) (ix2 k j)
      = x (ix3 0 k ⟨1552 + j.val, by omega⟩) := by
  pointwise

theorem win2_at (x : FVec Ideal S1x1024x5136 .f32) (k : Fin 1024) (j : Fin 2048) :
    (truncf .bf16 (extractStridedSlice S1024x2048 ![0, 3088] (shapeCast S1024x5136 x shapeCasts_S1x1024x5136_S1024x5136 : FVec Ideal S1024x5136 .f32) slices_S1024x5136_S1024x2048_0_3088 : FVec Ideal S1024x2048 .f32) bitsLt_bf16_f32 : FVec Ideal S1024x2048 .bf16) (ix2 k j)
      = x (ix3 0 k ⟨3088 + j.val, by omega⟩) := by
  pointwise

theorem winl_at (x : FVec Ideal S1x1024x5136 .f32) (k : Fin 1024) (l : Fin 16) :
    (extractStridedSlice S1024x16 ![0, 1536] (shapeCast S1024x5136 x shapeCasts_S1x1024x5136_S1024x5136 : FVec Ideal S1024x5136 .f32) slices_S1024x5136_S1024x16_0_1536 : FVec Ideal S1024x16 .f32) (ix2 k l)
      = x (ix3 0 k ⟨1536 + l.val, by omega⟩) := by
  pointwise

theorem wal_at (x : FVec Ideal S1x16x256 .f32) (l : Fin 16) (j : Fin 256) :
    (shapeCast S16x256 x shapeCasts_S1x16x256_S16x256 : FVec Ideal S16x256 .f32) (ix2 l j) = x (ix3 0 l j) := by
  pointwise

theorem bal_at (x : FVec Ideal S1x256 .f32) (j : Fin 256) :
    (shapeCast S1x256 (shapeCast S256 x shapeCasts_S1x256_S256 : FVec Ideal S256 .f32) shapeCasts_S256_S1x256 : FVec Ideal S1x256 .f32) (ix2 0 j) = x (ix2 0 j) := by
  pointwise

theorem gpm_at (x : FVec Ideal S1x1024 .f32) (j : Fin 1024) :
    (shapeCast S1x1024 (shapeCast S1024 x shapeCasts_S1x1024_S1024 : FVec Ideal S1024 .f32) shapeCasts_S1024_S1x1024 : FVec Ideal S1x1024 .f32) (ix2 0 j) = x (ix2 0 j) := by
  pointwise

theorem wad_at (x : FVec Ideal S1x1024x6144 .f32) (k : Fin 1024) (j : Fin 6144) :
    (shapeCast S1024x6144 x shapeCasts_S1x1024x6144_S1024x6144 : FVec Ideal S1024x6144 .f32) (ix2 k j) = x (ix3 0 k j) := by
  pointwise

theorem bad_at (x : FVec Ideal S1x6144 .f32) (j : Fin 6144) :
    (shapeCast S1x6144 (shapeCast S6144 x shapeCasts_S1x6144_S6144 : FVec Ideal S6144 .f32) shapeCasts_S6144_S1x6144 : FVec Ideal S1x6144 .f32) (ix2 0 j) = x (ix2 0 j) := by
  pointwise

end Cert.Kernel3Ideal.Proj
-- ==== Proof.InAda.lean ====
/- The conditioning call's array, one entry at a time. -/
module

public import proofs.«01_k».proof.Proof.InHost

@[expose] public section

set_option maxRecDepth 16384

noncomputable section

namespace Cert.Kernel3Ideal.Proj

open Cert.Kernel3Ideal Cert.Kernel3Ideal.Gen Cert.InSpec Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

/-- An index is its coordinates. -/
theorem ext2 {n0 n1 : ℕ} (i : Shape.Idx ⟨2, ![n0, n1]⟩) (a : Fin n0) (b : Fin n1) (h0 : (i 0).val = a.val) (h1 : (i 1).val = b.val) : i = ix2 a b :=
  (eq_ix2 i).trans (congrArg₂ ix2 (Fin.ext h0) (Fin.ext h1))

/-- The arguments, by coordinates. -/
def inp : In 8 4096 where
  x b t k := m ((c : Thread nD τ).loc main_arg0) (ix3 b t k)
  c b k := m ((c : Thread nD τ).loc main_arg1) (ix2 b k)
  wa k j := m ((c : Thread nD τ).loc main_arg3) (ix3 0 k j)
  ba j := m ((c : Thread nD τ).loc main_arg4) (ix2 0 j)
  g k := m ((c : Thread nD τ).loc main_arg5) (ix2 0 k)
  w k j := m ((c : Thread nD τ).loc main_arg6) (ix3 0 k j)
  wl l j := m ((c : Thread nD τ).loc main_arg7) (ix3 0 l j)
  bl j := m ((c : Thread nD τ).loc main_arg8) (ix2 0 j)

/-- The conditioning of every row, prompt and sample. -/
def A0 (i : S136x6144.Idx) : EReal :=
  ada (fun k => (W5 m ρ c (Proc.devRef .tc main_v17) : FVec Ideal S136x1024 .f32) (ix2 (i 0) k)) (fun k => (W5 m ρ c (Proc.devRef .tc main_v18) : FVec Ideal S1024x6144 .f32) (ix2 k (i 1)))
    ((W5 m ρ c (Proc.devRef .tc main_v20) : FVec Ideal S1x6144 .f32) (ix2 0 (i 1)))

theorem a_idx : ∀ i : grid0.Coords, cc0_transform_1 i 1 = (i 0).val ∧ cc0_transform_2 i 1 = (i 0).val ∧ cc0_transform_3 i 1 = (i 0).val := by decide +kernel

/-- A point's block of columns. -/
def ac (t : Fin cfg0.N) : Fin 6 := grid0.coords t 0

theorem a_block0 (t : Fin cfg0.N) (i : Fin 136) (k : Fin 1024) : iblk0 (V5 m ρ) c 0 t (ix2 i k) = (W5 m ρ c (Proc.devRef .tc main_v17) : FVec Ideal S136x1024 .f32) (ix2 i k) := by
  show W5 m ρ c (Proc.devRef .tc main_v17) ((win0_0.rect t).emb (ix2 i k)) = _
  exact congrArg (W5 m ρ c (Proc.devRef .tc main_v17)) (ext2 _ _ _ (win0_0.rect_emb_val_of_index_zero t 0 rfl (ix2 i k)) (win0_0.rect_emb_val_of_index_zero t 1 rfl (ix2 i k)))

theorem a_block1 (t : Fin cfg0.N) (k j : Fin 1024) : iblk0 (V5 m ρ) c 1 t (ix2 k j) = (W5 m ρ c (Proc.devRef .tc main_v18) : FVec Ideal S1024x6144 .f32) (ix2 k ⟨1024 * (ac t).val + j.val, by omega⟩) := by
  show W5 m ρ c (Proc.devRef .tc main_v18) ((win0_1.rect t).emb (ix2 k j)) = _
  refine congrArg (W5 m ρ c (Proc.devRef .tc main_v18)) (ext2 _ _ _ (win0_1.rect_emb_val_of_index_zero t 0 rfl (ix2 k j)) ((win0_1.rect_emb_val t (ix2 k j) 1).trans ?_))
  show cc0_transform_1 (grid0.coords t) 1 * 1024 + j.val = 1024 * (grid0.coords t 0).val + j.val
  rw [(a_idx _).1]; ring

theorem a_block2 (t : Fin cfg0.N) (j : Fin 1024) : iblk0 (V5 m ρ) c 2 t (ix2 0 j) = (W5 m ρ c (Proc.devRef .tc main_v20) : FVec Ideal S1x6144 .f32) (ix2 0 ⟨1024 * (ac t).val + j.val, by omega⟩) := by
  show W5 m ρ c (Proc.devRef .tc main_v20) ((win0_2.rect t).emb (ix2 0 j)) = _
  refine congrArg (W5 m ρ c (Proc.devRef .tc main_v20)) (ext2 _ _ _ (win0_2.rect_emb_val_of_index_zero t 0 rfl (ix2 0 j)) ((win0_2.rect_emb_val t (ix2 0 j) 1).trans ?_))
  show cc0_transform_2 (grid0.coords t) 1 * 1024 + j.val = 1024 * (grid0.coords t 0).val + j.val
  rw [(a_idx _).2.1]; ring

theorem a_emb (t : Fin cfg0.N) (i : Fin 136) (j : Fin 1024) : (win0_3.rect t).emb (ix2 i j) = ix2 i ⟨1024 * (ac t).val + j.val, by omega⟩ := by
  refine ext2 _ _ _ (win0_3.rect_emb_val_of_index_zero t 0 rfl (ix2 i j)) ((win0_3.rect_emb_val t (ix2 i j) 1).trans ?_)
  show cc0_transform_3 (grid0.coords t) 1 * 1024 + j.val = 1024 * (grid0.coords t 0).val + j.val
  rw [(a_idx _).2.2]; ring

theorem a_out (t : Fin cfg0.N) (i : Fin 136) (j : Fin 1024) :
    out0_3 (iblk0 (V5 m ρ) c 0 t) (iblk0 (V5 m ρ) c 1 t) (iblk0 (V5 m ρ) c 2 t) (ix2 i j) = A0 m ρ c ((win0_3.rect t).emb (ix2 i j)) := by
  rw [a_emb t i j]
  refine (out0_at _ _ _ i j).trans ?_
  show _ = ada _ _ _
  refine congr (congrArg₂ ada (funext fun k => a_block0 m ρ c t i k) (funext fun k => a_block1 m ρ c t k j)) (a_block2 m ρ c t j)

theorem a_flushed (t : Fin cfg0.N) : (dat0 (V5 m ρ) c).flushed 3 t = ((cfg0.win 3).blk t).view.read (Elt Ideal) (A0 m ρ c) := by
  show (cfg0.win 3).cut (grid0.coords t) ((dat0 (V5 m ρ) c).after 3 t) = _
  rw [after0_3]
  exact funext fun y => (congrArg (out0_3 _ _ _) (eq_ix2 y)).trans ((a_out m ρ c t (y 0) (y 1)).trans (congrArg (fun z => A0 m ρ c ((win0_3.rect t).emb z)) (eq_ix2 y).symm))

theorem a_point : ∀ j : Fin 6, ∃ t : Fin grid0.N, cc0_transform_3 (grid0.coords t) 0 = 0 ∧ cc0_transform_3 (grid0.coords t) 1 = j.val := by decide +kernel

theorem a_final : W6 m ρ c (Proc.devRef .tc main_v21) = A0 m ρ c :=
  (W6_arr m ρ c 3).trans ((dat0 (V5 m ρ) c).arrAt_eq_of_cover 3 (A0 m ρ c) (fun t _ => a_flushed m ρ c t) fun i => by
    have h0 : (i 0 : ℕ) < 136 := (i 0).isLt
    have h1 : (i 1 : ℕ) < 6144 := (i 1).isLt
    obtain ⟨t, e0, e1⟩ := a_point ⟨(i 1 : ℕ) / 1024, by omega⟩
    refine ⟨t, flush0_3 t, ?_⟩
    show i ∈ ((View.whole main_v21).slice (win0_3.rect t)).set
    rw [View.set_slice_whole, Rect.mem_set_unit]
    intro a
    match a with
    | ⟨0, _⟩ =>
      show cc0_transform_3 (grid0.coords t) 0 * 136 ≤ (i 0 : ℕ) ∧ (i 0 : ℕ) < cc0_transform_3 (grid0.coords t) 0 * 136 + 136
      rw [e0]
      dsimp only
      omega
    | ⟨1, _⟩ =>
      show cc0_transform_3 (grid0.coords t) 1 * 1024 ≤ (i 1 : ℕ) ∧ (i 1 : ℕ) < cc0_transform_3 (grid0.coords t) 1 * 1024 + 1024
      rw [e1]
      dsimp only
      omega)

/-- The prompt's rows of it. -/
theorem cond_at (b : Fin 8) (j : Fin 6144) : (W6 m ρ c (Proc.devRef .tc main_v21) : FVec Ideal S136x6144 .f32) (ix2 ⟨b.val, by omega⟩ j) = (inp m c).cond b j := by
  rw [a_final]
  show ada _ _ _ = ada _ _ _
  rw [W5_v17, W5_v18, W5_v20]
  refine congr (congrArg₂ ada (funext fun k => cat_at _ _ b k) (funext fun k => wad_at _ k j)) (bad_at _ j)

end Cert.Kernel3Ideal.Proj
-- ==== Proof.InArray.lean ====
/- The projections' arrays, one entry at a time: the windows' blocks are rows and columns of the arguments, and every entry of a result is a column of the projection. -/
module

public import proofs.«01_k».proof.Proof.InAda

@[expose] public section

set_option maxRecDepth 16384

noncomputable section

namespace Cert.Kernel3Ideal.Proj

open Cert.Kernel3Ideal Cert.Kernel3Ideal.Gen Cert.InSpec Cert.SbMath Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

theorem ext3 {n0 n1 n2 : ℕ} (i : Shape.Idx ⟨3, ![n0, n1, n2]⟩) (a : Fin n0) (b : Fin n1) (d : Fin n2) (h0 : (i 0).val = a.val) (h1 : (i 1).val = b.val) (h2 : (i 2).val = d.val) : i = ix3 a b d := by
  obtain rfl : i 0 = a := Fin.ext h0
  obtain rfl : i 1 = b := Fin.ext h1
  obtain rfl : i 2 = d := Fin.ext h2
  exact eq_ix3 i

/-- A point's number, its sequence, and the token of a row of its block. -/
def pn (t : Fin cfg1.N) : Fin 128 := grid1.coords t 0
def pb (t : Fin cfg1.N) : Fin 8 := ⟨(pn t).val / 16, by omega⟩
def pt (t : Fin cfg1.N) (i : Fin 256) : Fin 4096 := ⟨256 * ((pn t).val % 16) + i.val, by omega⟩

/-! ## The windows -/

theorem p_idx0 : ∀ i : grid1.Coords, cc1_transform_0 i 0 = (i 0).val := by decide +kernel
theorem p_idx1 : ∀ i : grid1.Coords, cc1_transform_1 i 0 = (i 0).val / 16 := by decide +kernel
theorem p_idx2 : ∀ i : grid1.Coords, cc1_transform_2 i 0 = (i 0).val / 16 := by decide +kernel

theorem p_block0 (t : Fin cfg1.N) (i : Fin 256) (k : Fin 1024) : iblk1 (V7 m ρ) c 0 t (ix2 i k) = (inp m c).x (pb t) (pt t i) k := by
  show W7 m ρ c (Proc.devRef .tc main_v30) ((win1_0.rect t).emb (ix2 i k)) = _
  rw [W7_v30]
  refine (congrArg (shapeCast S32768x1024 (m ((c : Thread nD τ).loc main_arg0)) shapeCasts_S8x4096x1024_S32768x1024) (ext2 _ ⟨4096 * (pb t).val + (pt t i).val, by omega⟩ k ((win1_0.rect_emb_val t (ix2 i k) 0).trans ?_) (win1_0.rect_emb_val_of_index_zero t 1 rfl (ix2 i k)))).trans (x_at _ (pb t) (pt t i) k)
  show cc1_transform_0 (grid1.coords t) 0 * 256 + i.val = 4096 * ((pn t).val / 16) + (256 * ((pn t).val % 16) + i.val)
  rw [p_idx0]
  show (pn t).val * 256 + i.val = _
  omega

theorem p_block1 (t : Fin cfg1.N) (k : Fin 1024) : iblk1 (V7 m ρ) c 1 t (ix3 0 0 k) = (inp m c).cond (pb t) ⟨k.val, by omega⟩ := by
  show W7 m ρ c (Proc.devRef .tc main_v26) ((win1_1.rect t).emb (ix3 0 0 k)) = _
  rw [W7_v26]
  refine (congrArg _ (ext3 _ (pb t) 0 k ((win1_1.rect_emb_val t (ix3 0 0 k) 0).trans ?_) (win1_1.rect_emb_val_of_index_zero t 1 rfl (ix3 0 0 k)) (win1_1.rect_emb_val_of_index_zero t 2 rfl (ix3 0 0 k)))).trans ((mod_at _ (pb t) k).trans (cond_at m ρ c (pb t) _))
  show cc1_transform_1 (grid1.coords t) 0 * 1 + 0 = (pn t).val / 16
  rw [p_idx1, mul_one, add_zero]
  rfl

theorem p_block2 (t : Fin cfg1.N) (k : Fin 1024) : iblk1 (V7 m ρ) c 2 t (ix3 0 0 k) = (inp m c).cond (pb t) ⟨1024 + k.val, by omega⟩ := by
  show W7 m ρ c (Proc.devRef .tc main_v29) ((win1_2.rect t).emb (ix3 0 0 k)) = _
  rw [W7_v29]
  refine (congrArg _ (ext3 _ (pb t) 0 k ((win1_2.rect_emb_val t (ix3 0 0 k) 0).trans ?_) (win1_2.rect_emb_val_of_index_zero t 1 rfl (ix3 0 0 k)) (win1_2.rect_emb_val_of_index_zero t 2 rfl (ix3 0 0 k)))).trans ((mod1_at _ (pb t) k).trans (cond_at m ρ c (pb t) _))
  show cc1_transform_2 (grid1.coords t) 0 * 1 + 0 = (pn t).val / 16
  rw [p_idx2, mul_one, add_zero]
  rfl

theorem low_at (x : FVec Ideal S1024x16 .f32) (k : Fin 1024) (l : Fin 128) :
    (truncf .bf16 (pad S1024x128 ![0, 0] ![0, 112] ![0, 0] x (sitofp (F := Ideal) .f32 (constantI S_ 32 0#32)) pads_S1024x16_S1024x128_000_01120 h_S_ : FVec Ideal S1024x128 .f32) bitsLt_bf16_f32 : FVec Ideal S1024x128 .bf16) (ix2 k l)
      = if h : l.val < 16 then x (ix2 k ⟨l.val, h⟩) else 0 := padl_at x k l

theorem up_at (x : FVec Ideal S16x256 .f32) (l : Fin 128) (j : Fin 256) :
    (truncf .bf16 (pad S128x256 ![0, 0] ![112, 0] ![0, 0] x (sitofp (F := Ideal) .f32 (constantI S_ 32 0#32)) pads_S16x256_S128x256_01120_000 h_S_ : FVec Ideal S128x256 .f32) bitsLt_bf16_f32 : FVec Ideal S128x256 .bf16) (ix2 l j)
      = if h : l.val < 16 then x (ix2 ⟨l.val, h⟩ j) else 0 := pada_at x l j

theorem p_block3 (t : Fin cfg1.N) (k : Fin 1024) : iblk1 (V7 m ρ) c 3 t (ix2 0 k) = (inp m c).g k := by
  show W7 m ρ c (Proc.devRef .tc main_v16) ((win1_3.rect t).emb (ix2 0 k)) = _
  refine (congrArg (W7 m ρ c (Proc.devRef .tc main_v16)) (ext2 _ 0 k (win1_3.rect_emb_val_of_index_zero t 0 rfl (ix2 0 k)) (win1_3.rect_emb_val_of_index_zero t 1 rfl (ix2 0 k)))).trans ?_
  rw [W7_v16, W5_v16]
  exact gpm_at _ k

theorem p_block4 (t : Fin cfg1.N) (k : Fin 1024) (j : Fin 1536) : iblk1 (V7 m ρ) c 4 t (ix2 k j) = (inp m c).w k ⟨j.val, by omega⟩ := by
  show W7 m ρ c (Proc.devRef .tc main_v6) ((win1_4.rect t).emb (ix2 k j)) = _
  refine (congrArg (W7 m ρ c (Proc.devRef .tc main_v6)) (ext2 _ k j (win1_4.rect_emb_val_of_index_zero t 0 rfl (ix2 k j)) (win1_4.rect_emb_val_of_index_zero t 1 rfl (ix2 k j)))).trans ?_
  rw [W7_v6, W5_v6]
  exact win_at _ k j

theorem p_block5 (t : Fin cfg1.N) (k : Fin 1024) (l : Fin 128) : iblk1 (V7 m ρ) c 5 t (ix2 k l) = if h : l.val < 16 then (inp m c).w k ⟨1536 + l.val, by omega⟩ else 0 := by
  show W7 m ρ c (Proc.devRef .tc main_v7) ((win1_5.rect t).emb (ix2 k l)) = _
  refine (congrArg (W7 m ρ c (Proc.devRef .tc main_v7)) (ext2 _ k l (win1_5.rect_emb_val_of_index_zero t 0 rfl (ix2 k l)) (win1_5.rect_emb_val_of_index_zero t 1 rfl (ix2 k l)))).trans ?_
  rw [W7_v7, W5_v7, W4_of m ρ c main_v2 (by decide), W3_of m ρ c main_v2 (by decide), W2_v2, W1_v1]
  exact (low_at _ k l).trans (dite_congr rfl (fun h => winl_at _ k ⟨l.val, h⟩) fun _ => rfl)

theorem p_block6 (t : Fin cfg1.N) (l : Fin 128) (j : Fin 256) : iblk1 (V7 m ρ) c 6 t (ix2 l j) = if h : l.val < 16 then (inp m c).wl ⟨l.val, h⟩ j else 0 := by
  show W7 m ρ c (Proc.devRef .tc main_v8) ((win1_6.rect t).emb (ix2 l j)) = _
  refine (congrArg (W7 m ρ c (Proc.devRef .tc main_v8)) (ext2 _ l j (win1_6.rect_emb_val_of_index_zero t 0 rfl (ix2 l j)) (win1_6.rect_emb_val_of_index_zero t 1 rfl (ix2 l j)))).trans ?_
  rw [W7_v8, W5_v8, W4_v4, W3_v3]
  exact (up_at _ l j).trans (dite_congr rfl (fun h => wal_at _ ⟨l.val, h⟩ j) fun _ => rfl)

theorem p_block7 (t : Fin cfg1.N) (j : Fin 256) : iblk1 (V7 m ρ) c 7 t (ix2 0 j) = (inp m c).bl j := by
  show W7 m ρ c (Proc.devRef .tc main_v10) ((win1_7.rect t).emb (ix2 0 j)) = _
  refine (congrArg (W7 m ρ c (Proc.devRef .tc main_v10)) (ext2 _ 0 j (win1_7.rect_emb_val_of_index_zero t 0 rfl (ix2 0 j)) (win1_7.rect_emb_val_of_index_zero t 1 rfl (ix2 0 j)))).trans ?_
  rw [W7_v10, W5_v10]
  exact bal_at _ j

theorem p_block8 (t : Fin cfg1.N) (k : Fin 1024) (j : Fin 1536) : iblk1 (V7 m ρ) c 8 t (ix2 k j) = (inp m c).w k ⟨1552 + j.val, by omega⟩ := by
  show W7 m ρ c (Proc.devRef .tc main_v12) ((win1_8.rect t).emb (ix2 k j)) = _
  refine (congrArg (W7 m ρ c (Proc.devRef .tc main_v12)) (ext2 _ k j (win1_8.rect_emb_val_of_index_zero t 0 rfl (ix2 k j)) (win1_8.rect_emb_val_of_index_zero t 1 rfl (ix2 k j)))).trans ?_
  rw [W7_v12, W5_v12]
  exact win1_at _ k j

theorem p_block9 (t : Fin cfg1.N) (k : Fin 1024) (j : Fin 2048) : iblk1 (V7 m ρ) c 9 t (ix2 k j) = (inp m c).w k ⟨3088 + j.val, by omega⟩ := by
  show W7 m ρ c (Proc.devRef .tc main_v14) ((win1_9.rect t).emb (ix2 k j)) = _
  refine (congrArg (W7 m ρ c (Proc.devRef .tc main_v14)) (ext2 _ k j (win1_9.rect_emb_val_of_index_zero t 0 rfl (ix2 k j)) (win1_9.rect_emb_val_of_index_zero t 1 rfl (ix2 k j)))).trans ?_
  rw [W7_v14, W5_v14]
  exact win2_at _ k j

/-! ## The columns -/

theorem ub_eq (t : Fin cfg1.N) (i : Fin 256) : ub (iblk1 (V7 m ρ) c 0 t) (iblk1 (V7 m ρ) c 1 t) (iblk1 (V7 m ρ) c 2 t) (iblk1 (V7 m ρ) c 3 t) i = (inp m c).U (pb t) (pt t i) := by
  funext k
  show u _ _ _ _ k = u _ _ _ _ k
  rw [show (fun k => iblk1 (V7 m ρ) c 0 t (ix2 i k)) = _ from funext fun k => p_block0 m ρ c t i k, show (fun k => iblk1 (V7 m ρ) c 1 t (ix3 0 0 k)) = _ from funext fun k => p_block1 m ρ c t k,
    show (fun k => iblk1 (V7 m ρ) c 2 t (ix3 0 0 k)) = _ from funext fun k => p_block2 m ρ c t k, show (fun k => iblk1 (V7 m ρ) c 3 t (ix2 0 k)) = _ from funext fun k => p_block3 m ρ c t k]

theorem col4 (t : Fin cfg1.N) (i : Fin 256) (j : Fin 1536) (J : Fin 5136) (h : J.val = j.val) :
    lin (ub (iblk1 (V7 m ρ) c 0 t) (iblk1 (V7 m ρ) c 1 t) (iblk1 (V7 m ρ) c 2 t) (iblk1 (V7 m ρ) c 3 t) i) (fun k => iblk1 (V7 m ρ) c 4 t (ix2 k j)) = (inp m c).P (pb t) (pt t i) J := by
  have e : (⟨j.val, by omega⟩ : Fin 5136) = J := Fin.ext h.symm
  exact (congrArg₂ lin (ub_eq m ρ c t i) (funext fun k => p_block4 m ρ c t k j)).trans (congrArg ((inp m c).P (pb t) (pt t i)) e)

theorem col8 (t : Fin cfg1.N) (i : Fin 256) (j : Fin 1536) (J : Fin 5136) (h : J.val = 1552 + j.val) :
    lin (ub (iblk1 (V7 m ρ) c 0 t) (iblk1 (V7 m ρ) c 1 t) (iblk1 (V7 m ρ) c 2 t) (iblk1 (V7 m ρ) c 3 t) i) (fun k => iblk1 (V7 m ρ) c 8 t (ix2 k j)) = (inp m c).P (pb t) (pt t i) J := by
  have e : (⟨1552 + j.val, by omega⟩ : Fin 5136) = J := Fin.ext h.symm
  exact (congrArg₂ lin (ub_eq m ρ c t i) (funext fun k => p_block8 m ρ c t k j)).trans (congrArg ((inp m c).P (pb t) (pt t i)) e)

theorem col9 (t : Fin cfg1.N) (i : Fin 256) (j : Fin 2048) (J : Fin 5136) (h : J.val = 3088 + j.val) :
    lin (ub (iblk1 (V7 m ρ) c 0 t) (iblk1 (V7 m ρ) c 1 t) (iblk1 (V7 m ρ) c 2 t) (iblk1 (V7 m ρ) c 3 t) i) (fun k => iblk1 (V7 m ρ) c 9 t (ix2 k j)) = (inp m c).P (pb t) (pt t i) J := by
  have e : (⟨3088 + j.val, by omega⟩ : Fin 5136) = J := Fin.ext h.symm
  exact (congrArg₂ lin (ub_eq m ρ c t i) (funext fun k => p_block9 m ρ c t k j)).trans (congrArg ((inp m c).P (pb t) (pt t i)) e)

/-- The padded lanes add nothing. -/
theorem sum_pad (f : Fin 128 → EReal) (g : Fin 16 → EReal) (h : ∀ l : Fin 16, f ⟨l.val, by omega⟩ = g l) (z : ∀ l : Fin 128, ¬ l.val < 16 → f l = 0) : ∑ l, f l = ∑ l, g l := by
  refine (Fin.sum_univ_add (a := 16) (b := 112) f).trans ?_
  rw [Finset.sum_eq_zero (s := (Finset.univ : Finset (Fin 112))) (fun l _ => z _ (by show ¬ 16 + l.val < 16; omega)), add_zero]
  exact Finset.sum_congr rfl fun l _ => h l

theorem rank_at (t : Fin cfg1.N) (i : Fin 256) (j : Fin 256) :
    (∑ l : Fin 128, lin (ub (iblk1 (V7 m ρ) c 0 t) (iblk1 (V7 m ρ) c 1 t) (iblk1 (V7 m ρ) c 2 t) (iblk1 (V7 m ρ) c 3 t) i) (fun k => iblk1 (V7 m ρ) c 5 t (ix2 k l)) * iblk1 (V7 m ρ) c 6 t (ix2 l j))
      = ∑ l : Fin 16, (inp m c).P (pb t) (pt t i) ⟨1536 + l.val, by omega⟩ * (inp m c).wl l j := by
  refine sum_pad _ _ (fun l => ?_) (fun l hl => ?_)
  · refine congrArg₂ (· * ·) (congrArg₂ lin (ub_eq m ρ c t i) (funext fun k => (p_block5 m ρ c t k _).trans (dif_pos l.isLt))) ((p_block6 m ρ c t _ j).trans (dif_pos l.isLt))
  · rw [p_block6, dif_neg hl, mul_zero]

/-! ## The results -/

/-- An array of rows of all sequences one after another. -/
def rowsOf {n : ℕ} (O : Fin 8 → Fin 4096 → Fin n → EReal) (i : Shape.Idx ⟨2, ![32768, n]⟩) : EReal :=
  O ⟨(i 0).val / 4096, by have := (i 0).isLt; change (i 0).val < 32768 at this; omega⟩ ⟨(i 0).val % 4096, Nat.mod_lt _ (by norm_num)⟩ (i 1)

theorem rowsOf_at {n : ℕ} (O : Fin 8 → Fin 4096 → Fin n → EReal) (i : Shape.Idx ⟨2, ![32768, n]⟩) (b : Fin 8) (t : Fin 4096) (j : Fin n) (h0 : (i 0).val = 4096 * b.val + t.val) (h1 : (i 1).val = j.val) :
    O b t j = rowsOf O i := by
  unfold rowsOf
  congr 1
  · exact Fin.ext (by show b.val = (i 0).val / 4096; omega)
  · exact Fin.ext (by show t.val = (i 0).val % 4096; omega)
  · exact Fin.ext h1.symm

/-- An array by sequence, head, lane and token. -/
def headsOf (O : Fin 8 → Fin 4096 → Fin 8 → Fin 64 → EReal) (i : S8x8x64x4096.Idx) : EReal := O (i 0) (i 3) (i 1) (i 2)

theorem p_point : ∀ q : Fin 128, ∃ t : Fin grid1.N, (grid1.coords t 0).val = q.val := by decide +kernel

theorem o10_idx : ∀ i : grid1.Coords, cc1_transform_10 i 0 = (i 0).val := by decide +kernel

theorem o10_entry (t : Fin cfg1.N) (i : Fin 256) (j : Fin 256) : out1_10 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O10 (pb t) (pt t i) j :=
  (out10_at _ _ _ _ _ _ _ _ _ _ i j).trans (congrArg (· * Ideal.ofBits .f32 0x3E000000#32) (col4 m ρ c t i _ _ (by first | rfl | (dsimp only; omega))))

theorem o10_row (t : Fin cfg1.N) (y : S256x256.Idx) : ((win1_10.rect t).emb y 0).val = 4096 * (pb t).val + (pt t (y 0)).val := by
  refine (win1_10.rect_emb_val t y 0).trans ?_
  show cc1_transform_10 (grid1.coords t) 0 * 256 + (y 0).val = 4096 * ((pn t).val / 16) + (256 * ((pn t).val % 16) + (y 0).val)
  rw [o10_idx]
  show (pn t).val * 256 + (y 0).val = _
  omega

theorem o10_flushed (t : Fin cfg1.N) : (dat1 (V7 m ρ) c).flushed 10 t = ((cfg1.win 10).blk t).view.read (Elt Ideal) (rowsOf (inp m c).O10) := by
  show (cfg1.win 10).cut (grid1.coords t) ((dat1 (V7 m ρ) c).after 10 t) = _
  rw [after1_10]
  exact funext fun y => (congrArg (out1_10 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o10_entry m ρ c t (y 0) (y 1)).trans
    (rowsOf_at (inp m c).O10 ((win1_10.rect t).emb y) _ _ _ (o10_row t y) (win1_10.rect_emb_val_of_index_zero t 1 rfl y)))

theorem o10_final : W8 m ρ c (Proc.devRef .tc main_v31_0) = rowsOf (inp m c).O10 :=
  (W8_arr m ρ c 10).trans ((dat1 (V7 m ρ) c).arrAt_eq_of_cover 10 (rowsOf (inp m c).O10) (fun t _ => o10_flushed m ρ c t) fun i => by
    have h0 : (i 0 : ℕ) < 32768 := (i 0).isLt
    have h1 : (i 1 : ℕ) < 256 := (i 1).isLt
    obtain ⟨t, e⟩ := p_point ⟨(i 0 : ℕ) / 256, by omega⟩
    refine ⟨t, flush1_10 t, ?_⟩
    show i ∈ ((View.whole main_v31_0).slice (win1_10.rect t)).set
    rw [View.set_slice_whole, Rect.mem_set_unit]
    intro a
    match a with
    | ⟨0, _⟩ =>
      show cc1_transform_10 (grid1.coords t) 0 * 256 ≤ (i 0 : ℕ) ∧ (i 0 : ℕ) < cc1_transform_10 (grid1.coords t) 0 * 256 + 256
      rw [o10_idx, e]
      dsimp only
      omega
    | ⟨1, _⟩ =>
      show 0 * 256 ≤ (i 1 : ℕ) ∧ (i 1 : ℕ) < 0 * 256 + 256
      omega)

theorem o11_idx : ∀ i : grid1.Coords, cc1_transform_11 i 0 = (i 0).val := by decide +kernel

theorem o11_entry (t : Fin cfg1.N) (i : Fin 256) (j : Fin 256) : out1_11 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O11 (pb t) (pt t i) j :=
  (out11_at _ _ _ _ _ _ _ _ _ _ i j).trans (col4 m ρ c t i _ _ (by first | rfl | (dsimp only; omega)))

theorem o11_row (t : Fin cfg1.N) (y : S256x256.Idx) : ((win1_11.rect t).emb y 0).val = 4096 * (pb t).val + (pt t (y 0)).val := by
  refine (win1_11.rect_emb_val t y 0).trans ?_
  show cc1_transform_11 (grid1.coords t) 0 * 256 + (y 0).val = 4096 * ((pn t).val / 16) + (256 * ((pn t).val % 16) + (y 0).val)
  rw [o11_idx]
  show (pn t).val * 256 + (y 0).val = _
  omega

theorem o11_flushed (t : Fin cfg1.N) : (dat1 (V7 m ρ) c).flushed 11 t = ((cfg1.win 11).blk t).view.read (Elt Ideal) (rowsOf (inp m c).O11) := by
  show (cfg1.win 11).cut (grid1.coords t) ((dat1 (V7 m ρ) c).after 11 t) = _
  rw [after1_11]
  exact funext fun y => (congrArg (out1_11 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o11_entry m ρ c t (y 0) (y 1)).trans
    (rowsOf_at (inp m c).O11 ((win1_11.rect t).emb y) _ _ _ (o11_row t y) (win1_11.rect_emb_val_of_index_zero t 1 rfl y)))

theorem o11_final : W8 m ρ c (Proc.devRef .tc main_v31_1) = rowsOf (inp m c).O11 :=
  (W8_arr m ρ c 11).trans ((dat1 (V7 m ρ) c).arrAt_eq_of_cover 11 (rowsOf (inp m c).O11) (fun t _ => o11_flushed m ρ c t) fun i => by
    have h0 : (i 0 : ℕ) < 32768 := (i 0).isLt
    have h1 : (i 1 : ℕ) < 256 := (i 1).isLt
    obtain ⟨t, e⟩ := p_point ⟨(i 0 : ℕ) / 256, by omega⟩
    refine ⟨t, flush1_11 t, ?_⟩
    show i ∈ ((View.whole main_v31_1).slice (win1_11.rect t)).set
    rw [View.set_slice_whole, Rect.mem_set_unit]
    intro a
    match a with
    | ⟨0, _⟩ =>
      show cc1_transform_11 (grid1.coords t) 0 * 256 ≤ (i 0 : ℕ) ∧ (i 0 : ℕ) < cc1_transform_11 (grid1.coords t) 0 * 256 + 256
      rw [o11_idx, e]
      dsimp only
      omega
    | ⟨1, _⟩ =>
      show 0 * 256 ≤ (i 1 : ℕ) ∧ (i 1 : ℕ) < 0 * 256 + 256
      omega)

theorem o12_idx : ∀ i : grid1.Coords, cc1_transform_12 i 0 = (i 0).val := by decide +kernel

theorem o12_entry (t : Fin cfg1.N) (i : Fin 256) (j : Fin 256) : out1_12 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O12 (pb t) (pt t i) j :=
  (out12_at _ _ _ _ _ _ _ _ _ _ i j).trans (by
  unfold In.O12 In.LA decay
  rw [rank_at m ρ c t i j, p_block7 m ρ c t j])

theorem o12_row (t : Fin cfg1.N) (y : S256x256.Idx) : ((win1_12.rect t).emb y 0).val = 4096 * (pb t).val + (pt t (y 0)).val := by
  refine (win1_12.rect_emb_val t y 0).trans ?_
  show cc1_transform_12 (grid1.coords t) 0 * 256 + (y 0).val = 4096 * ((pn t).val / 16) + (256 * ((pn t).val % 16) + (y 0).val)
  rw [o12_idx]
  show (pn t).val * 256 + (y 0).val = _
  omega

theorem o12_flushed (t : Fin cfg1.N) : (dat1 (V7 m ρ) c).flushed 12 t = ((cfg1.win 12).blk t).view.read (Elt Ideal) (rowsOf (inp m c).O12) := by
  show (cfg1.win 12).cut (grid1.coords t) ((dat1 (V7 m ρ) c).after 12 t) = _
  rw [after1_12]
  exact funext fun y => (congrArg (out1_12 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o12_entry m ρ c t (y 0) (y 1)).trans
    (rowsOf_at (inp m c).O12 ((win1_12.rect t).emb y) _ _ _ (o12_row t y) (win1_12.rect_emb_val_of_index_zero t 1 rfl y)))

theorem o12_final : W8 m ρ c (Proc.devRef .tc main_v31_2) = rowsOf (inp m c).O12 :=
  (W8_arr m ρ c 12).trans ((dat1 (V7 m ρ) c).arrAt_eq_of_cover 12 (rowsOf (inp m c).O12) (fun t _ => o12_flushed m ρ c t) fun i => by
    have h0 : (i 0 : ℕ) < 32768 := (i 0).isLt
    have h1 : (i 1 : ℕ) < 256 := (i 1).isLt
    obtain ⟨t, e⟩ := p_point ⟨(i 0 : ℕ) / 256, by omega⟩
    refine ⟨t, flush1_12 t, ?_⟩
    show i ∈ ((View.whole main_v31_2).slice (win1_12.rect t)).set
    rw [View.set_slice_whole, Rect.mem_set_unit]
    intro a
    match a with
    | ⟨0, _⟩ =>
      show cc1_transform_12 (grid1.coords t) 0 * 256 ≤ (i 0 : ℕ) ∧ (i 0 : ℕ) < cc1_transform_12 (grid1.coords t) 0 * 256 + 256
      rw [o12_idx, e]
      dsimp only
      omega
    | ⟨1, _⟩ =>
      show 0 * 256 ≤ (i 1 : ℕ) ∧ (i 1 : ℕ) < 0 * 256 + 256
      omega)

theorem o13_idx : ∀ i : grid1.Coords, cc1_transform_13 i 0 = (i 0).val := by decide +kernel

theorem o13_entry (t : Fin cfg1.N) (i : Fin 256) (j : Fin 512) : out1_13 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O13 (pb t) (pt t i) j :=
  (out13_at _ _ _ _ _ _ _ _ _ _ i j).trans (col4 m ρ c t i _ _ (by first | rfl | (dsimp only; omega)))

theorem o13_row (t : Fin cfg1.N) (y : S256x512.Idx) : ((win1_13.rect t).emb y 0).val = 4096 * (pb t).val + (pt t (y 0)).val := by
  refine (win1_13.rect_emb_val t y 0).trans ?_
  show cc1_transform_13 (grid1.coords t) 0 * 256 + (y 0).val = 4096 * ((pn t).val / 16) + (256 * ((pn t).val % 16) + (y 0).val)
  rw [o13_idx]
  show (pn t).val * 256 + (y 0).val = _
  omega

theorem o13_flushed (t : Fin cfg1.N) : (dat1 (V7 m ρ) c).flushed 13 t = ((cfg1.win 13).blk t).view.read (Elt Ideal) (rowsOf (inp m c).O13) := by
  show (cfg1.win 13).cut (grid1.coords t) ((dat1 (V7 m ρ) c).after 13 t) = _
  rw [after1_13]
  exact funext fun y => (congrArg (out1_13 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o13_entry m ρ c t (y 0) (y 1)).trans
    (rowsOf_at (inp m c).O13 ((win1_13.rect t).emb y) _ _ _ (o13_row t y) (win1_13.rect_emb_val_of_index_zero t 1 rfl y)))

theorem o13_final : W8 m ρ c (Proc.devRef .tc main_v31_3) = rowsOf (inp m c).O13 :=
  (W8_arr m ρ c 13).trans ((dat1 (V7 m ρ) c).arrAt_eq_of_cover 13 (rowsOf (inp m c).O13) (fun t _ => o13_flushed m ρ c t) fun i => by
    have h0 : (i 0 : ℕ) < 32768 := (i 0).isLt
    have h1 : (i 1 : ℕ) < 512 := (i 1).isLt
    obtain ⟨t, e⟩ := p_point ⟨(i 0 : ℕ) / 256, by omega⟩
    refine ⟨t, flush1_13 t, ?_⟩
    show i ∈ ((View.whole main_v31_3).slice (win1_13.rect t)).set
    rw [View.set_slice_whole, Rect.mem_set_unit]
    intro a
    match a with
    | ⟨0, _⟩ =>
      show cc1_transform_13 (grid1.coords t) 0 * 256 ≤ (i 0 : ℕ) ∧ (i 0 : ℕ) < cc1_transform_13 (grid1.coords t) 0 * 256 + 256
      rw [o13_idx, e]
      dsimp only
      omega
    | ⟨1, _⟩ =>
      show 0 * 512 ≤ (i 1 : ℕ) ∧ (i 1 : ℕ) < 0 * 512 + 512
      omega)

theorem o14_idx : ∀ i : grid1.Coords, cc1_transform_14 i 0 = (i 0).val := by decide +kernel

theorem o14_entry (t : Fin cfg1.N) (i : Fin 256) (j : Fin 512) : out1_14 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O14 (pb t) (pt t i) j :=
  (out14_at _ _ _ _ _ _ _ _ _ _ i j).trans (congrArg (fun e => e * sg e) (col4 m ρ c t i _ _ (by first | rfl | (dsimp only; omega))))

theorem o14_row (t : Fin cfg1.N) (y : S256x512.Idx) : ((win1_14.rect t).emb y 0).val = 4096 * (pb t).val + (pt t (y 0)).val := by
  refine (win1_14.rect_emb_val t y 0).trans ?_
  show cc1_transform_14 (grid1.coords t) 0 * 256 + (y 0).val = 4096 * ((pn t).val / 16) + (256 * ((pn t).val % 16) + (y 0).val)
  rw [o14_idx]
  show (pn t).val * 256 + (y 0).val = _
  omega

theorem o14_flushed (t : Fin cfg1.N) : (dat1 (V7 m ρ) c).flushed 14 t = ((cfg1.win 14).blk t).view.read (Elt Ideal) (rowsOf (inp m c).O14) := by
  show (cfg1.win 14).cut (grid1.coords t) ((dat1 (V7 m ρ) c).after 14 t) = _
  rw [after1_14]
  exact funext fun y => (congrArg (out1_14 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o14_entry m ρ c t (y 0) (y 1)).trans
    (rowsOf_at (inp m c).O14 ((win1_14.rect t).emb y) _ _ _ (o14_row t y) (win1_14.rect_emb_val_of_index_zero t 1 rfl y)))

theorem o14_final : W8 m ρ c (Proc.devRef .tc main_v31_4) = rowsOf (inp m c).O14 :=
  (W8_arr m ρ c 14).trans ((dat1 (V7 m ρ) c).arrAt_eq_of_cover 14 (rowsOf (inp m c).O14) (fun t _ => o14_flushed m ρ c t) fun i => by
    have h0 : (i 0 : ℕ) < 32768 := (i 0).isLt
    have h1 : (i 1 : ℕ) < 512 := (i 1).isLt
    obtain ⟨t, e⟩ := p_point ⟨(i 0 : ℕ) / 256, by omega⟩
    refine ⟨t, flush1_14 t, ?_⟩
    show i ∈ ((View.whole main_v31_4).slice (win1_14.rect t)).set
    rw [View.set_slice_whole, Rect.mem_set_unit]
    intro a
    match a with
    | ⟨0, _⟩ =>
      show cc1_transform_14 (grid1.coords t) 0 * 256 ≤ (i 0 : ℕ) ∧ (i 0 : ℕ) < cc1_transform_14 (grid1.coords t) 0 * 256 + 256
      rw [o14_idx, e]
      dsimp only
      omega
    | ⟨1, _⟩ =>
      show 0 * 512 ≤ (i 1 : ℕ) ∧ (i 1 : ℕ) < 0 * 512 + 512
      omega)

theorem o15_idx : ∀ i : grid1.Coords, cc1_transform_15 i 0 = (i 0).val := by decide +kernel

theorem o15_entry (t : Fin cfg1.N) (i : Fin 256) (j : Fin 512) : out1_15 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O15 (pb t) (pt t i) j :=
  (out15_at _ _ _ _ _ _ _ _ _ _ i j).trans (col8 m ρ c t i _ _ (by first | rfl | (dsimp only; omega)))

theorem o15_row (t : Fin cfg1.N) (y : S256x512.Idx) : ((win1_15.rect t).emb y 0).val = 4096 * (pb t).val + (pt t (y 0)).val := by
  refine (win1_15.rect_emb_val t y 0).trans ?_
  show cc1_transform_15 (grid1.coords t) 0 * 256 + (y 0).val = 4096 * ((pn t).val / 16) + (256 * ((pn t).val % 16) + (y 0).val)
  rw [o15_idx]
  show (pn t).val * 256 + (y 0).val = _
  omega

theorem o15_flushed (t : Fin cfg1.N) : (dat1 (V7 m ρ) c).flushed 15 t = ((cfg1.win 15).blk t).view.read (Elt Ideal) (rowsOf (inp m c).O15) := by
  show (cfg1.win 15).cut (grid1.coords t) ((dat1 (V7 m ρ) c).after 15 t) = _
  rw [after1_15]
  exact funext fun y => (congrArg (out1_15 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o15_entry m ρ c t (y 0) (y 1)).trans
    (rowsOf_at (inp m c).O15 ((win1_15.rect t).emb y) _ _ _ (o15_row t y) (win1_15.rect_emb_val_of_index_zero t 1 rfl y)))

theorem o15_final : W8 m ρ c (Proc.devRef .tc main_v31_5) = rowsOf (inp m c).O15 :=
  (W8_arr m ρ c 15).trans ((dat1 (V7 m ρ) c).arrAt_eq_of_cover 15 (rowsOf (inp m c).O15) (fun t _ => o15_flushed m ρ c t) fun i => by
    have h0 : (i 0 : ℕ) < 32768 := (i 0).isLt
    have h1 : (i 1 : ℕ) < 512 := (i 1).isLt
    obtain ⟨t, e⟩ := p_point ⟨(i 0 : ℕ) / 256, by omega⟩
    refine ⟨t, flush1_15 t, ?_⟩
    show i ∈ ((View.whole main_v31_5).slice (win1_15.rect t)).set
    rw [View.set_slice_whole, Rect.mem_set_unit]
    intro a
    match a with
    | ⟨0, _⟩ =>
      show cc1_transform_15 (grid1.coords t) 0 * 256 ≤ (i 0 : ℕ) ∧ (i 0 : ℕ) < cc1_transform_15 (grid1.coords t) 0 * 256 + 256
      rw [o15_idx, e]
      dsimp only
      omega
    | ⟨1, _⟩ =>
      show 0 * 512 ≤ (i 1 : ℕ) ∧ (i 1 : ℕ) < 0 * 512 + 512
      omega)

theorem o16_idx : ∀ i : grid1.Coords, cc1_transform_16 i 0 = (i 0).val := by decide +kernel

theorem o16_entry (t : Fin cfg1.N) (i : Fin 256) (j : Fin 512) : out1_16 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O16 (pb t) (pt t i) j :=
  (out16_at _ _ _ _ _ _ _ _ _ _ i j).trans (col8 m ρ c t i _ _ (by first | rfl | (dsimp only; omega)))

theorem o16_row (t : Fin cfg1.N) (y : S256x512.Idx) : ((win1_16.rect t).emb y 0).val = 4096 * (pb t).val + (pt t (y 0)).val := by
  refine (win1_16.rect_emb_val t y 0).trans ?_
  show cc1_transform_16 (grid1.coords t) 0 * 256 + (y 0).val = 4096 * ((pn t).val / 16) + (256 * ((pn t).val % 16) + (y 0).val)
  rw [o16_idx]
  show (pn t).val * 256 + (y 0).val = _
  omega

theorem o16_flushed (t : Fin cfg1.N) : (dat1 (V7 m ρ) c).flushed 16 t = ((cfg1.win 16).blk t).view.read (Elt Ideal) (rowsOf (inp m c).O16) := by
  show (cfg1.win 16).cut (grid1.coords t) ((dat1 (V7 m ρ) c).after 16 t) = _
  rw [after1_16]
  exact funext fun y => (congrArg (out1_16 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o16_entry m ρ c t (y 0) (y 1)).trans
    (rowsOf_at (inp m c).O16 ((win1_16.rect t).emb y) _ _ _ (o16_row t y) (win1_16.rect_emb_val_of_index_zero t 1 rfl y)))

theorem o16_final : W8 m ρ c (Proc.devRef .tc main_v31_6) = rowsOf (inp m c).O16 :=
  (W8_arr m ρ c 16).trans ((dat1 (V7 m ρ) c).arrAt_eq_of_cover 16 (rowsOf (inp m c).O16) (fun t _ => o16_flushed m ρ c t) fun i => by
    have h0 : (i 0 : ℕ) < 32768 := (i 0).isLt
    have h1 : (i 1 : ℕ) < 512 := (i 1).isLt
    obtain ⟨t, e⟩ := p_point ⟨(i 0 : ℕ) / 256, by omega⟩
    refine ⟨t, flush1_16 t, ?_⟩
    show i ∈ ((View.whole main_v31_6).slice (win1_16.rect t)).set
    rw [View.set_slice_whole, Rect.mem_set_unit]
    intro a
    match a with
    | ⟨0, _⟩ =>
      show cc1_transform_16 (grid1.coords t) 0 * 256 ≤ (i 0 : ℕ) ∧ (i 0 : ℕ) < cc1_transform_16 (grid1.coords t) 0 * 256 + 256
      rw [o16_idx, e]
      dsimp only
      omega
    | ⟨1, _⟩ =>
      show 0 * 512 ≤ (i 1 : ℕ) ∧ (i 1 : ℕ) < 0 * 512 + 512
      omega)

theorem o17_idx : ∀ i : grid1.Coords, cc1_transform_17 i 0 = (i 0).val := by decide +kernel

theorem o17_entry (t : Fin cfg1.N) (i : Fin 256) (j : Fin 512) : out1_17 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O17 (pb t) (pt t i) j :=
  (out17_at _ _ _ _ _ _ _ _ _ _ i j).trans (col8 m ρ c t i _ _ (by first | rfl | (dsimp only; omega)))

theorem o17_row (t : Fin cfg1.N) (y : S256x512.Idx) : ((win1_17.rect t).emb y 0).val = 4096 * (pb t).val + (pt t (y 0)).val := by
  refine (win1_17.rect_emb_val t y 0).trans ?_
  show cc1_transform_17 (grid1.coords t) 0 * 256 + (y 0).val = 4096 * ((pn t).val / 16) + (256 * ((pn t).val % 16) + (y 0).val)
  rw [o17_idx]
  show (pn t).val * 256 + (y 0).val = _
  omega

theorem o17_flushed (t : Fin cfg1.N) : (dat1 (V7 m ρ) c).flushed 17 t = ((cfg1.win 17).blk t).view.read (Elt Ideal) (rowsOf (inp m c).O17) := by
  show (cfg1.win 17).cut (grid1.coords t) ((dat1 (V7 m ρ) c).after 17 t) = _
  rw [after1_17]
  exact funext fun y => (congrArg (out1_17 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o17_entry m ρ c t (y 0) (y 1)).trans
    (rowsOf_at (inp m c).O17 ((win1_17.rect t).emb y) _ _ _ (o17_row t y) (win1_17.rect_emb_val_of_index_zero t 1 rfl y)))

theorem o17_final : W8 m ρ c (Proc.devRef .tc main_v31_7) = rowsOf (inp m c).O17 :=
  (W8_arr m ρ c 17).trans ((dat1 (V7 m ρ) c).arrAt_eq_of_cover 17 (rowsOf (inp m c).O17) (fun t _ => o17_flushed m ρ c t) fun i => by
    have h0 : (i 0 : ℕ) < 32768 := (i 0).isLt
    have h1 : (i 1 : ℕ) < 512 := (i 1).isLt
    obtain ⟨t, e⟩ := p_point ⟨(i 0 : ℕ) / 256, by omega⟩
    refine ⟨t, flush1_17 t, ?_⟩
    show i ∈ ((View.whole main_v31_7).slice (win1_17.rect t)).set
    rw [View.set_slice_whole, Rect.mem_set_unit]
    intro a
    match a with
    | ⟨0, _⟩ =>
      show cc1_transform_17 (grid1.coords t) 0 * 256 ≤ (i 0 : ℕ) ∧ (i 0 : ℕ) < cc1_transform_17 (grid1.coords t) 0 * 256 + 256
      rw [o17_idx, e]
      dsimp only
      omega
    | ⟨1, _⟩ =>
      show 0 * 512 ≤ (i 1 : ℕ) ∧ (i 1 : ℕ) < 0 * 512 + 512
      omega)

theorem o20_idx : ∀ i : grid1.Coords, cc1_transform_20 i 0 = (i 0).val := by decide +kernel

theorem o20_entry (t : Fin cfg1.N) (i : Fin 256) (j : Fin 1024) : out1_20 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O20 (pb t) (pt t i) j :=
  (out20_at _ _ _ _ _ _ _ _ _ _ i j).trans (congrArg sg (col9 m ρ c t i _ _ (by first | rfl | (dsimp only; omega))))

theorem o20_row (t : Fin cfg1.N) (y : S256x1024.Idx) : ((win1_20.rect t).emb y 0).val = 4096 * (pb t).val + (pt t (y 0)).val := by
  refine (win1_20.rect_emb_val t y 0).trans ?_
  show cc1_transform_20 (grid1.coords t) 0 * 256 + (y 0).val = 4096 * ((pn t).val / 16) + (256 * ((pn t).val % 16) + (y 0).val)
  rw [o20_idx]
  show (pn t).val * 256 + (y 0).val = _
  omega

theorem o20_flushed (t : Fin cfg1.N) : (dat1 (V7 m ρ) c).flushed 20 t = ((cfg1.win 20).blk t).view.read (Elt Ideal) (rowsOf (inp m c).O20) := by
  show (cfg1.win 20).cut (grid1.coords t) ((dat1 (V7 m ρ) c).after 20 t) = _
  rw [after1_20]
  exact funext fun y => (congrArg (out1_20 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o20_entry m ρ c t (y 0) (y 1)).trans
    (rowsOf_at (inp m c).O20 ((win1_20.rect t).emb y) _ _ _ (o20_row t y) (win1_20.rect_emb_val_of_index_zero t 1 rfl y)))

theorem o20_final : W8 m ρ c (Proc.devRef .tc main_v31_10) = rowsOf (inp m c).O20 :=
  (W8_arr m ρ c 20).trans ((dat1 (V7 m ρ) c).arrAt_eq_of_cover 20 (rowsOf (inp m c).O20) (fun t _ => o20_flushed m ρ c t) fun i => by
    have h0 : (i 0 : ℕ) < 32768 := (i 0).isLt
    have h1 : (i 1 : ℕ) < 1024 := (i 1).isLt
    obtain ⟨t, e⟩ := p_point ⟨(i 0 : ℕ) / 256, by omega⟩
    refine ⟨t, flush1_20 t, ?_⟩
    show i ∈ ((View.whole main_v31_10).slice (win1_20.rect t)).set
    rw [View.set_slice_whole, Rect.mem_set_unit]
    intro a
    match a with
    | ⟨0, _⟩ =>
      show cc1_transform_20 (grid1.coords t) 0 * 256 ≤ (i 0 : ℕ) ∧ (i 0 : ℕ) < cc1_transform_20 (grid1.coords t) 0 * 256 + 256
      rw [o20_idx, e]
      dsimp only
      omega
    | ⟨1, _⟩ =>
      show 0 * 1024 ≤ (i 1 : ℕ) ∧ (i 1 : ℕ) < 0 * 1024 + 1024
      omega)

theorem o21_idx : ∀ i : grid1.Coords, cc1_transform_21 i 0 = (i 0).val := by decide +kernel

theorem o21_entry (t : Fin cfg1.N) (i : Fin 256) (j : Fin 1024) : out1_21 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O21 (pb t) (pt t i) j :=
  (out21_at _ _ _ _ _ _ _ _ _ _ i j).trans (congrArg sg (col9 m ρ c t i _ _ (by first | rfl | (dsimp only; omega))))

theorem o21_row (t : Fin cfg1.N) (y : S256x1024.Idx) : ((win1_21.rect t).emb y 0).val = 4096 * (pb t).val + (pt t (y 0)).val := by
  refine (win1_21.rect_emb_val t y 0).trans ?_
  show cc1_transform_21 (grid1.coords t) 0 * 256 + (y 0).val = 4096 * ((pn t).val / 16) + (256 * ((pn t).val % 16) + (y 0).val)
  rw [o21_idx]
  show (pn t).val * 256 + (y 0).val = _
  omega

theorem o21_flushed (t : Fin cfg1.N) : (dat1 (V7 m ρ) c).flushed 21 t = ((cfg1.win 21).blk t).view.read (Elt Ideal) (rowsOf (inp m c).O21) := by
  show (cfg1.win 21).cut (grid1.coords t) ((dat1 (V7 m ρ) c).after 21 t) = _
  rw [after1_21]
  exact funext fun y => (congrArg (out1_21 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o21_entry m ρ c t (y 0) (y 1)).trans
    (rowsOf_at (inp m c).O21 ((win1_21.rect t).emb y) _ _ _ (o21_row t y) (win1_21.rect_emb_val_of_index_zero t 1 rfl y)))

theorem o21_final : W8 m ρ c (Proc.devRef .tc main_v31_11) = rowsOf (inp m c).O21 :=
  (W8_arr m ρ c 21).trans ((dat1 (V7 m ρ) c).arrAt_eq_of_cover 21 (rowsOf (inp m c).O21) (fun t _ => o21_flushed m ρ c t) fun i => by
    have h0 : (i 0 : ℕ) < 32768 := (i 0).isLt
    have h1 : (i 1 : ℕ) < 1024 := (i 1).isLt
    obtain ⟨t, e⟩ := p_point ⟨(i 0 : ℕ) / 256, by omega⟩
    refine ⟨t, flush1_21 t, ?_⟩
    show i ∈ ((View.whole main_v31_11).slice (win1_21.rect t)).set
    rw [View.set_slice_whole, Rect.mem_set_unit]
    intro a
    match a with
    | ⟨0, _⟩ =>
      show cc1_transform_21 (grid1.coords t) 0 * 256 ≤ (i 0 : ℕ) ∧ (i 0 : ℕ) < cc1_transform_21 (grid1.coords t) 0 * 256 + 256
      rw [o21_idx, e]
      dsimp only
      omega
    | ⟨1, _⟩ =>
      show 0 * 1024 ≤ (i 1 : ℕ) ∧ (i 1 : ℕ) < 0 * 1024 + 1024
      omega)

theorem o18_idx : ∀ i : grid1.Coords, cc1_transform_18 i 0 = (i 0).val / 16 ∧ cc1_transform_18 i 3 = (i 0).val % 16 := by decide +kernel

theorem o18_entry (t : Fin cfg1.N) (h : Fin 8) (d : Fin 64) (i : Fin 256) : out1_18 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix4 0 h d i) = (inp m c).O18 (pb t) (pt t i) h d :=
  (out18_at _ _ _ _ _ _ _ _ _ _ h d i).trans (col8 m ρ c t i _ _ (by first | rfl | (dsimp only; omega)))

theorem o18_emb (t : Fin cfg1.N) (h : Fin 8) (d : Fin 64) (i : Fin 256) : headsOf (inp m c).O18 ((win1_18.rect t).emb (ix4 0 h d i)) = (inp m c).O18 (pb t) (pt t i) h d := by
  have e0 : (win1_18.rect t).emb (ix4 0 h d i) 0 = pb t := Fin.ext ((win1_18.rect_emb_val t (ix4 0 h d i) 0).trans (by
    show cc1_transform_18 (grid1.coords t) 0 * 1 + 0 = (pn t).val / 16
    rw [(o18_idx _).1, mul_one, add_zero]
    rfl))
  have e1 : (win1_18.rect t).emb (ix4 0 h d i) 1 = h := Fin.ext (win1_18.rect_emb_val_of_index_zero t 1 rfl (ix4 0 h d i))
  have e2 : (win1_18.rect t).emb (ix4 0 h d i) 2 = d := Fin.ext (win1_18.rect_emb_val_of_index_zero t 2 rfl (ix4 0 h d i))
  have e3 : (win1_18.rect t).emb (ix4 0 h d i) 3 = pt t i := Fin.ext ((win1_18.rect_emb_val t (ix4 0 h d i) 3).trans (by
    show cc1_transform_18 (grid1.coords t) 3 * 256 + i.val = 256 * ((pn t).val % 16) + i.val
    rw [(o18_idx _).2]
    show (pn t).val % 16 * 256 + i.val = _
    ring))
  unfold headsOf
  rw [e0, e1, e2, e3]

theorem o18_flushed (t : Fin cfg1.N) : (dat1 (V7 m ρ) c).flushed 18 t = ((cfg1.win 18).blk t).view.read (Elt Ideal) (headsOf (inp m c).O18) := by
  show (cfg1.win 18).cut (grid1.coords t) ((dat1 (V7 m ρ) c).after 18 t) = _
  rw [after1_18]
  refine funext fun (y : S1x8x64x256.Idx) => ?_
  have ey : y = ix4 0 (y 1) (y 2) (y 3) := (eq_ix4 y).trans (congrArg (fun a : Fin 1 => ix4 a (y 1) (y 2) (y 3)) (Subsingleton.elim _ _))
  exact (congrArg (out1_18 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) ey).trans ((o18_entry m ρ c t (y 1) (y 2) (y 3)).trans
    ((o18_emb m c t (y 1) (y 2) (y 3)).symm.trans (congrArg (fun z => headsOf (inp m c).O18 ((win1_18.rect t).emb z)) ey.symm)))

theorem o18_final : W8 m ρ c (Proc.devRef .tc main_v31_8) = headsOf (inp m c).O18 :=
  (W8_arr m ρ c 18).trans ((dat1 (V7 m ρ) c).arrAt_eq_of_cover 18 (headsOf (inp m c).O18) (fun t _ => o18_flushed m ρ c t) fun i => by
    have h0 : (i 0 : ℕ) < 8 := (i 0).isLt
    have h1 : (i 1 : ℕ) < 8 := (i 1).isLt
    have h2 : (i 2 : ℕ) < 64 := (i 2).isLt
    have h3 : (i 3 : ℕ) < 4096 := (i 3).isLt
    obtain ⟨t, e⟩ := p_point ⟨16 * (i 0 : ℕ) + (i 3 : ℕ) / 256, by omega⟩
    refine ⟨t, flush1_18 t, ?_⟩
    show i ∈ ((View.whole main_v31_8).slice (win1_18.rect t)).set
    rw [View.set_slice_whole, Rect.mem_set_unit]
    intro a
    match a with
    | ⟨0, _⟩ =>
      show cc1_transform_18 (grid1.coords t) 0 * 1 ≤ (i 0 : ℕ) ∧ (i 0 : ℕ) < cc1_transform_18 (grid1.coords t) 0 * 1 + 1
      rw [(o18_idx _).1, e]
      dsimp only
      omega
    | ⟨1, _⟩ =>
      show 0 * 8 ≤ (i 1 : ℕ) ∧ (i 1 : ℕ) < 0 * 8 + 8
      omega
    | ⟨2, _⟩ =>
      show 0 * 64 ≤ (i 2 : ℕ) ∧ (i 2 : ℕ) < 0 * 64 + 64
      omega
    | ⟨3, _⟩ =>
      show cc1_transform_18 (grid1.coords t) 3 * 256 ≤ (i 3 : ℕ) ∧ (i 3 : ℕ) < cc1_transform_18 (grid1.coords t) 3 * 256 + 256
      rw [(o18_idx _).2, e]
      dsimp only
      omega)

theorem o19_idx : ∀ i : grid1.Coords, cc1_transform_19 i 0 = (i 0).val / 16 ∧ cc1_transform_19 i 3 = (i 0).val % 16 := by decide +kernel

theorem o19_entry (t : Fin cfg1.N) (h : Fin 8) (d : Fin 64) (i : Fin 256) : out1_19 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix4 0 h d i) = (inp m c).O19 (pb t) (pt t i) h d :=
  (out19_at _ _ _ _ _ _ _ _ _ _ h d i).trans (col8 m ρ c t i _ _ (by first | rfl | (dsimp only; omega)))

theorem o19_emb (t : Fin cfg1.N) (h : Fin 8) (d : Fin 64) (i : Fin 256) : headsOf (inp m c).O19 ((win1_19.rect t).emb (ix4 0 h d i)) = (inp m c).O19 (pb t) (pt t i) h d := by
  have e0 : (win1_19.rect t).emb (ix4 0 h d i) 0 = pb t := Fin.ext ((win1_19.rect_emb_val t (ix4 0 h d i) 0).trans (by
    show cc1_transform_19 (grid1.coords t) 0 * 1 + 0 = (pn t).val / 16
    rw [(o19_idx _).1, mul_one, add_zero]
    rfl))
  have e1 : (win1_19.rect t).emb (ix4 0 h d i) 1 = h := Fin.ext (win1_19.rect_emb_val_of_index_zero t 1 rfl (ix4 0 h d i))
  have e2 : (win1_19.rect t).emb (ix4 0 h d i) 2 = d := Fin.ext (win1_19.rect_emb_val_of_index_zero t 2 rfl (ix4 0 h d i))
  have e3 : (win1_19.rect t).emb (ix4 0 h d i) 3 = pt t i := Fin.ext ((win1_19.rect_emb_val t (ix4 0 h d i) 3).trans (by
    show cc1_transform_19 (grid1.coords t) 3 * 256 + i.val = 256 * ((pn t).val % 16) + i.val
    rw [(o19_idx _).2]
    show (pn t).val % 16 * 256 + i.val = _
    ring))
  unfold headsOf
  rw [e0, e1, e2, e3]

theorem o19_flushed (t : Fin cfg1.N) : (dat1 (V7 m ρ) c).flushed 19 t = ((cfg1.win 19).blk t).view.read (Elt Ideal) (headsOf (inp m c).O19) := by
  show (cfg1.win 19).cut (grid1.coords t) ((dat1 (V7 m ρ) c).after 19 t) = _
  rw [after1_19]
  refine funext fun (y : S1x8x64x256.Idx) => ?_
  have ey : y = ix4 0 (y 1) (y 2) (y 3) := (eq_ix4 y).trans (congrArg (fun a : Fin 1 => ix4 a (y 1) (y 2) (y 3)) (Subsingleton.elim _ _))
  exact (congrArg (out1_19 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) ey).trans ((o19_entry m ρ c t (y 1) (y 2) (y 3)).trans
    ((o19_emb m c t (y 1) (y 2) (y 3)).symm.trans (congrArg (fun z => headsOf (inp m c).O19 ((win1_19.rect t).emb z)) ey.symm)))

theorem o19_final : W8 m ρ c (Proc.devRef .tc main_v31_9) = headsOf (inp m c).O19 :=
  (W8_arr m ρ c 19).trans ((dat1 (V7 m ρ) c).arrAt_eq_of_cover 19 (headsOf (inp m c).O19) (fun t _ => o19_flushed m ρ c t) fun i => by
    have h0 : (i 0 : ℕ) < 8 := (i 0).isLt
    have h1 : (i 1 : ℕ) < 8 := (i 1).isLt
    have h2 : (i 2 : ℕ) < 64 := (i 2).isLt
    have h3 : (i 3 : ℕ) < 4096 := (i 3).isLt
    obtain ⟨t, e⟩ := p_point ⟨16 * (i 0 : ℕ) + (i 3 : ℕ) / 256, by omega⟩
    refine ⟨t, flush1_19 t, ?_⟩
    show i ∈ ((View.whole main_v31_9).slice (win1_19.rect t)).set
    rw [View.set_slice_whole, Rect.mem_set_unit]
    intro a
    match a with
    | ⟨0, _⟩ =>
      show cc1_transform_19 (grid1.coords t) 0 * 1 ≤ (i 0 : ℕ) ∧ (i 0 : ℕ) < cc1_transform_19 (grid1.coords t) 0 * 1 + 1
      rw [(o19_idx _).1, e]
      dsimp only
      omega
    | ⟨1, _⟩ =>
      show 0 * 8 ≤ (i 1 : ℕ) ∧ (i 1 : ℕ) < 0 * 8 + 8
      omega
    | ⟨2, _⟩ =>
      show 0 * 64 ≤ (i 2 : ℕ) ∧ (i 2 : ℕ) < 0 * 64 + 64
      omega
    | ⟨3, _⟩ =>
      show cc1_transform_19 (grid1.coords t) 3 * 256 ≤ (i 3 : ℕ) ∧ (i 3 : ℕ) < cc1_transform_19 (grid1.coords t) 3 * 256 + 256
      rw [(o19_idx _).2, e]
      dsimp only
      omega)

end Cert.Kernel3Ideal.Proj
-- ==== Proof.InRun.lean ====
/- The projections' run: every result is what the last of the host's lines leaves in it. -/
module

public import proofs.«01_k».proof.Proof.Gen.Kernel3Ideal.Frame

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the results at the last boundary's contents and the arguments as they were. -/
theorem run_last : θ_run defs (onTc (τ := τ) (main (F := F))) ⟨m, fun _ => 0, ρ⟩ (fun r => ∀ c : Dev nD,
      r.2.mem ((c.tc : Thread nD τ).loc main_v31_0) = W9 m ρ c (Proc.devRef .tc main_v31_0)
      ∧ r.2.mem ((c.tc : Thread nD τ).loc main_v31_1) = W9 m ρ c (Proc.devRef .tc main_v31_1)
      ∧ r.2.mem ((c.tc : Thread nD τ).loc main_v31_2) = W9 m ρ c (Proc.devRef .tc main_v31_2)
      ∧ r.2.mem ((c.tc : Thread nD τ).loc main_v31_3) = W9 m ρ c (Proc.devRef .tc main_v31_3)
      ∧ r.2.mem ((c.tc : Thread nD τ).loc main_v31_4) = W9 m ρ c (Proc.devRef .tc main_v31_4)
      ∧ r.2.mem ((c.tc : Thread nD τ).loc main_v31_5) = W9 m ρ c (Proc.devRef .tc main_v31_5)
      ∧ r.2.mem ((c.tc : Thread nD τ).loc main_v31_6) = W9 m ρ c (Proc.devRef .tc main_v31_6)
      ∧ r.2.mem ((c.tc : Thread nD τ).loc main_v31_7) = W9 m ρ c (Proc.devRef .tc main_v31_7)
      ∧ r.2.mem ((c.tc : Thread nD τ).loc main_v33) = W9 m ρ c (Proc.devRef .tc main_v33)
      ∧ r.2.mem ((c.tc : Thread nD τ).loc main_v35) = W9 m ρ c (Proc.devRef .tc main_v35)
      ∧ r.2.mem ((c.tc : Thread nD τ).loc main_v31_10) = W9 m ρ c (Proc.devRef .tc main_v31_10)
      ∧ r.2.mem ((c.tc : Thread nD τ).loc main_v31_11) = W9 m ρ c (Proc.devRef .tc main_v31_11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v31_0 (by decide)),
       h c _ (mem_uc main_v31_1 (by decide)),
       h c _ (mem_uc main_v31_2 (by decide)),
       h c _ (mem_uc main_v31_3 (by decide)),
       h c _ (mem_uc main_v31_4 (by decide)),
       h c _ (mem_uc main_v31_5 (by decide)),
       h c _ (mem_uc main_v31_6 (by decide)),
       h c _ (mem_uc main_v31_7 (by decide)),
       h c _ (mem_uc main_v33 (by decide)),
       h c _ (mem_uc main_v35 (by decide)),
       h c _ (mem_uc main_v31_10 (by decide)),
       h c _ (mem_uc main_v31_11 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.Kernel3Ideal.Proj
-- ==== Proof.InRef.lean ====
/- The projections' reference, one entry at a time. -/
module

public import proofs.«01_k».proof.Proof.InSpec
public import proofs.«01_k».proof.Proof.SbRef
public import proofs.«01_k».proof.Proof.Gen.Reference3Ideal.Run
public import Idealize.ShloMosaic.Lib.Pointwise

@[expose] public section

set_option maxRecDepth 16384

noncomputable section

namespace Cert.Reference3Ideal.Proj

open Cert.Reference3Ideal Cert.Reference3Ideal.Gen Cert.InSpec Cert.SbMath Idealize.ShloMosaic Idealize.ShloMosaic.TcCoe Idealize.SL.Sem Idealize.ShloMosaic.Pointwise

/-- The conditioning. -/
def adaT (C : FVec Ideal S8x1024 .f32) (WA : FVec Ideal S1x1024x6144 .f32) (BA : FVec Ideal S1x6144 .f32) : FVec Ideal S8x6144 .f32 :=
  addf (Host.dotGeneral dot_S8x1024_S1024x6144_S8x6144_1_0_0_1_n_n none (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))) (shapeCast _ WA shapeCasts_S1x1024x6144_S1024x6144))
    (broadcastInDim S8x6144 ![0, 1] bcast_S1x6144_S8x6144_0_1 (broadcastInDim S1x6144 ![1] bcast_S6144_S1x6144_1 (shapeCast _ BA shapeCasts_S1x6144_S6144)))

theorem adaT_at (C : FVec Ideal S8x1024 .f32) (WA : FVec Ideal S1x1024x6144 .f32) (BA : FVec Ideal S1x6144 .f32) (b : Fin 8) (j : Fin 6144) :
    adaT C WA BA (ix2 b j) = ada (fun k => C (ix2 b k)) (fun k => WA (ix3 0 k j)) (BA (ix2 0 j)) := by
  unfold adaT ada sg
  pointwise

/-- The tokens' rows, scaled and shifted by a conditioning. -/
def uT (X : FVec Ideal S8x4096x1024 .f32) (G : FVec Ideal S1x1024 .f32) (Y : FVec Ideal S8x6144 .f32) : FVec Ideal S8x4096x1024 .f32 :=
  addf (mulf (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ G shapeCasts_S1x1024_S1024))))
    (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 1, 0, 0] (shapeCast _ Y shapeCasts_S8x6144_S8x6x1x1024) slices_S8x6x1x1024_S8x1x1x1024_0_1_0_0) shapeCasts_S8x1x1x1024_S8x1x1024))))
    (broadcastInDim S8x4096x1024 ![0, 1, 2] bcast_S8x1x1024_S8x4096x1024_0_1_2 (shapeCast _ (extractStridedSlice S8x1x1x1024 ![0, 0, 0, 0] (shapeCast _ Y shapeCasts_S8x6144_S8x6x1x1024) slices_S8x6x1x1024_S8x1x1x1024_0_0_0_0) shapeCasts_S8x1x1x1024_S8x1x1024))

theorem uT_at (X : FVec Ideal S8x4096x1024 .f32) (G : FVec Ideal S1x1024 .f32) (Y : FVec Ideal S8x6144 .f32) (b : Fin 8) (t : Fin 4096) (k : Fin 1024) :
    uT X G Y (ix3 b t k) = u (fun k => X (ix3 b t k)) (fun k => G (ix2 0 k)) (fun k => Y (ix2 b ⟨1024 + k.val, by omega⟩)) (fun k => Y (ix2 b ⟨k.val, by omega⟩)) k := by
  unfold uT u
  pointwise

/-- The projection. -/
def pT (U : FVec Ideal S8x4096x1024 .f32) (W : FVec Ideal S1x1024x5136 .f32) : FVec Ideal S8x4096x5136 .f32 :=
  Host.dotGeneral dot_S8x4096x1024_S1024x5136_S8x4096x5136_2_0_01_1_n_n none U (shapeCast _ W shapeCasts_S1x1024x5136_S1024x5136)

theorem pT_at (U : FVec Ideal S8x4096x1024 .f32) (W : FVec Ideal S1x1024x5136 .f32) (b : Fin 8) (t : Fin 4096) (j : Fin 5136) :
    pT U W (ix3 b t j) = lin (fun k => U (ix3 b t k)) (fun k => W (ix3 0 k j)) := by
  unfold pT lin
  pointwise

/-! ## The results of a projection -/

variable (p : FVec Ideal S8x4096x5136 .f32) (b : Fin 8) (t : Fin 4096)

def zT : FVec Ideal S8x4096x256 .f32 := broadcastInDim S8x4096x256 ![] bcast_S_S8x4096x256 (constant S_ .f32 0x00000000#32)

/-- The decay's argument. -/
def dT (WL : FVec Ideal S1x16x256 .f32) (BL : FVec Ideal S1x256 .f32) : FVec Ideal S8x4096x256 .f32 :=
  addf (Host.dotGeneral dot_S8x4096x16_S16x256_S8x4096x256_2_0_01_1_n_n none (extractStridedSlice S8x4096x16 ![0, 0, 1536] p slices_S8x4096x5136_S8x4096x16_0_0_1536) (shapeCast _ WL shapeCasts_S1x16x256_S16x256)) (broadcastInDim S8x4096x256 ![0, 1, 2] bcast_S1x1x256_S8x4096x256_0_1_2 (broadcastInDim S1x1x256 ![2] bcast_S256_S1x1x256_2 (shapeCast _ BL shapeCasts_S1x256_S256)))

theorem dT_at (WL : FVec Ideal S1x16x256 .f32) (BL : FVec Ideal S1x256 .f32) (j : Fin 256) :
    dT p WL BL (ix3 b t j) = (∑ l : Fin 16, p (ix3 b t ⟨1536 + l.val, by omega⟩) * WL (ix3 0 l j)) + BL (ix2 0 j) := by
  unfold dT
  pointwise

/-- The logarithm of the sigmoid. -/
def lsT (z : FVec Ideal S8x4096x256 .f32) : FVec Ideal S8x4096x256 .f32 :=
  Host.negf (select (cmpf .une (subf (Host.negf z) zT) (subf (Host.negf z) zT)) (addf (Host.negf z) zT) (addf (maximumf (Host.negf z) zT) (Host.log1p (Host.exp (Host.negf (Host.absf (subf (Host.negf z) zT)))))))

theorem lsT_at (z : FVec Ideal S8x4096x256 .f32) (j : Fin 256) : lsT z (ix3 b t j) = -(sp (-(z (ix3 b t j)))) := by
  unfold lsT zT
  pointwise
  rw [if_neg (not_not.mpr rfl)]
  rfl

theorem sixteenths (x : EReal) : Ideal.div x (Ideal.ofBits .f32 0x41800000#32) = x * Ideal.ofBits .f32 0x3D800000#32 := by
  rw [Cert.ReferenceIdeal.SB.sixteen, Cert.ReferenceIdeal.SB.sixteenth, Ideal.div_coe (by norm_num : (16 : ℝ) ≠ 0)]
  exact congrArg (fun r : ℝ => x * (r : EReal)) (by norm_num)

def r12 (z : FVec Ideal S8x4096x256 .f32) : FVec Ideal S32768x256 .f32 :=
  shapeCast _ (Host.divf (lsT z) (broadcastInDim S8x4096x256 ![] bcast_S_S8x4096x256 (constant S_ .f32 0x41800000#32))) shapeCasts_S8x4096x256_S32768x256

theorem r12_at (z : FVec Ideal S8x4096x256 .f32) (j : Fin 256) : r12 z (ix2 ⟨4096 * b.val + t.val, by omega⟩ j) = -(sp (-(z (ix3 b t j)))) * Ideal.ofBits .f32 0x3D800000#32 := by
  rw [← lsT_at]
  unfold r12
  generalize lsT z = y
  rw [← sixteenths]
  pointwise

def r10 : FVec Ideal S32768x256 .f32 := shapeCast _ (mulf (extractStridedSlice S8x4096x256 ![0, 0, 0] p slices_S8x4096x5136_S8x4096x256_0_0_0) (broadcastInDim S8x4096x256 ![] bcast_S_S8x4096x256 (constant S_ .f32 0x3E000000#32))) shapeCasts_S8x4096x256_S32768x256

theorem r10_at (j : Fin 256) : r10 p (ix2 ⟨4096 * b.val + t.val, by omega⟩ j) = p (ix3 b t ⟨j.val, by omega⟩) * Ideal.ofBits .f32 0x3E000000#32 := by
  unfold r10
  pointwise

def r11 : FVec Ideal S32768x256 .f32 := shapeCast _ (extractStridedSlice S8x4096x256 ![0, 0, 256] p slices_S8x4096x5136_S8x4096x256_0_0_256) shapeCasts_S8x4096x256_S32768x256

theorem r11_at (j : Fin 256) : r11 p (ix2 ⟨4096 * b.val + t.val, by omega⟩ j) = p (ix3 b t ⟨256 + j.val, by omega⟩) := by
  unfold r11
  pointwise

def r13 : FVec Ideal S32768x512 .bf16 := truncf .bf16 (shapeCast _ (extractStridedSlice S8x4096x512 ![0, 0, 512] p slices_S8x4096x5136_S8x4096x512_0_0_512) shapeCasts_S8x4096x512_S32768x512) bitsLt_bf16_f32

theorem r13_at (j : Fin 512) : r13 p (ix2 ⟨4096 * b.val + t.val, by omega⟩ j) = p (ix3 b t ⟨512 + j.val, by omega⟩) := by
  unfold r13
  pointwise

def r14 : FVec Ideal S32768x512 .bf16 := truncf .bf16 (shapeCast _ (mulf (extractStridedSlice S8x4096x512 ![0, 0, 1024] p slices_S8x4096x5136_S8x4096x512_0_0_1024) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 1024] p slices_S8x4096x5136_S8x4096x512_0_0_1024)))))) shapeCasts_S8x4096x512_S32768x512) bitsLt_bf16_f32

theorem r14_at (j : Fin 512) : r14 p (ix2 ⟨4096 * b.val + t.val, by omega⟩ j) = p (ix3 b t ⟨1024 + j.val, by omega⟩) * sg (p (ix3 b t ⟨1024 + j.val, by omega⟩)) := by
  unfold r14
  pointwise
  rfl

def r15 : FVec Ideal S32768x512 .f32 := shapeCast _ (extractStridedSlice S8x4096x512 ![0, 0, 1552] p slices_S8x4096x5136_S8x4096x512_0_0_1552) shapeCasts_S8x4096x512_S32768x512

theorem r15_at (j : Fin 512) : r15 p (ix2 ⟨4096 * b.val + t.val, by omega⟩ j) = p (ix3 b t ⟨1552 + j.val, by omega⟩) := by
  unfold r15
  pointwise

def r16 : FVec Ideal S32768x512 .bf16 := truncf .bf16 (shapeCast _ (extractStridedSlice S8x4096x512 ![0, 0, 2064] p slices_S8x4096x5136_S8x4096x512_0_0_2064) shapeCasts_S8x4096x512_S32768x512) bitsLt_bf16_f32

theorem r16_at (j : Fin 512) : r16 p (ix2 ⟨4096 * b.val + t.val, by omega⟩ j) = p (ix3 b t ⟨2064 + j.val, by omega⟩) := by
  unfold r16
  pointwise

def r17 : FVec Ideal S32768x512 .bf16 := truncf .bf16 (shapeCast _ (extractStridedSlice S8x4096x512 ![0, 0, 2576] p slices_S8x4096x5136_S8x4096x512_0_0_2576) shapeCasts_S8x4096x512_S32768x512) bitsLt_bf16_f32

theorem r17_at (j : Fin 512) : r17 p (ix2 ⟨4096 * b.val + t.val, by omega⟩ j) = p (ix3 b t ⟨2576 + j.val, by omega⟩) := by
  unfold r17
  pointwise

def r20 : FVec Ideal S32768x1024 .bf16 := truncf .bf16 (shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3088] p slices_S8x4096x5136_S8x4096x1024_0_0_3088))))) shapeCasts_S8x4096x1024_S32768x1024) bitsLt_bf16_f32

theorem r20_at (j : Fin 1024) : r20 p (ix2 ⟨4096 * b.val + t.val, by omega⟩ j) = sg (p (ix3 b t ⟨3088 + j.val, by omega⟩)) := by
  unfold r20
  pointwise
  rfl

def r21 : FVec Ideal S32768x1024 .bf16 := truncf .bf16 (shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4112] p slices_S8x4096x5136_S8x4096x1024_0_0_4112))))) shapeCasts_S8x4096x1024_S32768x1024) bitsLt_bf16_f32

theorem r21_at (j : Fin 1024) : r21 p (ix2 ⟨4096 * b.val + t.val, by omega⟩ j) = sg (p (ix3 b t ⟨4112 + j.val, by omega⟩)) := by
  unfold r21
  pointwise
  rfl

def r18 : FVec Ideal S1x8x4096x8x64 .f32 :=
  broadcastInDim S1x8x4096x8x64 ![1, 2, 3, 4] bcast_S8x4096x8x64_S1x8x4096x8x64_1_2_3_4 (shapeCast S8x4096x8x64 (extractStridedSlice S8x4096x512 ![0, 0, 2064] p slices_S8x4096x5136_S8x4096x512_0_0_2064) shapeCasts_S8x4096x512_S8x4096x8x64)

theorem r18_at (h : Fin 8) (d : Fin 64) : r18 p (ix5 0 b t h d) = p (ix3 b t ⟨2064 + (64 * h.val + d.val), by omega⟩) := by
  unfold r18
  pointwise
  exact congrArg (fun r => p (ix3 b t r)) (Fin.ext (by show _ + _ = _ + _; rw [Nat.mul_comm]))

def r19 : FVec Ideal S1x8x4096x8x64 .f32 :=
  broadcastInDim S1x8x4096x8x64 ![1, 2, 3, 4] bcast_S8x4096x8x64_S1x8x4096x8x64_1_2_3_4 (shapeCast S8x4096x8x64 (extractStridedSlice S8x4096x512 ![0, 0, 2576] p slices_S8x4096x5136_S8x4096x512_0_0_2576) shapeCasts_S8x4096x512_S8x4096x8x64)

theorem r19_at (h : Fin 8) (d : Fin 64) : r19 p (ix5 0 b t h d) = p (ix3 b t ⟨2576 + (64 * h.val + d.val), by omega⟩) := by
  unfold r19
  pointwise
  exact congrArg (fun r => p (ix3 b t r)) (Fin.ext (by show _ + _ = _ + _; rw [Nat.mul_comm]))

end Cert.Reference3Ideal.Proj
-- ==== Proof.InClaim.lean ====
/- The claims about the projections: the runs, and the equations with the reference. -/
module

public import proofs.«01_k».proof.Proof.InArray
public import proofs.«01_k».proof.Proof.InRun
public import proofs.«01_k».proof.Proof.InRef
public import proofs.«01_k».proof.Proof.Gen.Kernel3.Frame
public import proofs.«01_k».proof.Defs

@[expose] public section

set_option maxRecDepth 16384

noncomputable section

namespace Cert.Kernel3Ideal.Proj

open Cert.Kernel3Ideal Cert.Kernel3Ideal.Gen Cert.InSpec Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

/-- An array by sequence, token, head and lane. -/
def cacheOf (O : Fin 8 → Fin 4096 → Fin 8 → Fin 64 → EReal) (i : S1x8x4096x8x64.Idx) : EReal := O (i 1) (i 2) (i 3) (i 4)

theorem eq_cache (x : FVec Ideal S1x8x4096x8x64 .f32) (O : Fin 8 → Fin 4096 → Fin 8 → Fin 64 → EReal) (h : ∀ b t g d, x (ix5 0 b t g d) = O b t g d) : x = cacheOf O := by
  funext i
  exact (congrArg x ((eq_ix5 i).trans (congrArg (fun a : Fin 1 => ix5 a (i 1) (i 2) (i 3) (i 4)) (Subsingleton.elim _ _)))).trans (h (i 1) (i 2) (i 3) (i 4))

theorem eq_rows {n : ℕ} (x : Shape.Idx ⟨2, ![32768, n]⟩ → EReal) (O : Fin 8 → Fin 4096 → Fin n → EReal) (h : ∀ b t j, x (ix2 ⟨4096 * b.val + t.val, by omega⟩ j) = O b t j) : x = rowsOf O := by
  funext i
  have h0 : (i 0).val < 32768 := (i 0).isLt
  have e : i = ix2 (⟨4096 * ((i 0).val / 4096) + (i 0).val % 4096, by omega⟩ : Fin 32768) (i 1) :=
    (eq_ix2 i).trans (congrArg (fun r : Fin 32768 => ix2 r (i 1)) (Fin.ext (Nat.div_add_mod _ _).symm))
  exact (congrArg x e).trans (h ⟨(i 0).val / 4096, by omega⟩ ⟨(i 0).val % 4096, Nat.mod_lt _ (by norm_num)⟩ (i 1))

theorem cache_at (y : FVec Ideal S8x8x64x4096 .f32) (b : Fin 8) (t : Fin 4096) (h : Fin 8) (d : Fin 64) :
    (broadcastInDim S1x8x4096x8x64 ![1, 2, 3, 4] bcast_S8x4096x8x64_S1x8x4096x8x64_1_2_3_4 (transpose S8x4096x8x64 [0, 3, 1, 2] y transposes_S8x8x64x4096_S8x4096x8x64_0_3_1_2 : FVec Ideal S8x4096x8x64 .f32) : FVec Ideal S1x8x4096x8x64 .f32) (ix5 0 b t h d) = y (ix4 b h d t) := by
  pointwise

theorem W9_v33 : W9 m ρ c (Proc.devRef .tc main_v33) = (broadcastInDim S1x8x4096x8x64 ![1, 2, 3, 4] bcast_S8x4096x8x64_S1x8x4096x8x64_1_2_3_4 (transpose S8x4096x8x64 [0, 3, 1, 2] (W8 m ρ c (Proc.devRef .tc main_v31_8) : FVec Ideal S8x8x64x4096 .f32) transposes_S8x8x64x4096_S8x4096x8x64_0_3_1_2 : FVec Ideal S8x4096x8x64 .f32) : FVec Ideal S1x8x4096x8x64 .f32) := by
  show StableHlo.after hostOps2 (W8 m ρ c) (Proc.devRef .tc main_v33) = _
  generalize W8 m ρ c = w
  after_results

theorem cache33 : W9 m ρ c (Proc.devRef .tc main_v33) = cacheOf (inp m c).O18 := by
  rw [W9_v33, o18_final]
  exact eq_cache _ _ fun b t h d => cache_at _ b t h d

theorem W9_v35 : W9 m ρ c (Proc.devRef .tc main_v35) = (broadcastInDim S1x8x4096x8x64 ![1, 2, 3, 4] bcast_S8x4096x8x64_S1x8x4096x8x64_1_2_3_4 (transpose S8x4096x8x64 [0, 3, 1, 2] (W8 m ρ c (Proc.devRef .tc main_v31_9) : FVec Ideal S8x8x64x4096 .f32) transposes_S8x8x64x4096_S8x4096x8x64_0_3_1_2 : FVec Ideal S8x4096x8x64 .f32) : FVec Ideal S1x8x4096x8x64 .f32) := by
  show StableHlo.after hostOps2 (W8 m ρ c) (Proc.devRef .tc main_v35) = _
  generalize W8 m ρ c = w
  after_results

theorem cache35 : W9 m ρ c (Proc.devRef .tc main_v35) = cacheOf (inp m c).O19 := by
  rw [W9_v35, o19_final]
  exact eq_cache _ _ fun b t h d => cache_at _ b t h d

/-- Every run ends with the projection's columns in the results and the arguments as they were. -/
theorem run_result : θ_run defs (onTc (τ := τ) (main (F := Ideal))) ⟨m, fun _ => 0, ρ⟩ (fun r => ∀ c : Dev nD,
      r.2.mem ((c.tc : Thread nD τ).loc main_v31_0) = rowsOf (inp m c).O10
      ∧ r.2.mem ((c.tc : Thread nD τ).loc main_v31_1) = rowsOf (inp m c).O11
      ∧ r.2.mem ((c.tc : Thread nD τ).loc main_v31_2) = rowsOf (inp m c).O12
      ∧ r.2.mem ((c.tc : Thread nD τ).loc main_v31_3) = rowsOf (inp m c).O13
      ∧ r.2.mem ((c.tc : Thread nD τ).loc main_v31_4) = rowsOf (inp m c).O14
      ∧ r.2.mem ((c.tc : Thread nD τ).loc main_v31_5) = rowsOf (inp m c).O15
      ∧ r.2.mem ((c.tc : Thread nD τ).loc main_v31_6) = rowsOf (inp m c).O16
      ∧ r.2.mem ((c.tc : Thread nD τ).loc main_v31_7) = rowsOf (inp m c).O17
      ∧ r.2.mem ((c.tc : Thread nD τ).loc main_v33) = cacheOf (inp m c).O18
      ∧ r.2.mem ((c.tc : Thread nD τ).loc main_v35) = cacheOf (inp m c).O19
      ∧ r.2.mem ((c.tc : Thread nD τ).loc main_v31_10) = rowsOf (inp m c).O20
      ∧ r.2.mem ((c.tc : Thread nD τ).loc main_v31_11) = rowsOf (inp m c).O21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans ((W9_of m ρ c main_v31_0 (by decide)).trans (o10_final m ρ c)),
      (h c).2.1.trans ((W9_of m ρ c main_v31_1 (by decide)).trans (o11_final m ρ c)),
      (h c).2.2.1.trans ((W9_of m ρ c main_v31_2 (by decide)).trans (o12_final m ρ c)),
      (h c).2.2.2.1.trans ((W9_of m ρ c main_v31_3 (by decide)).trans (o13_final m ρ c)),
      (h c).2.2.2.2.1.trans ((W9_of m ρ c main_v31_4 (by decide)).trans (o14_final m ρ c)),
      (h c).2.2.2.2.2.1.trans ((W9_of m ρ c main_v31_5 (by decide)).trans (o15_final m ρ c)),
      (h c).2.2.2.2.2.2.1.trans ((W9_of m ρ c main_v31_6 (by decide)).trans (o16_final m ρ c)),
      (h c).2.2.2.2.2.2.2.1.trans ((W9_of m ρ c main_v31_7 (by decide)).trans (o17_final m ρ c)),
      (h c).2.2.2.2.2.2.2.2.1.trans (cache33 m ρ c),
      (h c).2.2.2.2.2.2.2.2.2.1.trans (cache35 m ρ c),
      (h c).2.2.2.2.2.2.2.2.2.2.1.trans ((W9_of m ρ c main_v31_10 (by decide)).trans (o20_final m ρ c)),
      (h c).2.2.2.2.2.2.2.2.2.2.2.1.trans ((W9_of m ρ c main_v31_11 (by decide)).trans (o21_final m ρ c)),
      (h c).2.2.2.2.2.2.2.2.2.2.2.2⟩) (run_last m ρ)

end Cert.Kernel3Ideal.Proj

namespace Cert.Reference3Ideal.Proj

open Cert.Reference3Ideal Cert.Reference3Ideal.Gen Cert.InSpec Cert.SbMath Idealize.ShloMosaic Idealize.ShloMosaic.TcCoe Idealize.SL.Sem Idealize.ShloMosaic.Pointwise Cert.Kernel3Ideal.Proj

variable (m : (ℓ : Loc nD τ sig) → Buf (Elt Ideal) ℓ) (ρ : Dev nD → PrngReg) (c : Dev nD)

/-- The projection of a memory's arguments. -/
def pM : FVec Ideal S8x4096x5136 .f32 :=
  pT (uT (m ((c.tc : Thread nD τ).loc main_arg0)) (m ((c.tc : Thread nD τ).loc main_arg5)) (adaT (m ((c.tc : Thread nD τ).loc main_arg1)) (m ((c.tc : Thread nD τ).loc main_arg3)) (m ((c.tc : Thread nD τ).loc main_arg4)))) (m ((c.tc : Thread nD τ).loc main_arg6))

/-- The decay's argument of a memory's arguments. -/
def dM : FVec Ideal S8x4096x256 .f32 := dT (pM m c) (m ((c.tc : Thread nD τ).loc main_arg7)) (m ((c.tc : Thread nD τ).loc main_arg8))

theorem proj_at (X : FVec Ideal S8x4096x1024 .f32) (C : FVec Ideal S8x1024 .f32) (WA : FVec Ideal S1x1024x6144 .f32) (BA : FVec Ideal S1x6144 .f32) (G : FVec Ideal S1x1024 .f32) (W : FVec Ideal S1x1024x5136 .f32)
    (I : In 8 4096) (hx : ∀ b t k, X (ix3 b t k) = I.x b t k) (hc : ∀ b k, C (ix2 b k) = I.c b k) (hwa : ∀ k j, WA (ix3 0 k j) = I.wa k j) (hba : ∀ j, BA (ix2 0 j) = I.ba j) (hg : ∀ k, G (ix2 0 k) = I.g k) (hw : ∀ k j, W (ix3 0 k j) = I.w k j)
    (b : Fin 8) (t : Fin 4096) (j : Fin 5136) : pT (uT X G (adaT C WA BA)) W (ix3 b t j) = I.P b t j := by
  have ha : ∀ j, adaT C WA BA (ix2 b j) = I.cond b j := fun j =>
    (adaT_at C WA BA b j).trans (congr (congrArg₂ ada (funext fun k => hc b k) (funext fun k => hwa k j)) (hba j))
  refine (pT_at _ W b t j).trans (congrArg₂ lin (funext fun k => (uT_at X G _ b t k).trans ?_) (funext fun k => hw k j))
  unfold In.U
  rw [funext fun k => hx b t k, funext fun k => hg k, funext fun k : Fin 1024 => ha ⟨1024 + k.val, by omega⟩, funext fun k : Fin 1024 => ha ⟨k.val, by omega⟩]

variable (p : FVec Ideal S8x4096x5136 .f32) (I : In 8 4096) (hp : ∀ b t j, p (ix3 b t j) = I.P b t j)

include hp
theorem r10_eq : r10 p = rowsOf I.O10 := eq_rows _ _ fun b t j => (r10_at p b t j).trans (congrArg (· * Ideal.ofBits .f32 0x3E000000#32) (hp b t _))
theorem r11_eq : r11 p = rowsOf I.O11 := eq_rows _ _ fun b t j => (r11_at p b t j).trans (hp b t _)
theorem r13_eq : r13 p = rowsOf I.O13 := eq_rows _ _ fun b t j => (r13_at p b t j).trans (hp b t _)
theorem r14_eq : r14 p = rowsOf I.O14 := eq_rows _ _ fun b t j => (r14_at p b t j).trans (congrArg (fun e => e * sg e) (hp b t _))
theorem r15_eq : r15 p = rowsOf I.O15 := eq_rows _ _ fun b t j => (r15_at p b t j).trans (hp b t _)
theorem r16_eq : r16 p = rowsOf I.O16 := eq_rows _ _ fun b t j => (r16_at p b t j).trans (hp b t _)
theorem r17_eq : r17 p = rowsOf I.O17 := eq_rows _ _ fun b t j => (r17_at p b t j).trans (hp b t _)
theorem r20_eq : r20 p = rowsOf I.O20 := eq_rows _ _ fun b t j => (r20_at p b t j).trans (congrArg sg (hp b t _))
theorem r21_eq : r21 p = rowsOf I.O21 := eq_rows _ _ fun b t j => (r21_at p b t j).trans (congrArg sg (hp b t _))
theorem r18_eq : r18 p = cacheOf I.O18 := eq_cache _ _ fun b t h d => (r18_at p b t h d).trans (hp b t _)
theorem r19_eq : r19 p = cacheOf I.O19 := eq_cache _ _ fun b t h d => (r19_at p b t h d).trans (hp b t _)
theorem r12_eq (WL : FVec Ideal S1x16x256 .f32) (BL : FVec Ideal S1x256 .f32) (hwl : ∀ l j, WL (ix3 0 l j) = I.wl l j) (hbl : ∀ j, BL (ix2 0 j) = I.bl j) : r12 (dT p WL BL) = rowsOf I.O12 :=
  eq_rows _ _ fun b t j => (r12_at b t _ j).trans (congrArg (fun e => -(sp (-e)) * Ideal.ofBits .f32 0x3D800000#32) ((dT_at p b t WL BL j).trans
    (congrArg₂ (· + ·) (Finset.sum_congr rfl fun l _ => congrArg₂ (· * ·) (hp b t _) (hwl l j)) (hbl j))))

omit hp

/-- The reference's run, its results named. -/
theorem run_named : θ_run defs (onTc (τ := τ) (main (F := Ideal))) ⟨m, fun _ => 0, ρ⟩ (fun r => ∀ c : Dev nD,
      r.2.mem ((c.tc : Thread nD τ).loc main_v55) = r10 (pM m c)
      ∧ r.2.mem ((c.tc : Thread nD τ).loc main_v56) = r11 (pM m c)
      ∧ r.2.mem ((c.tc : Thread nD τ).loc main_v57) = r12 (dM m c)
      ∧ r.2.mem ((c.tc : Thread nD τ).loc main_v59) = r13 (pM m c)
      ∧ r.2.mem ((c.tc : Thread nD τ).loc main_v62) = r14 (pM m c)
      ∧ r.2.mem ((c.tc : Thread nD τ).loc main_v63) = r15 (pM m c)
      ∧ r.2.mem ((c.tc : Thread nD τ).loc main_v65) = r16 (pM m c)
      ∧ r.2.mem ((c.tc : Thread nD τ).loc main_v67) = r17 (pM m c)
      ∧ r.2.mem ((c.tc : Thread nD τ).loc main_v69) = r18 (pM m c)
      ∧ r.2.mem ((c.tc : Thread nD τ).loc main_v71) = r19 (pM m c)
      ∧ r.2.mem ((c.tc : Thread nD τ).loc main_v79) = r20 (pM m c)
      ∧ r.2.mem ((c.tc : Thread nD τ).loc main_v87) = r21 (pM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Cert.Reference3Ideal.Value.run m ρ

end Cert.Reference3Ideal.Proj

namespace Cert.InClaim

open Idealize.ShloMosaic Idealize.ShloMosaic.TcCoe Idealize.SL.Sem Idealize.ShloMosaic.Pointwise Cert.Kernel3Ideal.Proj Cert.Reference3Ideal.Proj

theorem algebraic : Cert.algebraic_Kernel3Ideal_Reference3Ideal := fun m g m' g' _ h =>
  have hp : ∀ (c : Dev Cert.Kernel3Ideal.nD) b t j, pM m' c (ix3 b t j) = (inp m c).P b t j := fun c =>
    proj_at _ _ _ _ _ _ (inp m c) (fun b t k => congrFun (h c).1 (ix3 b t k)) (fun b k => congrFun (h c).2.1 (ix2 b k)) (fun k j => congrFun (h c).2.2.2.1 (ix3 0 k j)) (fun j => congrFun (h c).2.2.2.2.1 (ix2 0 j))
      (fun k => congrFun (h c).2.2.2.2.2.1 (ix2 0 k)) (fun k j => congrFun (h c).2.2.2.2.2.2.1 (ix3 0 k j))
  ⟨fun c => rowsOf (inp m c).O10, fun c => rowsOf (inp m c).O11, fun c => rowsOf (inp m c).O12, fun c => rowsOf (inp m c).O13, fun c => rowsOf (inp m c).O14, fun c => rowsOf (inp m c).O15, fun c => rowsOf (inp m c).O16, fun c => rowsOf (inp m c).O17, fun c => cacheOf (inp m c).O18, fun c => cacheOf (inp m c).O19, fun c => rowsOf (inp m c).O20, fun c => rowsOf (inp m c).O21,
    run_result m g,
    (θ_run _ _ _).mono (fun _ hr c => ⟨(hr c).1.trans (r10_eq _ (inp m c) (hp c)),
      (hr c).2.1.trans (r11_eq _ (inp m c) (hp c)),
      (hr c).2.2.1.trans (r12_eq _ (inp m c) (hp c) _ _ (fun l j => congrFun (h c).2.2.2.2.2.2.2.1 (ix3 0 l j)) (fun j => congrFun (h c).2.2.2.2.2.2.2.2 (ix2 0 j))),
      (hr c).2.2.2.1.trans (r13_eq _ (inp m c) (hp c)),
      (hr c).2.2.2.2.1.trans (r14_eq _ (inp m c) (hp c)),
      (hr c).2.2.2.2.2.1.trans (r15_eq _ (inp m c) (hp c)),
      (hr c).2.2.2.2.2.2.1.trans (r16_eq _ (inp m c) (hp c)),
      (hr c).2.2.2.2.2.2.2.1.trans (r17_eq _ (inp m c) (hp c)),
      (hr c).2.2.2.2.2.2.2.2.1.trans (r18_eq _ (inp m c) (hp c)),
      (hr c).2.2.2.2.2.2.2.2.2.1.trans (r19_eq _ (inp m c) (hp c)),
      (hr c).2.2.2.2.2.2.2.2.2.2.1.trans (r20_eq _ (inp m c) (hp c)),
      (hr c).2.2.2.2.2.2.2.2.2.2.2.1.trans (r21_eq _ (inp m c) (hp c)),
      (hr c).2.2.2.2.2.2.2.2.2.2.2.2⟩) (run_named m' g')⟩

theorem frame_kernel : Cert.quiescent_Kernel3 := fun m g _ => Cert.Kernel3.Gen.frame m g
theorem frame_ideal : Cert.quiescent_Kernel3Ideal := fun m g _ => Cert.Kernel3Ideal.Gen.frame m g
theorem frame_reference : Cert.quiescent_Reference3Ideal := fun m g _ =>
  (θ_run Cert.Reference3Ideal.defs _ _).mono (fun r hr => ⟨fun c => (hr c).2.2.2.2.2.2.2.2.2.2.2.2, sem_eq_zero_of_no_sems (by decide) r.2⟩)
    (Cert.Reference3Ideal.Value.run m g)

end Cert.InClaim
-- ==== Proof.SmBlock.lean ====
/- The values of the sample's projections, one entry at a time. -/
module

public import proofs.«01_k».proof.Proof.Gen.Kernel4Ideal.Frame
public import proofs.«01_k».proof.Proof.InSpec
public import Idealize.ShloMosaic.Lib.Pipeline.Value
public import Idealize.ShloMosaic.Lib.Pointwise

@[expose] public section

set_option maxRecDepth 16384

noncomputable section

namespace Cert.Kernel4Ideal.Proj

open Cert.Kernel4Ideal Cert.Kernel4Ideal.Gen Cert.InSpec Cert.SbMath Idealize.ShloMosaic Idealize.ShloMosaic.TcCoe Idealize.SL.Sem Idealize.ShloMosaic.Pointwise

/-! ## The conditioning -/

theorem ada_at (x : FVec Ideal S136x1024 .f32) (w : FVec Ideal S1024x1024 .f32) (b : FVec Ideal S1x1024 .f32) (i : Fin 136) (j : Fin 1024) :
    k0_pay1 (F := Ideal) x w b (ix2 i j) = ada (fun k => x (ix2 i k)) (fun k => w (ix2 k j)) (b (ix2 0 j)) := by
  unfold k0_pay1
  pointwise
  simp only [zero_sub]
  rfl

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

/-- A block of the conditioning. -/
theorem out0_at (x : Vec Ideal S136x1024 .f32) (w : Vec Ideal S1024x1024 .f32) (b : Vec Ideal S1x1024 .f32) (i : Fin 136) (j : Fin 1024) :
    out0_3 x w b (ix2 i j) = ada (fun k => x (ix2 i k)) (fun k => w (ix2 k j)) (b (ix2 0 j)) := by
  unfold out0_3
  rw [View.canon_unit_zero (S := S136x1024) (off := ![0, 0]) z2, View.ld_unit_zero z2, View.ld_unit_zero z2, View.ld_unit_zero z2]
  exact ada_at x w b i j

/-! ## The projections of a block's rows -/

theorem u_at (x : FVec Ideal S128x1024 .f32) (g : FVec Ideal S1x1024 .f32) (sc sh : FVec Ideal S1x128x1024 .f32) (i : Fin 128) (j : Fin 1024) :
    k1_pay2 (F := Ideal) x g sc sh (ix2 i j) = u (fun k => x (ix2 i k)) (fun k => g (ix2 0 k)) (fun k => sc (ix3 0 i k)) (fun k => sh (ix3 0 i k)) j := by
  unfold k1_pay2
  pointwise
  rfl

theorem gla_at (x : FVec Ideal S128x1024 .f32) (g : FVec Ideal S1x1024 .f32) (sc sh : FVec Ideal S1x128x1024 .f32) (w : FVec Ideal S1024x1536 .bf16) (i : Fin 128) (j : Fin 1536) :
    k1_pay3 (F := Ideal) x g sc sh w (ix2 i j) = lin (fun k => k1_pay2 (F := Ideal) x g sc sh (ix2 i k)) (fun k => w (ix2 k j)) := by
  unfold k1_pay3
  pointwise
  rfl

theorem pay5_at (x : FVec Ideal S128x1024 .f32) (g : FVec Ideal S1x1024 .f32) (sc sh : FVec Ideal S1x128x1024 .f32) (w : FVec Ideal S1024x1536 .bf16) (i : Fin 128) (j : Fin 256) :
    k1_pay4 (F := Ideal) x g sc sh w (ix2 i j) = k1_pay3 (F := Ideal) x g sc sh w (ix2 i ⟨j.val, by omega⟩) * Ideal.ofBits .f32 0x3E000000#32 := by
  unfold k1_pay4
  pointwise

theorem pay6_at (x : FVec Ideal S128x1024 .f32) (g : FVec Ideal S1x1024 .f32) (sc sh : FVec Ideal S1x128x1024 .f32) (w : FVec Ideal S1024x1536 .bf16) (i : Fin 128) (j : Fin 256) :
    k1_pay5 (F := Ideal) x g sc sh w (ix2 i j) = k1_pay3 (F := Ideal) x g sc sh w (ix2 i ⟨256 + j.val, by omega⟩) := by
  unfold k1_pay5
  pointwise

theorem pay6v_at (x : FVec Ideal S128x1024 .f32) (g : FVec Ideal S1x1024 .f32) (sc sh : FVec Ideal S1x128x1024 .f32) (w : FVec Ideal S1024x1536 .bf16) (i : Fin 128) (j : Fin 512) :
    k1_pay6 (F := Ideal) x g sc sh w (ix2 i j) = k1_pay3 (F := Ideal) x g sc sh w (ix2 i ⟨512 + j.val, by omega⟩) := by
  unfold k1_pay6
  pointwise

theorem pay7_at (v : FVec Ideal S128x512 .f32) (i : Fin 128) (j : Fin 512) : k1_pay7 (F := Ideal) v (ix2 i j) = v (ix2 i j) := by
  unfold k1_pay7
  pointwise

theorem pay8_at (v : FVec Ideal S128x1536 .f32) (i : Fin 128) (j : Fin 512) :
    k1_pay8 (F := Ideal) v (ix2 i j) = v (ix2 i ⟨1024 + j.val, by omega⟩) * sg (v (ix2 i ⟨1024 + j.val, by omega⟩)) := by
  unfold k1_pay8
  pointwise
  simp only [zero_sub]
  rfl

theorem pay9_at (v : FVec Ideal S128x1024 .bf16) (wl : FVec Ideal S1024x128 .bf16) (wa : FVec Ideal S128x256 .bf16) (b : FVec Ideal S1x256 .f32) (i : Fin 128) (j : Fin 256) :
    k1_pay9 (F := Ideal) v wl wa b (ix2 i j) = -(sp (-((∑ l : Fin 128, lin (fun k => v (ix2 i k)) (fun k => wl (ix2 k l)) * wa (ix2 l j)) + b (ix2 0 j)))) := by
  unfold k1_pay9
  pointwise
  simp only [zero_sub]
  rfl

theorem pay10_at (v : FVec Ideal S128x256 .f32) (i : Fin 128) (j : Fin 256) :
    k1_pay10 (F := Ideal) v (ix2 i j) = v (ix2 i j) * Ideal.ofBits .f32 0x3D800000#32 := by
  unfold k1_pay10
  pointwise

theorem sb_at (v : FVec Ideal S128x1024 .bf16) (w : FVec Ideal S1024x1536 .bf16) (i : Fin 128) (j : Fin 1536) :
    k1_pay11 (F := Ideal) v w (ix2 i j) = lin (fun k => v (ix2 i k)) (fun k => w (ix2 k j)) := by
  unfold k1_pay11
  pointwise
  rfl

theorem pay12_at (v : FVec Ideal S128x1024 .bf16) (w : FVec Ideal S1024x1536 .bf16) (i : Fin 128) (j : Fin 512) :
    k1_pay12 (F := Ideal) v w (ix2 i j) = k1_pay11 (F := Ideal) v w (ix2 i ⟨j.val, by omega⟩) := by
  unfold k1_pay12
  pointwise

theorem pay13_at (v : FVec Ideal S128x1024 .bf16) (w : FVec Ideal S1024x1536 .bf16) (i : Fin 128) (j : Fin 512) :
    k1_pay13 (F := Ideal) v w (ix2 i j) = k1_pay11 (F := Ideal) v w (ix2 i ⟨512 + j.val, by omega⟩) := by
  unfold k1_pay13
  pointwise

theorem pay14_at (v : FVec Ideal S128x1024 .bf16) (w : FVec Ideal S1024x1536 .bf16) (i : Fin 128) (j : Fin 512) :
    k1_pay14 (F := Ideal) v w (ix2 i j) = k1_pay11 (F := Ideal) v w (ix2 i ⟨1024 + j.val, by omega⟩) := by
  unfold k1_pay14
  pointwise

theorem pay17_at (v : FVec Ideal S128x1024 .bf16) (w : FVec Ideal S1024x1536 .bf16) (i : Fin 128) (j : Fin 512) :
    k1_pay15 (F := Ideal) v w (ix2 i j) = k1_pay13 (F := Ideal) v w (ix2 i j) := by
  unfold k1_pay15
  pointwise

theorem pay18_at (v : FVec Ideal S128x1024 .bf16) (w : FVec Ideal S1024x1536 .bf16) (i : Fin 128) (j : Fin 512) :
    k1_pay16 (F := Ideal) v w (ix2 i j) = k1_pay14 (F := Ideal) v w (ix2 i j) := by
  unfold k1_pay16
  pointwise

theorem gates_at (v : FVec Ideal S128x1024 .bf16) (w : FVec Ideal S1024x2048 .bf16) (i : Fin 128) (j : Fin 2048) :
    k1_pay17 (F := Ideal) v w (ix2 i j) = lin (fun k => v (ix2 i k)) (fun k => w (ix2 k j)) := by
  unfold k1_pay17
  pointwise
  rfl

theorem pay1_at (v : FVec Ideal S128x1024 .bf16) (w : FVec Ideal S1024x2048 .bf16) (i : Fin 128) (j : Fin 1024) :
    k1_pay18 (F := Ideal) v w (ix2 i j) = sg (k1_pay17 (F := Ideal) v w (ix2 i ⟨j.val, by omega⟩)) := by
  unfold k1_pay18
  pointwise
  simp only [zero_sub]
  rfl

theorem pay2_at (v : FVec Ideal S128x2048 .f32) (i : Fin 128) (j : Fin 1024) :
    k1_pay1 (F := Ideal) v (ix2 i j) = sg (v (ix2 i ⟨1024 + j.val, by omega⟩)) := by
  unfold k1_pay1
  pointwise
  simp only [zero_sub]
  rfl

/-! ## What a point leaves in each block -/

variable (x0 : Vec Ideal S128x1024 .f32) (x1 x2 : Vec Ideal S1x128x1024 .f32) (x3 : Vec Ideal S1x1024 .f32) (x4 : Vec Ideal S1024x1536 .bf16) (x5 : Vec Ideal S1024x128 .bf16)
  (x6 : Vec Ideal S128x256 .bf16) (x7 : Vec Ideal S1x256 .f32) (x8 : Vec Ideal S1024x1536 .bf16) (x9 : Vec Ideal S1024x2048 .bf16)

/-- A row of the block, normalised, scaled and shifted. -/
def ub (i : Fin 128) (k : Fin 1024) : EReal := u (fun k => x0 (ix2 i k)) (fun k => x3 (ix2 0 k)) (fun k => x2 (ix3 0 i k)) (fun k => x1 (ix3 0 i k)) k

theorem payu_at (i : Fin 128) (k : Fin 1024) : k1_pay19 x0 x1 x2 x3 x4 x5 x6 x7 x8 x9 (ix2 i k) = ub x0 x1 x2 x3 i k := by
  unfold k1_pay19
  rw [View.ld_unit_zero z2, View.ld_unit_zero z2, View.ld_unit_zero z3, View.ld_unit_zero z3]
  exact u_at x0 x3 x2 x1 i k

theorem rows (v : FVec Ideal S128x1024 .bf16) (h : v = k1_pay19 x0 x1 x2 x3 x4 x5 x6 x7 x8 x9) (i : Fin 128) (w : Fin 1024 → EReal) : lin (fun k => v (ix2 i k)) w = lin (ub x0 x1 x2 x3 i) w := by
  subst h
  exact congrArg (fun v => lin v w) (funext fun k => payu_at x0 x1 x2 x3 x4 x5 x6 x7 x8 x9 i k)

theorem out10_at (i : Fin 128) (j : Fin 256) :
    out1_10 x0 x1 x2 x3 x4 x5 x6 x7 x8 x9 (ix2 i j) = lin (ub x0 x1 x2 x3 i) (fun k => x4 (ix2 k ⟨j.val, by omega⟩)) * Ideal.ofBits .f32 0x3E000000#32 := by
  unfold out1_10
  rw [View.canon_unit_zero (S := S128x256) (off := ![0, 0]) z2]
  rw [View.ld_unit_zero z2, View.ld_unit_zero z2, View.ld_unit_zero z3, View.ld_unit_zero z3, View.ld_unit_zero z2]
  exact (pay5_at x0 x3 x2 x1 x4 i j).trans (congrArg (· * Ideal.ofBits .f32 0x3E000000#32) ((gla_at x0 x3 x2 x1 x4 i _).trans (congrArg (fun v => lin v _) (funext fun k => u_at x0 x3 x2 x1 i k))))

theorem out11_at (i : Fin 128) (j : Fin 256) :
    out1_11 x0 x1 x2 x3 x4 x5 x6 x7 x8 x9 (ix2 i j) = lin (ub x0 x1 x2 x3 i) (fun k => x4 (ix2 k ⟨256 + j.val, by omega⟩)) := by
  unfold out1_11
  rw [View.canon_unit_zero (S := S128x256) (off := ![0, 0]) z2]
  rw [View.ld_unit_zero z2, View.ld_unit_zero z2, View.ld_unit_zero z3, View.ld_unit_zero z3, View.ld_unit_zero z2]
  exact (pay6_at x0 x3 x2 x1 x4 i j).trans ((gla_at x0 x3 x2 x1 x4 i _).trans (congrArg (fun v => lin v _) (funext fun k => u_at x0 x3 x2 x1 i k)))

theorem out12_at (i : Fin 128) (j : Fin 256) :
    out1_12 x0 x1 x2 x3 x4 x5 x6 x7 x8 x9 (ix2 i j) = -(sp (-((∑ l : Fin 128, lin (ub x0 x1 x2 x3 i) (fun k => x5 (ix2 k l)) * x6 (ix2 l j)) + x7 (ix2 0 j)))) * Ideal.ofBits .f32 0x3D800000#32 := by
  unfold out1_12
  rw [View.canon_unit_zero (S := S128x256) (off := ![0, 0]) z2]
  rw [View.ld_unit_zero z2, View.ld_unit_zero z2, View.ld_unit_zero z2]
  refine (pay10_at _ i j).trans (congrArg (fun e => e * Ideal.ofBits .f32 0x3D800000#32) ((pay9_at _ x5 x6 x7 i j).trans (congrArg (fun e => -(sp (-(e + x7 (ix2 0 j))))) ?_)))
  exact Finset.sum_congr rfl fun l _ => congrArg (· * x6 (ix2 l j)) (rows x0 x1 x2 x3 x4 x5 x6 x7 x8 x9 _ rfl i _)

theorem out13_at (i : Fin 128) (j : Fin 512) :
    out1_13 x0 x1 x2 x3 x4 x5 x6 x7 x8 x9 (ix2 i j) = lin (ub x0 x1 x2 x3 i) (fun k => x4 (ix2 k ⟨512 + j.val, by omega⟩)) := by
  unfold out1_13
  rw [View.canon_unit_zero (S := S128x512) (off := ![0, 0]) z2]
  rw [View.ld_unit_zero z2, View.ld_unit_zero z2, View.ld_unit_zero z3, View.ld_unit_zero z3, View.ld_unit_zero z2]
  exact (pay7_at _ i j).trans ((pay6v_at x0 x3 x2 x1 x4 i j).trans ((gla_at x0 x3 x2 x1 x4 i _).trans (congrArg (fun v => lin v _) (funext fun k => u_at x0 x3 x2 x1 i k))))

theorem out14_at (i : Fin 128) (j : Fin 512) :
    out1_14 x0 x1 x2 x3 x4 x5 x6 x7 x8 x9 (ix2 i j) = lin (ub x0 x1 x2 x3 i) (fun k => x4 (ix2 k ⟨1024 + j.val, by omega⟩)) * sg (lin (ub x0 x1 x2 x3 i) (fun k => x4 (ix2 k ⟨1024 + j.val, by omega⟩))) := by
  unfold out1_14
  rw [View.canon_unit_zero (S := S128x512) (off := ![0, 0]) z2]
  rw [View.ld_unit_zero z2, View.ld_unit_zero z2, View.ld_unit_zero z3, View.ld_unit_zero z3, View.ld_unit_zero z2]
  exact (pay8_at _ i j).trans (congrArg (fun e => e * sg e) ((gla_at x0 x3 x2 x1 x4 i _).trans (congrArg (fun v => lin v _) (funext fun k => u_at x0 x3 x2 x1 i k))))

theorem out15_at (i : Fin 128) (j : Fin 512) :
    out1_15 x0 x1 x2 x3 x4 x5 x6 x7 x8 x9 (ix2 i j) = lin (ub x0 x1 x2 x3 i) (fun k => x8 (ix2 k ⟨j.val, by omega⟩)) := by
  unfold out1_15
  rw [View.canon_unit_zero (S := S128x512) (off := ![0, 0]) z2]
  rw [View.ld_unit_zero z2]
  exact (pay12_at _ x8 i j).trans ((sb_at _ x8 i _).trans (rows x0 x1 x2 x3 x4 x5 x6 x7 x8 x9 _ rfl i _))

theorem out16_at (i : Fin 128) (j : Fin 512) :
    out1_16 x0 x1 x2 x3 x4 x5 x6 x7 x8 x9 (ix2 i j) = lin (ub x0 x1 x2 x3 i) (fun k => x8 (ix2 k ⟨512 + j.val, by omega⟩)) := by
  unfold out1_16
  rw [View.canon_unit_zero (S := S128x512) (off := ![0, 0]) z2]
  rw [View.ld_unit_zero z2]
  exact (pay17_at _ x8 i j).trans ((pay13_at _ x8 i j).trans ((sb_at _ x8 i _).trans (rows x0 x1 x2 x3 x4 x5 x6 x7 x8 x9 _ rfl i _)))

theorem out17_at (i : Fin 128) (j : Fin 512) :
    out1_17 x0 x1 x2 x3 x4 x5 x6 x7 x8 x9 (ix2 i j) = lin (ub x0 x1 x2 x3 i) (fun k => x8 (ix2 k ⟨1024 + j.val, by omega⟩)) := by
  unfold out1_17
  rw [View.canon_unit_zero (S := S128x512) (off := ![0, 0]) z2]
  rw [View.ld_unit_zero z2]
  exact (pay18_at _ x8 i j).trans ((pay14_at _ x8 i j).trans ((sb_at _ x8 i _).trans (rows x0 x1 x2 x3 x4 x5 x6 x7 x8 x9 _ rfl i _)))

theorem out18_at (i : Fin 128) (j : Fin 512) :
    out1_18 x0 x1 x2 x3 x4 x5 x6 x7 x8 x9 (ix2 i j) = lin (ub x0 x1 x2 x3 i) (fun k => x8 (ix2 k ⟨512 + j.val, by omega⟩)) := by
  unfold out1_18
  rw [View.canon_unit_zero (S := S128x512) (off := ![0, 0]) z2]
  rw [View.ld_unit_zero z2]
  exact (pay13_at _ x8 i j).trans ((sb_at _ x8 i _).trans (rows x0 x1 x2 x3 x4 x5 x6 x7 x8 x9 _ rfl i _))

theorem out19_at (i : Fin 128) (j : Fin 512) :
    out1_19 x0 x1 x2 x3 x4 x5 x6 x7 x8 x9 (ix2 i j) = lin (ub x0 x1 x2 x3 i) (fun k => x8 (ix2 k ⟨1024 + j.val, by omega⟩)) := by
  unfold out1_19
  rw [View.canon_unit_zero (S := S128x512) (off := ![0, 0]) z2]
  rw [View.ld_unit_zero z2]
  exact (pay14_at _ x8 i j).trans ((sb_at _ x8 i _).trans (rows x0 x1 x2 x3 x4 x5 x6 x7 x8 x9 _ rfl i _))

theorem out20_at (i : Fin 128) (j : Fin 1024) :
    out1_20 x0 x1 x2 x3 x4 x5 x6 x7 x8 x9 (ix2 i j) = sg (lin (ub x0 x1 x2 x3 i) (fun k => x9 (ix2 k ⟨j.val, by omega⟩))) := by
  unfold out1_20
  rw [View.canon_unit_zero (S := S128x1024) (off := ![0, 0]) z2]
  rw [View.ld_unit_zero z2]
  exact (pay1_at _ x9 i j).trans (congrArg sg ((gates_at _ x9 i _).trans (rows x0 x1 x2 x3 x4 x5 x6 x7 x8 x9 _ rfl i _)))

theorem out21_at (i : Fin 128) (j : Fin 1024) :
    out1_21 x0 x1 x2 x3 x4 x5 x6 x7 x8 x9 (ix2 i j) = sg (lin (ub x0 x1 x2 x3 i) (fun k => x9 (ix2 k ⟨1024 + j.val, by omega⟩))) := by
  unfold out1_21
  rw [View.canon_unit_zero (S := S128x1024) (off := ![0, 0]) z2]
  rw [View.ld_unit_zero z2]
  exact (pay2_at _ i j).trans (congrArg sg ((gates_at _ x9 i _).trans (rows x0 x1 x2 x3 x4 x5 x6 x7 x8 x9 _ rfl i _)))

end Cert.Kernel4Ideal.Proj
-- ==== Proof.SmHost.lean ====
/- What the host's lines make of the arguments before the two calls, one entry at a time. -/
module

public import proofs.«01_k».proof.Proof.SmBlock
public import Idealize.ShloMosaic.Lib.StableHlo.Run
public import Idealize.ShloMosaic.Lib.KernelVsHost

@[expose] public section

set_option maxRecDepth 16384

noncomputable section

namespace Cert.Kernel4Ideal.Proj

open Cert.Kernel4Ideal Cert.Kernel4Ideal.Gen Cert.InSpec Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

/-! ## The terms, entry by entry -/

theorem padl_at (x : FVec Ideal S1024x16 .f32) (k : Fin 1024) (l : Fin 128) :
    pad S1024x128 ![0, 0] ![0, 112] ![0, 0] x (sitofp (F := Ideal) .f32 (constantI S_ 32 0#32)) pads_S1024x16_S1024x128_000_01120 h_S_ (ix2 k l)
      = if h : l.val < 16 then x (ix2 k ⟨l.val, h⟩) else 0 := by
  pointwise
  rw [show (FloatOps.sitofp FTy.f32 0#32 : Ideal .f32) = 0 from sitofp_zero]

theorem pada_at (x : FVec Ideal S16x256 .f32) (l : Fin 128) (j : Fin 256) :
    pad S128x256 ![0, 0] ![112, 0] ![0, 0] x (sitofp (F := Ideal) .f32 (constantI S_ 32 0#32)) pads_S16x256_S128x256_01120_000 h_S_ (ix2 l j)
      = if h : l.val < 16 then x (ix2 ⟨l.val, h⟩ j) else 0 := by
  pointwise
  rw [show (FloatOps.sitofp FTy.f32 0#32 : Ideal .f32) = 0 from sitofp_zero]

theorem cat_at (a : FVec Ideal S8x1024 .f32) (b : FVec Ideal S128x1024 .f32) (i : Fin 128) (k : Fin 1024) :
    concatenate S136x1024 0 [⟨S8x1024, a⟩, ⟨S128x1024, b⟩] concatenates_S8x1024_S128x1024_S136x1024_d0 (ix2 ⟨8 + i.val, by omega⟩ k) = b (ix2 i k) := by
  pointwise

/-! ## The boundaries -/

theorem W1_v0 : W1 m ρ c (Proc.devRef .tc main_v0) = (shapeCast S1024x5136 (m ((c : Thread nD τ).loc main_arg6)) shapeCasts_S1x1024x5136_S1024x5136 : FVec Ideal S1024x5136 .f32) := by
  show StableHlo.after hostOps0 _ (Proc.devRef .tc main_v0) = _
  after_results
  rfl

theorem W4_v0 : W4 m ρ c (Proc.devRef .tc main_v0) = (shapeCast S1024x5136 (m ((c : Thread nD τ).loc main_arg6)) shapeCasts_S1x1024x5136_S1024x5136 : FVec Ideal S1024x5136 .f32) :=
  (W4_of m ρ c main_v0 (by decide)).trans ((W3_of m ρ c main_v0 (by decide)).trans ((W2_of m ρ c main_v0 (by decide)).trans (W1_v0 m ρ c)))

theorem W1_v1 : W1 m ρ c (Proc.devRef .tc main_v1) = (extractStridedSlice S1024x16 ![0, 1536] (shapeCast S1024x5136 (m ((c : Thread nD τ).loc main_arg6)) shapeCasts_S1x1024x5136_S1024x5136 : FVec Ideal S1024x5136 .f32) slices_S1024x5136_S1024x16_0_1536 : FVec Ideal S1024x16 .f32) := by
  show StableHlo.after hostOps0 _ (Proc.devRef .tc main_v1) = _
  after_results
  rfl

theorem W1_c : W1 m ρ c (Proc.devRef .tc main_c) = constantI S_ 32 0#32 := by
  show StableHlo.after hostOps0 _ (Proc.devRef .tc main_c) = _
  after_results

theorem W2_v2 : W2 m ρ c (Proc.devRef .tc main_v2) = (pad S1024x128 ![0, 0] ![0, 112] ![0, 0] (W1 m ρ c (Proc.devRef .tc main_v1) : FVec Ideal S1024x16 .f32) (sitofp (F := Ideal) .f32 (constantI S_ 32 0#32)) pads_S1024x16_S1024x128_000_01120 h_S_ : FVec Ideal S1024x128 .f32) := by
  show StableHlo.after hostOps0_1 (W1 m ρ c) (Proc.devRef .tc main_v2) = _
  rw [← W1_c m ρ c]
  generalize W1 m ρ c = w
  simp only [hostOps0_1, StableHlo.TRef.binary, StableHlo.TRef.unary, StableHlo.TRef.toBuf, StableHlo.TRef.ofBuf, cast_eq]
  after_results_simp

theorem W3_c0 : W3 m ρ c (Proc.devRef .tc main_c_0) = constantI S_ 32 0#32 := by
  show StableHlo.after hostOps0_2 (W2 m ρ c) (Proc.devRef .tc main_c_0) = _
  generalize W2 m ρ c = w
  after_results

theorem W3_v3 : W3 m ρ c (Proc.devRef .tc main_v3) = (shapeCast S16x256 (m ((c : Thread nD τ).loc main_arg7)) shapeCasts_S1x16x256_S16x256 : FVec Ideal S16x256 .f32) := by
  rw [← W2_args m ρ c main_arg7 (by decide)]
  show StableHlo.after hostOps0_2 (W2 m ρ c) (Proc.devRef .tc main_v3) = _
  generalize W2 m ρ c = w
  after_results
  rfl

theorem W4_v4 : W4 m ρ c (Proc.devRef .tc main_v4) = (pad S128x256 ![0, 0] ![112, 0] ![0, 0] (W3 m ρ c (Proc.devRef .tc main_v3) : FVec Ideal S16x256 .f32) (sitofp (F := Ideal) .f32 (constantI S_ 32 0#32)) pads_S16x256_S128x256_01120_000 h_S_ : FVec Ideal S128x256 .f32) := by
  show StableHlo.after hostOps0_3 (W3 m ρ c) (Proc.devRef .tc main_v4) = _
  rw [← W3_c0 m ρ c]
  generalize W3 m ρ c = w
  simp only [hostOps0_3, StableHlo.TRef.binary, StableHlo.TRef.unary, StableHlo.TRef.toBuf, StableHlo.TRef.ofBuf, cast_eq]
  after_results_simp

theorem W5_v6 : W5 m ρ c (Proc.devRef .tc main_v6) = (truncf .bf16 (extractStridedSlice S1024x1536 ![0, 0] (shapeCast S1024x5136 (m ((c : Thread nD τ).loc main_arg6)) shapeCasts_S1x1024x5136_S1024x5136 : FVec Ideal S1024x5136 .f32) slices_S1024x5136_S1024x1536_0_0 : FVec Ideal S1024x1536 .f32) bitsLt_bf16_f32 : FVec Ideal S1024x1536 .bf16) := by
  rw [← W4_v0 m ρ c]
  show StableHlo.after hostOps0_4 (W4 m ρ c) (Proc.devRef .tc main_v6) = _
  generalize W4 m ρ c = w
  after_results

theorem W5_v7 : W5 m ρ c (Proc.devRef .tc main_v7) = (truncf .bf16 (W4 m ρ c (Proc.devRef .tc main_v2) : FVec Ideal S1024x128 .f32) bitsLt_bf16_f32 : FVec Ideal S1024x128 .bf16) := by
  show StableHlo.after hostOps0_4 (W4 m ρ c) (Proc.devRef .tc main_v7) = _
  generalize W4 m ρ c = w
  after_results

theorem W5_v8 : W5 m ρ c (Proc.devRef .tc main_v8) = (truncf .bf16 (W4 m ρ c (Proc.devRef .tc main_v4) : FVec Ideal S128x256 .f32) bitsLt_bf16_f32 : FVec Ideal S128x256 .bf16) := by
  show StableHlo.after hostOps0_4 (W4 m ρ c) (Proc.devRef .tc main_v8) = _
  generalize W4 m ρ c = w
  after_results

theorem W5_v10 : W5 m ρ c (Proc.devRef .tc main_v10) = (shapeCast S1x256 (shapeCast S256 (m ((c : Thread nD τ).loc main_arg8)) shapeCasts_S1x256_S256 : FVec Ideal S256 .f32) shapeCasts_S256_S1x256 : FVec Ideal S1x256 .f32) := by
  rw [← W4_args m ρ c main_arg8 (by decide)]
  show StableHlo.after hostOps0_4 (W4 m ρ c) (Proc.devRef .tc main_v10) = _
  generalize W4 m ρ c = w
  after_results
  rfl

theorem W5_v12 : W5 m ρ c (Proc.devRef .tc main_v12) = (truncf .bf16 (extractStridedSlice S1024x1536 ![0, 1552] (shapeCast S1024x5136 (m ((c : Thread nD τ).loc main_arg6)) shapeCasts_S1x1024x5136_S1024x5136 : FVec Ideal S1024x5136 .f32) slices_S1024x5136_S1024x1536_0_1552 : FVec Ideal S1024x1536 .f32) bitsLt_bf16_f32 : FVec Ideal S1024x1536 .bf16) := by
  rw [← W4_v0 m ρ c]
  show StableHlo.after hostOps0_4 (W4 m ρ c) (Proc.devRef .tc main_v12) = _
  generalize W4 m ρ c = w
  after_results

theorem W5_v14 : W5 m ρ c (Proc.devRef .tc main_v14) = (truncf .bf16 (extractStridedSlice S1024x2048 ![0, 3088] (shapeCast S1024x5136 (m ((c : Thread nD τ).loc main_arg6)) shapeCasts_S1x1024x5136_S1024x5136 : FVec Ideal S1024x5136 .f32) slices_S1024x5136_S1024x2048_0_3088 : FVec Ideal S1024x2048 .f32) bitsLt_bf16_f32 : FVec Ideal S1024x2048 .bf16) := by
  rw [← W4_v0 m ρ c]
  show StableHlo.after hostOps0_4 (W4 m ρ c) (Proc.devRef .tc main_v14) = _
  generalize W4 m ρ c = w
  after_results

theorem W5_v16 : W5 m ρ c (Proc.devRef .tc main_v16) = (shapeCast S1x1024 (shapeCast S1024 (m ((c : Thread nD τ).loc main_arg5)) shapeCasts_S1x1024_S1024 : FVec Ideal S1024 .f32) shapeCasts_S1024_S1x1024 : FVec Ideal S1x1024 .f32) := by
  rw [← W4_args m ρ c main_arg5 (by decide)]
  show StableHlo.after hostOps0_4 (W4 m ρ c) (Proc.devRef .tc main_v16) = _
  generalize W4 m ρ c = w
  after_results
  rfl

theorem W5_v17 : W5 m ρ c (Proc.devRef .tc main_v17) = (concatenate S136x1024 0 [⟨S8x1024, (m ((c : Thread nD τ).loc main_arg1))⟩, ⟨S128x1024, (m ((c : Thread nD τ).loc main_arg2))⟩] concatenates_S8x1024_S128x1024_S136x1024_d0 : FVec Ideal S136x1024 .f32) := by
  rw [← W4_args m ρ c main_arg1 (by decide)]
  rw [← W4_args m ρ c main_arg2 (by decide)]
  show StableHlo.after hostOps0_4 (W4 m ρ c) (Proc.devRef .tc main_v17) = _
  generalize W4 m ρ c = w
  after_results

theorem W5_v18 : W5 m ρ c (Proc.devRef .tc main_v18) = (shapeCast S1024x6144 (m ((c : Thread nD τ).loc main_arg3)) shapeCasts_S1x1024x6144_S1024x6144 : FVec Ideal S1024x6144 .f32) := by
  rw [← W4_args m ρ c main_arg3 (by decide)]
  show StableHlo.after hostOps0_4 (W4 m ρ c) (Proc.devRef .tc main_v18) = _
  generalize W4 m ρ c = w
  after_results
  rfl

theorem W5_v20 : W5 m ρ c (Proc.devRef .tc main_v20) = (shapeCast S1x6144 (shapeCast S6144 (m ((c : Thread nD τ).loc main_arg4)) shapeCasts_S1x6144_S6144 : FVec Ideal S6144 .f32) shapeCasts_S6144_S1x6144 : FVec Ideal S1x6144 .f32) := by
  rw [← W4_args m ρ c main_arg4 (by decide)]
  show StableHlo.after hostOps0_4 (W4 m ρ c) (Proc.devRef .tc main_v20) = _
  generalize W4 m ρ c = w
  after_results
  rfl

theorem W7_v6 : W7 m ρ c (Proc.devRef .tc main_v6) = W5 m ρ c (Proc.devRef .tc main_v6) :=
  (W7_of m ρ c main_v6 (by decide)).trans (W6_of m ρ c main_v6 (by decide))

theorem W7_v7 : W7 m ρ c (Proc.devRef .tc main_v7) = W5 m ρ c (Proc.devRef .tc main_v7) :=
  (W7_of m ρ c main_v7 (by decide)).trans (W6_of m ρ c main_v7 (by decide))

theorem W7_v8 : W7 m ρ c (Proc.devRef .tc main_v8) = W5 m ρ c (Proc.devRef .tc main_v8) :=
  (W7_of m ρ c main_v8 (by decide)).trans (W6_of m ρ c main_v8 (by decide))

theorem W7_v10 : W7 m ρ c (Proc.devRef .tc main_v10) = W5 m ρ c (Proc.devRef .tc main_v10) :=
  (W7_of m ρ c main_v10 (by decide)).trans (W6_of m ρ c main_v10 (by decide))

theorem W7_v12 : W7 m ρ c (Proc.devRef .tc main_v12) = W5 m ρ c (Proc.devRef .tc main_v12) :=
  (W7_of m ρ c main_v12 (by decide)).trans (W6_of m ρ c main_v12 (by decide))

theorem W7_v14 : W7 m ρ c (Proc.devRef .tc main_v14) = W5 m ρ c (Proc.devRef .tc main_v14) :=
  (W7_of m ρ c main_v14 (by decide)).trans (W6_of m ρ c main_v14 (by decide))

theorem W7_v16 : W7 m ρ c (Proc.devRef .tc main_v16) = W5 m ρ c (Proc.devRef .tc main_v16) :=
  (W7_of m ρ c main_v16 (by decide)).trans (W6_of m ρ c main_v16 (by decide))

theorem W7_v26 : W7 m ρ c (Proc.devRef .tc main_v26) = (shapeCast S1x128x1024 (shapeCast S128x1024 (extractStridedSlice S128x1x1024 ![0, 0, 0] (shapeCast S128x6x1024 (extractStridedSlice S128x6144 ![8, 0] (W6 m ρ c (Proc.devRef .tc main_v21) : FVec Ideal S136x6144 .f32) slices_S136x6144_S128x6144_8_0 : FVec Ideal S128x6144 .f32) shapeCasts_S128x6144_S128x6x1024 : FVec Ideal S128x6x1024 .f32) slices_S128x6x1024_S128x1x1024_0_0_0 : FVec Ideal S128x1x1024 .f32) shapeCasts_S128x1x1024_S128x1024 : FVec Ideal S128x1024 .f32) shapeCasts_S128x1024_S1x128x1024 : FVec Ideal S1x128x1024 .f32) := by
  show StableHlo.after hostOps1 (W6 m ρ c) (Proc.devRef .tc main_v26) = _
  generalize W6 m ρ c = w
  after_results
  rfl

theorem W7_v29 : W7 m ρ c (Proc.devRef .tc main_v29) = (shapeCast S1x128x1024 (shapeCast S128x1024 (extractStridedSlice S128x1x1024 ![0, 1, 0] (shapeCast S128x6x1024 (extractStridedSlice S128x6144 ![8, 0] (W6 m ρ c (Proc.devRef .tc main_v21) : FVec Ideal S136x6144 .f32) slices_S136x6144_S128x6144_8_0 : FVec Ideal S128x6144 .f32) shapeCasts_S128x6144_S128x6x1024 : FVec Ideal S128x6x1024 .f32) slices_S128x6x1024_S128x1x1024_0_1_0 : FVec Ideal S128x1x1024 .f32) shapeCasts_S128x1x1024_S128x1024 : FVec Ideal S128x1024 .f32) shapeCasts_S128x1024_S1x128x1024 : FVec Ideal S1x128x1024 .f32) := by
  show StableHlo.after hostOps1 (W6 m ρ c) (Proc.devRef .tc main_v29) = _
  generalize W6 m ρ c = w
  after_results
  rfl

theorem W7_v30 : W7 m ρ c (Proc.devRef .tc main_v30) = (shapeCast S128x1024 (m ((c : Thread nD τ).loc main_arg0)) shapeCasts_S128x1x1024_S128x1024 : FVec Ideal S128x1024 .f32) := by
  rw [← W6_args m ρ c main_arg0 (by decide)]
  show StableHlo.after hostOps1 (W6 m ρ c) (Proc.devRef .tc main_v30) = _
  generalize W6 m ρ c = w
  after_results
  rfl

/-! ## The entries -/

theorem mod_at (y : FVec Ideal S136x6144 .f32) (b : Fin 128) (k : Fin 1024) :
    (shapeCast S1x128x1024 (shapeCast S128x1024 (extractStridedSlice S128x1x1024 ![0, 0, 0] (shapeCast S128x6x1024 (extractStridedSlice S128x6144 ![8, 0] y slices_S136x6144_S128x6144_8_0 : FVec Ideal S128x6144 .f32) shapeCasts_S128x6144_S128x6x1024 : FVec Ideal S128x6x1024 .f32) slices_S128x6x1024_S128x1x1024_0_0_0 : FVec Ideal S128x1x1024 .f32) shapeCasts_S128x1x1024_S128x1024 : FVec Ideal S128x1024 .f32) shapeCasts_S128x1024_S1x128x1024 : FVec Ideal S1x128x1024 .f32) (ix3 0 b k)
      = y (ix2 ⟨8 + b.val, by omega⟩ ⟨k.val, by omega⟩) := by
  pointwise

theorem mod1_at (y : FVec Ideal S136x6144 .f32) (b : Fin 128) (k : Fin 1024) :
    (shapeCast S1x128x1024 (shapeCast S128x1024 (extractStridedSlice S128x1x1024 ![0, 1, 0] (shapeCast S128x6x1024 (extractStridedSlice S128x6144 ![8, 0] y slices_S136x6144_S128x6144_8_0 : FVec Ideal S128x6144 .f32) shapeCasts_S128x6144_S128x6x1024 : FVec Ideal S128x6x1024 .f32) slices_S128x6x1024_S128x1x1024_0_1_0 : FVec Ideal S128x1x1024 .f32) shapeCasts_S128x1x1024_S128x1024 : FVec Ideal S128x1024 .f32) shapeCasts_S128x1024_S1x128x1024 : FVec Ideal S1x128x1024 .f32) (ix3 0 b k)
      = y (ix2 ⟨8 + b.val, by omega⟩ ⟨1024 + k.val, by omega⟩) := by
  pointwise

theorem x_at (x : FVec Ideal S128x1x1024 .f32) (b : Fin 128) (k : Fin 1024) :
    (shapeCast S128x1024 x shapeCasts_S128x1x1024_S128x1024 : FVec Ideal S128x1024 .f32) (ix2 b k) = x (ix3 b 0 k) := by
  pointwise

theorem win_at (x : FVec Ideal S1x1024x5136 .f32) (k : Fin 1024) (j : Fin 1536) :
    (truncf .bf16 (extractStridedSlice S1024x1536 ![0, 0] (shapeCast S1024x5136 x shapeCasts_S1x1024x5136_S1024x5136 : FVec Ideal S1024x5136 .f32) slices_S1024x5136_S1024x1536_0_0 : FVec Ideal S1024x1536 .f32) bitsLt_bf16_f32 : FVec Ideal S1024x1536 .bf16) (ix2 k j)
      = x (ix3 0 k ⟨j.val, by omega⟩) := by
  pointwise

theorem win1_at (x : FVec Ideal S1x1024x5136 .f32) (k : Fin 1024) (j : Fin 1536) :
    (truncf .bf16 (extractStridedSlice S1024x1536 ![0, 1552] (shapeCast S1024x5136 x shapeCasts_S1x1024x5136_S1024x5136 : FVec Ideal S1024x5136 .f32) slices_S1024x5136_S1024x1536_0_1552 : FVec Ideal S1024x1536 .f32) bitsLt_bf16_f32 : FVec Ideal S1024x1536 .bf16) (ix2 k j)
      = x (ix3 0 k ⟨1552 + j.val, by omega⟩) := by
  pointwise

theorem win2_at (x : FVec Ideal S1x1024x5136 .f32) (k : Fin 1024) (j : Fin 2048) :
    (truncf .bf16 (extractStridedSlice S1024x2048 ![0, 3088] (shapeCast S1024x5136 x shapeCasts_S1x1024x5136_S1024x5136 : FVec Ideal S1024x5136 .f32) slices_S1024x5136_S1024x2048_0_3088 : FVec Ideal S1024x2048 .f32) bitsLt_bf16_f32 : FVec Ideal S1024x2048 .bf16) (ix2 k j)
      = x (ix3 0 k ⟨3088 + j.val, by omega⟩) := by
  pointwise

theorem winl_at (x : FVec Ideal S1x1024x5136 .f32) (k : Fin 1024) (l : Fin 16) :
    (extractStridedSlice S1024x16 ![0, 1536] (shapeCast S1024x5136 x shapeCasts_S1x1024x5136_S1024x5136 : FVec Ideal S1024x5136 .f32) slices_S1024x5136_S1024x16_0_1536 : FVec Ideal S1024x16 .f32) (ix2 k l)
      = x (ix3 0 k ⟨1536 + l.val, by omega⟩) := by
  pointwise

theorem wal_at (x : FVec Ideal S1x16x256 .f32) (l : Fin 16) (j : Fin 256) :
    (shapeCast S16x256 x shapeCasts_S1x16x256_S16x256 : FVec Ideal S16x256 .f32) (ix2 l j) = x (ix3 0 l j) := by
  pointwise

theorem bal_at (x : FVec Ideal S1x256 .f32) (j : Fin 256) :
    (shapeCast S1x256 (shapeCast S256 x shapeCasts_S1x256_S256 : FVec Ideal S256 .f32) shapeCasts_S256_S1x256 : FVec Ideal S1x256 .f32) (ix2 0 j) = x (ix2 0 j) := by
  pointwise

theorem gpm_at (x : FVec Ideal S1x1024 .f32) (j : Fin 1024) :
    (shapeCast S1x1024 (shapeCast S1024 x shapeCasts_S1x1024_S1024 : FVec Ideal S1024 .f32) shapeCasts_S1024_S1x1024 : FVec Ideal S1x1024 .f32) (ix2 0 j) = x (ix2 0 j) := by
  pointwise

theorem wad_at (x : FVec Ideal S1x1024x6144 .f32) (k : Fin 1024) (j : Fin 6144) :
    (shapeCast S1024x6144 x shapeCasts_S1x1024x6144_S1024x6144 : FVec Ideal S1024x6144 .f32) (ix2 k j) = x (ix3 0 k j) := by
  pointwise

theorem bad_at (x : FVec Ideal S1x6144 .f32) (j : Fin 6144) :
    (shapeCast S1x6144 (shapeCast S6144 x shapeCasts_S1x6144_S6144 : FVec Ideal S6144 .f32) shapeCasts_S6144_S1x6144 : FVec Ideal S1x6144 .f32) (ix2 0 j) = x (ix2 0 j) := by
  pointwise

end Cert.Kernel4Ideal.Proj
-- ==== Proof.SmAda.lean ====
/- The conditioning call's array, one entry at a time. -/
module

public import proofs.«01_k».proof.Proof.SmHost

@[expose] public section

set_option maxRecDepth 16384

noncomputable section

namespace Cert.Kernel4Ideal.Proj

open Cert.Kernel4Ideal Cert.Kernel4Ideal.Gen Cert.InSpec Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

/-- An index is its coordinates. -/
theorem ext2 {n0 n1 : ℕ} (i : Shape.Idx ⟨2, ![n0, n1]⟩) (a : Fin n0) (b : Fin n1) (h0 : (i 0).val = a.val) (h1 : (i 1).val = b.val) : i = ix2 a b :=
  (eq_ix2 i).trans (congrArg₂ ix2 (Fin.ext h0) (Fin.ext h1))

/-- The arguments, by coordinates. -/
def inp : In 128 1 where
  x b t k := m ((c : Thread nD τ).loc main_arg0) (ix3 b t k)
  c b k := m ((c : Thread nD τ).loc main_arg2) (ix2 b k)
  wa k j := m ((c : Thread nD τ).loc main_arg3) (ix3 0 k j)
  ba j := m ((c : Thread nD τ).loc main_arg4) (ix2 0 j)
  g k := m ((c : Thread nD τ).loc main_arg5) (ix2 0 k)
  w k j := m ((c : Thread nD τ).loc main_arg6) (ix3 0 k j)
  wl l j := m ((c : Thread nD τ).loc main_arg7) (ix3 0 l j)
  bl j := m ((c : Thread nD τ).loc main_arg8) (ix2 0 j)

/-- The conditioning of every row, prompt and sample. -/
def A0 (i : S136x6144.Idx) : EReal :=
  ada (fun k => (W5 m ρ c (Proc.devRef .tc main_v17) : FVec Ideal S136x1024 .f32) (ix2 (i 0) k)) (fun k => (W5 m ρ c (Proc.devRef .tc main_v18) : FVec Ideal S1024x6144 .f32) (ix2 k (i 1)))
    ((W5 m ρ c (Proc.devRef .tc main_v20) : FVec Ideal S1x6144 .f32) (ix2 0 (i 1)))

theorem a_idx : ∀ i : grid0.Coords, cc0_transform_1 i 1 = (i 0).val ∧ cc0_transform_2 i 1 = (i 0).val ∧ cc0_transform_3 i 1 = (i 0).val := by decide +kernel

/-- A point's block of columns. -/
def ac (t : Fin cfg0.N) : Fin 6 := grid0.coords t 0

theorem a_block0 (t : Fin cfg0.N) (i : Fin 136) (k : Fin 1024) : iblk0 (V5 m ρ) c 0 t (ix2 i k) = (W5 m ρ c (Proc.devRef .tc main_v17) : FVec Ideal S136x1024 .f32) (ix2 i k) := by
  show W5 m ρ c (Proc.devRef .tc main_v17) ((win0_0.rect t).emb (ix2 i k)) = _
  exact congrArg (W5 m ρ c (Proc.devRef .tc main_v17)) (ext2 _ _ _ (win0_0.rect_emb_val_of_index_zero t 0 rfl (ix2 i k)) (win0_0.rect_emb_val_of_index_zero t 1 rfl (ix2 i k)))

theorem a_block1 (t : Fin cfg0.N) (k j : Fin 1024) : iblk0 (V5 m ρ) c 1 t (ix2 k j) = (W5 m ρ c (Proc.devRef .tc main_v18) : FVec Ideal S1024x6144 .f32) (ix2 k ⟨1024 * (ac t).val + j.val, by omega⟩) := by
  show W5 m ρ c (Proc.devRef .tc main_v18) ((win0_1.rect t).emb (ix2 k j)) = _
  refine congrArg (W5 m ρ c (Proc.devRef .tc main_v18)) (ext2 _ _ _ (win0_1.rect_emb_val_of_index_zero t 0 rfl (ix2 k j)) ((win0_1.rect_emb_val t (ix2 k j) 1).trans ?_))
  show cc0_transform_1 (grid0.coords t) 1 * 1024 + j.val = 1024 * (grid0.coords t 0).val + j.val
  rw [(a_idx _).1]; ring

theorem a_block2 (t : Fin cfg0.N) (j : Fin 1024) : iblk0 (V5 m ρ) c 2 t (ix2 0 j) = (W5 m ρ c (Proc.devRef .tc main_v20) : FVec Ideal S1x6144 .f32) (ix2 0 ⟨1024 * (ac t).val + j.val, by omega⟩) := by
  show W5 m ρ c (Proc.devRef .tc main_v20) ((win0_2.rect t).emb (ix2 0 j)) = _
  refine congrArg (W5 m ρ c (Proc.devRef .tc main_v20)) (ext2 _ _ _ (win0_2.rect_emb_val_of_index_zero t 0 rfl (ix2 0 j)) ((win0_2.rect_emb_val t (ix2 0 j) 1).trans ?_))
  show cc0_transform_2 (grid0.coords t) 1 * 1024 + j.val = 1024 * (grid0.coords t 0).val + j.val
  rw [(a_idx _).2.1]; ring

theorem a_emb (t : Fin cfg0.N) (i : Fin 136) (j : Fin 1024) : (win0_3.rect t).emb (ix2 i j) = ix2 i ⟨1024 * (ac t).val + j.val, by omega⟩ := by
  refine ext2 _ _ _ (win0_3.rect_emb_val_of_index_zero t 0 rfl (ix2 i j)) ((win0_3.rect_emb_val t (ix2 i j) 1).trans ?_)
  show cc0_transform_3 (grid0.coords t) 1 * 1024 + j.val = 1024 * (grid0.coords t 0).val + j.val
  rw [(a_idx _).2.2]; ring

theorem a_out (t : Fin cfg0.N) (i : Fin 136) (j : Fin 1024) :
    out0_3 (iblk0 (V5 m ρ) c 0 t) (iblk0 (V5 m ρ) c 1 t) (iblk0 (V5 m ρ) c 2 t) (ix2 i j) = A0 m ρ c ((win0_3.rect t).emb (ix2 i j)) := by
  rw [a_emb t i j]
  refine (out0_at _ _ _ i j).trans ?_
  show _ = ada _ _ _
  refine congr (congrArg₂ ada (funext fun k => a_block0 m ρ c t i k) (funext fun k => a_block1 m ρ c t k j)) (a_block2 m ρ c t j)

theorem a_flushed (t : Fin cfg0.N) : (dat0 (V5 m ρ) c).flushed 3 t = ((cfg0.win 3).blk t).view.read (Elt Ideal) (A0 m ρ c) := by
  show (cfg0.win 3).cut (grid0.coords t) ((dat0 (V5 m ρ) c).after 3 t) = _
  rw [after0_3]
  exact funext fun y => (congrArg (out0_3 _ _ _) (eq_ix2 y)).trans ((a_out m ρ c t (y 0) (y 1)).trans (congrArg (fun z => A0 m ρ c ((win0_3.rect t).emb z)) (eq_ix2 y).symm))

theorem a_point : ∀ j : Fin 6, ∃ t : Fin grid0.N, cc0_transform_3 (grid0.coords t) 0 = 0 ∧ cc0_transform_3 (grid0.coords t) 1 = j.val := by decide +kernel

theorem a_final : W6 m ρ c (Proc.devRef .tc main_v21) = A0 m ρ c :=
  (W6_arr m ρ c 3).trans ((dat0 (V5 m ρ) c).arrAt_eq_of_cover 3 (A0 m ρ c) (fun t _ => a_flushed m ρ c t) fun i => by
    have h0 : (i 0 : ℕ) < 136 := (i 0).isLt
    have h1 : (i 1 : ℕ) < 6144 := (i 1).isLt
    obtain ⟨t, e0, e1⟩ := a_point ⟨(i 1 : ℕ) / 1024, by omega⟩
    refine ⟨t, flush0_3 t, ?_⟩
    show i ∈ ((View.whole main_v21).slice (win0_3.rect t)).set
    rw [View.set_slice_whole, Rect.mem_set_unit]
    intro a
    match a with
    | ⟨0, _⟩ =>
      show cc0_transform_3 (grid0.coords t) 0 * 136 ≤ (i 0 : ℕ) ∧ (i 0 : ℕ) < cc0_transform_3 (grid0.coords t) 0 * 136 + 136
      rw [e0]
      dsimp only
      omega
    | ⟨1, _⟩ =>
      show cc0_transform_3 (grid0.coords t) 1 * 1024 ≤ (i 1 : ℕ) ∧ (i 1 : ℕ) < cc0_transform_3 (grid0.coords t) 1 * 1024 + 1024
      rw [e1]
      dsimp only
      omega)

/-- The sample's rows of it. -/
theorem cond_at (b : Fin 128) (j : Fin 6144) : (W6 m ρ c (Proc.devRef .tc main_v21) : FVec Ideal S136x6144 .f32) (ix2 ⟨8 + b.val, by omega⟩ j) = (inp m c).cond b j := by
  rw [a_final]
  show ada _ _ _ = ada _ _ _
  rw [W5_v17, W5_v18, W5_v20]
  refine congr (congrArg₂ ada (funext fun k => cat_at _ _ b k) (funext fun k => wad_at _ k j)) (bad_at _ j)

end Cert.Kernel4Ideal.Proj
-- ==== Proof.SmArray.lean ====
/- The sample's projections, one entry at a time: the windows' blocks are rows and columns of the arguments, and every entry of a result is a column of the projection. -/
module

public import proofs.«01_k».proof.Proof.SmAda

@[expose] public section

set_option maxRecDepth 16384

noncomputable section

namespace Cert.Kernel4Ideal.Proj

open Cert.Kernel4Ideal Cert.Kernel4Ideal.Gen Cert.InSpec Cert.SbMath Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

theorem ext3 {n0 n1 n2 : ℕ} (i : Shape.Idx ⟨3, ![n0, n1, n2]⟩) (a : Fin n0) (b : Fin n1) (d : Fin n2) (h0 : (i 0).val = a.val) (h1 : (i 1).val = b.val) (h2 : (i 2).val = d.val) : i = ix3 a b d := by
  obtain rfl : i 0 = a := Fin.ext h0
  obtain rfl : i 1 = b := Fin.ext h1
  obtain rfl : i 2 = d := Fin.ext h2
  exact eq_ix3 i

/-! ## The windows: the call has one point, and each window is its whole array -/

theorem p_idx0 : ∀ i : grid1.Coords, cc1_transform_0 i 0 = 0 := by decide +kernel
theorem p_idx1 : ∀ i : grid1.Coords, cc1_transform_1 i 0 = 0 := by decide +kernel
theorem p_idx1' : ∀ i : grid1.Coords, cc1_transform_1 i 1 = 0 := by decide +kernel
theorem p_idx2 : ∀ i : grid1.Coords, cc1_transform_2 i 0 = 0 := by decide +kernel
theorem p_idx2' : ∀ i : grid1.Coords, cc1_transform_2 i 1 = 0 := by decide +kernel

theorem p_block0 (t : Fin cfg1.N) (i : Fin 128) (k : Fin 1024) : iblk1 (V7 m ρ) c 0 t (ix2 i k) = (inp m c).x i 0 k := by
  show W7 m ρ c (Proc.devRef .tc main_v30) ((win1_0.rect t).emb (ix2 i k)) = _
  rw [W7_v30]
  exact (congrArg (shapeCast S128x1024 (m ((c : Thread nD τ).loc main_arg0)) shapeCasts_S128x1x1024_S128x1024) (ext2 _ i k (win1_0.rect_emb_val_of_index_zero t 0 (p_idx0 _) (ix2 i k)) (win1_0.rect_emb_val_of_index_zero t 1 rfl (ix2 i k)))).trans (x_at _ i k)

theorem p_block1 (t : Fin cfg1.N) (i : Fin 128) (k : Fin 1024) : iblk1 (V7 m ρ) c 1 t (ix3 0 i k) = (inp m c).cond i ⟨k.val, by omega⟩ := by
  show W7 m ρ c (Proc.devRef .tc main_v26) ((win1_1.rect t).emb (ix3 0 i k)) = _
  rw [W7_v26]
  have e := ext3 ((win1_1.rect t).emb (ix3 0 i k)) 0 i k (win1_1.rect_emb_val_of_index_zero t 0 (p_idx1 (grid1.coords t)) (ix3 0 i k)) (win1_1.rect_emb_val_of_index_zero t 1 (p_idx1' (grid1.coords t)) (ix3 0 i k)) (win1_1.rect_emb_val_of_index_zero t 2 rfl (ix3 0 i k))
  rw [e]
  exact (mod_at _ i k).trans (cond_at m ρ c i _)

theorem p_block2 (t : Fin cfg1.N) (i : Fin 128) (k : Fin 1024) : iblk1 (V7 m ρ) c 2 t (ix3 0 i k) = (inp m c).cond i ⟨1024 + k.val, by omega⟩ := by
  show W7 m ρ c (Proc.devRef .tc main_v29) ((win1_2.rect t).emb (ix3 0 i k)) = _
  rw [W7_v29]
  have e := ext3 ((win1_2.rect t).emb (ix3 0 i k)) 0 i k (win1_2.rect_emb_val_of_index_zero t 0 (p_idx2 (grid1.coords t)) (ix3 0 i k)) (win1_2.rect_emb_val_of_index_zero t 1 (p_idx2' (grid1.coords t)) (ix3 0 i k)) (win1_2.rect_emb_val_of_index_zero t 2 rfl (ix3 0 i k))
  rw [e]
  exact (mod1_at _ i k).trans (cond_at m ρ c i _)

theorem low_at (x : FVec Ideal S1024x16 .f32) (k : Fin 1024) (l : Fin 128) :
    (truncf .bf16 (pad S1024x128 ![0, 0] ![0, 112] ![0, 0] x (sitofp (F := Ideal) .f32 (constantI S_ 32 0#32)) pads_S1024x16_S1024x128_000_01120 h_S_ : FVec Ideal S1024x128 .f32) bitsLt_bf16_f32 : FVec Ideal S1024x128 .bf16) (ix2 k l)
      = if h : l.val < 16 then x (ix2 k ⟨l.val, h⟩) else 0 := padl_at x k l

theorem up_at (x : FVec Ideal S16x256 .f32) (l : Fin 128) (j : Fin 256) :
    (truncf .bf16 (pad S128x256 ![0, 0] ![112, 0] ![0, 0] x (sitofp (F := Ideal) .f32 (constantI S_ 32 0#32)) pads_S16x256_S128x256_01120_000 h_S_ : FVec Ideal S128x256 .f32) bitsLt_bf16_f32 : FVec Ideal S128x256 .bf16) (ix2 l j)
      = if h : l.val < 16 then x (ix2 ⟨l.val, h⟩ j) else 0 := pada_at x l j

theorem p_block3 (t : Fin cfg1.N) (k : Fin 1024) : iblk1 (V7 m ρ) c 3 t (ix2 0 k) = (inp m c).g k := by
  show W7 m ρ c (Proc.devRef .tc main_v16) ((win1_3.rect t).emb (ix2 0 k)) = _
  refine (congrArg (W7 m ρ c (Proc.devRef .tc main_v16)) (ext2 _ 0 k (win1_3.rect_emb_val_of_index_zero t 0 rfl (ix2 0 k)) (win1_3.rect_emb_val_of_index_zero t 1 rfl (ix2 0 k)))).trans ?_
  rw [W7_v16, W5_v16]
  exact gpm_at _ k

theorem p_block4 (t : Fin cfg1.N) (k : Fin 1024) (j : Fin 1536) : iblk1 (V7 m ρ) c 4 t (ix2 k j) = (inp m c).w k ⟨j.val, by omega⟩ := by
  show W7 m ρ c (Proc.devRef .tc main_v6) ((win1_4.rect t).emb (ix2 k j)) = _
  refine (congrArg (W7 m ρ c (Proc.devRef .tc main_v6)) (ext2 _ k j (win1_4.rect_emb_val_of_index_zero t 0 rfl (ix2 k j)) (win1_4.rect_emb_val_of_index_zero t 1 rfl (ix2 k j)))).trans ?_
  rw [W7_v6, W5_v6]
  exact win_at _ k j

theorem p_block5 (t : Fin cfg1.N) (k : Fin 1024) (l : Fin 128) : iblk1 (V7 m ρ) c 5 t (ix2 k l) = if h : l.val < 16 then (inp m c).w k ⟨1536 + l.val, by omega⟩ else 0 := by
  show W7 m ρ c (Proc.devRef .tc main_v7) ((win1_5.rect t).emb (ix2 k l)) = _
  refine (congrArg (W7 m ρ c (Proc.devRef .tc main_v7)) (ext2 _ k l (win1_5.rect_emb_val_of_index_zero t 0 rfl (ix2 k l)) (win1_5.rect_emb_val_of_index_zero t 1 rfl (ix2 k l)))).trans ?_
  rw [W7_v7, W5_v7, W4_of m ρ c main_v2 (by decide), W3_of m ρ c main_v2 (by decide), W2_v2, W1_v1]
  exact (low_at _ k l).trans (dite_congr rfl (fun h => winl_at _ k ⟨l.val, h⟩) fun _ => rfl)

theorem p_block6 (t : Fin cfg1.N) (l : Fin 128) (j : Fin 256) : iblk1 (V7 m ρ) c 6 t (ix2 l j) = if h : l.val < 16 then (inp m c).wl ⟨l.val, h⟩ j else 0 := by
  show W7 m ρ c (Proc.devRef .tc main_v8) ((win1_6.rect t).emb (ix2 l j)) = _
  refine (congrArg (W7 m ρ c (Proc.devRef .tc main_v8)) (ext2 _ l j (win1_6.rect_emb_val_of_index_zero t 0 rfl (ix2 l j)) (win1_6.rect_emb_val_of_index_zero t 1 rfl (ix2 l j)))).trans ?_
  rw [W7_v8, W5_v8, W4_v4, W3_v3]
  exact (up_at _ l j).trans (dite_congr rfl (fun h => wal_at _ ⟨l.val, h⟩ j) fun _ => rfl)

theorem p_block7 (t : Fin cfg1.N) (j : Fin 256) : iblk1 (V7 m ρ) c 7 t (ix2 0 j) = (inp m c).bl j := by
  show W7 m ρ c (Proc.devRef .tc main_v10) ((win1_7.rect t).emb (ix2 0 j)) = _
  refine (congrArg (W7 m ρ c (Proc.devRef .tc main_v10)) (ext2 _ 0 j (win1_7.rect_emb_val_of_index_zero t 0 rfl (ix2 0 j)) (win1_7.rect_emb_val_of_index_zero t 1 rfl (ix2 0 j)))).trans ?_
  rw [W7_v10, W5_v10]
  exact bal_at _ j

theorem p_block8 (t : Fin cfg1.N) (k : Fin 1024) (j : Fin 1536) : iblk1 (V7 m ρ) c 8 t (ix2 k j) = (inp m c).w k ⟨1552 + j.val, by omega⟩ := by
  show W7 m ρ c (Proc.devRef .tc main_v12) ((win1_8.rect t).emb (ix2 k j)) = _
  refine (congrArg (W7 m ρ c (Proc.devRef .tc main_v12)) (ext2 _ k j (win1_8.rect_emb_val_of_index_zero t 0 rfl (ix2 k j)) (win1_8.rect_emb_val_of_index_zero t 1 rfl (ix2 k j)))).trans ?_
  rw [W7_v12, W5_v12]
  exact win1_at _ k j

theorem p_block9 (t : Fin cfg1.N) (k : Fin 1024) (j : Fin 2048) : iblk1 (V7 m ρ) c 9 t (ix2 k j) = (inp m c).w k ⟨3088 + j.val, by omega⟩ := by
  show W7 m ρ c (Proc.devRef .tc main_v14) ((win1_9.rect t).emb (ix2 k j)) = _
  refine (congrArg (W7 m ρ c (Proc.devRef .tc main_v14)) (ext2 _ k j (win1_9.rect_emb_val_of_index_zero t 0 rfl (ix2 k j)) (win1_9.rect_emb_val_of_index_zero t 1 rfl (ix2 k j)))).trans ?_
  rw [W7_v14, W5_v14]
  exact win2_at _ k j

/-! ## The columns -/

theorem ub_eq (t : Fin cfg1.N) (i : Fin 128) : ub (iblk1 (V7 m ρ) c 0 t) (iblk1 (V7 m ρ) c 1 t) (iblk1 (V7 m ρ) c 2 t) (iblk1 (V7 m ρ) c 3 t) i = (inp m c).U i 0 := by
  funext k
  show u _ _ _ _ k = u _ _ _ _ k
  rw [show (fun k => iblk1 (V7 m ρ) c 0 t (ix2 i k)) = _ from funext fun k => p_block0 m ρ c t i k, show (fun k => iblk1 (V7 m ρ) c 1 t (ix3 0 i k)) = _ from funext fun k => p_block1 m ρ c t i k,
    show (fun k => iblk1 (V7 m ρ) c 2 t (ix3 0 i k)) = _ from funext fun k => p_block2 m ρ c t i k, show (fun k => iblk1 (V7 m ρ) c 3 t (ix2 0 k)) = _ from funext fun k => p_block3 m ρ c t k]

theorem col4 (t : Fin cfg1.N) (i : Fin 128) (j : Fin 1536) (J : Fin 5136) (h : J.val = j.val) :
    lin (ub (iblk1 (V7 m ρ) c 0 t) (iblk1 (V7 m ρ) c 1 t) (iblk1 (V7 m ρ) c 2 t) (iblk1 (V7 m ρ) c 3 t) i) (fun k => iblk1 (V7 m ρ) c 4 t (ix2 k j)) = (inp m c).P i 0 J := by
  have e : (⟨j.val, by omega⟩ : Fin 5136) = J := Fin.ext h.symm
  exact (congrArg₂ lin (ub_eq m ρ c t i) (funext fun k => p_block4 m ρ c t k j)).trans (congrArg ((inp m c).P i 0) e)

theorem col8 (t : Fin cfg1.N) (i : Fin 128) (j : Fin 1536) (J : Fin 5136) (h : J.val = 1552 + j.val) :
    lin (ub (iblk1 (V7 m ρ) c 0 t) (iblk1 (V7 m ρ) c 1 t) (iblk1 (V7 m ρ) c 2 t) (iblk1 (V7 m ρ) c 3 t) i) (fun k => iblk1 (V7 m ρ) c 8 t (ix2 k j)) = (inp m c).P i 0 J := by
  have e : (⟨1552 + j.val, by omega⟩ : Fin 5136) = J := Fin.ext h.symm
  exact (congrArg₂ lin (ub_eq m ρ c t i) (funext fun k => p_block8 m ρ c t k j)).trans (congrArg ((inp m c).P i 0) e)

theorem col9 (t : Fin cfg1.N) (i : Fin 128) (j : Fin 2048) (J : Fin 5136) (h : J.val = 3088 + j.val) :
    lin (ub (iblk1 (V7 m ρ) c 0 t) (iblk1 (V7 m ρ) c 1 t) (iblk1 (V7 m ρ) c 2 t) (iblk1 (V7 m ρ) c 3 t) i) (fun k => iblk1 (V7 m ρ) c 9 t (ix2 k j)) = (inp m c).P i 0 J := by
  have e : (⟨3088 + j.val, by omega⟩ : Fin 5136) = J := Fin.ext h.symm
  exact (congrArg₂ lin (ub_eq m ρ c t i) (funext fun k => p_block9 m ρ c t k j)).trans (congrArg ((inp m c).P i 0) e)

/-- The padded lanes add nothing. -/
theorem sum_pad (f : Fin 128 → EReal) (g : Fin 16 → EReal) (h : ∀ l : Fin 16, f ⟨l.val, by omega⟩ = g l) (z : ∀ l : Fin 128, ¬ l.val < 16 → f l = 0) : ∑ l, f l = ∑ l, g l := by
  refine (Fin.sum_univ_add (a := 16) (b := 112) f).trans ?_
  rw [Finset.sum_eq_zero (s := (Finset.univ : Finset (Fin 112))) (fun l _ => z _ (by show ¬ 16 + l.val < 16; omega)), add_zero]
  exact Finset.sum_congr rfl fun l _ => h l

theorem rank_at (t : Fin cfg1.N) (i : Fin 128) (j : Fin 256) :
    (∑ l : Fin 128, lin (ub (iblk1 (V7 m ρ) c 0 t) (iblk1 (V7 m ρ) c 1 t) (iblk1 (V7 m ρ) c 2 t) (iblk1 (V7 m ρ) c 3 t) i) (fun k => iblk1 (V7 m ρ) c 5 t (ix2 k l)) * iblk1 (V7 m ρ) c 6 t (ix2 l j))
      = ∑ l : Fin 16, (inp m c).P i 0 ⟨1536 + l.val, by omega⟩ * (inp m c).wl l j := by
  refine sum_pad _ _ (fun l => ?_) (fun l hl => ?_)
  · refine congrArg₂ (· * ·) (congrArg₂ lin (ub_eq m ρ c t i) (funext fun k => (p_block5 m ρ c t k _).trans (dif_pos l.isLt))) ((p_block6 m ρ c t _ j).trans (dif_pos l.isLt))
  · rw [p_block6, dif_neg hl, mul_zero]

/-! ## The results -/

/-- An array of one row for each sequence. -/
def rowsOf {n : ℕ} (O : Fin 128 → Fin 1 → Fin n → EReal) (i : Shape.Idx ⟨2, ![128, n]⟩) : EReal := O (i 0) 0 (i 1)

/-- The one point. -/
def t0 : Fin cfg1.N := ⟨0, by decide⟩

theorem o10_idx : ∀ i : grid1.Coords, cc1_transform_10 i 0 = 0 := by decide +kernel

theorem o10_entry (t : Fin cfg1.N) (i : Fin 128) (j : Fin 256) : out1_10 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O10 i 0 j :=
  (out10_at _ _ _ _ _ _ _ _ _ _ i j).trans (congrArg (· * Ideal.ofBits .f32 0x3E000000#32) (col4 m ρ c t i _ _ (by first | rfl | (dsimp only; omega))))

theorem o10_emb (t : Fin cfg1.N) (y : S128x256.Idx) : (win1_10.rect t).emb y = y := by
  funext a
  match a with
  | ⟨0, _⟩ => exact Fin.ext (win1_10.rect_emb_val_of_index_zero t 0 (o10_idx _) y)
  | ⟨1, _⟩ => exact Fin.ext (win1_10.rect_emb_val_of_index_zero t 1 rfl y)

theorem o10_flushed (t : Fin cfg1.N) : (dat1 (V7 m ρ) c).flushed 10 t = ((cfg1.win 10).blk t).view.read (Elt Ideal) (rowsOf (inp m c).O10) := by
  show (cfg1.win 10).cut (grid1.coords t) ((dat1 (V7 m ρ) c).after 10 t) = _
  rw [after1_10]
  exact funext fun y => (congrArg (out1_10 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o10_entry m ρ c t (y 0) (y 1)).trans
    (congrArg (rowsOf (inp m c).O10) (o10_emb t y)).symm)

theorem o10_final : W8 m ρ c (Proc.devRef .tc main_v31_0) = rowsOf (inp m c).O10 :=
  (W8_arr m ρ c 10).trans ((dat1 (V7 m ρ) c).arrAt_eq_of_cover 10 (rowsOf (inp m c).O10) (fun t _ => o10_flushed m ρ c t) fun i => by
    have h0 : (i 0 : ℕ) < 128 := (i 0).isLt
    have h1 : (i 1 : ℕ) < 256 := (i 1).isLt
    refine ⟨t0, flush1_10 t0, ?_⟩
    show i ∈ ((View.whole main_v31_0).slice (win1_10.rect t0)).set
    rw [View.set_slice_whole, Rect.mem_set_unit]
    intro a
    match a with
    | ⟨0, _⟩ =>
      show cc1_transform_10 (grid1.coords t0) 0 * 128 ≤ (i 0 : ℕ) ∧ (i 0 : ℕ) < cc1_transform_10 (grid1.coords t0) 0 * 128 + 128
      rw [o10_idx]
      omega
    | ⟨1, _⟩ =>
      show 0 * 256 ≤ (i 1 : ℕ) ∧ (i 1 : ℕ) < 0 * 256 + 256
      omega)

theorem o11_idx : ∀ i : grid1.Coords, cc1_transform_11 i 0 = 0 := by decide +kernel

theorem o11_entry (t : Fin cfg1.N) (i : Fin 128) (j : Fin 256) : out1_11 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O11 i 0 j :=
  (out11_at _ _ _ _ _ _ _ _ _ _ i j).trans (col4 m ρ c t i _ _ (by first | rfl | (dsimp only; omega)))

theorem o11_emb (t : Fin cfg1.N) (y : S128x256.Idx) : (win1_11.rect t).emb y = y := by
  funext a
  match a with
  | ⟨0, _⟩ => exact Fin.ext (win1_11.rect_emb_val_of_index_zero t 0 (o11_idx _) y)
  | ⟨1, _⟩ => exact Fin.ext (win1_11.rect_emb_val_of_index_zero t 1 rfl y)

theorem o11_flushed (t : Fin cfg1.N) : (dat1 (V7 m ρ) c).flushed 11 t = ((cfg1.win 11).blk t).view.read (Elt Ideal) (rowsOf (inp m c).O11) := by
  show (cfg1.win 11).cut (grid1.coords t) ((dat1 (V7 m ρ) c).after 11 t) = _
  rw [after1_11]
  exact funext fun y => (congrArg (out1_11 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o11_entry m ρ c t (y 0) (y 1)).trans
    (congrArg (rowsOf (inp m c).O11) (o11_emb t y)).symm)

theorem o11_final : W8 m ρ c (Proc.devRef .tc main_v31_1) = rowsOf (inp m c).O11 :=
  (W8_arr m ρ c 11).trans ((dat1 (V7 m ρ) c).arrAt_eq_of_cover 11 (rowsOf (inp m c).O11) (fun t _ => o11_flushed m ρ c t) fun i => by
    have h0 : (i 0 : ℕ) < 128 := (i 0).isLt
    have h1 : (i 1 : ℕ) < 256 := (i 1).isLt
    refine ⟨t0, flush1_11 t0, ?_⟩
    show i ∈ ((View.whole main_v31_1).slice (win1_11.rect t0)).set
    rw [View.set_slice_whole, Rect.mem_set_unit]
    intro a
    match a with
    | ⟨0, _⟩ =>
      show cc1_transform_11 (grid1.coords t0) 0 * 128 ≤ (i 0 : ℕ) ∧ (i 0 : ℕ) < cc1_transform_11 (grid1.coords t0) 0 * 128 + 128
      rw [o11_idx]
      omega
    | ⟨1, _⟩ =>
      show 0 * 256 ≤ (i 1 : ℕ) ∧ (i 1 : ℕ) < 0 * 256 + 256
      omega)

theorem o12_idx : ∀ i : grid1.Coords, cc1_transform_12 i 0 = 0 := by decide +kernel

theorem o12_entry (t : Fin cfg1.N) (i : Fin 128) (j : Fin 256) : out1_12 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O12 i 0 j :=
  (out12_at _ _ _ _ _ _ _ _ _ _ i j).trans (by
  unfold In.O12 In.LA decay
  rw [rank_at m ρ c t i j, p_block7 m ρ c t j])

theorem o12_emb (t : Fin cfg1.N) (y : S128x256.Idx) : (win1_12.rect t).emb y = y := by
  funext a
  match a with
  | ⟨0, _⟩ => exact Fin.ext (win1_12.rect_emb_val_of_index_zero t 0 (o12_idx _) y)
  | ⟨1, _⟩ => exact Fin.ext (win1_12.rect_emb_val_of_index_zero t 1 rfl y)

theorem o12_flushed (t : Fin cfg1.N) : (dat1 (V7 m ρ) c).flushed 12 t = ((cfg1.win 12).blk t).view.read (Elt Ideal) (rowsOf (inp m c).O12) := by
  show (cfg1.win 12).cut (grid1.coords t) ((dat1 (V7 m ρ) c).after 12 t) = _
  rw [after1_12]
  exact funext fun y => (congrArg (out1_12 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o12_entry m ρ c t (y 0) (y 1)).trans
    (congrArg (rowsOf (inp m c).O12) (o12_emb t y)).symm)

theorem o12_final : W8 m ρ c (Proc.devRef .tc main_v31_2) = rowsOf (inp m c).O12 :=
  (W8_arr m ρ c 12).trans ((dat1 (V7 m ρ) c).arrAt_eq_of_cover 12 (rowsOf (inp m c).O12) (fun t _ => o12_flushed m ρ c t) fun i => by
    have h0 : (i 0 : ℕ) < 128 := (i 0).isLt
    have h1 : (i 1 : ℕ) < 256 := (i 1).isLt
    refine ⟨t0, flush1_12 t0, ?_⟩
    show i ∈ ((View.whole main_v31_2).slice (win1_12.rect t0)).set
    rw [View.set_slice_whole, Rect.mem_set_unit]
    intro a
    match a with
    | ⟨0, _⟩ =>
      show cc1_transform_12 (grid1.coords t0) 0 * 128 ≤ (i 0 : ℕ) ∧ (i 0 : ℕ) < cc1_transform_12 (grid1.coords t0) 0 * 128 + 128
      rw [o12_idx]
      omega
    | ⟨1, _⟩ =>
      show 0 * 256 ≤ (i 1 : ℕ) ∧ (i 1 : ℕ) < 0 * 256 + 256
      omega)

theorem o13_idx : ∀ i : grid1.Coords, cc1_transform_13 i 0 = 0 := by decide +kernel

theorem o13_entry (t : Fin cfg1.N) (i : Fin 128) (j : Fin 512) : out1_13 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O13 i 0 j :=
  (out13_at _ _ _ _ _ _ _ _ _ _ i j).trans (col4 m ρ c t i _ _ (by first | rfl | (dsimp only; omega)))

theorem o13_emb (t : Fin cfg1.N) (y : S128x512.Idx) : (win1_13.rect t).emb y = y := by
  funext a
  match a with
  | ⟨0, _⟩ => exact Fin.ext (win1_13.rect_emb_val_of_index_zero t 0 (o13_idx _) y)
  | ⟨1, _⟩ => exact Fin.ext (win1_13.rect_emb_val_of_index_zero t 1 rfl y)

theorem o13_flushed (t : Fin cfg1.N) : (dat1 (V7 m ρ) c).flushed 13 t = ((cfg1.win 13).blk t).view.read (Elt Ideal) (rowsOf (inp m c).O13) := by
  show (cfg1.win 13).cut (grid1.coords t) ((dat1 (V7 m ρ) c).after 13 t) = _
  rw [after1_13]
  exact funext fun y => (congrArg (out1_13 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o13_entry m ρ c t (y 0) (y 1)).trans
    (congrArg (rowsOf (inp m c).O13) (o13_emb t y)).symm)

theorem o13_final : W8 m ρ c (Proc.devRef .tc main_v31_3) = rowsOf (inp m c).O13 :=
  (W8_arr m ρ c 13).trans ((dat1 (V7 m ρ) c).arrAt_eq_of_cover 13 (rowsOf (inp m c).O13) (fun t _ => o13_flushed m ρ c t) fun i => by
    have h0 : (i 0 : ℕ) < 128 := (i 0).isLt
    have h1 : (i 1 : ℕ) < 512 := (i 1).isLt
    refine ⟨t0, flush1_13 t0, ?_⟩
    show i ∈ ((View.whole main_v31_3).slice (win1_13.rect t0)).set
    rw [View.set_slice_whole, Rect.mem_set_unit]
    intro a
    match a with
    | ⟨0, _⟩ =>
      show cc1_transform_13 (grid1.coords t0) 0 * 128 ≤ (i 0 : ℕ) ∧ (i 0 : ℕ) < cc1_transform_13 (grid1.coords t0) 0 * 128 + 128
      rw [o13_idx]
      omega
    | ⟨1, _⟩ =>
      show 0 * 512 ≤ (i 1 : ℕ) ∧ (i 1 : ℕ) < 0 * 512 + 512
      omega)

theorem o14_idx : ∀ i : grid1.Coords, cc1_transform_14 i 0 = 0 := by decide +kernel

theorem o14_entry (t : Fin cfg1.N) (i : Fin 128) (j : Fin 512) : out1_14 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O14 i 0 j :=
  (out14_at _ _ _ _ _ _ _ _ _ _ i j).trans (congrArg (fun e => e * sg e) (col4 m ρ c t i _ _ (by first | rfl | (dsimp only; omega))))

theorem o14_emb (t : Fin cfg1.N) (y : S128x512.Idx) : (win1_14.rect t).emb y = y := by
  funext a
  match a with
  | ⟨0, _⟩ => exact Fin.ext (win1_14.rect_emb_val_of_index_zero t 0 (o14_idx _) y)
  | ⟨1, _⟩ => exact Fin.ext (win1_14.rect_emb_val_of_index_zero t 1 rfl y)

theorem o14_flushed (t : Fin cfg1.N) : (dat1 (V7 m ρ) c).flushed 14 t = ((cfg1.win 14).blk t).view.read (Elt Ideal) (rowsOf (inp m c).O14) := by
  show (cfg1.win 14).cut (grid1.coords t) ((dat1 (V7 m ρ) c).after 14 t) = _
  rw [after1_14]
  exact funext fun y => (congrArg (out1_14 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o14_entry m ρ c t (y 0) (y 1)).trans
    (congrArg (rowsOf (inp m c).O14) (o14_emb t y)).symm)

theorem o14_final : W8 m ρ c (Proc.devRef .tc main_v31_4) = rowsOf (inp m c).O14 :=
  (W8_arr m ρ c 14).trans ((dat1 (V7 m ρ) c).arrAt_eq_of_cover 14 (rowsOf (inp m c).O14) (fun t _ => o14_flushed m ρ c t) fun i => by
    have h0 : (i 0 : ℕ) < 128 := (i 0).isLt
    have h1 : (i 1 : ℕ) < 512 := (i 1).isLt
    refine ⟨t0, flush1_14 t0, ?_⟩
    show i ∈ ((View.whole main_v31_4).slice (win1_14.rect t0)).set
    rw [View.set_slice_whole, Rect.mem_set_unit]
    intro a
    match a with
    | ⟨0, _⟩ =>
      show cc1_transform_14 (grid1.coords t0) 0 * 128 ≤ (i 0 : ℕ) ∧ (i 0 : ℕ) < cc1_transform_14 (grid1.coords t0) 0 * 128 + 128
      rw [o14_idx]
      omega
    | ⟨1, _⟩ =>
      show 0 * 512 ≤ (i 1 : ℕ) ∧ (i 1 : ℕ) < 0 * 512 + 512
      omega)

theorem o15_idx : ∀ i : grid1.Coords, cc1_transform_15 i 0 = 0 := by decide +kernel

theorem o15_entry (t : Fin cfg1.N) (i : Fin 128) (j : Fin 512) : out1_15 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O15 i 0 j :=
  (out15_at _ _ _ _ _ _ _ _ _ _ i j).trans (col8 m ρ c t i _ _ (by first | rfl | (dsimp only; omega)))

theorem o15_emb (t : Fin cfg1.N) (y : S128x512.Idx) : (win1_15.rect t).emb y = y := by
  funext a
  match a with
  | ⟨0, _⟩ => exact Fin.ext (win1_15.rect_emb_val_of_index_zero t 0 (o15_idx _) y)
  | ⟨1, _⟩ => exact Fin.ext (win1_15.rect_emb_val_of_index_zero t 1 rfl y)

theorem o15_flushed (t : Fin cfg1.N) : (dat1 (V7 m ρ) c).flushed 15 t = ((cfg1.win 15).blk t).view.read (Elt Ideal) (rowsOf (inp m c).O15) := by
  show (cfg1.win 15).cut (grid1.coords t) ((dat1 (V7 m ρ) c).after 15 t) = _
  rw [after1_15]
  exact funext fun y => (congrArg (out1_15 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o15_entry m ρ c t (y 0) (y 1)).trans
    (congrArg (rowsOf (inp m c).O15) (o15_emb t y)).symm)

theorem o15_final : W8 m ρ c (Proc.devRef .tc main_v31_5) = rowsOf (inp m c).O15 :=
  (W8_arr m ρ c 15).trans ((dat1 (V7 m ρ) c).arrAt_eq_of_cover 15 (rowsOf (inp m c).O15) (fun t _ => o15_flushed m ρ c t) fun i => by
    have h0 : (i 0 : ℕ) < 128 := (i 0).isLt
    have h1 : (i 1 : ℕ) < 512 := (i 1).isLt
    refine ⟨t0, flush1_15 t0, ?_⟩
    show i ∈ ((View.whole main_v31_5).slice (win1_15.rect t0)).set
    rw [View.set_slice_whole, Rect.mem_set_unit]
    intro a
    match a with
    | ⟨0, _⟩ =>
      show cc1_transform_15 (grid1.coords t0) 0 * 128 ≤ (i 0 : ℕ) ∧ (i 0 : ℕ) < cc1_transform_15 (grid1.coords t0) 0 * 128 + 128
      rw [o15_idx]
      omega
    | ⟨1, _⟩ =>
      show 0 * 512 ≤ (i 1 : ℕ) ∧ (i 1 : ℕ) < 0 * 512 + 512
      omega)

theorem o16_idx : ∀ i : grid1.Coords, cc1_transform_16 i 0 = 0 := by decide +kernel

theorem o16_entry (t : Fin cfg1.N) (i : Fin 128) (j : Fin 512) : out1_16 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O16 i 0 j :=
  (out16_at _ _ _ _ _ _ _ _ _ _ i j).trans (col8 m ρ c t i _ _ (by first | rfl | (dsimp only; omega)))

theorem o16_emb (t : Fin cfg1.N) (y : S128x512.Idx) : (win1_16.rect t).emb y = y := by
  funext a
  match a with
  | ⟨0, _⟩ => exact Fin.ext (win1_16.rect_emb_val_of_index_zero t 0 (o16_idx _) y)
  | ⟨1, _⟩ => exact Fin.ext (win1_16.rect_emb_val_of_index_zero t 1 rfl y)

theorem o16_flushed (t : Fin cfg1.N) : (dat1 (V7 m ρ) c).flushed 16 t = ((cfg1.win 16).blk t).view.read (Elt Ideal) (rowsOf (inp m c).O16) := by
  show (cfg1.win 16).cut (grid1.coords t) ((dat1 (V7 m ρ) c).after 16 t) = _
  rw [after1_16]
  exact funext fun y => (congrArg (out1_16 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o16_entry m ρ c t (y 0) (y 1)).trans
    (congrArg (rowsOf (inp m c).O16) (o16_emb t y)).symm)

theorem o16_final : W8 m ρ c (Proc.devRef .tc main_v31_6) = rowsOf (inp m c).O16 :=
  (W8_arr m ρ c 16).trans ((dat1 (V7 m ρ) c).arrAt_eq_of_cover 16 (rowsOf (inp m c).O16) (fun t _ => o16_flushed m ρ c t) fun i => by
    have h0 : (i 0 : ℕ) < 128 := (i 0).isLt
    have h1 : (i 1 : ℕ) < 512 := (i 1).isLt
    refine ⟨t0, flush1_16 t0, ?_⟩
    show i ∈ ((View.whole main_v31_6).slice (win1_16.rect t0)).set
    rw [View.set_slice_whole, Rect.mem_set_unit]
    intro a
    match a with
    | ⟨0, _⟩ =>
      show cc1_transform_16 (grid1.coords t0) 0 * 128 ≤ (i 0 : ℕ) ∧ (i 0 : ℕ) < cc1_transform_16 (grid1.coords t0) 0 * 128 + 128
      rw [o16_idx]
      omega
    | ⟨1, _⟩ =>
      show 0 * 512 ≤ (i 1 : ℕ) ∧ (i 1 : ℕ) < 0 * 512 + 512
      omega)

theorem o17_idx : ∀ i : grid1.Coords, cc1_transform_17 i 0 = 0 := by decide +kernel

theorem o17_entry (t : Fin cfg1.N) (i : Fin 128) (j : Fin 512) : out1_17 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O17 i 0 j :=
  (out17_at _ _ _ _ _ _ _ _ _ _ i j).trans (col8 m ρ c t i _ _ (by first | rfl | (dsimp only; omega)))

theorem o17_emb (t : Fin cfg1.N) (y : S128x512.Idx) : (win1_17.rect t).emb y = y := by
  funext a
  match a with
  | ⟨0, _⟩ => exact Fin.ext (win1_17.rect_emb_val_of_index_zero t 0 (o17_idx _) y)
  | ⟨1, _⟩ => exact Fin.ext (win1_17.rect_emb_val_of_index_zero t 1 rfl y)

theorem o17_flushed (t : Fin cfg1.N) : (dat1 (V7 m ρ) c).flushed 17 t = ((cfg1.win 17).blk t).view.read (Elt Ideal) (rowsOf (inp m c).O17) := by
  show (cfg1.win 17).cut (grid1.coords t) ((dat1 (V7 m ρ) c).after 17 t) = _
  rw [after1_17]
  exact funext fun y => (congrArg (out1_17 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o17_entry m ρ c t (y 0) (y 1)).trans
    (congrArg (rowsOf (inp m c).O17) (o17_emb t y)).symm)

theorem o17_final : W8 m ρ c (Proc.devRef .tc main_v31_7) = rowsOf (inp m c).O17 :=
  (W8_arr m ρ c 17).trans ((dat1 (V7 m ρ) c).arrAt_eq_of_cover 17 (rowsOf (inp m c).O17) (fun t _ => o17_flushed m ρ c t) fun i => by
    have h0 : (i 0 : ℕ) < 128 := (i 0).isLt
    have h1 : (i 1 : ℕ) < 512 := (i 1).isLt
    refine ⟨t0, flush1_17 t0, ?_⟩
    show i ∈ ((View.whole main_v31_7).slice (win1_17.rect t0)).set
    rw [View.set_slice_whole, Rect.mem_set_unit]
    intro a
    match a with
    | ⟨0, _⟩ =>
      show cc1_transform_17 (grid1.coords t0) 0 * 128 ≤ (i 0 : ℕ) ∧ (i 0 : ℕ) < cc1_transform_17 (grid1.coords t0) 0 * 128 + 128
      rw [o17_idx]
      omega
    | ⟨1, _⟩ =>
      show 0 * 512 ≤ (i 1 : ℕ) ∧ (i 1 : ℕ) < 0 * 512 + 512
      omega)

theorem o20_idx : ∀ i : grid1.Coords, cc1_transform_20 i 0 = 0 := by decide +kernel

theorem o20_entry (t : Fin cfg1.N) (i : Fin 128) (j : Fin 1024) : out1_20 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O20 i 0 j :=
  (out20_at _ _ _ _ _ _ _ _ _ _ i j).trans (congrArg sg (col9 m ρ c t i _ _ (by first | rfl | (dsimp only; omega))))

theorem o20_emb (t : Fin cfg1.N) (y : S128x1024.Idx) : (win1_20.rect t).emb y = y := by
  funext a
  match a with
  | ⟨0, _⟩ => exact Fin.ext (win1_20.rect_emb_val_of_index_zero t 0 (o20_idx _) y)
  | ⟨1, _⟩ => exact Fin.ext (win1_20.rect_emb_val_of_index_zero t 1 rfl y)

theorem o20_flushed (t : Fin cfg1.N) : (dat1 (V7 m ρ) c).flushed 20 t = ((cfg1.win 20).blk t).view.read (Elt Ideal) (rowsOf (inp m c).O20) := by
  show (cfg1.win 20).cut (grid1.coords t) ((dat1 (V7 m ρ) c).after 20 t) = _
  rw [after1_20]
  exact funext fun y => (congrArg (out1_20 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o20_entry m ρ c t (y 0) (y 1)).trans
    (congrArg (rowsOf (inp m c).O20) (o20_emb t y)).symm)

theorem o20_final : W8 m ρ c (Proc.devRef .tc main_v31_10) = rowsOf (inp m c).O20 :=
  (W8_arr m ρ c 20).trans ((dat1 (V7 m ρ) c).arrAt_eq_of_cover 20 (rowsOf (inp m c).O20) (fun t _ => o20_flushed m ρ c t) fun i => by
    have h0 : (i 0 : ℕ) < 128 := (i 0).isLt
    have h1 : (i 1 : ℕ) < 1024 := (i 1).isLt
    refine ⟨t0, flush1_20 t0, ?_⟩
    show i ∈ ((View.whole main_v31_10).slice (win1_20.rect t0)).set
    rw [View.set_slice_whole, Rect.mem_set_unit]
    intro a
    match a with
    | ⟨0, _⟩ =>
      show cc1_transform_20 (grid1.coords t0) 0 * 128 ≤ (i 0 : ℕ) ∧ (i 0 : ℕ) < cc1_transform_20 (grid1.coords t0) 0 * 128 + 128
      rw [o20_idx]
      omega
    | ⟨1, _⟩ =>
      show 0 * 1024 ≤ (i 1 : ℕ) ∧ (i 1 : ℕ) < 0 * 1024 + 1024
      omega)

theorem o21_idx : ∀ i : grid1.Coords, cc1_transform_21 i 0 = 0 := by decide +kernel

theorem o21_entry (t : Fin cfg1.N) (i : Fin 128) (j : Fin 1024) : out1_21 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O21 i 0 j :=
  (out21_at _ _ _ _ _ _ _ _ _ _ i j).trans (congrArg sg (col9 m ρ c t i _ _ (by first | rfl | (dsimp only; omega))))

theorem o21_emb (t : Fin cfg1.N) (y : S128x1024.Idx) : (win1_21.rect t).emb y = y := by
  funext a
  match a with
  | ⟨0, _⟩ => exact Fin.ext (win1_21.rect_emb_val_of_index_zero t 0 (o21_idx _) y)
  | ⟨1, _⟩ => exact Fin.ext (win1_21.rect_emb_val_of_index_zero t 1 rfl y)

theorem o21_flushed (t : Fin cfg1.N) : (dat1 (V7 m ρ) c).flushed 21 t = ((cfg1.win 21).blk t).view.read (Elt Ideal) (rowsOf (inp m c).O21) := by
  show (cfg1.win 21).cut (grid1.coords t) ((dat1 (V7 m ρ) c).after 21 t) = _
  rw [after1_21]
  exact funext fun y => (congrArg (out1_21 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o21_entry m ρ c t (y 0) (y 1)).trans
    (congrArg (rowsOf (inp m c).O21) (o21_emb t y)).symm)

theorem o21_final : W8 m ρ c (Proc.devRef .tc main_v31_11) = rowsOf (inp m c).O21 :=
  (W8_arr m ρ c 21).trans ((dat1 (V7 m ρ) c).arrAt_eq_of_cover 21 (rowsOf (inp m c).O21) (fun t _ => o21_flushed m ρ c t) fun i => by
    have h0 : (i 0 : ℕ) < 128 := (i 0).isLt
    have h1 : (i 1 : ℕ) < 1024 := (i 1).isLt
    refine ⟨t0, flush1_21 t0, ?_⟩
    show i ∈ ((View.whole main_v31_11).slice (win1_21.rect t0)).set
    rw [View.set_slice_whole, Rect.mem_set_unit]
    intro a
    match a with
    | ⟨0, _⟩ =>
      show cc1_transform_21 (grid1.coords t0) 0 * 128 ≤ (i 0 : ℕ) ∧ (i 0 : ℕ) < cc1_transform_21 (grid1.coords t0) 0 * 128 + 128
      rw [o21_idx]
      omega
    | ⟨1, _⟩ =>
      show 0 * 1024 ≤ (i 1 : ℕ) ∧ (i 1 : ℕ) < 0 * 1024 + 1024
      omega)

theorem o18_idx : ∀ i : grid1.Coords, cc1_transform_18 i 0 = 0 := by decide +kernel

theorem o18_entry (t : Fin cfg1.N) (i : Fin 128) (j : Fin 512) : out1_18 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O16 i 0 j :=
  (out18_at _ _ _ _ _ _ _ _ _ _ i j).trans (col8 m ρ c t i _ _ (by first | rfl | (dsimp only; omega)))

theorem o18_emb (t : Fin cfg1.N) (y : S128x512.Idx) : (win1_18.rect t).emb y = y := by
  funext a
  match a with
  | ⟨0, _⟩ => exact Fin.ext (win1_18.rect_emb_val_of_index_zero t 0 (o18_idx _) y)
  | ⟨1, _⟩ => exact Fin.ext (win1_18.rect_emb_val_of_index_zero t 1 rfl y)

theorem o18_flushed (t : Fin cfg1.N) : (dat1 (V7 m ρ) c).flushed 18 t = ((cfg1.win 18).blk t).view.read (Elt Ideal) (rowsOf (inp m c).O16) := by
  show (cfg1.win 18).cut (grid1.coords t) ((dat1 (V7 m ρ) c).after 18 t) = _
  rw [after1_18]
  exact funext fun y => (congrArg (out1_18 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o18_entry m ρ c t (y 0) (y 1)).trans
    (congrArg (rowsOf (inp m c).O16) (o18_emb t y)).symm)

theorem o18_final : W8 m ρ c (Proc.devRef .tc main_v31_8) = rowsOf (inp m c).O16 :=
  (W8_arr m ρ c 18).trans ((dat1 (V7 m ρ) c).arrAt_eq_of_cover 18 (rowsOf (inp m c).O16) (fun t _ => o18_flushed m ρ c t) fun i => by
    have h0 : (i 0 : ℕ) < 128 := (i 0).isLt
    have h1 : (i 1 : ℕ) < 512 := (i 1).isLt
    refine ⟨t0, flush1_18 t0, ?_⟩
    show i ∈ ((View.whole main_v31_8).slice (win1_18.rect t0)).set
    rw [View.set_slice_whole, Rect.mem_set_unit]
    intro a
    match a with
    | ⟨0, _⟩ =>
      show cc1_transform_18 (grid1.coords t0) 0 * 128 ≤ (i 0 : ℕ) ∧ (i 0 : ℕ) < cc1_transform_18 (grid1.coords t0) 0 * 128 + 128
      rw [o18_idx]
      omega
    | ⟨1, _⟩ =>
      show 0 * 512 ≤ (i 1 : ℕ) ∧ (i 1 : ℕ) < 0 * 512 + 512
      omega)

theorem o19_idx : ∀ i : grid1.Coords, cc1_transform_19 i 0 = 0 := by decide +kernel

theorem o19_entry (t : Fin cfg1.N) (i : Fin 128) (j : Fin 512) : out1_19 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (ix2 i j) = (inp m c).O17 i 0 j :=
  (out19_at _ _ _ _ _ _ _ _ _ _ i j).trans (col8 m ρ c t i _ _ (by first | rfl | (dsimp only; omega)))

theorem o19_emb (t : Fin cfg1.N) (y : S128x512.Idx) : (win1_19.rect t).emb y = y := by
  funext a
  match a with
  | ⟨0, _⟩ => exact Fin.ext (win1_19.rect_emb_val_of_index_zero t 0 (o19_idx _) y)
  | ⟨1, _⟩ => exact Fin.ext (win1_19.rect_emb_val_of_index_zero t 1 rfl y)

theorem o19_flushed (t : Fin cfg1.N) : (dat1 (V7 m ρ) c).flushed 19 t = ((cfg1.win 19).blk t).view.read (Elt Ideal) (rowsOf (inp m c).O17) := by
  show (cfg1.win 19).cut (grid1.coords t) ((dat1 (V7 m ρ) c).after 19 t) = _
  rw [after1_19]
  exact funext fun y => (congrArg (out1_19 (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t)) (eq_ix2 y)).trans ((o19_entry m ρ c t (y 0) (y 1)).trans
    (congrArg (rowsOf (inp m c).O17) (o19_emb t y)).symm)

theorem o19_final : W8 m ρ c (Proc.devRef .tc main_v31_9) = rowsOf (inp m c).O17 :=
  (W8_arr m ρ c 19).trans ((dat1 (V7 m ρ) c).arrAt_eq_of_cover 19 (rowsOf (inp m c).O17) (fun t _ => o19_flushed m ρ c t) fun i => by
    have h0 : (i 0 : ℕ) < 128 := (i 0).isLt
    have h1 : (i 1 : ℕ) < 512 := (i 1).isLt
    refine ⟨t0, flush1_19 t0, ?_⟩
    show i ∈ ((View.whole main_v31_9).slice (win1_19.rect t0)).set
    rw [View.set_slice_whole, Rect.mem_set_unit]
    intro a
    match a with
    | ⟨0, _⟩ =>
      show cc1_transform_19 (grid1.coords t0) 0 * 128 ≤ (i 0 : ℕ) ∧ (i 0 : ℕ) < cc1_transform_19 (grid1.coords t0) 0 * 128 + 128
      rw [o19_idx]
      omega
    | ⟨1, _⟩ =>
      show 0 * 512 ≤ (i 1 : ℕ) ∧ (i 1 : ℕ) < 0 * 512 + 512
      omega)

end Cert.Kernel4Ideal.Proj
-- ==== Proof.SmRun.lean ====
/- The run of the sample's projections: every result is what the last of the host's lines leaves in it. -/
module

public import proofs.«01_k».proof.Proof.Gen.Kernel4Ideal.Frame

@[expose] public section

set_option maxRecDepth 16384

noncomputable section

namespace Cert.Kernel4Ideal.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run ends with the results at the last boundary's contents and the arguments as they were. -/
theorem run_last : θ_run defs (onTc (τ := τ) (main (F := F))) ⟨m, fun _ => 0, ρ⟩ (fun r => ∀ c : Dev nD,
      r.2.mem ((c.tc : Thread nD τ).loc main_v31_0) = W9 m ρ c (Proc.devRef .tc main_v31_0)
      ∧ r.2.mem ((c.tc : Thread nD τ).loc main_v31_1) = W9 m ρ c (Proc.devRef .tc main_v31_1)
      ∧ r.2.mem ((c.tc : Thread nD τ).loc main_v31_2) = W9 m ρ c (Proc.devRef .tc main_v31_2)
      ∧ r.2.mem ((c.tc : Thread nD τ).loc main_v31_3) = W9 m ρ c (Proc.devRef .tc main_v31_3)
      ∧ r.2.mem ((c.tc : Thread nD τ).loc main_v31_4) = W9 m ρ c (Proc.devRef .tc main_v31_4)
      ∧ r.2.mem ((c.tc : Thread nD τ).loc main_v31_5) = W9 m ρ c (Proc.devRef .tc main_v31_5)
      ∧ r.2.mem ((c.tc : Thread nD τ).loc main_v31_6) = W9 m ρ c (Proc.devRef .tc main_v31_6)
      ∧ r.2.mem ((c.tc : Thread nD τ).loc main_v31_7) = W9 m ρ c (Proc.devRef .tc main_v31_7)
      ∧ r.2.mem ((c.tc : Thread nD τ).loc main_v33) = W9 m ρ c (Proc.devRef .tc main_v33)
      ∧ r.2.mem ((c.tc : Thread nD τ).loc main_v35) = W9 m ρ c (Proc.devRef .tc main_v35)
      ∧ r.2.mem ((c.tc : Thread nD τ).loc main_v31_10) = W9 m ρ c (Proc.devRef .tc main_v31_10)
      ∧ r.2.mem ((c.tc : Thread nD τ).loc main_v31_11) = W9 m ρ c (Proc.devRef .tc main_v31_11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v31_0 (by decide)),
       h c _ (mem_uc main_v31_1 (by decide)),
       h c _ (mem_uc main_v31_2 (by decide)),
       h c _ (mem_uc main_v31_3 (by decide)),
       h c _ (mem_uc main_v31_4 (by decide)),
       h c _ (mem_uc main_v31_5 (by decide)),
       h c _ (mem_uc main_v31_6 (by decide)),
       h c _ (mem_uc main_v31_7 (by decide)),
       h c _ (mem_uc main_v33 (by decide)),
       h c _ (mem_uc main_v35 (by decide)),
       h c _ (mem_uc main_v31_10 (by decide)),
       h c _ (mem_uc main_v31_11 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.Kernel4Ideal.Proj
-- ==== Proof.SmRef.lean ====
/- The reference of the sample's projections, one entry at a time. -/
module

public import proofs.«01_k».proof.Proof.InSpec
public import proofs.«01_k».proof.Proof.InRef
public import proofs.«01_k».proof.Proof.Gen.Reference4Ideal.Run
public import Idealize.ShloMosaic.Lib.Pointwise

@[expose] public section

set_option maxRecDepth 16384

noncomputable section

namespace Cert.Reference4Ideal.Proj

open Cert.Reference4Ideal Cert.Reference4Ideal.Gen Cert.InSpec Cert.SbMath Idealize.ShloMosaic Idealize.ShloMosaic.TcCoe Idealize.SL.Sem Idealize.ShloMosaic.Pointwise

/-- The conditioning. -/
def adaT (C : FVec Ideal S128x1024 .f32) (WA : FVec Ideal S1x1024x6144 .f32) (BA : FVec Ideal S1x6144 .f32) : FVec Ideal S128x6144 .f32 :=
  addf (Host.dotGeneral dot_S128x1024_S1024x6144_S128x6144_1_0_0_1_n_n none (mulf C (Host.divf (broadcastInDim S128x1024 ![] bcast_S_S128x1024 (constant S_ .f32 0x3F800000#32)) (addf (broadcastInDim S128x1024 ![] bcast_S_S128x1024 (constant S_ .f32 0x3F800000#32)) (Host.exp (Host.negf C))))) (shapeCast _ WA shapeCasts_S1x1024x6144_S1024x6144))
    (broadcastInDim S128x6144 ![0, 1] bcast_S1x6144_S128x6144_0_1 (broadcastInDim S1x6144 ![1] bcast_S6144_S1x6144_1 (shapeCast _ BA shapeCasts_S1x6144_S6144)))

theorem adaT_at (C : FVec Ideal S128x1024 .f32) (WA : FVec Ideal S1x1024x6144 .f32) (BA : FVec Ideal S1x6144 .f32) (b : Fin 128) (j : Fin 6144) :
    adaT C WA BA (ix2 b j) = ada (fun k => C (ix2 b k)) (fun k => WA (ix3 0 k j)) (BA (ix2 0 j)) := by
  unfold adaT ada sg
  pointwise

/-- The tokens' rows, scaled and shifted by a conditioning. -/
def uT (X : FVec Ideal S128x1x1024 .f32) (G : FVec Ideal S1x1024 .f32) (Y : FVec Ideal S128x6144 .f32) : FVec Ideal S128x1x1024 .f32 :=
  addf (mulf (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32))))))
    (broadcastInDim S128x1x1024 ![0, 1, 2] bcast_S1x1x1024_S128x1x1024_0_1_2 (broadcastInDim S1x1x1024 ![2] bcast_S1024_S1x1x1024_2 (shapeCast _ G shapeCasts_S1x1024_S1024))))
    (addf (broadcastInDim S128x1x1024 ![] bcast_S_S128x1x1024 (constant S_ .f32 0x3F800000#32)) (shapeCast _ (extractStridedSlice S128x1x1x1024 ![0, 1, 0, 0] (shapeCast _ Y shapeCasts_S128x6144_S128x6x1x1024) slices_S128x6x1x1024_S128x1x1x1024_0_1_0_0) shapeCasts_S128x1x1x1024_S128x1x1024)))
    (shapeCast _ (extractStridedSlice S128x1x1x1024 ![0, 0, 0, 0] (shapeCast _ Y shapeCasts_S128x6144_S128x6x1x1024) slices_S128x6x1x1024_S128x1x1x1024_0_0_0_0) shapeCasts_S128x1x1x1024_S128x1x1024)

theorem uT_at (X : FVec Ideal S128x1x1024 .f32) (G : FVec Ideal S1x1024 .f32) (Y : FVec Ideal S128x6144 .f32) (b : Fin 128) (k : Fin 1024) :
    uT X G Y (ix3 b 0 k) = u (fun k => X (ix3 b 0 k)) (fun k => G (ix2 0 k)) (fun k => Y (ix2 b ⟨1024 + k.val, by omega⟩)) (fun k => Y (ix2 b ⟨k.val, by omega⟩)) k := by
  unfold uT u
  pointwise

/-- The projection. -/
def pT (U : FVec Ideal S128x1x1024 .f32) (W : FVec Ideal S1x1024x5136 .f32) : FVec Ideal S128x1x5136 .f32 :=
  Host.dotGeneral dot_S128x1x1024_S1024x5136_S128x1x5136_2_0_01_1_n_n none U (shapeCast _ W shapeCasts_S1x1024x5136_S1024x5136)

theorem pT_at (U : FVec Ideal S128x1x1024 .f32) (W : FVec Ideal S1x1024x5136 .f32) (b : Fin 128) (j : Fin 5136) :
    pT U W (ix3 b 0 j) = lin (fun k => U (ix3 b 0 k)) (fun k => W (ix3 0 k j)) := by
  unfold pT lin
  pointwise

/-! ## The results of a projection -/

variable (p : FVec Ideal S128x1x5136 .f32) (b : Fin 128)

def zT : FVec Ideal S128x1x256 .f32 := broadcastInDim S128x1x256 ![] bcast_S_S128x1x256 (constant S_ .f32 0x00000000#32)

/-- The decay's argument. -/
def dT (WL : FVec Ideal S1x16x256 .f32) (BL : FVec Ideal S1x256 .f32) : FVec Ideal S128x1x256 .f32 :=
  addf (Host.dotGeneral dot_S128x1x16_S16x256_S128x1x256_2_0_01_1_n_n none (extractStridedSlice S128x1x16 ![0, 0, 1536] p slices_S128x1x5136_S128x1x16_0_0_1536) (shapeCast _ WL shapeCasts_S1x16x256_S16x256)) (broadcastInDim S128x1x256 ![0, 1, 2] bcast_S1x1x256_S128x1x256_0_1_2 (broadcastInDim S1x1x256 ![2] bcast_S256_S1x1x256_2 (shapeCast _ BL shapeCasts_S1x256_S256)))

theorem dT_at (WL : FVec Ideal S1x16x256 .f32) (BL : FVec Ideal S1x256 .f32) (j : Fin 256) :
    dT p WL BL (ix3 b 0 j) = (∑ l : Fin 16, p (ix3 b 0 ⟨1536 + l.val, by omega⟩) * WL (ix3 0 l j)) + BL (ix2 0 j) := by
  unfold dT
  pointwise

/-- The logarithm of the sigmoid. -/
def lsT (z : FVec Ideal S128x1x256 .f32) : FVec Ideal S128x1x256 .f32 :=
  Host.negf (select (cmpf .une (subf (Host.negf z) zT) (subf (Host.negf z) zT)) (addf (Host.negf z) zT) (addf (maximumf (Host.negf z) zT) (Host.log1p (Host.exp (Host.negf (Host.absf (subf (Host.negf z) zT)))))))

theorem lsT_at (z : FVec Ideal S128x1x256 .f32) (j : Fin 256) : lsT z (ix3 b 0 j) = -(sp (-(z (ix3 b 0 j)))) := by
  unfold lsT zT
  pointwise
  rw [if_neg (not_not.mpr rfl)]
  rfl

def r12 (z : FVec Ideal S128x1x256 .f32) : FVec Ideal S128x256 .f32 :=
  shapeCast _ (Host.divf (lsT z) (broadcastInDim S128x1x256 ![] bcast_S_S128x1x256 (constant S_ .f32 0x41800000#32))) shapeCasts_S128x1x256_S128x256

theorem r12_at (z : FVec Ideal S128x1x256 .f32) (j : Fin 256) : r12 z (ix2 b j) = -(sp (-(z (ix3 b 0 j)))) * Ideal.ofBits .f32 0x3D800000#32 := by
  rw [← lsT_at]
  unfold r12
  generalize lsT z = y
  rw [← Cert.Reference3Ideal.Proj.sixteenths]
  pointwise

def r10 : FVec Ideal S128x256 .f32 := shapeCast _ (mulf (extractStridedSlice S128x1x256 ![0, 0, 0] p slices_S128x1x5136_S128x1x256_0_0_0) (broadcastInDim S128x1x256 ![] bcast_S_S128x1x256 (constant S_ .f32 0x3E000000#32))) shapeCasts_S128x1x256_S128x256

theorem r10_at (j : Fin 256) : r10 p (ix2 b j) = p (ix3 b 0 ⟨j.val, by omega⟩) * Ideal.ofBits .f32 0x3E000000#32 := by
  unfold r10
  pointwise

def r11 : FVec Ideal S128x256 .f32 := shapeCast _ (extractStridedSlice S128x1x256 ![0, 0, 256] p slices_S128x1x5136_S128x1x256_0_0_256) shapeCasts_S128x1x256_S128x256

theorem r11_at (j : Fin 256) : r11 p (ix2 b j) = p (ix3 b 0 ⟨256 + j.val, by omega⟩) := by
  unfold r11
  pointwise

def r13 : FVec Ideal S128x512 .bf16 := truncf .bf16 (shapeCast _ (extractStridedSlice S128x1x512 ![0, 0, 512] p slices_S128x1x5136_S128x1x512_0_0_512) shapeCasts_S128x1x512_S128x512) bitsLt_bf16_f32

theorem r13_at (j : Fin 512) : r13 p (ix2 b j) = p (ix3 b 0 ⟨512 + j.val, by omega⟩) := by
  unfold r13
  pointwise

def r14 : FVec Ideal S128x512 .bf16 := truncf .bf16 (shapeCast _ (mulf (extractStridedSlice S128x1x512 ![0, 0, 1024] p slices_S128x1x5136_S128x1x512_0_0_1024) (Host.divf (broadcastInDim S128x1x512 ![] bcast_S_S128x1x512 (constant S_ .f32 0x3F800000#32)) (addf (broadcastInDim S128x1x512 ![] bcast_S_S128x1x512 (constant S_ .f32 0x3F800000#32)) (Host.exp (Host.negf (extractStridedSlice S128x1x512 ![0, 0, 1024] p slices_S128x1x5136_S128x1x512_0_0_1024)))))) shapeCasts_S128x1x512_S128x512) bitsLt_bf16_f32

theorem r14_at (j : Fin 512) : r14 p (ix2 b j) = p (ix3 b 0 ⟨1024 + j.val, by omega⟩) * sg (p (ix3 b 0 ⟨1024 + j.val, by omega⟩)) := by
  unfold r14
  pointwise
  rfl

def r15 : FVec Ideal S128x512 .f32 := shapeCast _ (extractStridedSlice S128x1x512 ![0, 0, 1552] p slices_S128x1x5136_S128x1x512_0_0_1552) shapeCasts_S128x1x512_S128x512

theorem r15_at (j : Fin 512) : r15 p (ix2 b j) = p (ix3 b 0 ⟨1552 + j.val, by omega⟩) := by
  unfold r15
  pointwise

def r16 : FVec Ideal S128x512 .bf16 := truncf .bf16 (shapeCast _ (extractStridedSlice S128x1x512 ![0, 0, 2064] p slices_S128x1x5136_S128x1x512_0_0_2064) shapeCasts_S128x1x512_S128x512) bitsLt_bf16_f32

theorem r16_at (j : Fin 512) : r16 p (ix2 b j) = p (ix3 b 0 ⟨2064 + j.val, by omega⟩) := by
  unfold r16
  pointwise

def r17 : FVec Ideal S128x512 .bf16 := truncf .bf16 (shapeCast _ (extractStridedSlice S128x1x512 ![0, 0, 2576] p slices_S128x1x5136_S128x1x512_0_0_2576) shapeCasts_S128x1x512_S128x512) bitsLt_bf16_f32

theorem r17_at (j : Fin 512) : r17 p (ix2 b j) = p (ix3 b 0 ⟨2576 + j.val, by omega⟩) := by
  unfold r17
  pointwise

def r20 : FVec Ideal S128x1024 .bf16 := truncf .bf16 (shapeCast _ (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extractStridedSlice S128x1x1024 ![0, 0, 3088] p slices_S128x1x5136_S128x1x1024_0_0_3088))))) shapeCasts_S128x1x1024_S128x1024) bitsLt_bf16_f32

theorem r20_at (j : Fin 1024) : r20 p (ix2 b j) = sg (p (ix3 b 0 ⟨3088 + j.val, by omega⟩)) := by
  unfold r20
  pointwise
  rfl

def r21 : FVec Ideal S128x1024 .bf16 := truncf .bf16 (shapeCast _ (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extractStridedSlice S128x1x1024 ![0, 0, 4112] p slices_S128x1x5136_S128x1x1024_0_0_4112))))) shapeCasts_S128x1x1024_S128x1024) bitsLt_bf16_f32

theorem r21_at (j : Fin 1024) : r21 p (ix2 b j) = sg (p (ix3 b 0 ⟨4112 + j.val, by omega⟩)) := by
  unfold r21
  pointwise
  rfl

def r18 : FVec Ideal S1x128x1x8x64 .f32 :=
  broadcastInDim S1x128x1x8x64 ![1, 2, 3, 4] bcast_S128x1x8x64_S1x128x1x8x64_1_2_3_4 (shapeCast S128x1x8x64 (extractStridedSlice S128x1x512 ![0, 0, 2064] p slices_S128x1x5136_S128x1x512_0_0_2064) shapeCasts_S128x1x512_S128x1x8x64)

theorem r18_at (h : Fin 8) (d : Fin 64) : r18 p (ix5 0 b 0 h d) = p (ix3 b 0 ⟨2064 + (64 * h.val + d.val), by omega⟩) := by
  unfold r18
  pointwise
  exact congrArg (fun r => p (ix3 b 0 r)) (Fin.ext (by show _ + _ = _ + _; rw [Nat.mul_comm]))

def r19 : FVec Ideal S1x128x1x8x64 .f32 :=
  broadcastInDim S1x128x1x8x64 ![1, 2, 3, 4] bcast_S128x1x8x64_S1x128x1x8x64_1_2_3_4 (shapeCast S128x1x8x64 (extractStridedSlice S128x1x512 ![0, 0, 2576] p slices_S128x1x5136_S128x1x512_0_0_2576) shapeCasts_S128x1x512_S128x1x8x64)

theorem r19_at (h : Fin 8) (d : Fin 64) : r19 p (ix5 0 b 0 h d) = p (ix3 b 0 ⟨2576 + (64 * h.val + d.val), by omega⟩) := by
  unfold r19
  pointwise
  exact congrArg (fun r => p (ix3 b 0 r)) (Fin.ext (by show _ + _ = _ + _; rw [Nat.mul_comm]))

end Cert.Reference4Ideal.Proj
-- ==== Proof.SmClaim.lean ====
/- The claims about the sample's projections: the runs, and the equations with the reference. -/
module

public import proofs.«01_k».proof.Proof.SmArray
public import proofs.«01_k».proof.Proof.SmRun
public import proofs.«01_k».proof.Proof.SmRef
public import proofs.«01_k».proof.Proof.Gen.Kernel4.Frame
public import proofs.«01_k».proof.Defs

@[expose] public section

set_option maxRecDepth 16384

noncomputable section

namespace Cert.Kernel4Ideal.Proj

open Cert.Kernel4Ideal Cert.Kernel4Ideal.Gen Cert.InSpec Idealize.ShloMosaic Idealize.ShloMosaic.TcCoe Idealize.SL.Sem Idealize.ShloMosaic.Pointwise

variable (m : (ℓ : Loc nD τ sig) → Buf (Elt Ideal) ℓ) (ρ : Dev nD → PrngReg) (c : Dev nD)

/-- An array by sequence, token, head and lane. -/
def cacheOf (O : Fin 128 → Fin 1 → Fin 8 → Fin 64 → EReal) (i : S1x128x1x8x64.Idx) : EReal := O (i 1) (i 2) (i 3) (i 4)

theorem eq_cache (x : FVec Ideal S1x128x1x8x64 .f32) (O : Fin 128 → Fin 1 → Fin 8 → Fin 64 → EReal) (h : ∀ b g d, x (ix5 0 b 0 g d) = O b 0 g d) : x = cacheOf O := by
  funext i
  have e : i = ix5 0 (i 1) 0 (i 3) (i 4) := (eq_ix5 i).trans (congrArg₂ (fun (a : Fin 1) (t : Fin 1) => ix5 a (i 1) t (i 3) (i 4)) (Subsingleton.elim _ _) (Subsingleton.elim _ _))
  have e2 : i 2 = (0 : Fin 1) := Subsingleton.elim (α := Fin 1) _ _
  exact (congrArg x e).trans ((h (i 1) (i 3) (i 4)).trans (congrArg (fun t : Fin 1 => O (i 1) t (i 3) (i 4)) e2.symm))

theorem eq_rows {n : ℕ} (x : Shape.Idx ⟨2, ![128, n]⟩ → EReal) (O : Fin 128 → Fin 1 → Fin n → EReal) (h : ∀ b j, x (ix2 b j) = O b 0 j) : x = rowsOf O := by
  funext i
  exact (congrArg x (eq_ix2 i)).trans (h (i 0) (i 1))

theorem cache_at (y : FVec Ideal S128x512 .f32) (b : Fin 128) (h : Fin 8) (d : Fin 64) :
    (broadcastInDim S1x128x1x8x64 ![1, 2, 3, 4] bcast_S128x1x8x64_S1x128x1x8x64_1_2_3_4 (shapeCast S128x1x8x64 y shapeCasts_S128x512_S128x1x8x64 : FVec Ideal S128x1x8x64 .f32) : FVec Ideal S1x128x1x8x64 .f32) (ix5 0 b 0 h d) = y (ix2 b ⟨64 * h.val + d.val, by omega⟩) := by
  pointwise
  exact congrArg (fun r => y (ix2 b r)) (Fin.ext (by show _ + _ = _ + _; rw [Nat.mul_comm]))

theorem W9_v33 : W9 m ρ c (Proc.devRef .tc main_v33) = (broadcastInDim S1x128x1x8x64 ![1, 2, 3, 4] bcast_S128x1x8x64_S1x128x1x8x64_1_2_3_4 (shapeCast S128x1x8x64 (W8 m ρ c (Proc.devRef .tc main_v31_8) : FVec Ideal S128x512 .f32) shapeCasts_S128x512_S128x1x8x64 : FVec Ideal S128x1x8x64 .f32) : FVec Ideal S1x128x1x8x64 .f32) := by
  show StableHlo.after hostOps2 (W8 m ρ c) (Proc.devRef .tc main_v33) = _
  generalize W8 m ρ c = w
  after_results
  rfl

theorem cache33 : W9 m ρ c (Proc.devRef .tc main_v33) = cacheOf (inp m c).O18 := by
  rw [W9_v33, o18_final]
  exact eq_cache _ _ fun b h d => cache_at _ b h d

theorem W9_v35 : W9 m ρ c (Proc.devRef .tc main_v35) = (broadcastInDim S1x128x1x8x64 ![1, 2, 3, 4] bcast_S128x1x8x64_S1x128x1x8x64_1_2_3_4 (shapeCast S128x1x8x64 (W8 m ρ c (Proc.devRef .tc main_v31_9) : FVec Ideal S128x512 .f32) shapeCasts_S128x512_S128x1x8x64 : FVec Ideal S128x1x8x64 .f32) : FVec Ideal S1x128x1x8x64 .f32) := by
  show StableHlo.after hostOps2 (W8 m ρ c) (Proc.devRef .tc main_v35) = _
  generalize W8 m ρ c = w
  after_results
  rfl

theorem cache35 : W9 m ρ c (Proc.devRef .tc main_v35) = cacheOf (inp m c).O19 := by
  rw [W9_v35, o19_final]
  exact eq_cache _ _ fun b h d => cache_at _ b h d

/-- Every run ends with the projection's columns in the results and the arguments as they were. -/
theorem run_result : θ_run defs (onTc (τ := τ) (main (F := Ideal))) ⟨m, fun _ => 0, ρ⟩ (fun r => ∀ c : Dev nD,
      r.2.mem ((c.tc : Thread nD τ).loc main_v31_0) = rowsOf (inp m c).O10
      ∧ r.2.mem ((c.tc : Thread nD τ).loc main_v31_1) = rowsOf (inp m c).O11
      ∧ r.2.mem ((c.tc : Thread nD τ).loc main_v31_2) = rowsOf (inp m c).O12
      ∧ r.2.mem ((c.tc : Thread nD τ).loc main_v31_3) = rowsOf (inp m c).O13
      ∧ r.2.mem ((c.tc : Thread nD τ).loc main_v31_4) = rowsOf (inp m c).O14
      ∧ r.2.mem ((c.tc : Thread nD τ).loc main_v31_5) = rowsOf (inp m c).O15
      ∧ r.2.mem ((c.tc : Thread nD τ).loc main_v31_6) = rowsOf (inp m c).O16
      ∧ r.2.mem ((c.tc : Thread nD τ).loc main_v31_7) = rowsOf (inp m c).O17
      ∧ r.2.mem ((c.tc : Thread nD τ).loc main_v33) = cacheOf (inp m c).O18
      ∧ r.2.mem ((c.tc : Thread nD τ).loc main_v35) = cacheOf (inp m c).O19
      ∧ r.2.mem ((c.tc : Thread nD τ).loc main_v31_10) = rowsOf (inp m c).O20
      ∧ r.2.mem ((c.tc : Thread nD τ).loc main_v31_11) = rowsOf (inp m c).O21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans ((W9_of m ρ c main_v31_0 (by decide)).trans (o10_final m ρ c)),
      (h c).2.1.trans ((W9_of m ρ c main_v31_1 (by decide)).trans (o11_final m ρ c)),
      (h c).2.2.1.trans ((W9_of m ρ c main_v31_2 (by decide)).trans (o12_final m ρ c)),
      (h c).2.2.2.1.trans ((W9_of m ρ c main_v31_3 (by decide)).trans (o13_final m ρ c)),
      (h c).2.2.2.2.1.trans ((W9_of m ρ c main_v31_4 (by decide)).trans (o14_final m ρ c)),
      (h c).2.2.2.2.2.1.trans ((W9_of m ρ c main_v31_5 (by decide)).trans (o15_final m ρ c)),
      (h c).2.2.2.2.2.2.1.trans ((W9_of m ρ c main_v31_6 (by decide)).trans (o16_final m ρ c)),
      (h c).2.2.2.2.2.2.2.1.trans ((W9_of m ρ c main_v31_7 (by decide)).trans (o17_final m ρ c)),
      (h c).2.2.2.2.2.2.2.2.1.trans (cache33 m ρ c),
      (h c).2.2.2.2.2.2.2.2.2.1.trans (cache35 m ρ c),
      (h c).2.2.2.2.2.2.2.2.2.2.1.trans ((W9_of m ρ c main_v31_10 (by decide)).trans (o20_final m ρ c)),
      (h c).2.2.2.2.2.2.2.2.2.2.2.1.trans ((W9_of m ρ c main_v31_11 (by decide)).trans (o21_final m ρ c)),
      (h c).2.2.2.2.2.2.2.2.2.2.2.2⟩) (run_last m ρ)

end Cert.Kernel4Ideal.Proj

namespace Cert.Reference4Ideal.Proj

open Cert.Reference4Ideal Cert.Reference4Ideal.Gen Cert.InSpec Cert.SbMath Idealize.ShloMosaic Idealize.ShloMosaic.TcCoe Idealize.SL.Sem Idealize.ShloMosaic.Pointwise Cert.Kernel4Ideal.Proj

variable (m : (ℓ : Loc nD τ sig) → Buf (Elt Ideal) ℓ) (ρ : Dev nD → PrngReg) (c : Dev nD)

/-- The projection of a memory's arguments. -/
def pM : FVec Ideal S128x1x5136 .f32 :=
  pT (uT (m ((c.tc : Thread nD τ).loc main_arg0)) (m ((c.tc : Thread nD τ).loc main_arg5)) (adaT (m ((c.tc : Thread nD τ).loc main_arg2)) (m ((c.tc : Thread nD τ).loc main_arg3)) (m ((c.tc : Thread nD τ).loc main_arg4)))) (m ((c.tc : Thread nD τ).loc main_arg6))

/-- The decay's argument of a memory's arguments. -/
def dM : FVec Ideal S128x1x256 .f32 := dT (pM m c) (m ((c.tc : Thread nD τ).loc main_arg7)) (m ((c.tc : Thread nD τ).loc main_arg8))

theorem proj_at (X : FVec Ideal S128x1x1024 .f32) (C : FVec Ideal S128x1024 .f32) (WA : FVec Ideal S1x1024x6144 .f32) (BA : FVec Ideal S1x6144 .f32) (G : FVec Ideal S1x1024 .f32) (W : FVec Ideal S1x1024x5136 .f32)
    (I : In 128 1) (hx : ∀ b k, X (ix3 b 0 k) = I.x b 0 k) (hc : ∀ b k, C (ix2 b k) = I.c b k) (hwa : ∀ k j, WA (ix3 0 k j) = I.wa k j) (hba : ∀ j, BA (ix2 0 j) = I.ba j) (hg : ∀ k, G (ix2 0 k) = I.g k) (hw : ∀ k j, W (ix3 0 k j) = I.w k j)
    (b : Fin 128) (j : Fin 5136) : pT (uT X G (adaT C WA BA)) W (ix3 b 0 j) = I.P b 0 j := by
  have ha : ∀ j, adaT C WA BA (ix2 b j) = I.cond b j := fun j =>
    (adaT_at C WA BA b j).trans (congr (congrArg₂ ada (funext fun k => hc b k) (funext fun k => hwa k j)) (hba j))
  refine (pT_at _ W b j).trans (congrArg₂ lin (funext fun k => (uT_at X G _ b k).trans ?_) (funext fun k => hw k j))
  unfold In.U
  rw [funext fun k => hx b k, funext fun k => hg k, funext fun k : Fin 1024 => ha ⟨1024 + k.val, by omega⟩, funext fun k : Fin 1024 => ha ⟨k.val, by omega⟩]

variable (p : FVec Ideal S128x1x5136 .f32) (I : In 128 1) (hp : ∀ b j, p (ix3 b 0 j) = I.P b 0 j)

include hp
theorem r10_eq : r10 p = rowsOf I.O10 := eq_rows _ _ fun b j => (r10_at p b j).trans (congrArg (· * Ideal.ofBits .f32 0x3E000000#32) (hp b _))
theorem r11_eq : r11 p = rowsOf I.O11 := eq_rows _ _ fun b j => (r11_at p b j).trans (hp b _)
theorem r13_eq : r13 p = rowsOf I.O13 := eq_rows _ _ fun b j => (r13_at p b j).trans (hp b _)
theorem r14_eq : r14 p = rowsOf I.O14 := eq_rows _ _ fun b j => (r14_at p b j).trans (congrArg (fun e => e * sg e) (hp b _))
theorem r15_eq : r15 p = rowsOf I.O15 := eq_rows _ _ fun b j => (r15_at p b j).trans (hp b _)
theorem r16_eq : r16 p = rowsOf I.O16 := eq_rows _ _ fun b j => (r16_at p b j).trans (hp b _)
theorem r17_eq : r17 p = rowsOf I.O17 := eq_rows _ _ fun b j => (r17_at p b j).trans (hp b _)
theorem r20_eq : r20 p = rowsOf I.O20 := eq_rows _ _ fun b j => (r20_at p b j).trans (congrArg sg (hp b _))
theorem r21_eq : r21 p = rowsOf I.O21 := eq_rows _ _ fun b j => (r21_at p b j).trans (congrArg sg (hp b _))
theorem r18_eq : r18 p = cacheOf I.O18 := eq_cache _ _ fun b h d => (r18_at p b h d).trans (hp b _)
theorem r19_eq : r19 p = cacheOf I.O19 := eq_cache _ _ fun b h d => (r19_at p b h d).trans (hp b _)
theorem r12_eq (WL : FVec Ideal S1x16x256 .f32) (BL : FVec Ideal S1x256 .f32) (hwl : ∀ l j, WL (ix3 0 l j) = I.wl l j) (hbl : ∀ j, BL (ix2 0 j) = I.bl j) : r12 (dT p WL BL) = rowsOf I.O12 :=
  eq_rows _ _ fun b j => (r12_at b _ j).trans (congrArg (fun e => -(sp (-e)) * Ideal.ofBits .f32 0x3D800000#32) ((dT_at p b WL BL j).trans
    (congrArg₂ (· + ·) (Finset.sum_congr rfl fun l _ => congrArg₂ (· * ·) (hp b _) (hwl l j)) (hbl j))))

omit hp

/-- The reference's run, its results named. -/
theorem run_named : θ_run defs (onTc (τ := τ) (main (F := Ideal))) ⟨m, fun _ => 0, ρ⟩ (fun r => ∀ c : Dev nD,
      r.2.mem ((c.tc : Thread nD τ).loc main_v53) = r10 (pM m c)
      ∧ r.2.mem ((c.tc : Thread nD τ).loc main_v54) = r11 (pM m c)
      ∧ r.2.mem ((c.tc : Thread nD τ).loc main_v55) = r12 (dM m c)
      ∧ r.2.mem ((c.tc : Thread nD τ).loc main_v57) = r13 (pM m c)
      ∧ r.2.mem ((c.tc : Thread nD τ).loc main_v60) = r14 (pM m c)
      ∧ r.2.mem ((c.tc : Thread nD τ).loc main_v61) = r15 (pM m c)
      ∧ r.2.mem ((c.tc : Thread nD τ).loc main_v63) = r16 (pM m c)
      ∧ r.2.mem ((c.tc : Thread nD τ).loc main_v65) = r17 (pM m c)
      ∧ r.2.mem ((c.tc : Thread nD τ).loc main_v67) = r18 (pM m c)
      ∧ r.2.mem ((c.tc : Thread nD τ).loc main_v69) = r19 (pM m c)
      ∧ r.2.mem ((c.tc : Thread nD τ).loc main_v77) = r20 (pM m c)
      ∧ r.2.mem ((c.tc : Thread nD τ).loc main_v85) = r21 (pM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Cert.Reference4Ideal.Value.run m ρ

end Cert.Reference4Ideal.Proj

namespace Cert.SmClaim

open Idealize.ShloMosaic Idealize.ShloMosaic.TcCoe Idealize.SL.Sem Idealize.ShloMosaic.Pointwise Cert.Kernel4Ideal.Proj Cert.Reference4Ideal.Proj

theorem algebraic : Cert.algebraic_Kernel4Ideal_Reference4Ideal := fun m g m' g' _ h =>
  have hp : ∀ (c : Dev Cert.Kernel4Ideal.nD) b j, pM m' c (ix3 b 0 j) = (inp m c).P b 0 j := fun c =>
    proj_at _ _ _ _ _ _ (inp m c) (fun b k => congrFun (h c).1 (ix3 b 0 k)) (fun b k => congrFun (h c).2.2.1 (ix2 b k)) (fun k j => congrFun (h c).2.2.2.1 (ix3 0 k j)) (fun j => congrFun (h c).2.2.2.2.1 (ix2 0 j))
      (fun k => congrFun (h c).2.2.2.2.2.1 (ix2 0 k)) (fun k j => congrFun (h c).2.2.2.2.2.2.1 (ix3 0 k j))
  ⟨fun c => rowsOf (inp m c).O10, fun c => rowsOf (inp m c).O11, fun c => rowsOf (inp m c).O12, fun c => rowsOf (inp m c).O13, fun c => rowsOf (inp m c).O14, fun c => rowsOf (inp m c).O15, fun c => rowsOf (inp m c).O16, fun c => rowsOf (inp m c).O17, fun c => cacheOf (inp m c).O18, fun c => cacheOf (inp m c).O19, fun c => rowsOf (inp m c).O20, fun c => rowsOf (inp m c).O21,
    run_result m g,
    (θ_run _ _ _).mono (fun _ hr c => ⟨(hr c).1.trans (r10_eq _ (inp m c) (hp c)),
      (hr c).2.1.trans (r11_eq _ (inp m c) (hp c)),
      (hr c).2.2.1.trans (r12_eq _ (inp m c) (hp c) _ _ (fun l j => congrFun (h c).2.2.2.2.2.2.2.1 (ix3 0 l j)) (fun j => congrFun (h c).2.2.2.2.2.2.2.2 (ix2 0 j))),
      (hr c).2.2.2.1.trans (r13_eq _ (inp m c) (hp c)),
      (hr c).2.2.2.2.1.trans (r14_eq _ (inp m c) (hp c)),
      (hr c).2.2.2.2.2.1.trans (r15_eq _ (inp m c) (hp c)),
      (hr c).2.2.2.2.2.2.1.trans (r16_eq _ (inp m c) (hp c)),
      (hr c).2.2.2.2.2.2.2.1.trans (r17_eq _ (inp m c) (hp c)),
      (hr c).2.2.2.2.2.2.2.2.1.trans (r18_eq _ (inp m c) (hp c)),
      (hr c).2.2.2.2.2.2.2.2.2.1.trans (r19_eq _ (inp m c) (hp c)),
      (hr c).2.2.2.2.2.2.2.2.2.2.1.trans (r20_eq _ (inp m c) (hp c)),
      (hr c).2.2.2.2.2.2.2.2.2.2.2.1.trans (r21_eq _ (inp m c) (hp c)),
      (hr c).2.2.2.2.2.2.2.2.2.2.2.2⟩) (run_named m' g')⟩

theorem frame_kernel : Cert.quiescent_Kernel4 := fun m g _ => Cert.Kernel4.Gen.frame m g
theorem frame_ideal : Cert.quiescent_Kernel4Ideal := fun m g _ => Cert.Kernel4Ideal.Gen.frame m g
theorem frame_reference : Cert.quiescent_Reference4Ideal := fun m g _ =>
  (θ_run Cert.Reference4Ideal.defs _ _).mono (fun r hr => ⟨fun c => (hr c).2.2.2.2.2.2.2.2.2.2.2.2, sem_eq_zero_of_no_sems (by decide) r.2⟩)
    (Cert.Reference4Ideal.Value.run m g)

end Cert.SmClaim
-- ==== Proof.GlaSpec.lean ====
/- One token's step of the gated linear attention, spelled out, and the arithmetic that folds the kernel's padded chunk into it. -/
module

public import Idealize.ShloMosaic.PureOps.Ideal
public import proofs.«01_k».proof.Proof.InSpec

@[expose] public section

noncomputable section

namespace Cert.GlaSpec

open Idealize.ShloMosaic Cert.SbMath Cert.InSpec

/-- A head's score of the token with itself. -/
def score (q k a : Fin 64 → EReal) : EReal := ∑ d, (q d * Ideal.exp (a d)) * (k d * Ideal.exp (-(a d)))

/-- A head's output, before its normalisation: the state read through the decayed query, and the token's own value. -/
def att (q k a : Fin 64 → EReal) (v : EReal) (s : Fin 64 → EReal) : EReal := (∑ d, (q d * Ideal.exp (a d)) * s d) + score q k a * v

/-- A head's output normalised, times the head's gain and the gate. -/
def nrm (o : Fin 128 → EReal) (e : Fin 128) (g r : EReal) : EReal :=
  o e * Ideal.rsqrt (Ideal.div (∑ j, o j * o j) (Ideal.ofBits .f32 0x43000000#32) + Ideal.ofBits .f32 0x358637BD#32) * g * r

/-- One entry of the state after the token. -/
def step (s k a v : EReal) : EReal := s * Ideal.exp a + v * (k * Ideal.exp (a - a))

/-- A head's lanes among the keys' and among the values'. -/
def kc (h : Fin 4) (d : Fin 64) : Fin 256 := ⟨64 * h.val + d.val, by omega⟩
def vc (h : Fin 4) (e : Fin 128) : Fin 512 := ⟨128 * h.val + e.val, by omega⟩

/-- What the step reads, by coordinates: the queries, keys, decays' logarithms, values and gates of the tokens, the states, the heads' gain. -/
structure In where
  q : Fin 128 → Fin 256 → EReal
  k : Fin 128 → Fin 256 → EReal
  a : Fin 128 → Fin 256 → EReal
  v : Fin 128 → Fin 512 → EReal
  r : Fin 128 → Fin 512 → EReal
  s : Fin 128 → Fin 4 → Fin 64 → Fin 128 → EReal
  g : Fin 128 → EReal

/-- The tokens' outputs and the stepped states. -/
def In.out (I : In) (b : Fin 128) (h : Fin 4) (e : Fin 128) : EReal :=
  nrm (fun e => att (fun d => I.q b (kc h d)) (fun d => I.k b (kc h d)) (fun d => I.a b (kc h d)) (I.v b (vc h e)) (fun d => I.s b h d e)) e (I.g e) (I.r b (vc h e))
def In.state (I : In) (b : Fin 128) (h : Fin 4) (d : Fin 64) (e : Fin 128) : EReal := step (I.s b h d e) (I.k b (kc h d)) (I.a b (kc h d)) (I.v b (vc h e))

/-- A number that is not `⊤` is its own sum with its difference from itself. -/
theorem split (a : EReal) (h : a ≠ ⊤) : a + (a - a) = a := by
  induction a with
  | bot => rfl
  | top => exact absurd rfl h
  | coe x => rw [← EReal.coe_sub, sub_self, EReal.coe_zero, add_zero]

/-- The decay's logarithm is not `⊤`. -/
theorem decay_ne_top (z : EReal) {r : EReal} (hr : 0 ≤ r) : -(sp z) * r ≠ ⊤ := by
  have h : -(sp z) * r ≤ 0 := by
    rw [EReal.neg_mul]
    exact EReal.neg_le_zero.mpr (mul_nonneg (sp_nonneg z) hr)
  exact ne_top_of_le_ne_top EReal.zero_ne_top h

/-- A sum whose terms vanish past the first is its first term. -/
theorem sum_first {n : ℕ} (f : Fin (n + 1) → EReal) (h : ∀ t, t ≠ 0 → f t = 0) : ∑ t, f t = f 0 :=
  Finset.sum_eq_single 0 (fun t _ ht => h t ht) (fun h0 => absurd (Finset.mem_univ _) h0)

/-- A sum over both heads' lanes whose terms vanish on the second head's. -/
theorem sum_low (f : Fin 128 → EReal) (h : ∀ d : Fin 128, ¬ d.val < 64 → f d = 0) : ∑ d, f d = ∑ d : Fin 64, f ⟨d.val, by omega⟩ := by
  refine (Fin.sum_univ_add (a := 64) (b := 64) f).trans ?_
  rw [Finset.sum_eq_zero (s := (Finset.univ : Finset (Fin 64))) (f := fun d => f (Fin.natAdd 64 d)) (fun l _ => h _ (by show ¬ 64 + l.val < 64; omega)), add_zero]
  rfl

/-- A sum over both heads' lanes whose terms vanish on the first head's. -/
theorem sum_high (f : Fin 128 → EReal) (h : ∀ d : Fin 128, d.val < 64 → f d = 0) : ∑ d, f d = ∑ d : Fin 64, f ⟨64 + d.val, by omega⟩ := by
  refine (Fin.sum_univ_add (a := 64) (b := 64) f).trans ?_
  rw [Finset.sum_eq_zero (s := (Finset.univ : Finset (Fin 64))) (f := fun d => f (Fin.castAdd 64 d)) (fun l _ => h _ l.isLt), zero_add]
  rfl

end Cert.GlaSpec
-- ==== Proof.GlaBlock.lean ====
/- The values of the gated linear attention's kernel on a chunk whose tokens but the first are zero, one entry at a time. -/
module

public import proofs.«01_k».proof.Proof.Gen.Kernel5Ideal.Skeleton
public import proofs.«01_k».proof.Proof.GlaSpec
public import Idealize.ShloMosaic.Lib.Pointwise

@[expose] public section

set_option maxRecDepth 16384

noncomputable section

namespace Cert.Kernel5Ideal.Gla

open Cert.Kernel5Ideal Cert.Kernel5Ideal.Gen Cert.GlaSpec Idealize.ShloMosaic Idealize.ShloMosaic.TcCoe Idealize.SL.Sem Idealize.ShloMosaic.Pointwise

/-- The lanes' numbers. -/
def v10 : IVec S64x128 32 := iota .tc S64x128 32 [1] iota_S64x128_d1_w32
def v11 : IVec S128x128 32 := iota .tc S128x128 32 [1] iota_S128x128_d1_w32

/-! ## Masks -/

theorem low_bits : ∀ x : Fin 128, IntOp.andi (IntOp.cmpi CmpIPredicate.sge (BitVec.ofNat 32 x.val) 0#32) (IntOp.cmpi CmpIPredicate.slt (BitVec.ofNat 32 x.val) 64#32) = if x.val < 64 then 1 else 0 := by
  decide +kernel

theorem high_bits : ∀ x : Fin 128, IntOp.andi (IntOp.cmpi CmpIPredicate.sge (BitVec.ofNat 32 x.val) 64#32) (IntOp.cmpi CmpIPredicate.slt (BitVec.ofNat 32 x.val) 128#32) = if x.val < 64 then 0 else 1 := by
  decide +kernel

theorem lane_bits : ∀ x : Fin 128, IntOp.cmpi CmpIPredicate.slt (BitVec.ofNat 32 x.val) 64#32 = if x.val < 64 then 1 else 0 := by
  decide +kernel

theorem causal_bits : ∀ x : Fin 64, IntOp.cmpi CmpIPredicate.sle (BitVec.ofNat 32 x.val) 0#32 = if x = 0 then 1 else 0 := by
  decide +kernel

theorem first_bits : ∀ t : Fin 64, IntOp.cmpi CmpIPredicate.sle (BitVec.ofNat 32 (0 : Fin 64).val) (BitVec.ofNat 32 t.val) = 1 := by
  decide +kernel

/-- The first and the second head's lanes of a pair. -/
def lo (d : Fin 64) : Fin 128 := ⟨d.val, by omega⟩
def hi (d : Fin 64) : Fin 128 := ⟨64 + d.val, by omega⟩

theorem fold_low (A : Fin 128 → EReal) :
    ∑ x : Fin 128, Scalar.select (IntOp.andi (IntOp.cmpi CmpIPredicate.sge (BitVec.ofNat 32 x.val) 0#32) (IntOp.cmpi CmpIPredicate.slt (BitVec.ofNat 32 x.val) 64#32)) (A x) 0 = ∑ d, A (lo d) := by
  refine (sum_low _ fun d hd => ?_).trans (Finset.sum_congr rfl fun d _ => ?_)
  · rw [low_bits, if_neg hd]; rfl
  · rw [low_bits, if_pos d.isLt]; rfl

theorem fold_high (A : Fin 128 → EReal) :
    ∑ x : Fin 128, Scalar.select (IntOp.andi (IntOp.cmpi CmpIPredicate.sge (BitVec.ofNat 32 x.val) 64#32) (IntOp.cmpi CmpIPredicate.slt (BitVec.ofNat 32 x.val) 128#32)) (A x) 0 = ∑ d, A (hi d) := by
  refine (sum_high _ fun d hd => ?_).trans (Finset.sum_congr rfl fun d _ => ?_)
  · rw [high_bits, if_pos hd]; rfl
  · rw [high_bits, if_neg (by dsimp only; omega)]; rfl

theorem fold_causal (B : Fin 64 → EReal) : ∑ t : Fin 64, Scalar.select (IntOp.cmpi CmpIPredicate.sle (BitVec.ofNat 32 t.val) 0#32) (B t) 0 = B 0 := by
  refine (sum_first (n := 63) _ fun t ht => ?_).trans ?_
  · rw [causal_bits, if_neg ht]; rfl
  · rfl

theorem fold_run (B : Fin 64 → EReal) (h : ∀ t, t ≠ 0 → B t = 0) (t : Fin 64) : ∑ x : Fin 64, Scalar.select (IntOp.cmpi CmpIPredicate.sle (BitVec.ofNat 32 x.val) (BitVec.ofNat 32 t.val)) (B x) 0 = B 0 := by
  refine (sum_first (n := 63) _ fun x hx => ?_).trans ?_
  · rw [h x hx]; exact ite_self _
  · exact if_pos (first_bits t)

/-! ## The decays -/

section
variable (a : FVec Ideal S64x256 .f32) (h : ∀ t, t ≠ 0 → ∀ j, a (ix2 t j) = 0) (h0 : ∀ j, a (ix2 0 j) ≠ ⊤)

include h h0

theorem run_at (t : Fin 64) (j : Fin 256) : k0_pay12 (F := Ideal) a (ix2 t j) = a (ix2 0 j) := by
  unfold k0_pay12 k0_pay11
  pointwise
  rw [fold_run (fun x => a (ix2 x j)) (fun t ht => h t ht j) t, fold_run (fun x => a (ix2 x j) - a (ix2 x j)) (fun t ht => by rw [h t ht j, sub_zero]) t]
  exact split _ (h0 j)

theorem pay13_at (j : Fin 256) : k0_pay13 (F := Ideal) a (ix2 0 j) = a (ix2 0 j) := by
  rw [← run_at a h h0 ⟨63, by omega⟩ j]
  unfold k0_pay13
  pointwise

theorem pay14_at (q : FVec Ideal S64x256 .f32) (j : Fin 256) : k0_pay14 (F := Ideal) a q (ix2 0 j) = q (ix2 0 j) * Ideal.exp (a (ix2 0 j)) := by
  rw [← run_at a h h0 0 j]
  unfold k0_pay14
  pointwise

theorem pay16_at (k : FVec Ideal S64x256 .f32) (j : Fin 256) : k0_pay16 (F := Ideal) a k (ix2 0 j) = k (ix2 0 j) * Ideal.exp (-(a (ix2 0 j))) := by
  rw [← run_at a h h0 0 j]
  unfold k0_pay16 k0_pay15
  pointwise
  simp only [zero_sub]

theorem pay17_at (k : FVec Ideal S64x256 .f32) (t : Fin 64) (j : Fin 256) : k0_pay17 (F := Ideal) a k (ix2 t j) = k (ix2 t j) * Ideal.exp (a (ix2 0 j) - a (ix2 0 j)) := by
  have e1 := run_at a h h0 t j
  have e2 := pay13_at a h h0 j
  unfold k0_pay17 k0_pay15
  pointwise
  rw [e1, e2]

theorem pay18_at (j : Fin 256) : k0_pay18 (F := Ideal) a (ix2 0 j) = Ideal.exp (a (ix2 0 j)) := by
  rw [← pay13_at a h h0 j]
  unfold k0_pay18
  pointwise

theorem pay19_at (q : FVec Ideal S64x256 .f32) (x : Fin 128) : k0_pay19 (F := Ideal) a q (ix2 0 x) = q (ix2 0 ⟨x.val, by omega⟩) * Ideal.exp (a (ix2 0 ⟨x.val, by omega⟩)) := by
  rw [← pay14_at a h h0 q]
  unfold k0_pay19
  pointwise

end

/-! ## A head's output -/

/-- A head's output before its normalisation, from a pair's lanes. -/
def pre (o : Fin 64 → Fin 128) (Q S K : Fin 128 → EReal) (v : EReal) : EReal := (∑ d, Q (o d) * S (o d)) + (∑ d, Q (o d) * K (o d)) * v

theorem fold_pre_low (Q S : Fin 128 → EReal) (K : Fin 64 → Fin 128 → EReal) (v : Fin 64 → EReal) :
    ∑ x : Fin 128, Scalar.select (IntOp.andi (IntOp.cmpi CmpIPredicate.sge (BitVec.ofNat 32 x.val) 0#32) (IntOp.cmpi CmpIPredicate.slt (BitVec.ofNat 32 x.val) 64#32)) (Q x * S x) 0
      + ∑ t : Fin 64, Scalar.select (IntOp.cmpi CmpIPredicate.sle (BitVec.ofNat 32 t.val) 0#32)
          ((∑ x : Fin 128, Scalar.select (IntOp.andi (IntOp.cmpi CmpIPredicate.sge (BitVec.ofNat 32 x.val) 0#32) (IntOp.cmpi CmpIPredicate.slt (BitVec.ofNat 32 x.val) 64#32)) (Q x * K t x) 0) * v t) 0
      = pre lo Q S (K 0) (v 0) := by
  rw [fold_low (fun x => Q x * S x), fold_causal fun t => (∑ x : Fin 128, Scalar.select (IntOp.andi (IntOp.cmpi CmpIPredicate.sge (BitVec.ofNat 32 x.val) 0#32) (IntOp.cmpi CmpIPredicate.slt (BitVec.ofNat 32 x.val) 64#32)) (Q x * K t x) 0) * v t,
    fold_low (fun x => Q x * K 0 x)]
  rfl

theorem fold_pre_high (Q S : Fin 128 → EReal) (K : Fin 64 → Fin 128 → EReal) (v : Fin 64 → EReal) :
    ∑ x : Fin 128, Scalar.select (IntOp.andi (IntOp.cmpi CmpIPredicate.sge (BitVec.ofNat 32 x.val) 64#32) (IntOp.cmpi CmpIPredicate.slt (BitVec.ofNat 32 x.val) 128#32)) (Q x * S x) 0
      + ∑ t : Fin 64, Scalar.select (IntOp.cmpi CmpIPredicate.sle (BitVec.ofNat 32 t.val) 0#32)
          ((∑ x : Fin 128, Scalar.select (IntOp.andi (IntOp.cmpi CmpIPredicate.sge (BitVec.ofNat 32 x.val) 64#32) (IntOp.cmpi CmpIPredicate.slt (BitVec.ofNat 32 x.val) 128#32)) (Q x * K t x) 0) * v t) 0
      = pre hi Q S (K 0) (v 0) := by
  rw [fold_high (fun x => Q x * S x), fold_causal fun t => (∑ x : Fin 128, Scalar.select (IntOp.andi (IntOp.cmpi CmpIPredicate.sge (BitVec.ofNat 32 x.val) 64#32) (IntOp.cmpi CmpIPredicate.slt (BitVec.ofNat 32 x.val) 128#32)) (Q x * K t x) 0) * v t,
    fold_high (fun x => Q x * K 0 x)]
  rfl

/-- The lanes of a pair of heads among the keys'. -/
def lane0 (x : Fin 128) : Fin 256 := ⟨x.val, by omega⟩
def lane1 (x : Fin 128) : Fin 256 := ⟨128 + x.val, by omega⟩

theorem head0_at (pk : FVec Ideal S64x256 .bf16) (pq : FVec Ideal S64x128 .f32) (s : FVec Ideal S1x128x128 .f32) (v : FVec Ideal S64x128 .bf16) (g : FVec Ideal S1x128 .f32) (r : FVec Ideal S64x128 .bf16) (e : Fin 128) :
    k0_pay25 (F := Ideal) k0_pay11 v10 pk pq s v g r (ix2 0 e)
      = nrm (fun e => pre lo (fun x => pq (ix2 0 x)) (fun x => s (ix3 0 e x)) (fun x => pk (ix2 0 (lane0 x))) (v (ix2 0 e))) e (g (ix2 0 e)) (r (ix2 0 e)) := by
  unfold k0_pay25 k0_pay11 v10 k0_pay20 k0_pay23 k0_pay22 k0_pay24
  pointwise
  have hp := funext fun e => (fold_pre_low (fun x => pq (ix2 0 x)) (fun x => s (ix3 0 e x)) (fun t x => pk (ix2 t (lane0 x))) (fun t => v (ix2 t e))).symm
  refine Eq.trans ?_ (congrArg (fun f => nrm f e (g (ix2 0 e)) (r (ix2 0 e))) hp.symm)
  rfl

theorem head1_at (pk : FVec Ideal S64x256 .bf16) (pq : FVec Ideal S64x128 .f32) (s : FVec Ideal S1x128x128 .f32) (v : FVec Ideal S64x128 .bf16) (g : FVec Ideal S1x128 .f32) (r : FVec Ideal S64x128 .bf16) (e : Fin 128) :
    k0_pay28 (F := Ideal) k0_pay11 v10 pq (k0_pay20 pk) (k0_pay23 s) v g r (ix2 0 e)
      = nrm (fun e => pre hi (fun x => pq (ix2 0 x)) (fun x => s (ix3 0 e x)) (fun x => pk (ix2 0 (lane0 x))) (v (ix2 0 e))) e (g (ix2 0 e)) (r (ix2 0 e)) := by
  unfold k0_pay28 k0_pay11 v10 k0_pay20 k0_pay23 k0_pay22 k0_pay27
  pointwise
  have hp := funext fun e => (fold_pre_high (fun x => pq (ix2 0 x)) (fun x => s (ix3 0 e x)) (fun t x => pk (ix2 t (lane0 x))) (fun t => v (ix2 t e))).symm
  refine Eq.trans ?_ (congrArg (fun f => nrm f e (g (ix2 0 e)) (r (ix2 0 e))) hp.symm)
  rfl

theorem pay36_at (pk : FVec Ideal S64x256 .bf16) (pq : FVec Ideal S64x256 .f32) (s : FVec Ideal S1x128x128 .f32) (v : FVec Ideal S64x128 .bf16) (e : Fin 128) :
    k0_pay36 (F := Ideal) k0_pay11 v10 pq pk s v (ix2 0 e) = pre lo (fun x => pq (ix2 0 (lane1 x))) (fun x => s (ix3 0 e x)) (fun x => pk (ix2 0 (lane1 x))) (v (ix2 0 e)) := by
  unfold k0_pay36 k0_pay11 v10 k0_pay30 k0_pay31 k0_pay34 k0_pay33 k0_pay35
  pointwise
  exact fold_pre_low (fun x => pq (ix2 0 (lane1 x))) (fun x => s (ix3 0 e x)) (fun t x => pk (ix2 t (lane1 x))) (fun t => v (ix2 t e))

theorem pay42_at (pk : FVec Ideal S64x256 .bf16) (pq : FVec Ideal S64x256 .f32) (s : FVec Ideal S1x128x128 .f32) (v : FVec Ideal S64x128 .bf16) (e : Fin 128) :
    k0_pay42 (F := Ideal) k0_pay11 v10 (k0_pay30 pq) (k0_pay31 pk) (k0_pay34 s) v (ix2 0 e) = pre hi (fun x => pq (ix2 0 (lane1 x))) (fun x => s (ix3 0 e x)) (fun x => pk (ix2 0 (lane1 x))) (v (ix2 0 e)) := by
  unfold k0_pay42 k0_pay11 v10 k0_pay30 k0_pay31 k0_pay34 k0_pay33 k0_pay41
  pointwise
  exact fold_pre_high (fun x => pq (ix2 0 (lane1 x))) (fun x => s (ix3 0 e x)) (fun t x => pk (ix2 t (lane1 x))) (fun t => v (ix2 t e))

theorem head2_at (pk : FVec Ideal S64x256 .bf16) (pq : FVec Ideal S64x256 .f32) (s : FVec Ideal S1x128x128 .f32) (v : FVec Ideal S64x128 .bf16) (g : FVec Ideal S1x128 .f32) (r : FVec Ideal S64x128 .bf16) (e : Fin 128) :
    k0_pay39 (F := Ideal) (k0_pay36 k0_pay11 v10 pq pk s v) (k0_pay37 g) (k0_pay38 k0_pay11 v10 pq pk s v) r (ix2 0 e)
      = nrm (fun e => pre lo (fun x => pq (ix2 0 (lane1 x))) (fun x => s (ix3 0 e x)) (fun x => pk (ix2 0 (lane1 x))) (v (ix2 0 e))) e (g (ix2 0 e)) (r (ix2 0 e)) := by
  have hx := pay36_at pk pq s v
  unfold k0_pay38
  generalize k0_pay36 (F := Ideal) k0_pay11 v10 pq pk s v = x at hx
  unfold k0_pay39 k0_pay37
  pointwise
  simp only [hx]
  rfl

theorem head3_at (pk : FVec Ideal S64x256 .bf16) (pq : FVec Ideal S64x256 .f32) (s : FVec Ideal S1x128x128 .f32) (v : FVec Ideal S64x128 .bf16) (g : FVec Ideal S1x128 .f32) (r : FVec Ideal S64x128 .bf16) (e : Fin 128) :
    k0_pay1 (F := Ideal) (k0_pay42 k0_pay11 v10 (k0_pay30 pq) (k0_pay31 pk) (k0_pay34 s) v) (k0_pay43 g) (k0_pay44 k0_pay11 v10 (k0_pay30 pq) (k0_pay31 pk) (k0_pay34 s) v) r (ix2 0 e)
      = nrm (fun e => pre hi (fun x => pq (ix2 0 (lane1 x))) (fun x => s (ix3 0 e x)) (fun x => pk (ix2 0 (lane1 x))) (v (ix2 0 e))) e (g (ix2 0 e)) (r (ix2 0 e)) := by
  have hx := pay42_at pk pq s v
  unfold k0_pay44
  generalize k0_pay42 (F := Ideal) k0_pay11 v10 (k0_pay30 pq) (k0_pay31 pk) (k0_pay34 s) v = x at hx
  unfold k0_pay1 k0_pay43
  pointwise
  simp only [hx]
  rfl

/-! ## The state -/

theorem fold_state (v ku : Fin 64 → EReal) (h : ∀ t, t ≠ 0 → ku t = 0) : ∑ t, v t * ku t = v 0 * ku 0 :=
  sum_first (n := 63) _ fun t ht => by rw [h t ht, mul_zero]

theorem state0_at (dec : FVec Ideal S1x256 .f32) (ku : FVec Ideal S64x256 .bf16) (h : ∀ t, t ≠ 0 → ∀ j, ku (ix2 t j) = 0) (s : FVec Ideal S1x128x128 .f32) (v0 v1 : FVec Ideal S64x128 .bf16) (e d : Fin 128) :
    k0_pay29 (F := Ideal) v11 dec (k0_pay21 ku) (k0_pay22 s) (k0_pay26 (k0_pay21 ku) (k0_pay24 v0)) (k0_pay27 v1) (ix3 0 e d)
      = s (ix3 0 e d) * dec (ix2 0 (lane0 d)) + (if d.val < 64 then v0 (ix2 0 e) else v1 (ix2 0 e)) * ku (ix2 0 (lane0 d)) := by
  unfold k0_pay29 v11 k0_pay21 k0_pay22 k0_pay26 k0_pay24 k0_pay27
  pointwise
  refine congrArg (s (ix3 0 e d) * dec (ix2 0 (lane0 d)) + ·) ?_
  rw [lane_bits]
  by_cases hd : d.val < 64
  · rw [if_pos hd, if_pos hd]
    exact fold_state (fun t => v0 (ix2 t e)) (fun t => ku (ix2 t (lane0 d))) fun t ht => h t ht _
  · rw [if_neg hd, if_neg hd]
    exact fold_state (fun t => v1 (ix2 t e)) (fun t => ku (ix2 t (lane0 d))) fun t ht => h t ht _

theorem state1_at (dec : FVec Ideal S1x256 .f32) (ku : FVec Ideal S64x256 .bf16) (h : ∀ t, t ≠ 0 → ∀ j, ku (ix2 t j) = 0) (s : FVec Ideal S1x128x128 .f32) (v0 v1 : FVec Ideal S64x128 .bf16) (e d : Fin 128) :
    k0_pay2 (F := Ideal) v11 dec (k0_pay32 ku) (k0_pay33 s) (k0_pay40 (k0_pay32 ku) (k0_pay35 v0)) (k0_pay41 v1) (ix3 0 e d)
      = s (ix3 0 e d) * dec (ix2 0 (lane1 d)) + (if d.val < 64 then v0 (ix2 0 e) else v1 (ix2 0 e)) * ku (ix2 0 (lane1 d)) := by
  unfold k0_pay2 v11 k0_pay32 k0_pay33 k0_pay40 k0_pay35 k0_pay41
  pointwise
  refine congrArg (s (ix3 0 e d) * dec (ix2 0 (lane1 d)) + ·) ?_
  rw [lane_bits]
  by_cases hd : d.val < 64
  · rw [if_pos hd, if_pos hd]
    exact fold_state (fun t => v0 (ix2 t e)) (fun t => ku (ix2 t (lane1 d))) fun t ht => h t ht _
  · rw [if_neg hd, if_neg hd]
    exact fold_state (fun t => v1 (ix2 t e)) (fun t => ku (ix2 t (lane1 d))) fun t ht => h t ht _

/-! ## The state's layout -/

theorem pay9_low (x y : FVec Ideal S1x1x64x128 .f32) (e : Fin 128) (d : Fin 64) : k0_pay9 (F := Ideal) x y (ix3 0 e (lo d)) = x (ix4 0 0 d e) := by
  unfold k0_pay9
  pointwise
  exact dif_pos d.isLt

theorem pay9_high (x y : FVec Ideal S1x1x64x128 .f32) (e : Fin 128) (d : Fin 64) : k0_pay9 (F := Ideal) x y (ix3 0 e (hi d)) = y (ix4 0 0 d e) := by
  unfold k0_pay9
  pointwise
  refine (dif_neg (by show ¬ 64 + d.val < 64; omega)).trans ?_
  exact congrArg (fun d => y (ix4 0 0 d e)) (Fin.ext (by show 64 + d.val - 64 = d.val; omega))

theorem pay10_low (x y : FVec Ideal S1x1x64x128 .f32) (e : Fin 128) (d : Fin 64) : k0_pay10 (F := Ideal) x y (ix3 0 e (lo d)) = x (ix4 0 0 d e) := by
  unfold k0_pay10
  pointwise
  exact dif_pos d.isLt

theorem pay10_high (x y : FVec Ideal S1x1x64x128 .f32) (e : Fin 128) (d : Fin 64) : k0_pay10 (F := Ideal) x y (ix3 0 e (hi d)) = y (ix4 0 0 d e) := by
  unfold k0_pay10
  pointwise
  refine (dif_neg (by show ¬ 64 + d.val < 64; omega)).trans ?_
  exact congrArg (fun d => y (ix4 0 0 d e)) (Fin.ext (by show 64 + d.val - 64 = d.val; omega))

theorem pay4_at (s : FVec Ideal S1x128x128 .f32) (d : Fin 64) (e : Fin 128) : k0_pay4 (F := Ideal) s (ix4 0 0 d e) = s (ix3 0 e (lo d)) := by
  unfold k0_pay4 k0_pay3
  pointwise
  rfl

theorem pay5_at (s : FVec Ideal S1x128x128 .f32) (d : Fin 64) (e : Fin 128) : k0_pay5 (F := Ideal) s (ix4 0 0 d e) = s (ix3 0 e (hi d)) := by
  unfold k0_pay5 k0_pay3
  pointwise
  rfl

theorem pay7_at (s : FVec Ideal S1x128x128 .f32) (d : Fin 64) (e : Fin 128) : k0_pay7 (F := Ideal) s (ix4 0 0 d e) = s (ix3 0 e (lo d)) := by
  unfold k0_pay7 k0_pay6
  pointwise
  rfl

theorem pay8_at (s : FVec Ideal S1x128x128 .f32) (d : Fin 64) (e : Fin 128) : k0_pay8 (F := Ideal) s (ix4 0 0 d e) = s (ix3 0 e (hi d)) := by
  unfold k0_pay8 k0_pay6
  pointwise
  rfl

end Cert.Kernel5Ideal.Gla
-- ==== Proof.GlaOut.lean ====
/- What one point of the step's kernel leaves in its block of the outputs and of the state. -/
module

public import proofs.«01_k».proof.Proof.GlaBlock
public import proofs.«01_k».proof.Proof.Gen.Kernel5Ideal.Frame
public import Idealize.ShloMosaic.Lib.Pipeline.Value
public import Idealize.ShloMosaic.Lib.WritesUnit
public import Idealize.ShloMosaic.PureOps.Ideal

@[expose] public section

set_option maxRecDepth 16384

noncomputable section

namespace Cert.Kernel5Ideal.Gla

open Cert.Kernel5Ideal Cert.Kernel5Ideal.Gen Cert.GlaSpec Idealize.ShloMosaic Idealize.ShloMosaic.TcCoe Idealize.SL.Sem Idealize.ShloMosaic.Pointwise

/-- A read of a whole buffer gives its contents. -/
theorem read_all {S : Shape} {e : EltTy} (arg : Memref sig .tc .vmem S e) (harg : arg.IsWhole) (x : Vec Ideal S e) {off : Fin S.rank → ℕ} (h : off = fun _ => 0)
    (inb : ∀ a, off a + S.size a ≤ S.size a) : arg.view.readAt (Elt Ideal) (Rect.unit (s := S) off S.size inb).toLoadRect (harg.unread x) = x := by
  subst h
  funext y
  rw [View.readAt_apply, harg.read_unread]
  congr 1
  funext a
  apply Fin.ext
  rw [LoadRect.idx_apply]
  show 0 + 1 * (y a).val = (y a).val
  omega

/-- The 128 columns of a block from `o` on. -/
def cols (x : Vec Ideal S64x512 .bf16) (o : ℕ) (ho : o + 128 ≤ 512) : FVec Ideal S64x128 .bf16 := fun j => x (ix2 (j 0) ⟨o + (j 1).val, by have := (j 1).isLt; change (j 1).val < 128 at this; omega⟩)

theorem read_cols (arg : Memref sig .tc .vmem S64x512 .bf16) (harg : arg.IsWhole) (x : Vec Ideal S64x512 .bf16) {off : Fin 2 → ℕ} {o : ℕ} (h : off = ![0, o]) (ho : o + 128 ≤ 512)
    (inb : ∀ a : Fin 2, off a + S64x128.size a ≤ S64x512.size a) : arg.view.readAt (Elt Ideal) (Rect.unit (s := S64x512) off S64x128.size inb).toLoadRect (harg.unread x) = cols x o ho := by
  subst h
  funext y
  rw [View.readAt_apply, harg.read_unread]
  refine congrArg x (funext fun a => Fin.ext ?_)
  rw [LoadRect.idx_apply]
  match a with
  | ⟨0, _⟩ => show 0 + 1 * (y 0).val = (y 0).val; omega
  | ⟨1, _⟩ => show o + 1 * (y 1).val = o + (y 1).val; omega

/-- One head of a block of the state. -/
def headOf (x : Vec Ideal S1x4x64x128 .f32) (h : Fin 4) : FVec Ideal S1x1x64x128 .f32 := fun j => x (ix4 (j 0) h (j 2) (j 3))

theorem read_head (arg : Memref sig .tc .vmem S1x4x64x128 .f32) (harg : arg.IsWhole) (x : Vec Ideal S1x4x64x128 .f32) (h : Fin 4) {off : Fin 4 → ℕ} (ho : off = ![0, h.val, 0, 0])
    (inb : ∀ a : Fin 4, off a + S1x1x64x128.size a ≤ S1x4x64x128.size a) : arg.view.readAt (Elt Ideal) (Rect.unit (s := S1x4x64x128) off S1x1x64x128.size inb).toLoadRect (harg.unread x) = headOf x h := by
  subst ho
  funext y
  rw [View.readAt_apply, harg.read_unread]
  refine congrArg x (funext fun a => Fin.ext ?_)
  rw [LoadRect.idx_apply]
  match a with
  | ⟨0, _⟩ => show 0 + 1 * (y 0).val = (y 0).val; omega
  | ⟨1, _⟩ =>
    show h.val + 1 * (y 1).val = h.val
    have := (y 1).isLt
    change (y 1).val < 1 at this
    omega
  | ⟨2, _⟩ => show 0 + 1 * (y 2).val = (y 2).val; omega
  | ⟨3, _⟩ => show 0 + 1 * (y 3).val = (y 3).val; omega

theorem off1 : k0_off1 = fun _ => 0 := by funext a; fin_cases a <;> rfl
theorem off2 : k0_off2 = ![0, 0] := by funext a; fin_cases a <;> rfl
theorem off3 : k0_off3 = ![0, 128] := by funext a; fin_cases a <;> rfl
theorem off4 : k0_off4 = ![0, 256] := by funext a; fin_cases a <;> rfl
theorem off5 : k0_off5 = ![0, 384] := by funext a; fin_cases a <;> rfl
theorem zz : (![0, 0] : Fin 2 → ℕ) = fun _ => 0 := by funext a; fin_cases a <;> rfl

variable (c : Dev nD) (i : grid0.Coords)
  (arg2 : Memref sig .tc .vmem S64x256 .f32) (harg2 : arg2.IsWhole)
  (arg3 : Memref sig .tc .vmem S64x256 .f32) (harg3 : arg3.IsWhole)
  (arg4 : Memref sig .tc .vmem S64x256 .f32) (harg4 : arg4.IsWhole)
  (arg5 : Memref sig .tc .vmem S64x512 .bf16) (harg5 : arg5.IsWhole)
  (arg6 : Memref sig .tc .vmem S64x512 .bf16) (harg6 : arg6.IsWhole)
  (arg7 : Memref sig .tc .vmem S1x4x64x128 .f32) (harg7 : arg7.IsWhole)
  (arg8 : Memref sig .tc .vmem S1x128 .f32) (harg8 : arg8.IsWhole)
  (arg9 : Memref sig .tc .vmem S64x512 .bf16) (harg9 : arg9.IsWhole)
  (arg10 : Memref sig .tc .vmem S1x4x64x128 .f32) (harg10 : arg10.IsWhole)
  (arg11 : Memref sig .tc .vmem S2x128x128 .f32) (harg11 : arg11.IsWhole)
  (hc0 : cond0_0 i) (hc1 : cond0_1 i)
  (x0 x1 x2 : Vec Ideal S64x256 .f32) (x3 x4 : Vec Ideal S64x512 .bf16) (x5 : Vec Ideal S1x4x64x128 .f32) (x6 : Vec Ideal S1x128 .f32)

/-! ## The operands -/

theorem r_eq : kernelRun0_A.sl.r (F := Ideal) c arg2 harg2 arg4 harg4 x0 x2 = k0_pay14 (F := Ideal) x2 x0 := by
  have he := congr (congrArg (k0_pay14 (F := Ideal)) (read_all arg4 harg4 x2 off1 k0_off1_inb)) (read_all arg2 harg2 x0 off1 k0_off1_inb)
  exact he

theorem r1_eq : kernelRun0_A.sl.r_1 (F := Ideal) c arg3 harg3 arg4 harg4 x1 x2 = k0_pay16 (F := Ideal) x2 x1 := by
  have he := congr (congrArg (k0_pay16 (F := Ideal)) (read_all arg4 harg4 x2 off1 k0_off1_inb)) (read_all arg3 harg3 x1 off1 k0_off1_inb)
  exact he

theorem r2_eq : kernelRun0_A.sl.r_2 (F := Ideal) c arg3 harg3 arg4 harg4 x1 x2 = k0_pay17 (F := Ideal) x2 x1 := by
  have he := congr (congrArg (k0_pay17 (F := Ideal)) (read_all arg4 harg4 x2 off1 k0_off1_inb)) (read_all arg3 harg3 x1 off1 k0_off1_inb)
  exact he

theorem r3_eq : kernelRun0_A.sl.r_3 (F := Ideal) c arg4 harg4 x2 = k0_pay18 (F := Ideal) x2 := by
  have he := congrArg (k0_pay18 (F := Ideal)) (read_all arg4 harg4 x2 off1 k0_off1_inb)
  exact he

theorem r4_eq : kernelRun0_A.sl.r_4 (F := Ideal) c arg2 harg2 arg4 harg4 x0 x2 = k0_pay19 (F := Ideal) x2 x0 := by
  have he := congr (congrArg (k0_pay19 (F := Ideal)) (read_all arg4 harg4 x2 off1 k0_off1_inb)) (read_all arg2 harg2 x0 off1 k0_off1_inb)
  exact he

/-! ## The kept states -/

theorem apart (inb inb') : Disjoint (Rect.unit (s := S2x128x128) ![1, 0, 0] S1x128x128.size inb).set (Rect.unit (s := S2x128x128) ![0, 0, 0] S1x128x128.size inb').toLoadRect.set :=
  Rect.unit_disjoint 0 (Or.inr (by show 0 + 1 ≤ 1; omega))

theorem apart' (inb inb') : Disjoint (Rect.unit (s := S2x128x128) ![0, 0, 0] S1x128x128.size inb).set (Rect.unit (s := S2x128x128) ![1, 0, 0] S1x128x128.size inb').toLoadRect.set :=
  Rect.unit_disjoint 0 (Or.inl (by show 0 + 1 ≤ 1; omega))

theorem v47_eq : kernelRun0_A.sl.v47 (F := Ideal) c arg7 harg7 arg11 x5 = k0_pay9 (F := Ideal) (headOf x5 0) (headOf x5 1) := by
  unfold kernelRun0_A.sl.v47 kernelRun0_A.sl.HS0_2
  refine Eq.trans (View.readCov_cons_of_disjoint _ _ _ _ ?_) ?_
  · exact apart inb_S2x128x128_S1x128x128_1_0_0 inb_S2x128x128_S1x128x128_0_0_0
  refine Eq.trans (View.readCov_cons_toLoadRect _ _ _ _) ?_
  have he := congr (congrArg (k0_pay9 (F := Ideal)) (read_head arg7 harg7 x5 0 rfl inb_S1x4x64x128_S1x1x64x128_0_0_0_0)) (read_head arg7 harg7 x5 1 rfl inb_S1x4x64x128_S1x1x64x128_0_1_0_0)
  exact he

theorem v145_eq : kernelRun0_A.sl.v145 (F := Ideal) c arg3 harg3 arg4 harg4 arg5 harg5 arg7 harg7 arg11 x1 x2 x3 x5 = k0_pay10 (F := Ideal) (headOf x5 2) (headOf x5 3) := by
  unfold kernelRun0_A.sl.v145 kernelRun0_A.sl.HS0_3 kernelRun0_A.sl.HS0_2
  refine Eq.trans (View.readCov_cons_of_disjoint _ _ _ _ ?_) ?_
  · exact apart' inb_S2x128x128_S1x128x128_0_0_0 inb_S2x128x128_S1x128x128_1_0_0
  refine Eq.trans (View.readCov_cons_toLoadRect _ _ _ _) ?_
  have he := congr (congrArg (k0_pay10 (F := Ideal)) (read_head arg7 harg7 x5 2 rfl inb_S1x4x64x128_S1x1x64x128_0_2_0_0)) (read_head arg7 harg7 x5 3 rfl inb_S1x4x64x128_S1x1x64x128_0_3_0_0)
  exact he

theorem v243_eq : kernelRun0_A.sl.v243 (F := Ideal) c arg3 harg3 arg4 harg4 arg5 harg5 arg7 harg7 arg11 x1 x2 x3 x5
    = k0_pay29 (F := Ideal) v11 (k0_pay18 (F := Ideal) x2) (k0_pay21 (F := Ideal) (k0_pay17 (F := Ideal) x2 x1)) (k0_pay22 (F := Ideal) (k0_pay9 (F := Ideal) (headOf x5 0) (headOf x5 1))) (k0_pay26 (F := Ideal) (k0_pay21 (F := Ideal) (k0_pay17 (F := Ideal) x2 x1)) (k0_pay24 (F := Ideal) (cols x3 0 (by norm_num)))) (k0_pay27 (F := Ideal) (cols x3 128 (by norm_num))) := by
  unfold kernelRun0_A.sl.v243 kernelRun0_A.sl.HS0_4 kernelRun0_A.sl.HS0_3
  refine Eq.trans (View.readCov_cons_of_disjoint _ _ _ _ ?_) ?_
  · exact apart inb_S2x128x128_S1x128x128_1_0_0 inb_S2x128x128_S1x128x128_0_0_0
  refine Eq.trans (View.readCov_cons_toLoadRect _ _ _ _) ?_
  have h1 := r3_eq c arg4 harg4 x2
  have h2 := congrArg (k0_pay21 (F := Ideal)) (r2_eq c arg3 harg3 arg4 harg4 x1 x2)
  have h3 := congrArg (k0_pay22 (F := Ideal)) (v47_eq c arg7 harg7 arg11 x5)
  have h4 := congrArg (k0_pay24 (F := Ideal)) (read_cols arg5 harg5 x3 off2 (by norm_num) k0_off2_inb)
  have h5 := congrArg (k0_pay27 (F := Ideal)) (read_cols arg5 harg5 x3 off3 (by norm_num) k0_off3_inb)
  have he := congr (congr (congr (congr (congrArg (k0_pay29 (F := Ideal) v11) h1) h2) h3) (congr (congrArg (k0_pay26 (F := Ideal)) h2) h4)) h5
  exact he

theorem v254_eq : kernelRun0_A.sl.v254 (F := Ideal) c arg3 harg3 arg4 harg4 arg5 harg5 arg7 harg7 arg11 x1 x2 x3 x5
    = k0_pay2 (F := Ideal) v11 (k0_pay18 (F := Ideal) x2) (k0_pay32 (F := Ideal) (k0_pay17 (F := Ideal) x2 x1)) (k0_pay33 (F := Ideal) (k0_pay10 (F := Ideal) (headOf x5 2) (headOf x5 3))) (k0_pay40 (F := Ideal) (k0_pay32 (F := Ideal) (k0_pay17 (F := Ideal) x2 x1)) (k0_pay35 (F := Ideal) (cols x3 256 (by norm_num)))) (k0_pay41 (F := Ideal) (cols x3 384 (by norm_num))) := by
  refine Eq.trans (View.readCov_cons_toLoadRect _ _ _ _) ?_
  have h1 := r3_eq c arg4 harg4 x2
  have h2 := congrArg (k0_pay32 (F := Ideal)) (r2_eq c arg3 harg3 arg4 harg4 x1 x2)
  have h3 := congrArg (k0_pay33 (F := Ideal)) (v145_eq c arg3 harg3 arg4 harg4 arg5 harg5 arg7 harg7 arg11 x1 x2 x3 x5)
  have h4 := congrArg (k0_pay35 (F := Ideal)) (read_cols arg5 harg5 x3 off4 (by norm_num) k0_off4_inb)
  have h5 := congrArg (k0_pay41 (F := Ideal)) (read_cols arg5 harg5 x3 off5 (by norm_num) k0_off5_inb)
  have he := congr (congr (congr (congr (congrArg (k0_pay2 (F := Ideal) v11) h1) h2) h3) (congr (congrArg (k0_pay40 (F := Ideal)) h2) h4)) h5
  exact he

/-! ## The heads -/

theorem r10_eq : kernelRun0_A.sl.r_10 (F := Ideal) c arg2 harg2 arg3 harg3 arg4 harg4 arg5 harg5 arg6 harg6 arg7 harg7 arg8 harg8 arg11 x0 x1 x2 x3 x4 x5 x6
    = k0_pay25 (F := Ideal) k0_pay11 v10 (k0_pay16 (F := Ideal) x2 x1) (k0_pay19 (F := Ideal) x2 x0) (k0_pay9 (F := Ideal) (headOf x5 0) (headOf x5 1)) (cols x3 0 (by norm_num)) x6 (cols x4 0 (by norm_num)) := by
  have he := congr (congr (congr (congr (congr (congrArg (k0_pay25 (F := Ideal) k0_pay11 v10) (r1_eq c arg3 harg3 arg4 harg4 x1 x2)) (r4_eq c arg2 harg2 arg4 harg4 x0 x2)) (v47_eq c arg7 harg7 arg11 x5))
    (read_cols arg5 harg5 x3 off2 (by norm_num) k0_off2_inb)) (read_all arg8 harg8 x6 zz inb_S1x128_S1x128_0_0)) (read_cols arg6 harg6 x4 off2 (by norm_num) k0_off2_inb)
  exact he

theorem r13_eq : kernelRun0_A.sl.r_13 (F := Ideal) c arg2 harg2 arg3 harg3 arg4 harg4 arg5 harg5 arg6 harg6 arg7 harg7 arg8 harg8 arg11 x0 x1 x2 x3 x4 x5 x6
    = k0_pay28 (F := Ideal) k0_pay11 v10 (k0_pay19 (F := Ideal) x2 x0) (k0_pay20 (F := Ideal) (k0_pay16 (F := Ideal) x2 x1)) (k0_pay23 (F := Ideal) (k0_pay9 (F := Ideal) (headOf x5 0) (headOf x5 1))) (cols x3 128 (by norm_num)) x6 (cols x4 128 (by norm_num)) := by
  have he := congr (congr (congr (congr (congr (congrArg (k0_pay28 (F := Ideal) k0_pay11 v10) (r4_eq c arg2 harg2 arg4 harg4 x0 x2)) (congrArg (k0_pay20 (F := Ideal)) (r1_eq c arg3 harg3 arg4 harg4 x1 x2))) (congrArg (k0_pay23 (F := Ideal)) (v47_eq c arg7 harg7 arg11 x5)))
    (read_cols arg5 harg5 x3 off3 (by norm_num) k0_off3_inb)) (read_all arg8 harg8 x6 zz inb_S1x128_S1x128_0_0)) (read_cols arg6 harg6 x4 off3 (by norm_num) k0_off3_inb)
  exact he

theorem r20_eq : kernelRun0_A.sl.r_20 (F := Ideal) c arg2 harg2 arg3 harg3 arg4 harg4 arg5 harg5 arg7 harg7 arg11 x0 x1 x2 x3 x5
    = k0_pay36 (F := Ideal) k0_pay11 v10 (k0_pay14 (F := Ideal) x2 x0) (k0_pay16 (F := Ideal) x2 x1) (k0_pay10 (F := Ideal) (headOf x5 2) (headOf x5 3)) (cols x3 256 (by norm_num)) := by
  have he := congr (congr (congr (congrArg (k0_pay36 (F := Ideal) k0_pay11 v10) (r_eq c arg2 harg2 arg4 harg4 x0 x2)) (r1_eq c arg3 harg3 arg4 harg4 x1 x2)) (v145_eq c arg3 harg3 arg4 harg4 arg5 harg5 arg7 harg7 arg11 x1 x2 x3 x5))
    (read_cols arg5 harg5 x3 off4 (by norm_num) k0_off4_inb)
  exact he

theorem r22_eq : kernelRun0_A.sl.r_22 (F := Ideal) c arg2 harg2 arg3 harg3 arg4 harg4 arg5 harg5 arg7 harg7 arg11 x0 x1 x2 x3 x5
    = k0_pay38 (F := Ideal) k0_pay11 v10 (k0_pay14 (F := Ideal) x2 x0) (k0_pay16 (F := Ideal) x2 x1) (k0_pay10 (F := Ideal) (headOf x5 2) (headOf x5 3)) (cols x3 256 (by norm_num)) := by
  have he := congr (congr (congr (congrArg (k0_pay38 (F := Ideal) k0_pay11 v10) (r_eq c arg2 harg2 arg4 harg4 x0 x2)) (r1_eq c arg3 harg3 arg4 harg4 x1 x2)) (v145_eq c arg3 harg3 arg4 harg4 arg5 harg5 arg7 harg7 arg11 x1 x2 x3 x5))
    (read_cols arg5 harg5 x3 off4 (by norm_num) k0_off4_inb)
  exact he

theorem r25_eq : kernelRun0_A.sl.r_25 (F := Ideal) c arg2 harg2 arg3 harg3 arg4 harg4 arg5 harg5 arg7 harg7 arg11 x0 x1 x2 x3 x5
    = k0_pay42 (F := Ideal) k0_pay11 v10 (k0_pay30 (F := Ideal) (k0_pay14 (F := Ideal) x2 x0)) (k0_pay31 (F := Ideal) (k0_pay16 (F := Ideal) x2 x1)) (k0_pay34 (F := Ideal) (k0_pay10 (F := Ideal) (headOf x5 2) (headOf x5 3))) (cols x3 384 (by norm_num)) := by
  have he := congr (congr (congr (congrArg (k0_pay42 (F := Ideal) k0_pay11 v10) (congrArg (k0_pay30 (F := Ideal)) (r_eq c arg2 harg2 arg4 harg4 x0 x2))) (congrArg (k0_pay31 (F := Ideal)) (r1_eq c arg3 harg3 arg4 harg4 x1 x2))) (congrArg (k0_pay34 (F := Ideal)) (v145_eq c arg3 harg3 arg4 harg4 arg5 harg5 arg7 harg7 arg11 x1 x2 x3 x5)))
    (read_cols arg5 harg5 x3 off5 (by norm_num) k0_off5_inb)
  exact he

theorem r27_eq : kernelRun0_A.sl.r_27 (F := Ideal) c arg2 harg2 arg3 harg3 arg4 harg4 arg5 harg5 arg7 harg7 arg11 x0 x1 x2 x3 x5
    = k0_pay44 (F := Ideal) k0_pay11 v10 (k0_pay30 (F := Ideal) (k0_pay14 (F := Ideal) x2 x0)) (k0_pay31 (F := Ideal) (k0_pay16 (F := Ideal) x2 x1)) (k0_pay34 (F := Ideal) (k0_pay10 (F := Ideal) (headOf x5 2) (headOf x5 3))) (cols x3 384 (by norm_num)) := by
  have he := congr (congr (congr (congrArg (k0_pay44 (F := Ideal) k0_pay11 v10) (congrArg (k0_pay30 (F := Ideal)) (r_eq c arg2 harg2 arg4 harg4 x0 x2))) (congrArg (k0_pay31 (F := Ideal)) (r1_eq c arg3 harg3 arg4 harg4 x1 x2))) (congrArg (k0_pay34 (F := Ideal)) (v145_eq c arg3 harg3 arg4 harg4 arg5 harg5 arg7 harg7 arg11 x1 x2 x3 x5)))
    (read_cols arg5 harg5 x3 off5 (by norm_num) k0_off5_inb)
  exact he

/-! ## The block of outputs -/

theorem out7_0 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 ⟨0 + e.val, by omega⟩)
    = k0_pay25 (F := Ideal) k0_pay11 v10 (k0_pay16 (F := Ideal) x2 x1) (k0_pay19 (F := Ideal) x2 x0) (k0_pay9 (F := Ideal) (headOf x5 0) (headOf x5 1)) (cols x3 0 (by norm_num)) x6 (cols x4 0 (by norm_num)) (ix2 0 e) := by
  unfold out0_A_7
  unfold kernelRun0_A
  dsimp only
  refine (View.read_writes_cons_unit_of_not_mem (s := S64x512) VO0_7 _ _ _ _ (ix2 0 ⟨0 + e.val, by omega⟩) off5 1 (Or.inl (by show 0 + e.val < 384; omega))).trans ?_
  refine (View.read_writes_cons_unit_of_not_mem (s := S64x512) VO0_7 _ _ _ _ (ix2 0 ⟨0 + e.val, by omega⟩) off4 1 (Or.inl (by show 0 + e.val < 256; omega))).trans ?_
  refine (View.read_writes_cons_unit_of_not_mem (s := S64x512) VO0_7 _ _ _ _ (ix2 0 ⟨0 + e.val, by omega⟩) off3 1 (Or.inl (by show 0 + e.val < 128; omega))).trans ?_
  refine (View.read_writes_cons_unit_of_mem (s := S64x512) VO0_7 _ _ _ _ (ix2 0 ⟨0 + e.val, by omega⟩) (ix2 0 e) off2 (fun a => by match a with | ⟨0, _⟩ => rfl | ⟨1, _⟩ => rfl)).trans ?_
  have he := r10_eq c arg2 harg2 arg3 harg3 arg4 harg4 arg5 harg5 arg6 harg6 arg7 harg7 arg8 harg8 arg11 x0 x1 x2 x3 x4 x5 x6
  exact congrFun he (ix2 0 e)

theorem out7_1 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 ⟨128 + e.val, by omega⟩)
    = k0_pay28 (F := Ideal) k0_pay11 v10 (k0_pay19 (F := Ideal) x2 x0) (k0_pay20 (F := Ideal) (k0_pay16 (F := Ideal) x2 x1)) (k0_pay23 (F := Ideal) (k0_pay9 (F := Ideal) (headOf x5 0) (headOf x5 1))) (cols x3 128 (by norm_num)) x6 (cols x4 128 (by norm_num)) (ix2 0 e) := by
  unfold out0_A_7
  unfold kernelRun0_A
  dsimp only
  refine (View.read_writes_cons_unit_of_not_mem (s := S64x512) VO0_7 _ _ _ _ (ix2 0 ⟨128 + e.val, by omega⟩) off5 1 (Or.inl (by show 128 + e.val < 384; omega))).trans ?_
  refine (View.read_writes_cons_unit_of_not_mem (s := S64x512) VO0_7 _ _ _ _ (ix2 0 ⟨128 + e.val, by omega⟩) off4 1 (Or.inl (by show 128 + e.val < 256; omega))).trans ?_
  refine (View.read_writes_cons_unit_of_mem (s := S64x512) VO0_7 _ _ _ _ (ix2 0 ⟨128 + e.val, by omega⟩) (ix2 0 e) off3 (fun a => by match a with | ⟨0, _⟩ => rfl | ⟨1, _⟩ => rfl)).trans ?_
  have he := r13_eq c arg2 harg2 arg3 harg3 arg4 harg4 arg5 harg5 arg6 harg6 arg7 harg7 arg8 harg8 arg11 x0 x1 x2 x3 x4 x5 x6
  exact congrFun he (ix2 0 e)

theorem out7_2 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 ⟨256 + e.val, by omega⟩)
    = k0_pay39 (F := Ideal) (k0_pay36 (F := Ideal) k0_pay11 v10 (k0_pay14 (F := Ideal) x2 x0) (k0_pay16 (F := Ideal) x2 x1) (k0_pay10 (F := Ideal) (headOf x5 2) (headOf x5 3)) (cols x3 256 (by norm_num))) (k0_pay37 (F := Ideal) x6) (k0_pay38 (F := Ideal) k0_pay11 v10 (k0_pay14 (F := Ideal) x2 x0) (k0_pay16 (F := Ideal) x2 x1) (k0_pay10 (F := Ideal) (headOf x5 2) (headOf x5 3)) (cols x3 256 (by norm_num))) (cols x4 256 (by norm_num)) (ix2 0 e) := by
  unfold out0_A_7
  unfold kernelRun0_A
  dsimp only
  refine (View.read_writes_cons_unit_of_not_mem (s := S64x512) VO0_7 _ _ _ _ (ix2 0 ⟨256 + e.val, by omega⟩) off5 1 (Or.inl (by show 256 + e.val < 384; omega))).trans ?_
  refine (View.read_writes_cons_unit_of_mem (s := S64x512) VO0_7 _ _ _ _ (ix2 0 ⟨256 + e.val, by omega⟩) (ix2 0 e) off4 (fun a => by match a with | ⟨0, _⟩ => rfl | ⟨1, _⟩ => rfl)).trans ?_
  have he := congr (congr (congr (congrArg (k0_pay39 (F := Ideal)) (r20_eq c arg2 harg2 arg3 harg3 arg4 harg4 arg5 harg5 arg7 harg7 arg11 x0 x1 x2 x3 x5)) (congrArg (k0_pay37 (F := Ideal)) (read_all arg8 harg8 x6 zz inb_S1x128_S1x128_0_0))) (r22_eq c arg2 harg2 arg3 harg3 arg4 harg4 arg5 harg5 arg7 harg7 arg11 x0 x1 x2 x3 x5)) (read_cols arg6 harg6 x4 off4 (by norm_num) k0_off4_inb)
  exact congrFun he (ix2 0 e)

theorem out7_3 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 ⟨384 + e.val, by omega⟩)
    = k0_pay1 (F := Ideal) (k0_pay42 (F := Ideal) k0_pay11 v10 (k0_pay30 (F := Ideal) (k0_pay14 (F := Ideal) x2 x0)) (k0_pay31 (F := Ideal) (k0_pay16 (F := Ideal) x2 x1)) (k0_pay34 (F := Ideal) (k0_pay10 (F := Ideal) (headOf x5 2) (headOf x5 3))) (cols x3 384 (by norm_num))) (k0_pay43 (F := Ideal) x6) (k0_pay44 (F := Ideal) k0_pay11 v10 (k0_pay30 (F := Ideal) (k0_pay14 (F := Ideal) x2 x0)) (k0_pay31 (F := Ideal) (k0_pay16 (F := Ideal) x2 x1)) (k0_pay34 (F := Ideal) (k0_pay10 (F := Ideal) (headOf x5 2) (headOf x5 3))) (cols x3 384 (by norm_num))) (cols x4 384 (by norm_num)) (ix2 0 e) := by
  unfold out0_A_7
  unfold kernelRun0_A
  dsimp only
  refine (View.read_writes_cons_unit_of_mem (s := S64x512) VO0_7 _ _ _ _ (ix2 0 ⟨384 + e.val, by omega⟩) (ix2 0 e) off5 (fun a => by match a with | ⟨0, _⟩ => rfl | ⟨1, _⟩ => rfl)).trans ?_
  have he := congr (congr (congr (congrArg (k0_pay1 (F := Ideal)) (r25_eq c arg2 harg2 arg3 harg3 arg4 harg4 arg5 harg5 arg7 harg7 arg11 x0 x1 x2 x3 x5)) (congrArg (k0_pay43 (F := Ideal)) (read_all arg8 harg8 x6 zz inb_S1x128_S1x128_0_0))) (r27_eq c arg2 harg2 arg3 harg3 arg4 harg4 arg5 harg5 arg7 harg7 arg11 x0 x1 x2 x3 x5)) (read_cols arg6 harg6 x4 off5 (by norm_num) k0_off5_inb)
  exact congrFun he (ix2 0 e)

/-! ## The block of the state -/

theorem out8_0 (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 0 d e)
    = k0_pay4 (F := Ideal) (k0_pay29 (F := Ideal) v11 (k0_pay18 (F := Ideal) x2) (k0_pay21 (F := Ideal) (k0_pay17 (F := Ideal) x2 x1)) (k0_pay22 (F := Ideal) (k0_pay9 (F := Ideal) (headOf x5 0) (headOf x5 1))) (k0_pay26 (F := Ideal) (k0_pay21 (F := Ideal) (k0_pay17 (F := Ideal) x2 x1)) (k0_pay24 (F := Ideal) (cols x3 0 (by norm_num)))) (k0_pay27 (F := Ideal) (cols x3 128 (by norm_num)))) (ix4 0 0 d e) := by
  unfold out0_A_8
  unfold kernelRun0_A
  dsimp only
  refine (View.read_writes_cons_unit_of_not_mem (s := S1x4x64x128) VO0_8 _ _ _ _ (ix4 0 0 d e) rfl 1 (Or.inl (by show 0 < 3; omega))).trans ?_
  refine (View.read_writes_cons_unit_of_not_mem (s := S1x4x64x128) VO0_8 _ _ _ _ (ix4 0 0 d e) rfl 1 (Or.inl (by show 0 < 2; omega))).trans ?_
  refine (View.read_writes_cons_unit_of_not_mem (s := S1x4x64x128) VO0_8 _ _ _ _ (ix4 0 0 d e) rfl 1 (Or.inl (by show 0 < 1; omega))).trans ?_
  refine (View.read_writes_cons_unit_of_mem (s := S1x4x64x128) VO0_8 _ _ _ _ (ix4 0 0 d e) (ix4 0 0 d e) rfl (fun a => by match a with | ⟨0, _⟩ => rfl | ⟨1, _⟩ => rfl | ⟨2, _⟩ => exact (Nat.zero_add _).symm | ⟨3, _⟩ => exact (Nat.zero_add _).symm)).trans ?_
  have he := congrArg (k0_pay4 (F := Ideal)) (v243_eq c arg3 harg3 arg4 harg4 arg5 harg5 arg7 harg7 arg11 x1 x2 x3 x5)
  exact congrFun he (ix4 0 0 d e)

theorem out8_1 (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 1 d e)
    = k0_pay5 (F := Ideal) (k0_pay29 (F := Ideal) v11 (k0_pay18 (F := Ideal) x2) (k0_pay21 (F := Ideal) (k0_pay17 (F := Ideal) x2 x1)) (k0_pay22 (F := Ideal) (k0_pay9 (F := Ideal) (headOf x5 0) (headOf x5 1))) (k0_pay26 (F := Ideal) (k0_pay21 (F := Ideal) (k0_pay17 (F := Ideal) x2 x1)) (k0_pay24 (F := Ideal) (cols x3 0 (by norm_num)))) (k0_pay27 (F := Ideal) (cols x3 128 (by norm_num)))) (ix4 0 0 d e) := by
  unfold out0_A_8
  unfold kernelRun0_A
  dsimp only
  refine (View.read_writes_cons_unit_of_not_mem (s := S1x4x64x128) VO0_8 _ _ _ _ (ix4 0 1 d e) rfl 1 (Or.inl (by show 1 < 3; omega))).trans ?_
  refine (View.read_writes_cons_unit_of_not_mem (s := S1x4x64x128) VO0_8 _ _ _ _ (ix4 0 1 d e) rfl 1 (Or.inl (by show 1 < 2; omega))).trans ?_
  refine (View.read_writes_cons_unit_of_mem (s := S1x4x64x128) VO0_8 _ _ _ _ (ix4 0 1 d e) (ix4 0 0 d e) rfl (fun a => by match a with | ⟨0, _⟩ => rfl | ⟨1, _⟩ => rfl | ⟨2, _⟩ => exact (Nat.zero_add _).symm | ⟨3, _⟩ => exact (Nat.zero_add _).symm)).trans ?_
  have he := congrArg (k0_pay5 (F := Ideal)) (v243_eq c arg3 harg3 arg4 harg4 arg5 harg5 arg7 harg7 arg11 x1 x2 x3 x5)
  exact congrFun he (ix4 0 0 d e)

theorem out8_2 (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 2 d e)
    = k0_pay7 (F := Ideal) (k0_pay2 (F := Ideal) v11 (k0_pay18 (F := Ideal) x2) (k0_pay32 (F := Ideal) (k0_pay17 (F := Ideal) x2 x1)) (k0_pay33 (F := Ideal) (k0_pay10 (F := Ideal) (headOf x5 2) (headOf x5 3))) (k0_pay40 (F := Ideal) (k0_pay32 (F := Ideal) (k0_pay17 (F := Ideal) x2 x1)) (k0_pay35 (F := Ideal) (cols x3 256 (by norm_num)))) (k0_pay41 (F := Ideal) (cols x3 384 (by norm_num)))) (ix4 0 0 d e) := by
  unfold out0_A_8
  unfold kernelRun0_A
  dsimp only
  refine (View.read_writes_cons_unit_of_not_mem (s := S1x4x64x128) VO0_8 _ _ _ _ (ix4 0 2 d e) rfl 1 (Or.inl (by show 2 < 3; omega))).trans ?_
  refine (View.read_writes_cons_unit_of_mem (s := S1x4x64x128) VO0_8 _ _ _ _ (ix4 0 2 d e) (ix4 0 0 d e) rfl (fun a => by match a with | ⟨0, _⟩ => rfl | ⟨1, _⟩ => rfl | ⟨2, _⟩ => exact (Nat.zero_add _).symm | ⟨3, _⟩ => exact (Nat.zero_add _).symm)).trans ?_
  have he := congrArg (k0_pay7 (F := Ideal)) (v254_eq c arg3 harg3 arg4 harg4 arg5 harg5 arg7 harg7 arg11 x1 x2 x3 x5)
  exact congrFun he (ix4 0 0 d e)

theorem out8_3 (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 3 d e)
    = k0_pay8 (F := Ideal) (k0_pay2 (F := Ideal) v11 (k0_pay18 (F := Ideal) x2) (k0_pay32 (F := Ideal) (k0_pay17 (F := Ideal) x2 x1)) (k0_pay33 (F := Ideal) (k0_pay10 (F := Ideal) (headOf x5 2) (headOf x5 3))) (k0_pay40 (F := Ideal) (k0_pay32 (F := Ideal) (k0_pay17 (F := Ideal) x2 x1)) (k0_pay35 (F := Ideal) (cols x3 256 (by norm_num)))) (k0_pay41 (F := Ideal) (cols x3 384 (by norm_num)))) (ix4 0 0 d e) := by
  unfold out0_A_8
  unfold kernelRun0_A
  dsimp only
  refine (View.read_writes_cons_unit_of_mem (s := S1x4x64x128) VO0_8 _ _ _ _ (ix4 0 3 d e) (ix4 0 0 d e) rfl (fun a => by match a with | ⟨0, _⟩ => rfl | ⟨1, _⟩ => rfl | ⟨2, _⟩ => exact (Nat.zero_add _).symm | ⟨3, _⟩ => exact (Nat.zero_add _).symm)).trans ?_
  have he := congrArg (k0_pay8 (F := Ideal)) (v254_eq c arg3 harg3 arg4 harg4 arg5 harg5 arg7 harg7 arg11 x1 x2 x3 x5)
  exact congrFun he (ix4 0 0 d e)

end Cert.Kernel5Ideal.Gla
-- ==== Proof.GlaPoint.lean ====
/- A point's blocks by heads: the outputs are the attention's, the state is stepped. -/
module

public import proofs.«01_k».proof.Proof.GlaOut

@[expose] public section

set_option maxRecDepth 16384

noncomputable section

namespace Cert.Kernel5Ideal.Gla

open Cert.Kernel5Ideal Cert.Kernel5Ideal.Gen Cert.GlaSpec Idealize.ShloMosaic Idealize.ShloMosaic.TcCoe Idealize.SL.Sem Idealize.ShloMosaic.Pointwise

theorem kc0 (d : Fin 64) : lane0 (lo d) = kc 0 d := Fin.ext (by show d.val = 64 * 0 + d.val; omega)
theorem kc1 (d : Fin 64) : lane0 (hi d) = kc 1 d := Fin.ext (by show 64 + d.val = 64 * 1 + d.val; omega)
theorem kc2 (d : Fin 64) : lane1 (lo d) = kc 2 d := Fin.ext (by show 128 + d.val = 64 * 2 + d.val; omega)
theorem kc3 (d : Fin 64) : lane1 (hi d) = kc 3 d := Fin.ext (by show 128 + (64 + d.val) = 64 * 3 + d.val; omega)

variable (c : Dev nD) (i : grid0.Coords)
  (arg2 : Memref sig .tc .vmem S64x256 .f32) (harg2 : arg2.IsWhole)
  (arg3 : Memref sig .tc .vmem S64x256 .f32) (harg3 : arg3.IsWhole)
  (arg4 : Memref sig .tc .vmem S64x256 .f32) (harg4 : arg4.IsWhole)
  (arg5 : Memref sig .tc .vmem S64x512 .bf16) (harg5 : arg5.IsWhole)
  (arg6 : Memref sig .tc .vmem S64x512 .bf16) (harg6 : arg6.IsWhole)
  (arg7 : Memref sig .tc .vmem S1x4x64x128 .f32) (harg7 : arg7.IsWhole)
  (arg8 : Memref sig .tc .vmem S1x128 .f32) (harg8 : arg8.IsWhole)
  (arg9 : Memref sig .tc .vmem S64x512 .bf16) (harg9 : arg9.IsWhole)
  (arg10 : Memref sig .tc .vmem S1x4x64x128 .f32) (harg10 : arg10.IsWhole)
  (arg11 : Memref sig .tc .vmem S2x128x128 .f32) (harg11 : arg11.IsWhole)
  (hc0 : cond0_0 i) (hc1 : cond0_1 i)
  (x0 x1 x2 : Vec Ideal S64x256 .f32) (x3 x4 : Vec Ideal S64x512 .bf16) (x5 : Vec Ideal S1x4x64x128 .f32) (x6 : Vec Ideal S1x128 .f32)

variable (hk : ∀ t, t ≠ 0 → ∀ j, x1 (ix2 t j) = 0) (ha : ∀ t, t ≠ 0 → ∀ j, x2 (ix2 t j) = 0) (h0 : ∀ j, x2 (ix2 0 j) ≠ ⊤)

/-- A head's output in a block's first row. -/
def headOut (h : Fin 4) (e : Fin 128) : EReal :=
  nrm (fun e => att (fun d => x0 (ix2 0 (kc h d))) (fun d => x1 (ix2 0 (kc h d))) (fun d => x2 (ix2 0 (kc h d))) (x3 (ix2 0 (vc h e))) (fun d => x5 (ix4 0 h d e))) e (x6 (ix2 0 e)) (x4 (ix2 0 (vc h e)))

/-- A head's stepped state. -/
def headState (h : Fin 4) (d : Fin 64) (e : Fin 128) : EReal := step (x5 (ix4 0 h d e)) (x1 (ix2 0 (kc h d))) (x2 (ix2 0 (kc h d))) (x3 (ix2 0 (vc h e)))

theorem cols_at (x : Vec Ideal S64x512 .bf16) (h : Fin 4) (o : ℕ) (ho) (e : Fin 128) (hh : o = 128 * h.val) : cols x o ho (ix2 0 e) = x (ix2 0 (vc h e)) := by
  subst hh
  rfl

include ha h0

theorem dec17 (hk : ∀ t, t ≠ 0 → ∀ j, x1 (ix2 t j) = 0) (t : Fin 64) (ht : t ≠ 0) (j : Fin 256) : k0_pay17 (F := Ideal) x2 x1 (ix2 t j) = 0 := by
  rw [pay17_at x2 ha h0, hk t ht, zero_mul]

theorem pre_0 (e : Fin 128) : pre lo (fun x => k0_pay19 (F := Ideal) x2 x0 (ix2 0 x)) (fun x => k0_pay9 (F := Ideal) (headOf x5 0) (headOf x5 1) (ix3 0 e x)) (fun x => k0_pay16 (F := Ideal) x2 x1 (ix2 0 (lane0 x))) (cols x3 0 (by norm_num) (ix2 0 e))
    = att (fun d => x0 (ix2 0 (kc 0 d))) (fun d => x1 (ix2 0 (kc 0 d))) (fun d => x2 (ix2 0 (kc 0 d))) (x3 (ix2 0 (vc 0 e))) (fun d => x5 (ix4 0 0 d e)) := by
  unfold pre att score
  rw [cols_at x3 0 0 _ e rfl]
  refine congr (congrArg HAdd.hAdd (Finset.sum_congr rfl fun d _ => ?_)) (congrArg (· * x3 (ix2 0 (vc 0 e))) (Finset.sum_congr rfl fun d _ => ?_))
  · dsimp only
    rw [pay19_at x2 ha h0, pay9_low]
    change x0 (ix2 0 (lane0 (lo d))) * Ideal.exp (x2 (ix2 0 (lane0 (lo d)))) * _ = _
    rw [kc0]
    rfl
  · dsimp only
    rw [pay19_at x2 ha h0, pay16_at x2 ha h0]
    change x0 (ix2 0 (lane0 (lo d))) * Ideal.exp (x2 (ix2 0 (lane0 (lo d)))) * _ = _
    rw [kc0]

theorem head_0 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 (vc 0 e)) = headOut x0 x1 x2 x3 x4 x5 x6 0 e := by
  have hv : (⟨0 + e.val, by omega⟩ : Fin 512) = vc 0 e := rfl
  rw [← hv, out7_0, head0_at]
  unfold headOut
  rw [cols_at x4 0 0 _ e rfl]
  refine congrArg (fun f => nrm f e (x6 (ix2 0 e)) (x4 (ix2 0 (vc 0 e)))) (funext fun e => ?_)
  exact pre_0 x0 x1 x2 x3 x5 ha h0 e

theorem pre_1 (e : Fin 128) : pre hi (fun x => k0_pay19 (F := Ideal) x2 x0 (ix2 0 x)) (fun x => k0_pay9 (F := Ideal) (headOf x5 0) (headOf x5 1) (ix3 0 e x)) (fun x => k0_pay16 (F := Ideal) x2 x1 (ix2 0 (lane0 x))) (cols x3 128 (by norm_num) (ix2 0 e))
    = att (fun d => x0 (ix2 0 (kc 1 d))) (fun d => x1 (ix2 0 (kc 1 d))) (fun d => x2 (ix2 0 (kc 1 d))) (x3 (ix2 0 (vc 1 e))) (fun d => x5 (ix4 0 1 d e)) := by
  unfold pre att score
  rw [cols_at x3 1 128 _ e rfl]
  refine congr (congrArg HAdd.hAdd (Finset.sum_congr rfl fun d _ => ?_)) (congrArg (· * x3 (ix2 0 (vc 1 e))) (Finset.sum_congr rfl fun d _ => ?_))
  · dsimp only
    rw [pay19_at x2 ha h0, pay9_high]
    change x0 (ix2 0 (lane0 (hi d))) * Ideal.exp (x2 (ix2 0 (lane0 (hi d)))) * _ = _
    rw [kc1]
    rfl
  · dsimp only
    rw [pay19_at x2 ha h0, pay16_at x2 ha h0]
    change x0 (ix2 0 (lane0 (hi d))) * Ideal.exp (x2 (ix2 0 (lane0 (hi d)))) * _ = _
    rw [kc1]

theorem head_1 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 (vc 1 e)) = headOut x0 x1 x2 x3 x4 x5 x6 1 e := by
  have hv : (⟨128 + e.val, by omega⟩ : Fin 512) = vc 1 e := rfl
  rw [← hv, out7_1, head1_at]
  unfold headOut
  rw [cols_at x4 1 128 _ e rfl]
  refine congrArg (fun f => nrm f e (x6 (ix2 0 e)) (x4 (ix2 0 (vc 1 e)))) (funext fun e => ?_)
  exact pre_1 x0 x1 x2 x3 x5 ha h0 e

theorem pre_2 (e : Fin 128) : pre lo (fun x => k0_pay14 (F := Ideal) x2 x0 (ix2 0 (lane1 x))) (fun x => k0_pay10 (F := Ideal) (headOf x5 2) (headOf x5 3) (ix3 0 e x)) (fun x => k0_pay16 (F := Ideal) x2 x1 (ix2 0 (lane1 x))) (cols x3 256 (by norm_num) (ix2 0 e))
    = att (fun d => x0 (ix2 0 (kc 2 d))) (fun d => x1 (ix2 0 (kc 2 d))) (fun d => x2 (ix2 0 (kc 2 d))) (x3 (ix2 0 (vc 2 e))) (fun d => x5 (ix4 0 2 d e)) := by
  unfold pre att score
  rw [cols_at x3 2 256 _ e rfl]
  refine congr (congrArg HAdd.hAdd (Finset.sum_congr rfl fun d _ => ?_)) (congrArg (· * x3 (ix2 0 (vc 2 e))) (Finset.sum_congr rfl fun d _ => ?_))
  · dsimp only
    rw [pay14_at x2 ha h0, pay10_low]

    rw [kc2]
    rfl
  · dsimp only
    rw [pay14_at x2 ha h0, pay16_at x2 ha h0]

    rw [kc2]

theorem head_2 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 (vc 2 e)) = headOut x0 x1 x2 x3 x4 x5 x6 2 e := by
  have hv : (⟨256 + e.val, by omega⟩ : Fin 512) = vc 2 e := rfl
  rw [← hv, out7_2, head2_at]
  unfold headOut
  rw [cols_at x4 2 256 _ e rfl]
  refine congrArg (fun f => nrm f e (x6 (ix2 0 e)) (x4 (ix2 0 (vc 2 e)))) (funext fun e => ?_)
  exact pre_2 x0 x1 x2 x3 x5 ha h0 e

theorem pre_3 (e : Fin 128) : pre hi (fun x => k0_pay14 (F := Ideal) x2 x0 (ix2 0 (lane1 x))) (fun x => k0_pay10 (F := Ideal) (headOf x5 2) (headOf x5 3) (ix3 0 e x)) (fun x => k0_pay16 (F := Ideal) x2 x1 (ix2 0 (lane1 x))) (cols x3 384 (by norm_num) (ix2 0 e))
    = att (fun d => x0 (ix2 0 (kc 3 d))) (fun d => x1 (ix2 0 (kc 3 d))) (fun d => x2 (ix2 0 (kc 3 d))) (x3 (ix2 0 (vc 3 e))) (fun d => x5 (ix4 0 3 d e)) := by
  unfold pre att score
  rw [cols_at x3 3 384 _ e rfl]
  refine congr (congrArg HAdd.hAdd (Finset.sum_congr rfl fun d _ => ?_)) (congrArg (· * x3 (ix2 0 (vc 3 e))) (Finset.sum_congr rfl fun d _ => ?_))
  · dsimp only
    rw [pay14_at x2 ha h0, pay10_high]

    rw [kc3]
    rfl
  · dsimp only
    rw [pay14_at x2 ha h0, pay16_at x2 ha h0]

    rw [kc3]

theorem head_3 (e : Fin 128) : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 (vc 3 e)) = headOut x0 x1 x2 x3 x4 x5 x6 3 e := by
  have hv : (⟨384 + e.val, by omega⟩ : Fin 512) = vc 3 e := rfl
  rw [← hv, out7_3, head3_at]
  unfold headOut
  rw [cols_at x4 3 384 _ e rfl]
  refine congrArg (fun f => nrm f e (x6 (ix2 0 e)) (x4 (ix2 0 (vc 3 e)))) (funext fun e => ?_)
  exact pre_3 x0 x1 x2 x3 x5 ha h0 e

theorem state_0 (hk : ∀ t, t ≠ 0 → ∀ j, x1 (ix2 t j) = 0) (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 0 d e) = headState x1 x2 x3 x5 0 d e := by
  rw [out8_0, pay4_at, state0_at _ _ (dec17 x1 x2 ha h0 hk), pay9_low, kc0, pay18_at x2 ha h0, pay17_at x2 ha h0, if_pos (show (lo d).val < 64 from d.isLt), cols_at x3 0 0 _ e rfl]
  rfl

theorem state_1 (hk : ∀ t, t ≠ 0 → ∀ j, x1 (ix2 t j) = 0) (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 1 d e) = headState x1 x2 x3 x5 1 d e := by
  rw [out8_1, pay5_at, state0_at _ _ (dec17 x1 x2 ha h0 hk), pay9_high, kc1, pay18_at x2 ha h0, pay17_at x2 ha h0, if_neg (show ¬ (hi d).val < 64 by show ¬ 64 + d.val < 64; omega), cols_at x3 1 128 _ e rfl]
  rfl

theorem state_2 (hk : ∀ t, t ≠ 0 → ∀ j, x1 (ix2 t j) = 0) (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 2 d e) = headState x1 x2 x3 x5 2 d e := by
  rw [out8_2, pay7_at, state1_at _ _ (dec17 x1 x2 ha h0 hk), pay10_low, kc2, pay18_at x2 ha h0, pay17_at x2 ha h0, if_pos (show (lo d).val < 64 from d.isLt), cols_at x3 2 256 _ e rfl]
  rfl

theorem state_3 (hk : ∀ t, t ≠ 0 → ∀ j, x1 (ix2 t j) = 0) (d : Fin 64) (e : Fin 128) : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 3 d e) = headState x1 x2 x3 x5 3 d e := by
  rw [out8_3, pay8_at, state1_at _ _ (dec17 x1 x2 ha h0 hk), pay10_high, kc3, pay18_at x2 ha h0, pay17_at x2 ha h0, if_neg (show ¬ (hi d).val < 64 by show ¬ 64 + d.val < 64; omega), cols_at x3 3 384 _ e rfl]
  rfl

end Cert.Kernel5Ideal.Gla
-- ==== Proof.GlaHost.lean ====
/- What the step's host lines make of the arguments: each token stands in the first row of a block of 64, the other rows are zero. -/
module

public import proofs.«01_k».proof.Proof.GlaPoint
public import Idealize.ShloMosaic.Lib.StableHlo.Run
public import Idealize.ShloMosaic.Lib.KernelVsHost

@[expose] public section

set_option maxRecDepth 16384

noncomputable section

namespace Cert.Kernel5Ideal.Gla

open Cert.Kernel5Ideal Cert.Kernel5Ideal.Gen Cert.GlaSpec Idealize.ShloMosaic Idealize.ShloMosaic.TcCoe Idealize.SL.Sem Idealize.ShloMosaic.Pointwise

/-! ## Padding -/

/-- Tokens of 256 columns, each in the first row of its block. -/
def padK (x : FVec Ideal S128x256 .f32) : FVec Ideal S8192x256 .f32 :=
  shapeCast S8192x256 (pad S128x64x256 ![0, 0, 0] ![0, 63, 0] ![0, 0, 0] (shapeCast S128x1x256 x shapeCasts_S128x256_S128x1x256 : FVec Ideal S128x1x256 .f32) (sitofp (F := Ideal) .f32 (constantI S_ 32 0#32)) pads_S128x1x256_S128x64x256_000_0630_000 h_S_ : FVec Ideal S128x64x256 .f32) shapeCasts_S128x64x256_S8192x256

/-- Tokens of 512 columns, each in the first row of its block. -/
def padV (x : FVec Ideal S128x512 .bf16) : FVec Ideal S8192x512 .bf16 :=
  shapeCast S8192x512 (pad S128x64x512 ![0, 0, 0] ![0, 63, 0] ![0, 0, 0] (shapeCast S128x1x512 x shapeCasts_S128x512_S128x1x512 : FVec Ideal S128x1x512 .bf16) (sitofp (F := Ideal) .bf16 (constantI S_ 32 0#32)) pads_S128x1x512_S128x64x512_000_0630_000 h_S_ : FVec Ideal S128x64x512 .bf16) shapeCasts_S128x64x512_S8192x512

theorem padK_at (x : FVec Ideal S128x256 .f32) (b : Fin 128) (t : Fin 64) (j : Fin 256) : padK x (ix2 ⟨64 * b.val + t.val, by omega⟩ j) = if t = 0 then x (ix2 b j) else 0 := by
  unfold padK
  pointwise
  rw [show (FloatOps.sitofp FTy.f32 0#32 : Ideal .f32) = 0 from sitofp_zero]
  have e : t.val < 1 ↔ t = 0 := by rw [Fin.ext_iff]; show t.val < 1 ↔ t.val = 0; omega
  by_cases h : t = 0
  · rw [dif_pos (e.mpr h), if_pos h]
  · rw [dif_neg (fun k => h (e.mp k)), if_neg h]

theorem padV_at (x : FVec Ideal S128x512 .bf16) (b : Fin 128) (t : Fin 64) (j : Fin 512) : padV x (ix2 ⟨64 * b.val + t.val, by omega⟩ j) = if t = 0 then x (ix2 b j) else 0 := by
  unfold padV
  pointwise
  rw [show (FloatOps.sitofp FTy.bf16 0#32 : Ideal .bf16) = 0 from sitofp_zero]
  have e : t.val < 1 ↔ t = 0 := by rw [Fin.ext_iff]; show t.val < 1 ↔ t.val = 0; omega
  by_cases h : t = 0
  · rw [dif_pos (e.mpr h), if_pos h]
  · rw [dif_neg (fun k => h (e.mp k)), if_neg h]

variable (m : (ℓ : Loc nD τ sig) → Buf (Elt Ideal) ℓ) (c : Dev nD)

/-! ## The arrays the region reads -/

theorem V_v2 : V m c main_v2 = padK (m ((c : Thread nD τ).loc main_arg0)) := by
  show StableHlo.after (List.flatten _) _ (Proc.devRef .tc main_v2) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

theorem V_v5 : V m c main_v5 = padK (m ((c : Thread nD τ).loc main_arg1)) := by
  show StableHlo.after (List.flatten _) _ (Proc.devRef .tc main_v5) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

theorem V_v8 : V m c main_v8 = padK (m ((c : Thread nD τ).loc main_arg2)) := by
  show StableHlo.after (List.flatten _) _ (Proc.devRef .tc main_v8) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

theorem V_v11 : V m c main_v11 = padV (m ((c : Thread nD τ).loc main_arg3)) := by
  show StableHlo.after (List.flatten _) _ (Proc.devRef .tc main_v11) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

theorem V_v14 : V m c main_v14 = padV (m ((c : Thread nD τ).loc main_arg4)) := by
  show StableHlo.after (List.flatten _) _ (Proc.devRef .tc main_v14) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

theorem V_v15 : V m c main_v15 = shapeCast S128x4x64x128 (m ((c : Thread nD τ).loc main_arg5) : FVec Ideal S1x128x4x64x128 .f32) shapeCasts_S1x128x4x64x128_S128x4x64x128 := by
  show StableHlo.after (List.flatten _) _ (Proc.devRef .tc main_v15) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

theorem V_v17 : V m c main_v17 = shapeCast S1x128 (shapeCast S128 (m ((c : Thread nD τ).loc main_arg6) : FVec Ideal S1x128 .f32) shapeCasts_S1x128_S128 : FVec Ideal S128 .f32) shapeCasts_S128_S1x128 := by
  show StableHlo.after (List.flatten _) _ (Proc.devRef .tc main_v17) = _
  simp only [List.flatten_cons, List.flatten_nil, List.cons_append, List.nil_append, List.append_nil, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp
  rfl

end Cert.Kernel5Ideal.Gla
-- ==== Proof.GlaArray.lean ====
/- The step's arrays, one entry at a time: the windows' blocks are rows of the arguments, and every token's row and state are the attention's. -/
module

public import proofs.«01_k».proof.Proof.GlaHost

@[expose] public section

set_option maxRecDepth 16384

noncomputable section

namespace Cert.Kernel5Ideal.Gla

open Cert.Kernel5Ideal Cert.Kernel5Ideal.Gen Cert.GlaSpec Idealize.ShloMosaic Idealize.ShloMosaic.TcCoe Idealize.SL.Sem Idealize.ShloMosaic.Pointwise

variable (m : (ℓ : Loc nD τ sig) → Buf (Elt Ideal) ℓ) (c : Dev nD)

/-- The arguments, by coordinates. -/
def inp : In where
  q b j := m ((c : Thread nD τ).loc main_arg0) (ix2 b j)
  k b j := m ((c : Thread nD τ).loc main_arg1) (ix2 b j)
  a b j := m ((c : Thread nD τ).loc main_arg2) (ix2 b j)
  v b j := m ((c : Thread nD τ).loc main_arg3) (ix2 b j)
  r b j := m ((c : Thread nD τ).loc main_arg4) (ix2 b j)
  s b h d e := m ((c : Thread nD τ).loc main_arg5) (ix5 0 b h d e)
  g e := m ((c : Thread nD τ).loc main_arg6) (ix2 0 e)

/-! ## The windows -/

/-- A point's token. -/
def tok (t : Fin cfg0.N) : Fin 128 := ⟨t.val, t.isLt⟩

theorem idx0 : ∀ t : Fin grid0.N, cc0_transform_0 (grid0.coords t) 0 = t.val := by decide +kernel
theorem idx1 : ∀ t : Fin grid0.N, cc0_transform_1 (grid0.coords t) 0 = t.val := by decide +kernel
theorem idx2 : ∀ t : Fin grid0.N, cc0_transform_2 (grid0.coords t) 0 = t.val := by decide +kernel
theorem idx3 : ∀ t : Fin grid0.N, cc0_transform_3 (grid0.coords t) 0 = t.val := by decide +kernel
theorem idx4 : ∀ t : Fin grid0.N, cc0_transform_4 (grid0.coords t) 0 = t.val := by decide +kernel
theorem idx5 : ∀ t : Fin grid0.N, cc0_transform_5 (grid0.coords t) 0 = t.val := by decide +kernel
theorem idx7 : ∀ t : Fin grid0.N, cc0_transform_7 (grid0.coords t) 0 = t.val := by decide +kernel
theorem idx8 : ∀ t : Fin grid0.N, cc0_transform_8 (grid0.coords t) 0 = t.val := by decide +kernel

theorem q_block (t : Fin cfg0.N) (y : Fin 64) (j : Fin 256) : iblk m c 0 t (ix2 y j) = if y = 0 then (inp m c).q (tok t) j else 0 := by
  show V m c main_v2 ((win0_0.rect t).emb (ix2 y j)) = _
  have ht : t.val < 128 := t.isLt
  have e : (win0_0.rect t).emb (ix2 y j) = ix2 (⟨64 * (tok t).val + y.val, by have := (tok t).isLt; omega⟩ : Fin 8192) j := by
    funext a
    match a with
    | ⟨0, _⟩ =>
      refine Fin.ext ((win0_0.rect_emb_val t (ix2 y j) 0).trans ?_)
      show cc0_transform_0 (grid0.coords t) 0 * 64 + y.val = 64 * t.val + y.val
      rw [idx0]; ring
    | ⟨1, _⟩ => exact Fin.ext (win0_0.rect_emb_val_of_index_zero t 1 rfl (ix2 y j))
  rw [V_v2, e]
  exact padK_at _ _ _ _

theorem k_block (t : Fin cfg0.N) (y : Fin 64) (j : Fin 256) : iblk m c 1 t (ix2 y j) = if y = 0 then (inp m c).k (tok t) j else 0 := by
  show V m c main_v5 ((win0_1.rect t).emb (ix2 y j)) = _
  have ht : t.val < 128 := t.isLt
  have e : (win0_1.rect t).emb (ix2 y j) = ix2 (⟨64 * (tok t).val + y.val, by have := (tok t).isLt; omega⟩ : Fin 8192) j := by
    funext a
    match a with
    | ⟨0, _⟩ =>
      refine Fin.ext ((win0_1.rect_emb_val t (ix2 y j) 0).trans ?_)
      show cc0_transform_1 (grid0.coords t) 0 * 64 + y.val = 64 * t.val + y.val
      rw [idx1]; ring
    | ⟨1, _⟩ => exact Fin.ext (win0_1.rect_emb_val_of_index_zero t 1 rfl (ix2 y j))
  rw [V_v5, e]
  exact padK_at _ _ _ _

theorem a_block (t : Fin cfg0.N) (y : Fin 64) (j : Fin 256) : iblk m c 2 t (ix2 y j) = if y = 0 then (inp m c).a (tok t) j else 0 := by
  show V m c main_v8 ((win0_2.rect t).emb (ix2 y j)) = _
  have ht : t.val < 128 := t.isLt
  have e : (win0_2.rect t).emb (ix2 y j) = ix2 (⟨64 * (tok t).val + y.val, by have := (tok t).isLt; omega⟩ : Fin 8192) j := by
    funext a
    match a with
    | ⟨0, _⟩ =>
      refine Fin.ext ((win0_2.rect_emb_val t (ix2 y j) 0).trans ?_)
      show cc0_transform_2 (grid0.coords t) 0 * 64 + y.val = 64 * t.val + y.val
      rw [idx2]; ring
    | ⟨1, _⟩ => exact Fin.ext (win0_2.rect_emb_val_of_index_zero t 1 rfl (ix2 y j))
  rw [V_v8, e]
  exact padK_at _ _ _ _

theorem v_block (t : Fin cfg0.N) (y : Fin 64) (j : Fin 512) : iblk m c 3 t (ix2 y j) = if y = 0 then (inp m c).v (tok t) j else 0 := by
  show V m c main_v11 ((win0_3.rect t).emb (ix2 y j)) = _
  have ht : t.val < 128 := t.isLt
  have e : (win0_3.rect t).emb (ix2 y j) = ix2 (⟨64 * (tok t).val + y.val, by have := (tok t).isLt; omega⟩ : Fin 8192) j := by
    funext a
    match a with
    | ⟨0, _⟩ =>
      refine Fin.ext ((win0_3.rect_emb_val t (ix2 y j) 0).trans ?_)
      show cc0_transform_3 (grid0.coords t) 0 * 64 + y.val = 64 * t.val + y.val
      rw [idx3]; ring
    | ⟨1, _⟩ => exact Fin.ext (win0_3.rect_emb_val_of_index_zero t 1 rfl (ix2 y j))
  rw [V_v11, e]
  exact padV_at _ _ _ _

theorem r_block (t : Fin cfg0.N) (y : Fin 64) (j : Fin 512) : iblk m c 4 t (ix2 y j) = if y = 0 then (inp m c).r (tok t) j else 0 := by
  show V m c main_v14 ((win0_4.rect t).emb (ix2 y j)) = _
  have ht : t.val < 128 := t.isLt
  have e : (win0_4.rect t).emb (ix2 y j) = ix2 (⟨64 * (tok t).val + y.val, by have := (tok t).isLt; omega⟩ : Fin 8192) j := by
    funext a
    match a with
    | ⟨0, _⟩ =>
      refine Fin.ext ((win0_4.rect_emb_val t (ix2 y j) 0).trans ?_)
      show cc0_transform_4 (grid0.coords t) 0 * 64 + y.val = 64 * t.val + y.val
      rw [idx4]; ring
    | ⟨1, _⟩ => exact Fin.ext (win0_4.rect_emb_val_of_index_zero t 1 rfl (ix2 y j))
  rw [V_v14, e]
  exact padV_at _ _ _ _

theorem states_at (x : FVec Ideal S1x128x4x64x128 .f32) (b : Fin 128) (h : Fin 4) (d : Fin 64) (e : Fin 128) : (shapeCast S128x4x64x128 x shapeCasts_S1x128x4x64x128_S128x4x64x128 : FVec Ideal S128x4x64x128 .f32) (ix4 b h d e) = x (ix5 0 b h d e) := by
  pointwise

theorem s_block (t : Fin cfg0.N) (h : Fin 4) (d : Fin 64) (e : Fin 128) : iblk m c 5 t (ix4 0 h d e) = (inp m c).s (tok t) h d e := by
  show V m c main_v15 ((win0_5.rect t).emb (ix4 0 h d e)) = _
  have ht : t.val < 128 := t.isLt
  have e' : (win0_5.rect t).emb (ix4 0 h d e) = ix4 (tok t) h d e := by
    funext a
    match a with
    | ⟨0, _⟩ =>
      refine Fin.ext ((win0_5.rect_emb_val t (ix4 0 h d e) 0).trans ?_)
      show cc0_transform_5 (grid0.coords t) 0 * 1 + 0 = t.val
      rw [idx5]; ring
    | ⟨1, _⟩ => exact Fin.ext (win0_5.rect_emb_val_of_index_zero t 1 rfl (ix4 0 h d e))
    | ⟨2, _⟩ => exact Fin.ext (win0_5.rect_emb_val_of_index_zero t 2 rfl (ix4 0 h d e))
    | ⟨3, _⟩ => exact Fin.ext (win0_5.rect_emb_val_of_index_zero t 3 rfl (ix4 0 h d e))
  rw [V_v15, e']
  exact states_at _ _ h d e

theorem gain_at (x : FVec Ideal S1x128 .f32) (e : Fin 128) : (shapeCast S1x128 (shapeCast S128 x shapeCasts_S1x128_S128 : FVec Ideal S128 .f32) shapeCasts_S128_S1x128 : FVec Ideal S1x128 .f32) (ix2 0 e) = x (ix2 0 e) :=
  congrFun (shapeCast_shapeCast x _ _) _

theorem g_block (t : Fin cfg0.N) (e : Fin 128) : iblk m c 6 t (ix2 0 e) = (inp m c).g e := by
  show V m c main_v17 ((win0_6.rect t).emb (ix2 0 e)) = _
  have e' : (win0_6.rect t).emb (ix2 0 e) = ix2 0 e := by
    funext a
    match a with
    | ⟨0, _⟩ => exact Fin.ext (win0_6.rect_emb_val_of_index_zero t 0 rfl (ix2 0 e))
    | ⟨1, _⟩ => exact Fin.ext (win0_6.rect_emb_val_of_index_zero t 1 rfl (ix2 0 e))
  rw [V_v17, e']
  exact gain_at _ e

/-! ## A point's results -/

theorem q_row (t : Fin cfg0.N) (j : Fin 256) : iblk m c 0 t (ix2 0 j) = (inp m c).q (tok t) j := (q_block m c t 0 j).trans (if_pos rfl)
theorem k_row (t : Fin cfg0.N) (j : Fin 256) : iblk m c 1 t (ix2 0 j) = (inp m c).k (tok t) j := (k_block m c t 0 j).trans (if_pos rfl)
theorem a_row (t : Fin cfg0.N) (j : Fin 256) : iblk m c 2 t (ix2 0 j) = (inp m c).a (tok t) j := (a_block m c t 0 j).trans (if_pos rfl)
theorem v_row (t : Fin cfg0.N) (j : Fin 512) : iblk m c 3 t (ix2 0 j) = (inp m c).v (tok t) j := (v_block m c t 0 j).trans (if_pos rfl)
theorem r_row (t : Fin cfg0.N) (j : Fin 512) : iblk m c 4 t (ix2 0 j) = (inp m c).r (tok t) j := (r_block m c t 0 j).trans (if_pos rfl)

/-- What a point leaves, of a token's inputs. -/
theorem head_all (i : grid0.Coords)
  (arg2 : Memref sig .tc .vmem S64x256 .f32) (harg2 : arg2.IsWhole)
  (arg3 : Memref sig .tc .vmem S64x256 .f32) (harg3 : arg3.IsWhole)
  (arg4 : Memref sig .tc .vmem S64x256 .f32) (harg4 : arg4.IsWhole)
  (arg5 : Memref sig .tc .vmem S64x512 .bf16) (harg5 : arg5.IsWhole)
  (arg6 : Memref sig .tc .vmem S64x512 .bf16) (harg6 : arg6.IsWhole)
  (arg7 : Memref sig .tc .vmem S1x4x64x128 .f32) (harg7 : arg7.IsWhole)
  (arg8 : Memref sig .tc .vmem S1x128 .f32) (harg8 : arg8.IsWhole)
  (arg9 : Memref sig .tc .vmem S64x512 .bf16) (harg9 : arg9.IsWhole)
  (arg10 : Memref sig .tc .vmem S1x4x64x128 .f32) (harg10 : arg10.IsWhole)
  (arg11 : Memref sig .tc .vmem S2x128x128 .f32) (harg11 : arg11.IsWhole)
  (hc0 : cond0_0 i) (hc1 : cond0_1 i)
  (x0 x1 x2 : Vec Ideal S64x256 .f32) (x3 x4 : Vec Ideal S64x512 .bf16) (x5 : Vec Ideal S1x4x64x128 .f32) (x6 : Vec Ideal S1x128 .f32)
  (I : In) (b : Fin 128) (hq : ∀ j, x0 (ix2 0 j) = I.q b j) (hk : ∀ j, x1 (ix2 0 j) = I.k b j) (ha : ∀ y j, x2 (ix2 y j) = if y = 0 then I.a b j else 0) (hv : ∀ j, x3 (ix2 0 j) = I.v b j)
  (hr : ∀ j, x4 (ix2 0 j) = I.r b j) (hs : ∀ h d e, x5 (ix4 0 h d e) = I.s b h d e) (hg : ∀ e, x6 (ix2 0 e) = I.g e) (hd : ∀ j, I.a b j ≠ ⊤) (h : Fin 4) (e : Fin 128) :
    out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 (vc h e)) = I.out b h e := by
  have ha0 : ∀ j, x2 (ix2 0 j) = I.a b j := fun j => (ha 0 j).trans (if_pos rfl)
  have ha1 : ∀ y, y ≠ 0 → ∀ j, x2 (ix2 y j) = 0 := fun y hy j => (ha y j).trans (if_neg hy)
  have h0 : ∀ j, x2 (ix2 0 j) ≠ ⊤ := fun j => by rw [ha0]; exact hd j
  have e0 : out0_A_7 (F := Ideal) c i arg2 harg2 arg3 harg3 arg4 harg4 arg5 harg5 arg6 harg6 arg7 harg7 arg8 harg8 arg9 harg9 arg10 harg10 arg11 harg11 hc0 hc1 x0 x1 x2 x3 x4 x5 x6 (ix2 0 (vc h e)) = headOut x0 x1 x2 x3 x4 x5 x6 h e := by
    match h with
    | ⟨0, _⟩ => exact head_0 c i arg2 harg2 arg3 harg3 arg4 harg4 arg5 harg5 arg6 harg6 arg7 harg7 arg8 harg8 arg9 harg9 arg10 harg10 arg11 harg11 hc0 hc1 x0 x1 x2 x3 x4 x5 x6 ha1 h0 e
    | ⟨1, _⟩ => exact head_1 c i arg2 harg2 arg3 harg3 arg4 harg4 arg5 harg5 arg6 harg6 arg7 harg7 arg8 harg8 arg9 harg9 arg10 harg10 arg11 harg11 hc0 hc1 x0 x1 x2 x3 x4 x5 x6 ha1 h0 e
    | ⟨2, _⟩ => exact head_2 c i arg2 harg2 arg3 harg3 arg4 harg4 arg5 harg5 arg6 harg6 arg7 harg7 arg8 harg8 arg9 harg9 arg10 harg10 arg11 harg11 hc0 hc1 x0 x1 x2 x3 x4 x5 x6 ha1 h0 e
    | ⟨3, _⟩ => exact head_3 c i arg2 harg2 arg3 harg3 arg4 harg4 arg5 harg5 arg6 harg6 arg7 harg7 arg8 harg8 arg9 harg9 arg10 harg10 arg11 harg11 hc0 hc1 x0 x1 x2 x3 x4 x5 x6 ha1 h0 e
  rw [e0]
  unfold headOut In.out
  simp only [hq, hk, ha0, hv, hr, hs, hg]

theorem state_all (i : grid0.Coords)
  (arg2 : Memref sig .tc .vmem S64x256 .f32) (harg2 : arg2.IsWhole)
  (arg3 : Memref sig .tc .vmem S64x256 .f32) (harg3 : arg3.IsWhole)
  (arg4 : Memref sig .tc .vmem S64x256 .f32) (harg4 : arg4.IsWhole)
  (arg5 : Memref sig .tc .vmem S64x512 .bf16) (harg5 : arg5.IsWhole)
  (arg6 : Memref sig .tc .vmem S64x512 .bf16) (harg6 : arg6.IsWhole)
  (arg7 : Memref sig .tc .vmem S1x4x64x128 .f32) (harg7 : arg7.IsWhole)
  (arg8 : Memref sig .tc .vmem S1x128 .f32) (harg8 : arg8.IsWhole)
  (arg9 : Memref sig .tc .vmem S64x512 .bf16) (harg9 : arg9.IsWhole)
  (arg10 : Memref sig .tc .vmem S1x4x64x128 .f32) (harg10 : arg10.IsWhole)
  (arg11 : Memref sig .tc .vmem S2x128x128 .f32) (harg11 : arg11.IsWhole)
  (hc0 : cond0_0 i) (hc1 : cond0_1 i)
  (x0 x1 x2 : Vec Ideal S64x256 .f32) (x3 x4 : Vec Ideal S64x512 .bf16) (x5 : Vec Ideal S1x4x64x128 .f32) (x6 : Vec Ideal S1x128 .f32)
  (I : In) (b : Fin 128) (hk : ∀ y j, x1 (ix2 y j) = if y = 0 then I.k b j else 0) (ha : ∀ y j, x2 (ix2 y j) = if y = 0 then I.a b j else 0) (hv : ∀ j, x3 (ix2 0 j) = I.v b j)
  (hs : ∀ h d e, x5 (ix4 0 h d e) = I.s b h d e) (hd : ∀ j, I.a b j ≠ ⊤) (h : Fin 4) (d : Fin 64) (e : Fin 128) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 h d e) = I.state b h d e := by
  have ha0 : ∀ j, x2 (ix2 0 j) = I.a b j := fun j => (ha 0 j).trans (if_pos rfl)
  have ha1 : ∀ y, y ≠ 0 → ∀ j, x2 (ix2 y j) = 0 := fun y hy j => (ha y j).trans (if_neg hy)
  have hk0 : ∀ j, x1 (ix2 0 j) = I.k b j := fun j => (hk 0 j).trans (if_pos rfl)
  have hk1 : ∀ y, y ≠ 0 → ∀ j, x1 (ix2 y j) = 0 := fun y hy j => (hk y j).trans (if_neg hy)
  have h0 : ∀ j, x2 (ix2 0 j) ≠ ⊤ := fun j => by rw [ha0]; exact hd j
  have e0 : out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 (ix4 0 h d e) = headState x1 x2 x3 x5 h d e := by
    match h with
    | ⟨0, _⟩ => exact state_0 c i arg2 harg2 arg3 harg3 arg4 harg4 arg5 harg5 arg6 harg6 arg7 harg7 arg8 harg8 arg9 harg9 arg10 harg10 arg11 harg11 hc0 hc1 x0 x1 x2 x3 x4 x5 x6 ha1 h0 hk1 d e
    | ⟨1, _⟩ => exact state_1 c i arg2 harg2 arg3 harg3 arg4 harg4 arg5 harg5 arg6 harg6 arg7 harg7 arg8 harg8 arg9 harg9 arg10 harg10 arg11 harg11 hc0 hc1 x0 x1 x2 x3 x4 x5 x6 ha1 h0 hk1 d e
    | ⟨2, _⟩ => exact state_2 c i arg2 harg2 arg3 harg3 arg4 harg4 arg5 harg5 arg6 harg6 arg7 harg7 arg8 harg8 arg9 harg9 arg10 harg10 arg11 harg11 hc0 hc1 x0 x1 x2 x3 x4 x5 x6 ha1 h0 hk1 d e
    | ⟨3, _⟩ => exact state_3 c i arg2 harg2 arg3 harg3 arg4 harg4 arg5 harg5 arg6 harg6 arg7 harg7 arg8 harg8 arg9 harg9 arg10 harg10 arg11 harg11 hc0 hc1 x0 x1 x2 x3 x4 x5 x6 ha1 h0 hk1 d e
  rw [e0]
  unfold headState In.state
  simp only [hk0, ha0, hv, hs]

variable (hd : ∀ b j, (inp m c).a b j ≠ ⊤)
include hd

theorem out_at (t : Fin cfg0.N) (h : Fin 4) (e : Fin 128) : (outsAt0 m c t).1 (ix2 0 (vc h e)) = (inp m c).out (tok t) h e := by
  unfold outsAt0
  dsimp only
  apply head_all (I := inp m c) (b := tok t)
  · exact q_row m c t
  · exact k_row m c t
  · exact a_block m c t
  · exact v_row m c t
  · exact r_row m c t
  · exact s_block m c t
  · exact g_block m c t
  · exact hd _

theorem state_at (t : Fin cfg0.N) (h : Fin 4) (d : Fin 64) (e : Fin 128) : (outsAt0 m c t).2 (ix4 0 h d e) = (inp m c).state (tok t) h d e := by
  unfold outsAt0
  dsimp only
  apply state_all (I := inp m c) (b := tok t)
  · exact k_block m c t
  · exact a_block m c t
  · exact v_row m c t
  · exact s_block m c t
  · exact hd _

omit hd

/-! ## The arrays -/

/-- The point of a token. -/
def pt (b : Fin 128) : Fin cfg0.N := ⟨b.val, b.isLt⟩

/-- The region's outputs: 64 rows for each token. -/
def G7 : S8192x512.Idx → EReal := fun i =>
  (outsAt0 m c (pt ⟨(i 0).val / 64, by have := (i 0).isLt; change (i 0).val < 8192 at this; omega⟩)).1 (ix2 ⟨(i 0).val % 64, Nat.mod_lt _ (by norm_num)⟩ (i 1))

/-- The stepped states. -/
def G8 : S128x4x64x128.Idx → EReal := fun i => (inp m c).state (i 0) (i 1) (i 2) (i 3)

theorem emb7 (t : Fin cfg0.N) (y : S64x512.Idx) : (outsAt0 m c t).1 y = G7 m c ((win0_7.rect t).emb y) := by
  have e0 : ((win0_7.rect t).emb y 0).val = 64 * t.val + (y 0).val := by
    refine (win0_7.rect_emb_val t y 0).trans ?_
    show cc0_transform_7 (grid0.coords t) 0 * 64 + (y 0).val = 64 * t.val + (y 0).val
    rw [idx7]; ring
  have hy : (y 0).val < 64 := (y 0).isLt
  unfold G7
  have a0 : pt ⟨((win0_7.rect t).emb y 0).val / 64, by have := ((win0_7.rect t).emb y 0).isLt; change ((win0_7.rect t).emb y 0).val < 8192 at this; omega⟩ = t :=
    Fin.ext (by show ((win0_7.rect t).emb y 0).val / 64 = t.val; omega)
  rw [a0]
  refine congrArg _ (funext fun a => Fin.ext ?_)
  match a with
  | ⟨0, _⟩ => show (y 0).val = ((win0_7.rect t).emb y 0).val % 64; omega
  | ⟨1, _⟩ => exact (win0_7.rect_emb_val_of_index_zero t 1 rfl y).symm

theorem flushed7 (t : Fin cfg0.N) : (dats m 0 c).flushed 7 t = ((cfg0.win 7).blk t).view.read (Elt Ideal) (G7 m c) := by
  have e : (dats m 0 c).flushed 7 t = (cfg0.win 7).cut (grid0.coords t) (outsAt0 m c t).1 := by
    show (cfg0.win 7).cut (grid0.coords t) ((dats m 0 c).after 7 t) = _
    rw [after0_7]
  rw [e]
  exact funext fun y => emb7 m c t y

theorem final7 : (dats m 0 c).arrAt 7 cfg0.N = G7 m c :=
  (dats m 0 c).arrAt_eq_of_cover 7 (G7 m c) (fun t _ => flushed7 m c t) fun i => by
    have h0 : (i 0 : ℕ) < 8192 := (i 0).isLt
    have h1 : (i 1 : ℕ) < 512 := (i 1).isLt
    obtain ⟨t, e0⟩ : ∃ t : Fin grid0.N, cc0_transform_7 (grid0.coords t) 0 = (i 0 : ℕ) / 64 := ⟨pt ⟨(i 0 : ℕ) / 64, by omega⟩, idx7 _⟩
    refine ⟨t, flush0_7 t, ?_⟩
    show i ∈ ((View.whole main_v18_0).slice (win0_7.rect t)).set
    rw [View.set_slice_whole, Rect.mem_set_unit]
    intro a
    match a with
    | ⟨0, _⟩ =>
      show cc0_transform_7 (grid0.coords t) 0 * 64 ≤ (i 0 : ℕ) ∧ (i 0 : ℕ) < cc0_transform_7 (grid0.coords t) 0 * 64 + 64
      rw [e0]
      omega
    | ⟨1, _⟩ =>
      show 0 * 512 ≤ (i 1 : ℕ) ∧ (i 1 : ℕ) < 0 * 512 + 512
      omega

include hd

theorem emb8 (t : Fin cfg0.N) (y : S1x4x64x128.Idx) : (outsAt0 m c t).2 y = G8 m c ((win0_8.rect t).emb y) := by
  have hy : (y 0).val = 0 := by have := (y 0).isLt; change (y 0).val < 1 at this; omega
  have ey : y = ix4 (0 : Fin 1) (y 1) (y 2) (y 3) := (eq_ix4 y).trans (congrArg (fun z : Fin 1 => ix4 z (y 1) (y 2) (y 3)) (Subsingleton.elim (α := Fin 1) (y 0) 0))
  have e0 : (win0_8.rect t).emb y 0 = tok t := by
    refine Fin.ext ((win0_8.rect_emb_val t y 0).trans ?_)
    show cc0_transform_8 (grid0.coords t) 0 * 1 + (y 0).val = t.val
    rw [idx8, hy]
    omega
  have e1 : (win0_8.rect t).emb y 1 = y 1 := Fin.ext (win0_8.rect_emb_val_of_index_zero t 1 rfl y)
  have e2 : (win0_8.rect t).emb y 2 = y 2 := Fin.ext (win0_8.rect_emb_val_of_index_zero t 2 rfl y)
  have e3 : (win0_8.rect t).emb y 3 = y 3 := Fin.ext (win0_8.rect_emb_val_of_index_zero t 3 rfl y)
  unfold G8
  rw [e0, e1, e2, e3]
  exact (congrArg (outsAt0 m c t).2 ey).trans (state_at m c hd t (y 1) (y 2) (y 3))

theorem flushed8 (t : Fin cfg0.N) : (dats m 0 c).flushed 8 t = ((cfg0.win 8).blk t).view.read (Elt Ideal) (G8 m c) := by
  have e : (dats m 0 c).flushed 8 t = (cfg0.win 8).cut (grid0.coords t) (outsAt0 m c t).2 := by
    show (cfg0.win 8).cut (grid0.coords t) ((dats m 0 c).after 8 t) = _
    rw [after0_8]
  rw [e]
  exact funext fun y => emb8 m c hd t y

theorem final8 : (dats m 0 c).arrAt 8 cfg0.N = G8 m c :=
  (dats m 0 c).arrAt_eq_of_cover 8 (G8 m c) (fun t _ => flushed8 m c hd t) fun i => by
    have h0 : (i 0 : ℕ) < 128 := (i 0).isLt
    have h1 : (i 1 : ℕ) < 4 := (i 1).isLt
    have h2 : (i 2 : ℕ) < 64 := (i 2).isLt
    have h3 : (i 3 : ℕ) < 128 := (i 3).isLt
    obtain ⟨t, e0⟩ : ∃ t : Fin grid0.N, cc0_transform_8 (grid0.coords t) 0 = (i 0 : ℕ) := ⟨pt ⟨(i 0 : ℕ), h0⟩, idx8 _⟩
    refine ⟨t, flush0_8 t, ?_⟩
    show i ∈ ((View.whole main_v18_1).slice (win0_8.rect t)).set
    rw [View.set_slice_whole, Rect.mem_set_unit]
    intro a
    match a with
    | ⟨0, _⟩ =>
      show cc0_transform_8 (grid0.coords t) 0 * 1 ≤ (i 0 : ℕ) ∧ (i 0 : ℕ) < cc0_transform_8 (grid0.coords t) 0 * 1 + 1
      rw [e0]
      omega
    | ⟨1, _⟩ =>
      show 0 * 4 ≤ (i 1 : ℕ) ∧ (i 1 : ℕ) < 0 * 4 + 4
      omega
    | ⟨2, _⟩ =>
      show 0 * 64 ≤ (i 2 : ℕ) ∧ (i 2 : ℕ) < 0 * 64 + 64
      omega
    | ⟨3, _⟩ =>
      show 0 * 128 ≤ (i 3 : ℕ) ∧ (i 3 : ℕ) < 0 * 128 + 128
      omega

omit hd

/-! ## The results -/

/-- A token's lane belongs to one head. -/
def outOf (I : In) : S128x512.Idx → EReal := fun i =>
  I.out (i 0) ⟨(i 1).val / 128, by have := (i 1).isLt; change (i 1).val < 512 at this; omega⟩ ⟨(i 1).val % 128, Nat.mod_lt _ (by norm_num)⟩

/-- The new states, stacked. -/
def stateOf (I : In) : S1x128x4x64x128.Idx → EReal := fun i => I.state (i 1) (i 2) (i 3) (i 4)

/-- The arrays the lines after the region read. -/
theorem arrs_inj : Function.Injective (Pipeline.arrRef (spec0 : Fin 9 → Pipeline.WinSpec sig grid0.rank)) := by decide +kernel

theorem tail_v21 : Pipeline.afterTail₀ cfgs (dats m) 0 (V0 m) [hostOps1] c main_v21 =
    (shapeCast S128x512 (extractStridedSlice S128x1x512 ![0, 0, 0] (shapeCast S128x64x512 (G7 m c : FVec Ideal S8192x512 .bf16) shapeCasts_S8192x512_S128x64x512 : FVec Ideal S128x64x512 .bf16) slices_S128x64x512_S128x1x512_0_0_0 : FVec Ideal S128x1x512 .bf16) shapeCasts_S128x1x512_S128x512 : FVec Ideal S128x512 .bf16) := by
  have e : Pipeline.withArrays (cfgs 0).spec c (V0 m c) (fun w => (dats m 0 c).arrAt w (cfgs 0).N) (Proc.devRef .tc main_v18_0) = G7 m c :=
    (Pipeline.withArrays_arr spec0 arrs_inj c (V0 m c) (fun w => (dats m 0 c).arrAt w cfg0.N) 7).trans (final7 m c)
  show StableHlo.after hostOps1 _ (Proc.devRef .tc main_v21) = _
  rw [← e]
  generalize Pipeline.withArrays (cfgs 0).spec c (V0 m c) (fun w => (dats m 0 c).arrAt w (cfgs 0).N) = w
  after_results
  rfl

theorem tail_v22 (hd : ∀ b j, (inp m c).a b j ≠ ⊤) : Pipeline.afterTail₀ cfgs (dats m) 0 (V0 m) [hostOps1] c main_v22 =
    (broadcastInDim S1x128x4x64x128 ![1, 2, 3, 4] bcast_S128x4x64x128_S1x128x4x64x128_1_2_3_4 (G8 m c : FVec Ideal S128x4x64x128 .f32) : FVec Ideal S1x128x4x64x128 .f32) := by
  have e : Pipeline.withArrays (cfgs 0).spec c (V0 m c) (fun w => (dats m 0 c).arrAt w (cfgs 0).N) (Proc.devRef .tc main_v18_1) = G8 m c :=
    (Pipeline.withArrays_arr spec0 arrs_inj c (V0 m c) (fun w => (dats m 0 c).arrAt w cfg0.N) 8).trans (final8 m c hd)
  show StableHlo.after hostOps1 _ (Proc.devRef .tc main_v22) = _
  rw [← e]
  generalize Pipeline.withArrays (cfgs 0).spec c (V0 m c) (fun w => (dats m 0 c).arrAt w (cfgs 0).N) = w
  after_results

theorem res_out (hd : ∀ b j, (inp m c).a b j ≠ ⊤) : Pipeline.afterTail₀ cfgs (dats m) 0 (V0 m) [hostOps1] c main_v21 = outOf (inp m c) := by
  rw [tail_v21]
  refine funext fun (i : S128x512.Idx) => ?_
  have h1 : (i 1 : ℕ) < 512 := (i 1).isLt
  have hr : (i 0 : ℕ) < 128 := (i 0).isLt
  obtain ⟨b, j, rfl⟩ : ∃ (b : Fin 128) (j : Fin 512), i = ix2 b j := ⟨i 0, i 1, eq_ix2 i⟩
  have e : (shapeCast S128x512 (extractStridedSlice S128x1x512 ![0, 0, 0] (shapeCast S128x64x512 (G7 m c : FVec Ideal S8192x512 .bf16) shapeCasts_S8192x512_S128x64x512 : FVec Ideal S128x64x512 .bf16) slices_S128x64x512_S128x1x512_0_0_0 : FVec Ideal S128x1x512 .bf16) shapeCasts_S128x1x512_S128x512 : FVec Ideal S128x512 .bf16) (ix2 b j)
      = (G7 m c : FVec Ideal S8192x512 .bf16) (ix2 (⟨64 * b.val, by omega⟩ : Fin 8192) j) := by
    generalize (G7 m c : FVec Ideal S8192x512 .bf16) = g
    pointwise
    exact congrArg (fun r : Fin 8192 => g (ix2 r j)) (Fin.ext (Nat.mul_comm _ _))
  rw [e]
  refine Eq.trans ?_ (out_at m c hd (pt b) ⟨j.val / 128, by omega⟩ ⟨j.val % 128, Nat.mod_lt _ (by norm_num)⟩)
  unfold G7
  have a0 : pt ⟨(64 * b.val) / 64, by omega⟩ = pt b := congrArg pt (Fin.ext (by show 64 * b.val / 64 = b.val; omega))
  refine congr (congrArg (fun t => (outsAt0 m c t).1) a0) (congrArg₂ ix2 (Fin.ext ?_) (Fin.ext ?_))
  · show 64 * b.val % 64 = 0; omega
  · show j.val = 128 * (j.val / 128) + j.val % 128; omega

theorem res_state (hd : ∀ b j, (inp m c).a b j ≠ ⊤) : Pipeline.afterTail₀ cfgs (dats m) 0 (V0 m) [hostOps1] c main_v22 = stateOf (inp m c) := by
  rw [tail_v22 m c hd]
  refine funext fun (i : S1x128x4x64x128.Idx) => ?_
  obtain ⟨z, b, h, d, e, rfl⟩ : ∃ (z : Fin 1) (b : Fin 128) (h : Fin 4) (d : Fin 64) (e : Fin 128), i = ix5 z b h d e := ⟨i 0, i 1, i 2, i 3, i 4, eq_ix5 i⟩
  rfl

/-- Every run ends with the attention's outputs and states in the results and the arguments as they were. -/
theorem run_result (ρ : Dev nD → PrngReg) (hd : ∀ c b j, (inp m c).a b j ≠ ⊤) : θ_run defs (onTc (τ := τ) (main (F := Ideal))) ⟨m, fun _ => 0, ρ⟩ (fun r => ∀ c : Dev nD,
      r.2.mem ((c.tc : Thread nD τ).loc main_v21) = outOf (inp m c)
      ∧ r.2.mem ((c.tc : Thread nD τ).loc main_v22) = stateOf (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v21 (by decide : main_v21 ∈ Pipeline.restRefs sig spec0)).trans (res_out m c (hd c)),
      ((h c).2 main_v22 (by decide : main_v22 ∈ Pipeline.restRefs sig spec0)).trans (res_state m c (hd c)),
      ((h c).2 main_arg0 (by decide : main_arg0 ∈ Pipeline.restRefs sig spec0)).trans (W_main_arg0 m (dats m) c),
      ((h c).2 main_arg1 (by decide : main_arg1 ∈ Pipeline.restRefs sig spec0)).trans (W_main_arg1 m (dats m) c),
      ((h c).2 main_arg2 (by decide : main_arg2 ∈ Pipeline.restRefs sig spec0)).trans (W_main_arg2 m (dats m) c),
      ((h c).2 main_arg3 (by decide : main_arg3 ∈ Pipeline.restRefs sig spec0)).trans (W_main_arg3 m (dats m) c),
      ((h c).2 main_arg4 (by decide : main_arg4 ∈ Pipeline.restRefs sig spec0)).trans (W_main_arg4 m (dats m) c),
      ((h c).2 main_arg5 (by decide : main_arg5 ∈ Pipeline.restRefs sig spec0)).trans (W_main_arg5 m (dats m) c),
      ((h c).2 main_arg6 (by decide : main_arg6 ∈ Pipeline.restRefs sig spec0)).trans (W_main_arg6 m (dats m) c)⟩) (run_main m ρ)

end Cert.Kernel5Ideal.Gla
-- ==== Proof.GlaRef.lean ====
/- The reference's step, one entry at a time. -/
module

public import proofs.«01_k».proof.Proof.GlaSpec
public import proofs.«01_k».proof.Proof.Gen.Reference5Ideal.Run
public import Idealize.ShloMosaic.Lib.Pointwise

@[expose] public section

set_option maxRecDepth 16384

noncomputable section

namespace Cert.Reference5Ideal.Gla

open Cert.Reference5Ideal Cert.Reference5Ideal.Gen Cert.GlaSpec Idealize.ShloMosaic Idealize.ShloMosaic.TcCoe Idealize.SL.Sem Idealize.ShloMosaic.Pointwise

variable (A0 A1 A2 : FVec Ideal S128x256 .f32) (A3 A4 : FVec Ideal S128x512 .bf16) (A5 : FVec Ideal S1x128x4x64x128 .f32) (A6 : FVec Ideal S1x128 .f32)

/-- What the reference reads, by coordinates. -/
def rin : In where
  q b j := A0 (ix2 b j)
  k b j := A1 (ix2 b j)
  a b j := A2 (ix2 b j)
  v b j := A3 (ix2 b j)
  r b j := A4 (ix2 b j)
  s b h d e := A5 (ix5 0 b h d e)
  g e := A6 (ix2 0 e)

/-- A row by heads. -/
def hk (x : FVec Ideal S128x256 .f32) : FVec Ideal S128x4x1x64 .f32 := shapeCast S128x4x1x64 x shapeCasts_S128x256_S128x4x1x64
def hv (x : FVec Ideal S128x512 .bf16) : FVec Ideal S128x4x1x128 .f32 := shapeCast S128x4x1x128 (extf .f32 x bitsLt_bf16_f32 : FVec Ideal S128x512 .f32) shapeCasts_S128x512_S128x4x1x128
def hs (x : FVec Ideal S1x128x4x64x128 .f32) : FVec Ideal S128x4x64x128 .f32 := shapeCast S128x4x64x128 x shapeCasts_S1x128x4x64x128_S128x4x64x128

theorem hk_at (x : FVec Ideal S128x256 .f32) (b : Fin 128) (h : Fin 4) (d : Fin 64) : hk x (ix4 b h 0 d) = x (ix2 b (kc h d)) := by
  unfold hk
  pointwise
  exact congrArg (fun j => x (ix2 b j)) (Fin.ext (by show h.val * 64 + d.val = 64 * h.val + d.val; ring))

theorem hv_at (x : FVec Ideal S128x512 .bf16) (b : Fin 128) (h : Fin 4) (e : Fin 128) : hv x (ix4 b h 0 e) = x (ix2 b (vc h e)) := by
  unfold hv
  pointwise
  exact congrArg (fun j => x (ix2 b j)) (Fin.ext (by show h.val * 128 + e.val = 128 * h.val + e.val; ring))

theorem hs_at (x : FVec Ideal S1x128x4x64x128 .f32) (b : Fin 128) (h : Fin 4) (d : Fin 64) (e : Fin 128) : hs x (ix4 b h d e) = x (ix5 0 b h d e) := by
  unfold hs
  pointwise

/-- The decayed query, the scores and the heads' outputs. -/
def qT : FVec Ideal S128x4x1x64 .f32 := mulf (hk A0) (Host.exp (hk A2))
def scT : FVec Ideal S128x4x1x1 .f32 := Host.dotGeneral dot_S128x4x1x64_S128x4x1x64_S128x4x1x1_3_3_2_2_01_01 none (qT A0 A2) (mulf (hk A1) (Host.exp (Host.negf (hk A2))))
def oT : FVec Ideal S128x4x1x128 .f32 :=
  addf (Host.dotGeneral dot_S128x4x1x64_S128x4x64x128_S128x4x1x128_3_2_2_3_01_01 none (qT A0 A2) (hs A5))
    (Host.dotGeneral dot_S128x4x1x1_S128x4x1x128_S128x4x1x128_3_2_2_3_01_01 none (scT A0 A1 A2) (hv A3))

theorem qT_at (b : Fin 128) (h : Fin 4) (d : Fin 64) : qT A0 A2 (ix4 b h 0 d) = A0 (ix2 b (kc h d)) * Ideal.exp (A2 (ix2 b (kc h d))) := by
  rw [← hk_at A0, ← hk_at A2]
  rfl

theorem scT_at (b : Fin 128) (h : Fin 4) : scT A0 A1 A2 (ix4 b h 0 0) = score (fun d => A0 (ix2 b (kc h d))) (fun d => A1 (ix2 b (kc h d))) (fun d => A2 (ix2 b (kc h d))) := by
  unfold scT
  generalize hq : qT A0 A2 = Q
  pointwise
  subst hq
  unfold score
  refine Finset.sum_congr rfl fun d _ => ?_
  rw [qT_at, hk_at, hk_at]

theorem oT_at (b : Fin 128) (h : Fin 4) (e : Fin 128) : oT A0 A1 A2 A3 A5 (ix4 b h 0 e) =
    att (fun d => A0 (ix2 b (kc h d))) (fun d => A1 (ix2 b (kc h d))) (fun d => A2 (ix2 b (kc h d))) (A3 (ix2 b (vc h e))) (fun d => A5 (ix5 0 b h d e)) := by
  unfold oT
  generalize hq : qT A0 A2 = Q
  generalize hc : scT A0 A1 A2 = C
  generalize hvv : hv A3 = W
  generalize hss : hs A5 = S
  pointwise
  subst hq hc hvv hss
  unfold att
  rw [Fin.sum_univ_one, scT_at, hv_at]
  refine congrArg₂ (· + ·) (Finset.sum_congr rfl fun d _ => ?_) rfl
  rw [qT_at, hs_at]

/-- The normalisation and the result. -/
def nT (o : FVec Ideal S128x4x1x128 .f32) : FVec Ideal S128x4x1x1 .f32 :=
  Host.rsqrt (addf (Host.divf (broadcastInDim S128x4x1x1 ![0, 1, 2] bcast_S128x4x1_S128x4x1x1_0_1_2 (Host.reduceAdd (mulf o o) (constant S_ .f32 0#32) reducesTo_S128x4x1x128_S128x4x1_d3 h_S_ : FVec Ideal S128x4x1 .f32)) (broadcastInDim S128x4x1x1 ![] bcast_S_S128x4x1x1 (constant S_ .f32 1124073472#32))) (broadcastInDim S128x4x1x1 ![] bcast_S_S128x4x1x1 (constant S_ .f32 897988541#32)))

def yT (o : FVec Ideal S128x4x1x128 .f32) : FVec Ideal S128x4x1x128 .f32 :=
  mulf (mulf o (broadcastInDim S128x4x1x128 ![0, 1, 2, 3] bcast_S128x4x1x1_S128x4x1x128_0_1_2_3 (nT o)))
    (broadcastInDim S128x4x1x128 ![0, 1, 2, 3] bcast_S1x1x1x128_S128x4x1x128_0_1_2_3 (broadcastInDim S1x1x1x128 ![3] bcast_S128_S1x1x1x128_3 (shapeCast S128 A6 shapeCasts_S1x128_S128)))

def outT : FVec Ideal S128x512 .bf16 :=
  truncf .bf16 (mulf (shapeCast S128x512 (yT A6 (oT A0 A1 A2 A3 A5)) shapeCasts_S128x4x1x128_S128x512) (extf .f32 A4 bitsLt_bf16_f32)) bitsLt_bf16_f32

def stateT : FVec Ideal S1x128x4x64x128 .f32 :=
  broadcastInDim S1x128x4x64x128 ![1, 2, 3, 4] bcast_S128x4x64x128_S1x128x4x64x128_1_2_3_4
    (addf (mulf (broadcastInDim S128x4x64x128 ![0, 1, 2, 3] bcast_S128x4x64x1_S128x4x64x128_0_1_2_3 (broadcastInDim S128x4x64x1 ![0, 1, 2] bcast_S128x4x64_S128x4x64x1_0_1_2 (shapeCast S128x4x64 (Host.exp (hk A2)) shapeCasts_S128x4x1x64_S128x4x64 : FVec Ideal S128x4x64 .f32))) (hs A5))
      (Host.dotGeneral dot_S128x4x1x64_S128x4x1x128_S128x4x64x128_2_2_3_3_01_01 none (mulf (hk A1) (Host.exp (subf (hk A2) (hk A2)))) (hv A3)))

theorem nT_at (o : FVec Ideal S128x4x1x128 .f32) (b : Fin 128) (h : Fin 4) :
    nT o (ix4 b h 0 0) = Ideal.rsqrt (Ideal.div (∑ j : Fin 128, o (ix4 b h 0 j) * o (ix4 b h 0 j)) (Ideal.ofBits .f32 0x43000000#32) + Ideal.ofBits .f32 0x358637BD#32) := by
  unfold nT
  pointwise

theorem yT_at (o : FVec Ideal S128x4x1x128 .f32) (b : Fin 128) (h : Fin 4) (e : Fin 128) :
    yT A6 o (ix4 b h 0 e) = o (ix4 b h 0 e) * nT o (ix4 b h 0 0) * A6 (ix2 0 e) := by
  unfold yT
  generalize nT o = n
  pointwise

theorem outT_at (b : Fin 128) (j : Fin 512) :
    outT A0 A1 A2 A3 A4 A5 A6 (ix2 b j) = (rin A0 A1 A2 A3 A4 A5 A6).out b ⟨j.val / 128, by omega⟩ ⟨j.val % 128, Nat.mod_lt _ (by norm_num)⟩ := by
  unfold outT
  generalize hy : yT A6 (oT A0 A1 A2 A3 A5) = Y
  pointwise
  subst hy
  have hj : vc ⟨j.val / 128, by omega⟩ ⟨j.val % 128, Nat.mod_lt _ (by norm_num)⟩ = j := Fin.ext (Nat.div_add_mod _ _)
  rw [yT_at, nT_at]
  simp only [oT_at]
  unfold rin In.out nrm
  dsimp only
  rw [hj]

theorem stateT_at (z : Fin 1) (b : Fin 128) (h : Fin 4) (d : Fin 64) (e : Fin 128) :
    stateT A1 A2 A3 A5 (ix5 z b h d e) = (rin A0 A1 A2 A3 A4 A5 A6).state b h d e := by
  unfold stateT
  generalize hkk : hk A1 = K
  generalize haa : hk A2 = A
  generalize hvv : hv A3 = W
  generalize hss : hs A5 = S
  pointwise
  subst hkk haa hvv hss
  rw [Fin.sum_univ_one, hk_at, hk_at, hv_at, hs_at, mul_comm (Ideal.exp _), mul_comm _ (A3 _)]
  rfl

/-- The reference's run, its results named. -/
theorem run_named (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v44) = outT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v45) = stateT (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Cert.Reference5Ideal.Value.run m ρ

end Cert.Reference5Ideal.Gla
-- ==== Proof.GlaClaim.lean ====
/- The claims about the sample's gated linear attention: the precondition on the decays, the runs, and the equation with the reference. -/
module

public import proofs.«01_k».proof.Proof.GlaArray
public import proofs.«01_k».proof.Proof.GlaRef
public import proofs.«01_k».proof.Proof.Gen.Kernel5.Frame
public import proofs.«01_k».proof.Proof.Gen.Pre_decay_not_positive
public import proofs.«01_k».proof.Defs
public import Idealize.ShloMosaic.Lib.ReduceAll
public import Idealize.ShloMosaic.Lib.Pointwise

@[expose] public section

set_option maxRecDepth 16384

noncomputable section

namespace Cert.GlaClaim

open Idealize.ShloMosaic Idealize.ShloMosaic.TcCoe Idealize.SL.Sem Idealize.ShloMosaic.Pointwise Cert.GlaSpec Cert.Kernel5Ideal.Gla Cert.Reference5Ideal.Gla

instance : Subsingleton Cert.Pre_decay_not_positive.S_.Idx := ⟨fun a b => funext fun x => x.elim0⟩

/-- The predicate holds of the decays' logarithms: none is positive, so none is `⊤`. -/
theorem decay_ne_top (a0 a1 a2 a3 a4 a5 a6)
    (h : Cert.Pre_decay_not_positive.fn (F := Ideal) a0 a1 a2 a3 a4 a5 a6 = fun _ => 1#1) (i : Cert.Pre_decay_not_positive.S128x256.Idx) : (a2 i : EReal) ≠ ⊤ := by
  have e := Host.reduce_andi_all _ _ _ _ (Shape.Idx.first Cert.Pre_decay_not_positive.Facts.h_S_) (congrFun h (Shape.Idx.first Cert.Pre_decay_not_positive.Facts.h_S_)) i
  have e' : Ideal.cmp .ole (a2 i) (Ideal.ofBits .f32 0#32) = 1#1 := e
  have e'' : (a2 i : EReal) ≤ Ideal.ofBits .f32 0#32 := (Ideal.cmp_ole_eq_one _ _).mp e'
  rw [show Ideal.ofBits .f32 0#32 = 0 from by pointwise] at e''
  exact ne_top_of_le_ne_top EReal.zero_ne_top e''

theorem decays (m) (h : Cert.Pre_Kernel5Ideal_decay_not_positive m) (c : Dev Cert.Kernel5Ideal.nD) (b : Fin 128) (j : Fin 256) : (inp m c).a b j ≠ ⊤ := by
  obtain rfl : c = 0 := Subsingleton.elim (α := Fin 1) _ _
  exact decay_ne_top _ _ _ _ _ _ _ (h 0) (ix2 b j)

/-- Arrays that agree give the same inputs. -/
theorem out_agree (A0 A1 A2 A3 A4 A5 A6) : outT A0 A1 A2 A3 A4 A5 A6 = outOf (rin A0 A1 A2 A3 A4 A5 A6) := by
  refine funext fun (i : Cert.Kernel5Ideal.S128x512.Idx) => ?_
  obtain ⟨b, j, rfl⟩ : ∃ (b : Fin 128) (j : Fin 512), i = ix2 b j := ⟨i 0, i 1, eq_ix2 i⟩
  exact outT_at A0 A1 A2 A3 A4 A5 A6 b j

theorem state_agree (A0 A1 A2 A3 A4 A5 A6) : stateT A1 A2 A3 A5 = stateOf (rin A0 A1 A2 A3 A4 A5 A6) := by
  refine funext fun (i : Cert.Kernel5Ideal.S1x128x4x64x128.Idx) => ?_
  obtain ⟨z, b, h, d, e, rfl⟩ : ∃ (z : Fin 1) (b : Fin 128) (h : Fin 4) (d : Fin 64) (e : Fin 128), i = ix5 z b h d e := ⟨i 0, i 1, i 2, i 3, i 4, eq_ix5 i⟩
  exact stateT_at A0 A1 A2 A3 A4 A5 A6 z b h d e

theorem algebraic : Cert.algebraic_Kernel5Ideal_Reference5Ideal_pre_decay_not_positive := fun m g m' g' hp h =>
  ⟨fun c => outOf (inp m c), fun c => stateOf (inp m c),
    run_result m g (fun c => decays m hp c),
    (θ_run _ _ _).mono (fun _ hr c => ⟨(hr c).1.trans (by
        rw [(h c).1, (h c).2.1, (h c).2.2.1, (h c).2.2.2.1, (h c).2.2.2.2.1, (h c).2.2.2.2.2.1, (h c).2.2.2.2.2.2]
        exact out_agree _ _ _ _ _ _ _), (hr c).2.1.trans (by
        rw [(h c).2.1, (h c).2.2.1, (h c).2.2.2.1, (h c).2.2.2.2.2.1]
        exact state_agree (m ((c.tc : Thread Cert.Kernel5Ideal.nD Cert.Kernel5Ideal.τ).loc Cert.Kernel5Ideal.main_arg0)) _ _ _ (m ((c.tc : Thread Cert.Kernel5Ideal.nD Cert.Kernel5Ideal.τ).loc Cert.Kernel5Ideal.main_arg4)) _ (m ((c.tc : Thread Cert.Kernel5Ideal.nD Cert.Kernel5Ideal.τ).loc Cert.Kernel5Ideal.main_arg6))), (hr c).2.2⟩) (run_named m' g')⟩

theorem frame_kernel : Cert.quiescent_Kernel5 := fun m g _ => Cert.Kernel5.Gen.frame m g
theorem frame_ideal : Cert.quiescent_Kernel5Ideal := fun m g _ => Cert.Kernel5Ideal.Gen.frame m g
theorem frame_reference : Cert.quiescent_Reference5Ideal := fun m g _ =>
  (θ_run Cert.Reference5Ideal.defs _ _).mono (fun r hr => ⟨fun c => (hr c).2.2, sem_eq_zero_of_no_sems (by decide) r.2⟩)
    (Cert.Reference5Ideal.Value.run m g)
theorem frame_ideal_pre : Cert.quiescent_Kernel5Ideal_pre_decay_not_positive := fun m g _ => Cert.Kernel5Ideal.Gen.frame m g
theorem frame_reference_pre : Cert.quiescent_Reference5Ideal_pre_decay_not_positive := fun m g _ => frame_reference m g trivial

end Cert.GlaClaim
-- ==== Proof.lean ====
module
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_experts_in_range
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Reference3Ideal.Run
public import Idealize.ShloMosaic.Adequacy
public import Idealize.ShloMosaic.Init
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_decay_not_positive
public import proofs.«01_k».proof.Proof.SbClaim
public import proofs.«01_k».proof.Proof.MoeClaim
public import proofs.«01_k».proof.Proof.InClaim
public import proofs.«01_k».proof.Proof.SmClaim
public import proofs.«01_k».proof.Proof.GlaClaim

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_experts_in_range.Gen.facts, Cert.Pre_decay_not_positive.Gen.facts,
    Cert.SbClaim.frame_kernel, Cert.SbClaim.frame_ideal, Cert.SbClaim.frame_reference,
    Cert.MoeClaim.frame_kernel, Cert.MoeClaim.frame_ideal, Cert.MoeClaim.frame_reference, Cert.MoeClaim.frame_reference_pre,
    Cert.InClaim.frame_kernel, Cert.InClaim.frame_ideal, Cert.InClaim.frame_reference,
    Cert.SmClaim.frame_kernel, Cert.SmClaim.frame_ideal, Cert.SmClaim.frame_reference,
    Cert.GlaClaim.frame_kernel, Cert.GlaClaim.frame_ideal, Cert.GlaClaim.frame_ideal_pre,
    Cert.GlaClaim.frame_reference, Cert.GlaClaim.frame_reference_pre,
    Cert.SbClaim.preserves, Cert.SbClaim.algebraic, trivial, Cert.MoeClaim.algebraic,
    trivial, Cert.InClaim.algebraic,
    trivial, Cert.SmClaim.algebraic,
    trivial, Cert.GlaClaim.algebraic⟩

end Cert.Proof
